-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2 = (fun _ => 1#1)

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCIdeal_ffn_finite [hPre_ffn_finite : Cert.Pre_ffn_finite.Facts] (m : (ℓ : Loc Cert.FfnCIdeal.nD Cert.FfnCIdeal.τ Cert.FfnCIdeal.sig) → Buf (Elt Ideal) ℓ) : Prop :=
  ∀ c : Dev Cert.FfnCIdeal.nD,
    (Cert.Pre_ffn_finite.fn (F := Ideal) (m ((c.tc : Thread Cert.FfnCIdeal.nD Cert.FfnCIdeal.τ).loc Cert.FfnCIdeal.main_arg0)) (m ((c.tc : Thread Cert.FfnCIdeal.nD Cert.FfnCIdeal.τ).loc Cert.FfnCIdeal.main_arg1)) (m ((c.tc : Thread Cert.FfnCIdeal.nD Cert.FfnCIdeal.τ).loc Cert.FfnCIdeal.main_arg2)) (m ((c.tc : Thread Cert.FfnCIdeal.nD Cert.FfnCIdeal.τ).loc Cert.FfnCIdeal.main_arg3)) (m ((c.tc : Thread Cert.FfnCIdeal.nD Cert.FfnCIdeal.τ).loc Cert.FfnCIdeal.main_arg4)) (m ((c.tc : Thread Cert.FfnCIdeal.nD Cert.FfnCIdeal.τ).loc Cert.FfnCIdeal.main_arg5)) (m ((c.tc : Thread Cert.FfnCIdeal.nD Cert.FfnCIdeal.τ).loc Cert.FfnCIdeal.main_arg6))).1 = (fun _ => 1#1)
    ∧ (Cert.Pre_ffn_finite.fn (F := Ideal) (m ((c.tc : Thread Cert.FfnCIdeal.nD Cert.FfnCIdeal.τ).loc Cert.FfnCIdeal.main_arg0)) (m ((c.tc : Thread Cert.FfnCIdeal.nD Cert.FfnCIdeal.τ).loc Cert.FfnCIdeal.main_arg1)) (m ((c.tc : Thread Cert.FfnCIdeal.nD Cert.FfnCIdeal.τ).loc Cert.FfnCIdeal.main_arg2)) (m ((c.tc : Thread Cert.FfnCIdeal.nD Cert.FfnCIdeal.τ).loc Cert.FfnCIdeal.main_arg3)) (m ((c.tc : Thread Cert.FfnCIdeal.nD Cert.FfnCIdeal.τ).loc Cert.FfnCIdeal.main_arg4)) (m ((c.tc : Thread Cert.FfnCIdeal.nD Cert.FfnCIdeal.τ).loc Cert.FfnCIdeal.main_arg5)) (m ((c.tc : Thread Cert.FfnCIdeal.nD Cert.FfnCIdeal.τ).loc Cert.FfnCIdeal.main_arg6))).2.1 = (fun _ => 1#1)
    ∧ (Cert.Pre_ffn_finite.fn (F := Ideal) (m ((c.tc : Thread Cert.FfnCIdeal.nD Cert.FfnCIdeal.τ).loc Cert.FfnCIdeal.main_arg0)) (m ((c.tc : Thread Cert.FfnCIdeal.nD Cert.FfnCIdeal.τ).loc Cert.FfnCIdeal.main_arg1)) (m ((c.tc : Thread Cert.FfnCIdeal.nD Cert.FfnCIdeal.τ).loc Cert.FfnCIdeal.main_arg2)) (m ((c.tc : Thread Cert.FfnCIdeal.nD Cert.FfnCIdeal.τ).loc Cert.FfnCIdeal.main_arg3)) (m ((c.tc : Thread Cert.FfnCIdeal.nD Cert.FfnCIdeal.τ).loc Cert.FfnCIdeal.main_arg4)) (m ((c.tc : Thread Cert.FfnCIdeal.nD Cert.FfnCIdeal.τ).loc Cert.FfnCIdeal.main_arg5)) (m ((c.tc : Thread Cert.FfnCIdeal.nD Cert.FfnCIdeal.τ).loc Cert.FfnCIdeal.main_arg6))).2.2.1 = (fun _ => 1#1)
    ∧ (Cert.Pre_ffn_finite.fn (F := Ideal) (m ((c.tc : Thread Cert.FfnCIdeal.nD Cert.FfnCIdeal.τ).loc Cert.FfnCIdeal.main_arg0)) (m ((c.tc : Thread Cert.FfnCIdeal.nD Cert.FfnCIdeal.τ).loc Cert.FfnCIdeal.main_arg1)) (m ((c.tc : Thread Cert.FfnCIdeal.nD Cert.FfnCIdeal.τ).loc Cert.FfnCIdeal.main_arg2)) (m ((c.tc : Thread Cert.FfnCIdeal.nD Cert.FfnCIdeal.τ).loc Cert.FfnCIdeal.main_arg3)) (m ((c.tc : Thread Cert.FfnCIdeal.nD Cert.FfnCIdeal.τ).loc Cert.FfnCIdeal.main_arg4)) (m ((c.tc : Thread Cert.FfnCIdeal.nD Cert.FfnCIdeal.τ).loc Cert.FfnCIdeal.main_arg5)) (m ((c.tc : Thread Cert.FfnCIdeal.nD Cert.FfnCIdeal.τ).loc Cert.FfnCIdeal.main_arg6))).2.2.2.1 = (fun _ => 1#1)
    ∧ (Cert.Pre_ffn_finite.fn (F := Ideal) (m ((c.tc : Thread Cert.FfnCIdeal.nD Cert.FfnCIdeal.τ).loc Cert.FfnCIdeal.main_arg0)) (m ((c.tc : Thread Cert.FfnCIdeal.nD Cert.FfnCIdeal.τ).loc Cert.FfnCIdeal.main_arg1)) (m ((c.tc : Thread Cert.FfnCIdeal.nD Cert.FfnCIdeal.τ).loc Cert.FfnCIdeal.main_arg2)) (m ((c.tc : Thread Cert.FfnCIdeal.nD Cert.FfnCIdeal.τ).loc Cert.FfnCIdeal.main_arg3)) (m ((c.tc : Thread Cert.FfnCIdeal.nD Cert.FfnCIdeal.τ).loc Cert.FfnCIdeal.main_arg4)) (m ((c.tc : Thread Cert.FfnCIdeal.nD Cert.FfnCIdeal.τ).loc Cert.FfnCIdeal.main_arg5)) (m ((c.tc : Thread Cert.FfnCIdeal.nD Cert.FfnCIdeal.τ).loc Cert.FfnCIdeal.main_arg6))).2.2.2.2 = (fun _ => 1#1)

def Pre_FfnCRefIdeal (m : (ℓ : Loc Cert.FfnCRefIdeal.nD Cert.FfnCRefIdeal.τ Cert.FfnCRefIdeal.sig) → Buf (Elt Ideal) ℓ) : Prop :=
  True

def Pre_FfnCRefIdeal_ffn_finite [hPre_ffn_finite : Cert.Pre_ffn_finite.Facts] (m : (ℓ : Loc Cert.FfnCRefIdeal.nD Cert.FfnCRefIdeal.τ Cert.FfnCRefIdeal.sig) → Buf (Elt Ideal) ℓ) : Prop :=
  ∀ c : Dev Cert.FfnCRefIdeal.nD,
    (Cert.Pre_ffn_finite.fn (F := Ideal) (m ((c.tc : Thread Cert.FfnCRefIdeal.nD Cert.FfnCRefIdeal.τ).loc Cert.FfnCRefIdeal.main_arg0)) (m ((c.tc : Thread Cert.FfnCRefIdeal.nD Cert.FfnCRefIdeal.τ).loc Cert.FfnCRefIdeal.main_arg1)) (m ((c.tc : Thread Cert.FfnCRefIdeal.nD Cert.FfnCRefIdeal.τ).loc Cert.FfnCRefIdeal.main_arg2)) (m ((c.tc : Thread Cert.FfnCRefIdeal.nD Cert.FfnCRefIdeal.τ).loc Cert.FfnCRefIdeal.main_arg3)) (m ((c.tc : Thread Cert.FfnCRefIdeal.nD Cert.FfnCRefIdeal.τ).loc Cert.FfnCRefIdeal.main_arg4)) (m ((c.tc : Thread Cert.FfnCRefIdeal.nD Cert.FfnCRefIdeal.τ).loc Cert.FfnCRefIdeal.main_arg5)) (m ((c.tc : Thread Cert.FfnCRefIdeal.nD Cert.FfnCRefIdeal.τ).loc Cert.FfnCRefIdeal.main_arg6))).1 = (fun _ => 1#1)
    ∧ (Cert.Pre_ffn_finite.fn (F := Ideal) (m ((c.tc : Thread Cert.FfnCRefIdeal.nD Cert.FfnCRefIdeal.τ).loc Cert.FfnCRefIdeal.main_arg0)) (m ((c.tc : Thread Cert.FfnCRefIdeal.nD Cert.FfnCRefIdeal.τ).loc Cert.FfnCRefIdeal.main_arg1)) (m ((c.tc : Thread Cert.FfnCRefIdeal.nD Cert.FfnCRefIdeal.τ).loc Cert.FfnCRefIdeal.main_arg2)) (m ((c.tc : Thread Cert.FfnCRefIdeal.nD Cert.FfnCRefIdeal.τ).loc Cert.FfnCRefIdeal.main_arg3)) (m ((c.tc : Thread Cert.FfnCRefIdeal.nD Cert.FfnCRefIdeal.τ).loc Cert.FfnCRefIdeal.main_arg4)) (m ((c.tc : Thread Cert.FfnCRefIdeal.nD Cert.FfnCRefIdeal.τ).loc Cert.FfnCRefIdeal.main_arg5)) (m ((c.tc : Thread Cert.FfnCRefIdeal.nD Cert.FfnCRefIdeal.τ).loc Cert.FfnCRefIdeal.main_arg6))).2.1 = (fun _ => 1#1)
    ∧ (Cert.Pre_ffn_finite.fn (F := Ideal) (m ((c.tc : Thread Cert.FfnCRefIdeal.nD Cert.FfnCRefIdeal.τ).loc Cert.FfnCRefIdeal.main_arg0)) (m ((c.tc : Thread Cert.FfnCRefIdeal.nD Cert.FfnCRefIdeal.τ).loc Cert.FfnCRefIdeal.main_arg1)) (m ((c.tc : Thread Cert.FfnCRefIdeal.nD Cert.FfnCRefIdeal.τ).loc Cert.FfnCRefIdeal.main_arg2)) (m ((c.tc : Thread Cert.FfnCRefIdeal.nD Cert.FfnCRefIdeal.τ).loc Cert.FfnCRefIdeal.main_arg3)) (m ((c.tc : Thread Cert.FfnCRefIdeal.nD Cert.FfnCRefIdeal.τ).loc Cert.FfnCRefIdeal.main_arg4)) (m ((c.tc : Thread Cert.FfnCRefIdeal.nD Cert.FfnCRefIdeal.τ).loc Cert.FfnCRefIdeal.main_arg5)) (m ((c.tc : Thread Cert.FfnCRefIdeal.nD Cert.FfnCRefIdeal.τ).loc Cert.FfnCRefIdeal.main_arg6))).2.2.1 = (fun _ => 1#1)
    ∧ (Cert.Pre_ffn_finite.fn (F := Ideal) (m ((c.tc : Thread Cert.FfnCRefIdeal.nD Cert.FfnCRefIdeal.τ).loc Cert.FfnCRefIdeal.main_arg0)) (m ((c.tc : Thread Cert.FfnCRefIdeal.nD Cert.FfnCRefIdeal.τ).loc Cert.FfnCRefIdeal.main_arg1)) (m ((c.tc : Thread Cert.FfnCRefIdeal.nD Cert.FfnCRefIdeal.τ).loc Cert.FfnCRefIdeal.main_arg2)) (m ((c.tc : Thread Cert.FfnCRefIdeal.nD Cert.FfnCRefIdeal.τ).loc Cert.FfnCRefIdeal.main_arg3)) (m ((c.tc : Thread Cert.FfnCRefIdeal.nD Cert.FfnCRefIdeal.τ).loc Cert.FfnCRefIdeal.main_arg4)) (m ((c.tc : Thread Cert.FfnCRefIdeal.nD Cert.FfnCRefIdeal.τ).loc Cert.FfnCRefIdeal.main_arg5)) (m ((c.tc : Thread Cert.FfnCRefIdeal.nD Cert.FfnCRefIdeal.τ).loc Cert.FfnCRefIdeal.main_arg6))).2.2.2.1 = (fun _ => 1#1)
    ∧ (Cert.Pre_ffn_finite.fn (F := Ideal) (m ((c.tc : Thread Cert.FfnCRefIdeal.nD Cert.FfnCRefIdeal.τ).loc Cert.FfnCRefIdeal.main_arg0)) (m ((c.tc : Thread Cert.FfnCRefIdeal.nD Cert.FfnCRefIdeal.τ).loc Cert.FfnCRefIdeal.main_arg1)) (m ((c.tc : Thread Cert.FfnCRefIdeal.nD Cert.FfnCRefIdeal.τ).loc Cert.FfnCRefIdeal.main_arg2)) (m ((c.tc : Thread Cert.FfnCRefIdeal.nD Cert.FfnCRefIdeal.τ).loc Cert.FfnCRefIdeal.main_arg3)) (m ((c.tc : Thread Cert.FfnCRefIdeal.nD Cert.FfnCRefIdeal.τ).loc Cert.FfnCRefIdeal.main_arg4)) (m ((c.tc : Thread Cert.FfnCRefIdeal.nD Cert.FfnCRefIdeal.τ).loc Cert.FfnCRefIdeal.main_arg5)) (m ((c.tc : Thread Cert.FfnCRefIdeal.nD Cert.FfnCRefIdeal.τ).loc Cert.FfnCRefIdeal.main_arg6))).2.2.2.2 = (fun _ => 1#1)

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBIdeal_ffn_finite [hPre_ffn_finite : Cert.Pre_ffn_finite.Facts] (m : (ℓ : Loc Cert.FfnBIdeal.nD Cert.FfnBIdeal.τ Cert.FfnBIdeal.sig) → Buf (Elt Ideal) ℓ) : Prop :=
  ∀ c : Dev Cert.FfnBIdeal.nD,
    (Cert.Pre_ffn_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).1 = (fun _ => 1#1)
    ∧ (Cert.Pre_ffn_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.1 = (fun _ => 1#1)
    ∧ (Cert.Pre_ffn_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.1 = (fun _ => 1#1)
    ∧ (Cert.Pre_ffn_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.1 = (fun _ => 1#1)
    ∧ (Cert.Pre_ffn_finite.fn (F := Ideal) (m ((c.tc : Thread Cert.FfnBIdeal.nD Cert.FfnBIdeal.τ).loc Cert.FfnBIdeal.main_arg0)) (m ((c.tc : Thread Cert.FfnBIdeal.nD Cert.FfnBIdeal.τ).loc Cert.FfnBIdeal.main_arg1)) (m ((c.tc : Thread Cert.FfnBIdeal.nD Cert.FfnBIdeal.τ).loc Cert.FfnBIdeal.main_arg2)) (m ((c.tc : Thread Cert.FfnBIdeal.nD Cert.FfnBIdeal.τ).loc Cert.FfnBIdeal.main_arg3)) (m ((c.tc : Thread Cert.FfnBIdeal.nD Cert.FfnBIdeal.τ).loc Cert.FfnBIdeal.main_arg4)) (m ((c.tc : Thread Cert.FfnBIdeal.nD Cert.FfnBIdeal.τ).loc Cert.FfnBIdeal.main_arg5)) (m ((c.tc : Thread Cert.FfnBIdeal.nD Cert.FfnBIdeal.τ).loc Cert.FfnBIdeal.main_arg6))).2.2.2.2 = (fun _ => 1#1)

def Pre_FfnBRefIdeal (m : (ℓ : Loc Cert.FfnBRefIdeal.nD Cert.FfnBRefIdeal.τ Cert.FfnBRefIdeal.sig) → Buf (Elt Ideal) ℓ) : Prop :=
  True

def Pre_FfnBRefIdeal_ffn_finite [hPre_ffn_finite : Cert.Pre_ffn_finite.Facts] (m : (ℓ : Loc Cert.FfnBRefIdeal.nD Cert.FfnBRefIdeal.τ Cert.FfnBRefIdeal.sig) → Buf (Elt Ideal) ℓ) : Prop :=
  ∀ c : Dev Cert.FfnBRefIdeal.nD,
    (Cert.Pre_ffn_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))).1 = (fun _ => 1#1)
    ∧ (Cert.Pre_ffn_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))).2.1 = (fun _ => 1#1)
    ∧ (Cert.Pre_ffn_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))).2.2.1 = (fun _ => 1#1)
    ∧ (Cert.Pre_ffn_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))).2.2.2.1 = (fun _ => 1#1)
    ∧ (Cert.Pre_ffn_finite.fn (F := Ideal) (m ((c.tc : Thread Cert.FfnBRefIdeal.nD Cert.FfnBRefIdeal.τ).loc Cert.FfnBRefIdeal.main_arg0)) (m ((c.tc : Thread Cert.FfnBRefIdeal.nD Cert.FfnBRefIdeal.τ).loc Cert.FfnBRefIdeal.main_arg1)) (m ((c.tc : Thread Cert.FfnBRefIdeal.nD Cert.FfnBRefIdeal.τ).loc Cert.FfnBRefIdeal.main_arg2)) (m ((c.tc : Thread Cert.FfnBRefIdeal.nD Cert.FfnBRefIdeal.τ).loc Cert.FfnBRefIdeal.main_arg3)) (m ((c.tc : Thread Cert.FfnBRefIdeal.nD Cert.FfnBRefIdeal.τ).loc Cert.FfnBRefIdeal.main_arg4)) (m ((c.tc : Thread Cert.FfnBRefIdeal.nD Cert.FfnBRefIdeal.τ).loc Cert.FfnBRefIdeal.main_arg5)) (m ((c.tc : Thread Cert.FfnBRefIdeal.nD Cert.FfnBRefIdeal.τ).loc Cert.FfnBRefIdeal.main_arg6))).2.2.2.2 = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_ffn_a_finite [hPre_ffn_a_finite : Cert.Pre_ffn_a_finite.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7)) (m ((c.tc : Thread Cert.FfnAIdeal.nD Cert.FfnAIdeal.τ).loc Cert.FfnAIdeal.main_arg8)) (m ((c.tc : Thread Cert.FfnAIdeal.nD Cert.FfnAIdeal.τ).loc Cert.FfnAIdeal.main_arg9)) (m ((c.tc : Thread Cert.FfnAIdeal.nD Cert.FfnAIdeal.τ).loc Cert.FfnAIdeal.main_arg10))).1 = (fun _ => 1#1)
    ∧ (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7)) (m ((c.tc : Thread Cert.FfnAIdeal.nD Cert.FfnAIdeal.τ).loc Cert.FfnAIdeal.main_arg8)) (m ((c.tc : Thread Cert.FfnAIdeal.nD Cert.FfnAIdeal.τ).loc Cert.FfnAIdeal.main_arg9)) (m ((c.tc : Thread Cert.FfnAIdeal.nD Cert.FfnAIdeal.τ).loc Cert.FfnAIdeal.main_arg10))).2.1 = (fun _ => 1#1)
    ∧ (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7)) (m ((c.tc : Thread Cert.FfnAIdeal.nD Cert.FfnAIdeal.τ).loc Cert.FfnAIdeal.main_arg8)) (m ((c.tc : Thread Cert.FfnAIdeal.nD Cert.FfnAIdeal.τ).loc Cert.FfnAIdeal.main_arg9)) (m ((c.tc : Thread Cert.FfnAIdeal.nD Cert.FfnAIdeal.τ).loc Cert.FfnAIdeal.main_arg10))).2.2.1 = (fun _ => 1#1)
    ∧ (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7)) (m ((c.tc : Thread Cert.FfnAIdeal.nD Cert.FfnAIdeal.τ).loc Cert.FfnAIdeal.main_arg8)) (m ((c.tc : Thread Cert.FfnAIdeal.nD Cert.FfnAIdeal.τ).loc Cert.FfnAIdeal.main_arg9)) (m ((c.tc : Thread Cert.FfnAIdeal.nD Cert.FfnAIdeal.τ).loc Cert.FfnAIdeal.main_arg10))).2.2.2.1 = (fun _ => 1#1)
    ∧ (Cert.Pre_ffn_a_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4)) (m ((c.tc : Thread Cert.FfnAIdeal.nD Cert.FfnAIdeal.τ).loc Cert.FfnAIdeal.main_arg5)) (m ((c.tc : Thread Cert.FfnAIdeal.nD Cert.FfnAIdeal.τ).loc Cert.FfnAIdeal.main_arg6)) (m ((c.tc : Thread Cert.FfnAIdeal.nD Cert.FfnAIdeal.τ).loc Cert.FfnAIdeal.main_arg7)) (m ((c.tc : Thread Cert.FfnAIdeal.nD Cert.FfnAIdeal.τ).loc Cert.FfnAIdeal.main_arg8)) (m ((c.tc : Thread Cert.FfnAIdeal.nD Cert.FfnAIdeal.τ).loc Cert.FfnAIdeal.main_arg9)) (m ((c.tc : Thread Cert.FfnAIdeal.nD Cert.FfnAIdeal.τ).loc Cert.FfnAIdeal.main_arg10))).2.2.2.2 = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_ffn_a_finite [hPre_ffn_a_finite : Cert.Pre_ffn_a_finite.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7)) (m ((c.tc : Thread Cert.FfnARefIdeal.nD Cert.FfnARefIdeal.τ).loc Cert.FfnARefIdeal.main_arg8)) (m ((c.tc : Thread Cert.FfnARefIdeal.nD Cert.FfnARefIdeal.τ).loc Cert.FfnARefIdeal.main_arg9)) (m ((c.tc : Thread Cert.FfnARefIdeal.nD Cert.FfnARefIdeal.τ).loc Cert.FfnARefIdeal.main_arg10))).1 = (fun _ => 1#1)
    ∧ (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7)) (m ((c.tc : Thread Cert.FfnARefIdeal.nD Cert.FfnARefIdeal.τ).loc Cert.FfnARefIdeal.main_arg8)) (m ((c.tc : Thread Cert.FfnARefIdeal.nD Cert.FfnARefIdeal.τ).loc Cert.FfnARefIdeal.main_arg9)) (m ((c.tc : Thread Cert.FfnARefIdeal.nD Cert.FfnARefIdeal.τ).loc Cert.FfnARefIdeal.main_arg10))).2.1 = (fun _ => 1#1)
    ∧ (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7)) (m ((c.tc : Thread Cert.FfnARefIdeal.nD Cert.FfnARefIdeal.τ).loc Cert.FfnARefIdeal.main_arg8)) (m ((c.tc : Thread Cert.FfnARefIdeal.nD Cert.FfnARefIdeal.τ).loc Cert.FfnARefIdeal.main_arg9)) (m ((c.tc : Thread Cert.FfnARefIdeal.nD Cert.FfnARefIdeal.τ).loc Cert.FfnARefIdeal.main_arg10))).2.2.1 = (fun _ => 1#1)
    ∧ (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7)) (m ((c.tc : Thread Cert.FfnARefIdeal.nD Cert.FfnARefIdeal.τ).loc Cert.FfnARefIdeal.main_arg8)) (m ((c.tc : Thread Cert.FfnARefIdeal.nD Cert.FfnARefIdeal.τ).loc Cert.FfnARefIdeal.main_arg9)) (m ((c.tc : Thread Cert.FfnARefIdeal.nD Cert.FfnARefIdeal.τ).loc Cert.FfnARefIdeal.main_arg10))).2.2.2.1 = (fun _ => 1#1)
    ∧ (Cert.Pre_ffn_a_finite.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3)) (m ((c.tc : Thread Cert.FfnARefIdeal.nD Cert.FfnARefIdeal.τ).loc Cert.FfnARefIdeal.main_arg4)) (m ((c.tc : Thread Cert.FfnARefIdeal.nD Cert.FfnARefIdeal.τ).loc Cert.FfnARefIdeal.main_arg5)) (m ((c.tc : Thread Cert.FfnARefIdeal.nD Cert.FfnARefIdeal.τ).loc Cert.FfnARefIdeal.main_arg6)) (m ((c.tc : Thread Cert.FfnARefIdeal.nD Cert.FfnARefIdeal.τ).loc Cert.FfnARefIdeal.main_arg7)) (m ((c.tc : Thread Cert.FfnARefIdeal.nD Cert.FfnARefIdeal.τ).loc Cert.FfnARefIdeal.main_arg8)) (m ((c.tc : Thread Cert.FfnARefIdeal.nD Cert.FfnARefIdeal.τ).loc Cert.FfnARefIdeal.main_arg9)) (m ((c.tc : Thread Cert.FfnARefIdeal.nD Cert.FfnARefIdeal.τ).loc Cert.FfnARefIdeal.main_arg10))).2.2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3)
      ∧ r.2.mem ((c.tc : Thread Cert.FfnC.nD Cert.FfnC.τ).loc Cert.FfnC.main_arg4) = m ((c.tc : Thread Cert.FfnC.nD Cert.FfnC.τ).loc Cert.FfnC.main_arg4)
      ∧ r.2.mem ((c.tc : Thread Cert.FfnC.nD Cert.FfnC.τ).loc Cert.FfnC.main_arg5) = m ((c.tc : Thread Cert.FfnC.nD Cert.FfnC.τ).loc Cert.FfnC.main_arg5)
      ∧ r.2.mem ((c.tc : Thread Cert.FfnC.nD Cert.FfnC.τ).loc Cert.FfnC.main_arg6) = m ((c.tc : Thread Cert.FfnC.nD Cert.FfnC.τ).loc Cert.FfnC.main_arg6))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
      ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
      ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6))
      ∧ r.2.sem = fun _ => 0)

def quiescent_FfnCIdeal_pre_ffn_finite [hFfnCIdeal : Cert.FfnCIdeal.Facts] [hPre_ffn_finite : Cert.Pre_ffn_finite.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal_ffn_finite m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
      ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
      ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4)
      ∧ r.2.mem ((c.tc : Thread Cert.FfnCRefIdeal.nD Cert.FfnCRefIdeal.τ).loc Cert.FfnCRefIdeal.main_arg5) = m ((c.tc : Thread Cert.FfnCRefIdeal.nD Cert.FfnCRefIdeal.τ).loc Cert.FfnCRefIdeal.main_arg5)
      ∧ r.2.mem ((c.tc : Thread Cert.FfnCRefIdeal.nD Cert.FfnCRefIdeal.τ).loc Cert.FfnCRefIdeal.main_arg6) = m ((c.tc : Thread Cert.FfnCRefIdeal.nD Cert.FfnCRefIdeal.τ).loc Cert.FfnCRefIdeal.main_arg6))
      ∧ r.2.sem = fun _ => 0)

def quiescent_FfnCRefIdeal_pre_ffn_finite [hFfnCRefIdeal : Cert.FfnCRefIdeal.Facts] [hPre_ffn_finite : Cert.Pre_ffn_finite.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal_ffn_finite m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4)
      ∧ r.2.mem ((c.tc : Thread Cert.FfnCRefIdeal.nD Cert.FfnCRefIdeal.τ).loc Cert.FfnCRefIdeal.main_arg5) = m ((c.tc : Thread Cert.FfnCRefIdeal.nD Cert.FfnCRefIdeal.τ).loc Cert.FfnCRefIdeal.main_arg5)
      ∧ r.2.mem ((c.tc : Thread Cert.FfnCRefIdeal.nD Cert.FfnCRefIdeal.τ).loc Cert.FfnCRefIdeal.main_arg6) = m ((c.tc : Thread Cert.FfnCRefIdeal.nD Cert.FfnCRefIdeal.τ).loc Cert.FfnCRefIdeal.main_arg6))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBIdeal_pre_ffn_finite [hFfnBIdeal : Cert.FfnBIdeal.Facts] [hPre_ffn_finite : Cert.Pre_ffn_finite.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal_ffn_finite m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_FfnBRefIdeal_pre_ffn_finite [hFfnBRefIdeal : Cert.FfnBRefIdeal.Facts] [hPre_ffn_finite : Cert.Pre_ffn_finite.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal_ffn_finite m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6)
      ∧ r.2.mem ((c.tc : Thread Cert.FfnA.nD Cert.FfnA.τ).loc Cert.FfnA.main_arg7) = m ((c.tc : Thread Cert.FfnA.nD Cert.FfnA.τ).loc Cert.FfnA.main_arg7)
      ∧ r.2.mem ((c.tc : Thread Cert.FfnA.nD Cert.FfnA.τ).loc Cert.FfnA.main_arg8) = m ((c.tc : Thread Cert.FfnA.nD Cert.FfnA.τ).loc Cert.FfnA.main_arg8)
      ∧ r.2.mem ((c.tc : Thread Cert.FfnA.nD Cert.FfnA.τ).loc Cert.FfnA.main_arg9) = m ((c.tc : Thread Cert.FfnA.nD Cert.FfnA.τ).loc Cert.FfnA.main_arg9)
      ∧ r.2.mem ((c.tc : Thread Cert.FfnA.nD Cert.FfnA.τ).loc Cert.FfnA.main_arg10) = m ((c.tc : Thread Cert.FfnA.nD Cert.FfnA.τ).loc Cert.FfnA.main_arg10))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7)
      ∧ r.2.mem ((c.tc : Thread Cert.FfnAIdeal.nD Cert.FfnAIdeal.τ).loc Cert.FfnAIdeal.main_arg8) = m ((c.tc : Thread Cert.FfnAIdeal.nD Cert.FfnAIdeal.τ).loc Cert.FfnAIdeal.main_arg8)
      ∧ r.2.mem ((c.tc : Thread Cert.FfnAIdeal.nD Cert.FfnAIdeal.τ).loc Cert.FfnAIdeal.main_arg9) = m ((c.tc : Thread Cert.FfnAIdeal.nD Cert.FfnAIdeal.τ).loc Cert.FfnAIdeal.main_arg9)
      ∧ r.2.mem ((c.tc : Thread Cert.FfnAIdeal.nD Cert.FfnAIdeal.τ).loc Cert.FfnAIdeal.main_arg10) = m ((c.tc : Thread Cert.FfnAIdeal.nD Cert.FfnAIdeal.τ).loc Cert.FfnAIdeal.main_arg10))
      ∧ r.2.sem = fun _ => 0)

def quiescent_FfnAIdeal_pre_ffn_a_finite [hFfnAIdeal : Cert.FfnAIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_ffn_a_finite m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
      ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7)
      ∧ r.2.mem ((c.tc : Thread Cert.FfnAIdeal.nD Cert.FfnAIdeal.τ).loc Cert.FfnAIdeal.main_arg8) = m ((c.tc : Thread Cert.FfnAIdeal.nD Cert.FfnAIdeal.τ).loc Cert.FfnAIdeal.main_arg8)
      ∧ r.2.mem ((c.tc : Thread Cert.FfnAIdeal.nD Cert.FfnAIdeal.τ).loc Cert.FfnAIdeal.main_arg9) = m ((c.tc : Thread Cert.FfnAIdeal.nD Cert.FfnAIdeal.τ).loc Cert.FfnAIdeal.main_arg9)
      ∧ r.2.mem ((c.tc : Thread Cert.FfnAIdeal.nD Cert.FfnAIdeal.τ).loc Cert.FfnAIdeal.main_arg10) = m ((c.tc : Thread Cert.FfnAIdeal.nD Cert.FfnAIdeal.τ).loc Cert.FfnAIdeal.main_arg10))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7)
      ∧ r.2.mem ((c.tc : Thread Cert.FfnARefIdeal.nD Cert.FfnARefIdeal.τ).loc Cert.FfnARefIdeal.main_arg8) = m ((c.tc : Thread Cert.FfnARefIdeal.nD Cert.FfnARefIdeal.τ).loc Cert.FfnARefIdeal.main_arg8)
      ∧ r.2.mem ((c.tc : Thread Cert.FfnARefIdeal.nD Cert.FfnARefIdeal.τ).loc Cert.FfnARefIdeal.main_arg9) = m ((c.tc : Thread Cert.FfnARefIdeal.nD Cert.FfnARefIdeal.τ).loc Cert.FfnARefIdeal.main_arg9)
      ∧ r.2.mem ((c.tc : Thread Cert.FfnARefIdeal.nD Cert.FfnARefIdeal.τ).loc Cert.FfnARefIdeal.main_arg10) = m ((c.tc : Thread Cert.FfnARefIdeal.nD Cert.FfnARefIdeal.τ).loc Cert.FfnARefIdeal.main_arg10))
      ∧ r.2.sem = fun _ => 0)

def quiescent_FfnARefIdeal_pre_ffn_a_finite [hFfnARefIdeal : Cert.FfnARefIdeal.Facts] [hPre_ffn_a_finite : Cert.Pre_ffn_a_finite.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_ffn_a_finite m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6)
      ∧ r.2.mem ((c.tc : Thread Cert.FfnARefIdeal.nD Cert.FfnARefIdeal.τ).loc Cert.FfnARefIdeal.main_arg7) = m ((c.tc : Thread Cert.FfnARefIdeal.nD Cert.FfnARefIdeal.τ).loc Cert.FfnARefIdeal.main_arg7)
      ∧ r.2.mem ((c.tc : Thread Cert.FfnARefIdeal.nD Cert.FfnARefIdeal.τ).loc Cert.FfnARefIdeal.main_arg8) = m ((c.tc : Thread Cert.FfnARefIdeal.nD Cert.FfnARefIdeal.τ).loc Cert.FfnARefIdeal.main_arg8)
      ∧ r.2.mem ((c.tc : Thread Cert.FfnARefIdeal.nD Cert.FfnARefIdeal.τ).loc Cert.FfnARefIdeal.main_arg9) = m ((c.tc : Thread Cert.FfnARefIdeal.nD Cert.FfnARefIdeal.τ).loc Cert.FfnARefIdeal.main_arg9)
      ∧ r.2.mem ((c.tc : Thread Cert.FfnARefIdeal.nD Cert.FfnARefIdeal.τ).loc Cert.FfnARefIdeal.main_arg10) = m ((c.tc : Thread Cert.FfnARefIdeal.nD Cert.FfnARefIdeal.τ).loc Cert.FfnARefIdeal.main_arg10))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v47)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v47) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v62) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnC_FfnCIdeal : Prop :=
  True

def algebraic_FfnCIdeal_FfnCRefIdeal_pre_ffn_finite [hFfnCIdeal : Cert.FfnCIdeal.Facts] [hFfnCRefIdeal : Cert.FfnCRefIdeal.Facts] [hPre_ffn_finite : Cert.Pre_ffn_finite.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal_ffn_finite m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)
      ∧ m' ((c.tc : Thread Cert.FfnCRefIdeal.nD Cert.FfnCRefIdeal.τ).loc Cert.FfnCRefIdeal.main_arg4) = m ((c.tc : Thread Cert.FfnCIdeal.nD Cert.FfnCIdeal.τ).loc Cert.FfnCIdeal.main_arg4)
      ∧ m' ((c.tc : Thread Cert.FfnCRefIdeal.nD Cert.FfnCRefIdeal.τ).loc Cert.FfnCRefIdeal.main_arg5) = m ((c.tc : Thread Cert.FfnCIdeal.nD Cert.FfnCIdeal.τ).loc Cert.FfnCIdeal.main_arg5)
      ∧ m' ((c.tc : Thread Cert.FfnCRefIdeal.nD Cert.FfnCRefIdeal.τ).loc Cert.FfnCRefIdeal.main_arg6) = m ((c.tc : Thread Cert.FfnCIdeal.nD Cert.FfnCIdeal.τ).loc Cert.FfnCIdeal.main_arg6)) →
    ∃ (v0 : (c : Dev Cert.FfnCIdeal.nD) → Buf (Elt Ideal) ((c.tc : Thread Cert.FfnCIdeal.nD Cert.FfnCIdeal.τ).loc Cert.FfnCIdeal.main_v14_0)) (v1 : (c : Dev Cert.FfnCIdeal.nD) → Buf (Elt Ideal) ((c.tc : Thread Cert.FfnCIdeal.nD Cert.FfnCIdeal.τ).loc Cert.FfnCIdeal.main_v14_1)) (v2 : (c : Dev Cert.FfnCIdeal.nD) → Buf (Elt Ideal) ((c.tc : Thread Cert.FfnCIdeal.nD Cert.FfnCIdeal.τ).loc Cert.FfnCIdeal.main_v14_2)) (v3 : (c : Dev Cert.FfnCIdeal.nD) → Buf (Elt Ideal) ((c.tc : Thread Cert.FfnCIdeal.nD Cert.FfnCIdeal.τ).loc Cert.FfnCIdeal.main_v14_3)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v14_0) = v0 c
          ∧ r.2.mem ((c.tc : Thread Cert.FfnCIdeal.nD Cert.FfnCIdeal.τ).loc Cert.FfnCIdeal.main_v14_1) = v1 c
          ∧ r.2.mem ((c.tc : Thread Cert.FfnCIdeal.nD Cert.FfnCIdeal.τ).loc Cert.FfnCIdeal.main_v14_2) = v2 c
          ∧ r.2.mem ((c.tc : Thread Cert.FfnCIdeal.nD Cert.FfnCIdeal.τ).loc Cert.FfnCIdeal.main_v14_3) = v3 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
          ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
          ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5)
          ∧ r.2.mem ((c.tc : Thread Cert.FfnCIdeal.nD Cert.FfnCIdeal.τ).loc Cert.FfnCIdeal.main_arg6) = m ((c.tc : Thread Cert.FfnCIdeal.nD Cert.FfnCIdeal.τ).loc Cert.FfnCIdeal.main_arg6))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v62) = v0 c
          ∧ r.2.mem ((c.tc : Thread Cert.FfnCRefIdeal.nD Cert.FfnCRefIdeal.τ).loc Cert.FfnCRefIdeal.main_v65) = v1 c
          ∧ r.2.mem ((c.tc : Thread Cert.FfnCRefIdeal.nD Cert.FfnCRefIdeal.τ).loc Cert.FfnCRefIdeal.main_v68) = v2 c
          ∧ r.2.mem ((c.tc : Thread Cert.FfnCRefIdeal.nD Cert.FfnCRefIdeal.τ).loc Cert.FfnCRefIdeal.main_v71) = v3 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3)
          ∧ r.2.mem ((c.tc : Thread Cert.FfnCRefIdeal.nD Cert.FfnCRefIdeal.τ).loc Cert.FfnCRefIdeal.main_arg4) = m' ((c.tc : Thread Cert.FfnCRefIdeal.nD Cert.FfnCRefIdeal.τ).loc Cert.FfnCRefIdeal.main_arg4)
          ∧ r.2.mem ((c.tc : Thread Cert.FfnCRefIdeal.nD Cert.FfnCRefIdeal.τ).loc Cert.FfnCRefIdeal.main_arg5) = m' ((c.tc : Thread Cert.FfnCRefIdeal.nD Cert.FfnCRefIdeal.τ).loc Cert.FfnCRefIdeal.main_arg5)
          ∧ r.2.mem ((c.tc : Thread Cert.FfnCRefIdeal.nD Cert.FfnCRefIdeal.τ).loc Cert.FfnCRefIdeal.main_arg6) = m' ((c.tc : Thread Cert.FfnCRefIdeal.nD Cert.FfnCRefIdeal.τ).loc Cert.FfnCRefIdeal.main_arg6))

def preserves_FfnB_FfnBIdeal : Prop :=
  True

def algebraic_FfnBIdeal_FfnBRefIdeal_pre_ffn_finite [hFfnBIdeal : Cert.FfnBIdeal.Facts] [hFfnBRefIdeal : Cert.FfnBRefIdeal.Facts] [hPre_ffn_finite : Cert.Pre_ffn_finite.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal_ffn_finite m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)) →
    ∃ (v0 : (c : Dev Cert.FfnBIdeal.nD) → Buf (Elt Ideal) ((c.tc : Thread Cert.FfnBIdeal.nD Cert.FfnBIdeal.τ).loc Cert.FfnBIdeal.main_v14_0)) (v1 : (c : Dev Cert.FfnBIdeal.nD) → Buf (Elt Ideal) ((c.tc : Thread Cert.FfnBIdeal.nD Cert.FfnBIdeal.τ).loc Cert.FfnBIdeal.main_v14_1)) (v2 : (c : Dev Cert.FfnBIdeal.nD) → Buf (Elt Ideal) ((c.tc : Thread Cert.FfnBIdeal.nD Cert.FfnBIdeal.τ).loc Cert.FfnBIdeal.main_v14_2)) (v3 : (c : Dev Cert.FfnBIdeal.nD) → Buf (Elt Ideal) ((c.tc : Thread Cert.FfnBIdeal.nD Cert.FfnBIdeal.τ).loc Cert.FfnBIdeal.main_v14_3)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v14_0) = v0 c
          ∧ r.2.mem ((c.tc : Thread Cert.FfnBIdeal.nD Cert.FfnBIdeal.τ).loc Cert.FfnBIdeal.main_v14_1) = v1 c
          ∧ r.2.mem ((c.tc : Thread Cert.FfnBIdeal.nD Cert.FfnBIdeal.τ).loc Cert.FfnBIdeal.main_v14_2) = v2 c
          ∧ r.2.mem ((c.tc : Thread Cert.FfnBIdeal.nD Cert.FfnBIdeal.τ).loc Cert.FfnBIdeal.main_v14_3) = v3 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v62) = v0 c
          ∧ r.2.mem ((c.tc : Thread Cert.FfnBRefIdeal.nD Cert.FfnBRefIdeal.τ).loc Cert.FfnBRefIdeal.main_v65) = v1 c
          ∧ r.2.mem ((c.tc : Thread Cert.FfnBRefIdeal.nD Cert.FfnBRefIdeal.τ).loc Cert.FfnBRefIdeal.main_v68) = v2 c
          ∧ r.2.mem ((c.tc : Thread Cert.FfnBRefIdeal.nD Cert.FfnBRefIdeal.τ).loc Cert.FfnBRefIdeal.main_v71) = v3 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6))

def preserves_FfnA_FfnAIdeal : Prop :=
  True

def algebraic_FfnAIdeal_FfnARefIdeal_pre_ffn_a_finite [hFfnAIdeal : Cert.FfnAIdeal.Facts] [hFfnARefIdeal : Cert.FfnARefIdeal.Facts] [hPre_ffn_a_finite : Cert.Pre_ffn_a_finite.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_ffn_a_finite m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)
      ∧ m' ((c.tc : Thread Cert.FfnARefIdeal.nD Cert.FfnARefIdeal.τ).loc Cert.FfnARefIdeal.main_arg7) = m ((c.tc : Thread Cert.FfnAIdeal.nD Cert.FfnAIdeal.τ).loc Cert.FfnAIdeal.main_arg7)
      ∧ m' ((c.tc : Thread Cert.FfnARefIdeal.nD Cert.FfnARefIdeal.τ).loc Cert.FfnARefIdeal.main_arg8) = m ((c.tc : Thread Cert.FfnAIdeal.nD Cert.FfnAIdeal.τ).loc Cert.FfnAIdeal.main_arg8)
      ∧ m' ((c.tc : Thread Cert.FfnARefIdeal.nD Cert.FfnARefIdeal.τ).loc Cert.FfnARefIdeal.main_arg9) = m ((c.tc : Thread Cert.FfnAIdeal.nD Cert.FfnAIdeal.τ).loc Cert.FfnAIdeal.main_arg9)
      ∧ m' ((c.tc : Thread Cert.FfnARefIdeal.nD Cert.FfnARefIdeal.τ).loc Cert.FfnARefIdeal.main_arg10) = m ((c.tc : Thread Cert.FfnAIdeal.nD Cert.FfnAIdeal.τ).loc Cert.FfnAIdeal.main_arg10)) →
    ∃ (v0 : (c : Dev Cert.FfnAIdeal.nD) → Buf (Elt Ideal) ((c.tc : Thread Cert.FfnAIdeal.nD Cert.FfnAIdeal.τ).loc Cert.FfnAIdeal.main_v14_0)) (v1 : (c : Dev Cert.FfnAIdeal.nD) → Buf (Elt Ideal) ((c.tc : Thread Cert.FfnAIdeal.nD Cert.FfnAIdeal.τ).loc Cert.FfnAIdeal.main_v14_1)) (v2 : (c : Dev Cert.FfnAIdeal.nD) → Buf (Elt Ideal) ((c.tc : Thread Cert.FfnAIdeal.nD Cert.FfnAIdeal.τ).loc Cert.FfnAIdeal.main_v14_2)) (v3 : (c : Dev Cert.FfnAIdeal.nD) → Buf (Elt Ideal) ((c.tc : Thread Cert.FfnAIdeal.nD Cert.FfnAIdeal.τ).loc Cert.FfnAIdeal.main_v14_3)) (v4 : (c : Dev Cert.FfnAIdeal.nD) → Buf (Elt Ideal) ((c.tc : Thread Cert.FfnAIdeal.nD Cert.FfnAIdeal.τ).loc Cert.FfnAIdeal.main_v14_4)) (v5 : (c : Dev Cert.FfnAIdeal.nD) → Buf (Elt Ideal) ((c.tc : Thread Cert.FfnAIdeal.nD Cert.FfnAIdeal.τ).loc Cert.FfnAIdeal.main_v14_5)) (v6 : (c : Dev Cert.FfnAIdeal.nD) → Buf (Elt Ideal) ((c.tc : Thread Cert.FfnAIdeal.nD Cert.FfnAIdeal.τ).loc Cert.FfnAIdeal.main_v14_6)) (v7 : (c : Dev Cert.FfnAIdeal.nD) → Buf (Elt Ideal) ((c.tc : Thread Cert.FfnAIdeal.nD Cert.FfnAIdeal.τ).loc Cert.FfnAIdeal.main_v14_7)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v14_0) = v0 c
          ∧ r.2.mem ((c.tc : Thread Cert.FfnAIdeal.nD Cert.FfnAIdeal.τ).loc Cert.FfnAIdeal.main_v14_1) = v1 c
          ∧ r.2.mem ((c.tc : Thread Cert.FfnAIdeal.nD Cert.FfnAIdeal.τ).loc Cert.FfnAIdeal.main_v14_2) = v2 c
          ∧ r.2.mem ((c.tc : Thread Cert.FfnAIdeal.nD Cert.FfnAIdeal.τ).loc Cert.FfnAIdeal.main_v14_3) = v3 c
          ∧ r.2.mem ((c.tc : Thread Cert.FfnAIdeal.nD Cert.FfnAIdeal.τ).loc Cert.FfnAIdeal.main_v14_4) = v4 c
          ∧ r.2.mem ((c.tc : Thread Cert.FfnAIdeal.nD Cert.FfnAIdeal.τ).loc Cert.FfnAIdeal.main_v14_5) = v5 c
          ∧ r.2.mem ((c.tc : Thread Cert.FfnAIdeal.nD Cert.FfnAIdeal.τ).loc Cert.FfnAIdeal.main_v14_6) = v6 c
          ∧ r.2.mem ((c.tc : Thread Cert.FfnAIdeal.nD Cert.FfnAIdeal.τ).loc Cert.FfnAIdeal.main_v14_7) = v7 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6)
          ∧ r.2.mem ((c.tc : Thread Cert.FfnAIdeal.nD Cert.FfnAIdeal.τ).loc Cert.FfnAIdeal.main_arg7) = m ((c.tc : Thread Cert.FfnAIdeal.nD Cert.FfnAIdeal.τ).loc Cert.FfnAIdeal.main_arg7)
          ∧ r.2.mem ((c.tc : Thread Cert.FfnAIdeal.nD Cert.FfnAIdeal.τ).loc Cert.FfnAIdeal.main_arg8) = m ((c.tc : Thread Cert.FfnAIdeal.nD Cert.FfnAIdeal.τ).loc Cert.FfnAIdeal.main_arg8)
          ∧ r.2.mem ((c.tc : Thread Cert.FfnAIdeal.nD Cert.FfnAIdeal.τ).loc Cert.FfnAIdeal.main_arg9) = m ((c.tc : Thread Cert.FfnAIdeal.nD Cert.FfnAIdeal.τ).loc Cert.FfnAIdeal.main_arg9)
          ∧ r.2.mem ((c.tc : Thread Cert.FfnAIdeal.nD Cert.FfnAIdeal.τ).loc Cert.FfnAIdeal.main_arg10) = m ((c.tc : Thread Cert.FfnAIdeal.nD Cert.FfnAIdeal.τ).loc Cert.FfnAIdeal.main_arg10))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v62) = v0 c
          ∧ r.2.mem ((c.tc : Thread Cert.FfnARefIdeal.nD Cert.FfnARefIdeal.τ).loc Cert.FfnARefIdeal.main_v65) = v1 c
          ∧ r.2.mem ((c.tc : Thread Cert.FfnARefIdeal.nD Cert.FfnARefIdeal.τ).loc Cert.FfnARefIdeal.main_v68) = v2 c
          ∧ r.2.mem ((c.tc : Thread Cert.FfnARefIdeal.nD Cert.FfnARefIdeal.τ).loc Cert.FfnARefIdeal.main_v71) = v3 c
          ∧ r.2.mem ((c.tc : Thread Cert.FfnARefIdeal.nD Cert.FfnARefIdeal.τ).loc Cert.FfnARefIdeal.main_v73) = v4 c
          ∧ r.2.mem ((c.tc : Thread Cert.FfnARefIdeal.nD Cert.FfnARefIdeal.τ).loc Cert.FfnARefIdeal.main_v75) = v5 c
          ∧ r.2.mem ((c.tc : Thread Cert.FfnARefIdeal.nD Cert.FfnARefIdeal.τ).loc Cert.FfnARefIdeal.main_v77) = v6 c
          ∧ r.2.mem ((c.tc : Thread Cert.FfnARefIdeal.nD Cert.FfnARefIdeal.τ).loc Cert.FfnARefIdeal.main_v79) = v7 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6)
          ∧ r.2.mem ((c.tc : Thread Cert.FfnARefIdeal.nD Cert.FfnARefIdeal.τ).loc Cert.FfnARefIdeal.main_arg7) = m' ((c.tc : Thread Cert.FfnARefIdeal.nD Cert.FfnARefIdeal.τ).loc Cert.FfnARefIdeal.main_arg7)
          ∧ r.2.mem ((c.tc : Thread Cert.FfnARefIdeal.nD Cert.FfnARefIdeal.τ).loc Cert.FfnARefIdeal.main_arg8) = m' ((c.tc : Thread Cert.FfnARefIdeal.nD Cert.FfnARefIdeal.τ).loc Cert.FfnARefIdeal.main_arg8)
          ∧ r.2.mem ((c.tc : Thread Cert.FfnARefIdeal.nD Cert.FfnARefIdeal.τ).loc Cert.FfnARefIdeal.main_arg9) = m' ((c.tc : Thread Cert.FfnARefIdeal.nD Cert.FfnARefIdeal.τ).loc Cert.FfnARefIdeal.main_arg9)
          ∧ r.2.mem ((c.tc : Thread Cert.FfnARefIdeal.nD Cert.FfnARefIdeal.τ).loc Cert.FfnARefIdeal.main_arg10) = m' ((c.tc : Thread Cert.FfnARefIdeal.nD Cert.FfnARefIdeal.τ).loc Cert.FfnARefIdeal.main_arg10))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnC : Cert.FfnC.Facts) (hFfnCIdeal : Cert.FfnCIdeal.Facts) (hFfnCRefIdeal : Cert.FfnCRefIdeal.Facts) (hFfnB : Cert.FfnB.Facts) (hFfnBIdeal : Cert.FfnBIdeal.Facts) (hFfnBRefIdeal : Cert.FfnBRefIdeal.Facts) (hFfnA : Cert.FfnA.Facts) (hFfnAIdeal : Cert.FfnAIdeal.Facts) (hFfnARefIdeal : Cert.FfnARefIdeal.Facts) (hPre_attn_finite : Cert.Pre_attn_finite.Facts) (hPre_ffn_finite : Cert.Pre_ffn_finite.Facts) (hPre_ffn_a_finite : Cert.Pre_ffn_a_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnC (hFfnC := hFfnC)
    ∧ quiescent_FfnCIdeal (hFfnCIdeal := hFfnCIdeal)
    ∧ quiescent_FfnCIdeal_pre_ffn_finite (hFfnCIdeal := hFfnCIdeal) (hPre_ffn_finite := hPre_ffn_finite)
    ∧ quiescent_FfnCRefIdeal (hFfnCRefIdeal := hFfnCRefIdeal)
    ∧ quiescent_FfnCRefIdeal_pre_ffn_finite (hFfnCRefIdeal := hFfnCRefIdeal) (hPre_ffn_finite := hPre_ffn_finite)
    ∧ quiescent_FfnB (hFfnB := hFfnB)
    ∧ quiescent_FfnBIdeal (hFfnBIdeal := hFfnBIdeal)
    ∧ quiescent_FfnBIdeal_pre_ffn_finite (hFfnBIdeal := hFfnBIdeal) (hPre_ffn_finite := hPre_ffn_finite)
    ∧ quiescent_FfnBRefIdeal (hFfnBRefIdeal := hFfnBRefIdeal)
    ∧ quiescent_FfnBRefIdeal_pre_ffn_finite (hFfnBRefIdeal := hFfnBRefIdeal) (hPre_ffn_finite := hPre_ffn_finite)
    ∧ quiescent_FfnA (hFfnA := hFfnA)
    ∧ quiescent_FfnAIdeal (hFfnAIdeal := hFfnAIdeal)
    ∧ quiescent_FfnAIdeal_pre_ffn_a_finite (hFfnAIdeal := hFfnAIdeal) (hPre_ffn_a_finite := hPre_ffn_a_finite)
    ∧ quiescent_FfnARefIdeal (hFfnARefIdeal := hFfnARefIdeal)
    ∧ quiescent_FfnARefIdeal_pre_ffn_a_finite (hFfnARefIdeal := hFfnARefIdeal) (hPre_ffn_a_finite := hPre_ffn_a_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnC_FfnCIdeal
    ∧ algebraic_FfnCIdeal_FfnCRefIdeal_pre_ffn_finite (hFfnCIdeal := hFfnCIdeal) (hFfnCRefIdeal := hFfnCRefIdeal) (hPre_ffn_finite := hPre_ffn_finite)
    ∧ preserves_FfnB_FfnBIdeal
    ∧ algebraic_FfnBIdeal_FfnBRefIdeal_pre_ffn_finite (hFfnBIdeal := hFfnBIdeal) (hFfnBRefIdeal := hFfnBRefIdeal) (hPre_ffn_finite := hPre_ffn_finite)
    ∧ preserves_FfnA_FfnAIdeal
    ∧ algebraic_FfnAIdeal_FfnARefIdeal_pre_ffn_a_finite (hFfnAIdeal := hFfnAIdeal) (hFfnARefIdeal := hFfnARefIdeal) (hPre_ffn_a_finite := hPre_ffn_a_finite)
-- ==== Pre_attn_finite.lean ====
abbrev S2x8192x32x64 : Shape := ⟨4, ![2, 8192, 32, 64]⟩
abbrev S2x8192x4x64 : Shape := ⟨4, ![2, 8192, 4, 64]⟩
abbrev S2x256x4x64 : Shape := ⟨4, ![2, 256, 4, 64]⟩
abbrev S32 : Shape := ⟨1, ![32]⟩
abbrev S_ : Shape := ⟨0, ![]⟩

class Facts : Prop where
  bcast_S_S2x8192x32x64 : S_.BroadcastsInDim S2x8192x32x64 (![] : Fin 0 → Fin S2x8192x32x64.rank)
  bcast_S_S2x8192x4x64 : S_.BroadcastsInDim S2x8192x4x64 (![] : Fin 0 → Fin S2x8192x4x64.rank)
  bcast_S_S2x256x4x64 : S_.BroadcastsInDim S2x256x4x64 (![] : Fin 0 → Fin S2x256x4x64.rank)
  bcast_S_S32 : S_.BroadcastsInDim S32 (![] : Fin 0 → Fin S32.rank)

variable [Facts]

def fn {F : FTy → Type} [FloatOps F] (main_arg0 : FVec F S2x8192x32x64 .f32) (main_arg1 : FVec F S2x8192x4x64 .f32) (main_arg2 : FVec F S2x8192x4x64 .f32) (main_arg3 : FVec F S2x256x4x64 .f32) (main_arg4 : FVec F S2x256x4x64 .f32) (main_arg5 : FVec F S32 .f32) : IVec S2x8192x32x64 1 × IVec S2x8192x4x64 1 × IVec S2x256x4x64 1 × IVec S32 1 :=
  let main_v0 : FVec F S2x8192x32x64 .f32 := Host.absf main_arg0
  let main_cst : FVec F S_ .f32 := constant S_ .f32 0x7F800000#32
  let main_v1 : FVec F S2x8192x32x64 .f32 := broadcastInDim S2x8192x32x64 ![] bcast_S_S2x8192x32x64 main_cst
  let main_v2 : IVec S2x8192x32x64 1 := cmpf .olt main_v0 main_v1
  let main_v3 : FVec F S2x8192x4x64 .f32 := Host.absf main_arg1
  let main_cst_0 : FVec F S_ .f32 := constant S_ .f32 0x7F800000#32
  let main_v4 : FVec F S2x8192x4x64 .f32 := broadcastInDim S2x8192x4x64 ![] bcast_S_S2x8192x4x64 main_cst_0
  let main_v5 : IVec S2x8192x4x64 1 := cmpf .olt main_v3 main_v4
  let main_v6 : FVec F S2x256x4x64 .f32 := Host.absf main_arg3
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  (main_v2, main_v5, main_v8, main_v11)
-- ==== Pre_ffn_a_finite.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2048x4096 : Shape := ⟨3, ![1, 2048, 4096]⟩
abbrev S1x2048x2048 : Shape := ⟨3, ![1, 2048, 2048]⟩
abbrev S1x2048x2560 : Shape := ⟨3, ![1, 2048, 2560]⟩
abbrev S_ : Shape := ⟨0, ![]⟩

class Facts : Prop where
  bcast_S_S2x8192x2048 : S_.BroadcastsInDim S2x8192x2048 (![] : Fin 0 → Fin S2x8192x2048.rank)
  bcast_S_S2x18432 : S_.BroadcastsInDim S2x18432 (![] : Fin 0 → Fin S2x18432.rank)
  bcast_S_S2x2x2048x5632 : S_.BroadcastsInDim S2x2x2048x5632 (![] : Fin 0 → Fin S2x2x2048x5632.rank)
  bcast_S_S2x2x5632x2048 : S_.BroadcastsInDim S2x2x5632x2048 (![] : Fin 0 → Fin S2x2x5632x2048.rank)

variable [Facts]

def fn {F : FTy → Type} [FloatOps F] (main_arg0 : FVec F S2x8192x2048 .f32) (main_arg1 : FVec F S2x18432 .f32) (main_arg2 : FVec F S2x2x2048x5632 .f32) (main_arg3 : FVec F S2x2x2048x5632 .f32) (main_arg4 : FVec F S2x2x5632x2048 .f32) (main_arg5 : FVec F S2x3x2048 .f32) (main_arg6 : FVec F S2x3x2048 .f32) (main_arg7 : FVec F S1x2048x4096 .f32) (main_arg8 : FVec F S1x2048x2048 .f32) (main_arg9 : FVec F S1x2048x2560 .f32) (main_arg10 : FVec F S1x2048x2048 .f32) : IVec S2x8192x2048 1 × IVec S2x18432 1 × IVec S2x2x2048x5632 1 × IVec S2x2x2048x5632 1 × IVec S2x2x5632x2048 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S2x18432 .f32 := Host.absf main_arg1
  let main_cst_0 : FVec F S_ .f32 := constant S_ .f32 0x7F800000#32
  let main_v4 : FVec F S2x18432 .f32 := broadcastInDim S2x18432 ![] bcast_S_S2x18432 main_cst_0
  let main_v5 : IVec S2x18432 1 := cmpf .olt main_v3 main_v4
  let main_v6 : FVec F S2x2x2048x5632 .f32 := Host.absf main_arg2
  let main_cst_1 : FVec F S_ .f32 := constant S_ .f32 0x7F800000#32
  let main_v7 : FVec F S2x2x2048x5632 .f32 := broadcastInDim S2x2x2048x5632 ![] bcast_S_S2x2x2048x5632 main_cst_1
  let main_v8 : IVec S2x2x2048x5632 1 := cmpf .olt main_v6 main_v7
  let main_v9 : FVec F S2x2x2048x5632 .f32 := Host.absf main_arg3
  let main_cst_2 : FVec F S_ .f32 := constant S_ .f32 0x7F800000#32
  let main_v10 : FVec F S2x2x2048x5632 .f32 := broadcastInDim S2x2x2048x5632 ![] bcast_S_S2x2x2048x5632 main_cst_2
  let main_v11 : IVec S2x2x2048x5632 1 := cmpf .olt main_v9 main_v10
  let main_v12 : FVec F S2x2x5632x2048 .f32 := Host.absf main_arg4
  let main_cst_3 : FVec F S_ .f32 := constant S_ .f32 0x7F800000#32
  let main_v13 : FVec F S2x2x5632x2048 .f32 := broadcastInDim S2x2x5632x2048 ![] bcast_S_S2x2x5632x2048 main_cst_3
  let main_v14 : IVec S2x2x5632x2048 1 := cmpf .olt main_v12 main_v13
  (main_v2, main_v5, main_v8, main_v11, main_v14)
-- ==== Pre_ffn_finite.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S_ : Shape := ⟨0, ![]⟩

class Facts : Prop where
  bcast_S_S2x8192x2048 : S_.BroadcastsInDim S2x8192x2048 (![] : Fin 0 → Fin S2x8192x2048.rank)
  bcast_S_S2x18432 : S_.BroadcastsInDim S2x18432 (![] : Fin 0 → Fin S2x18432.rank)
  bcast_S_S2x2x2048x5632 : S_.BroadcastsInDim S2x2x2048x5632 (![] : Fin 0 → Fin S2x2x2048x5632.rank)
  bcast_S_S2x2x5632x2048 : S_.BroadcastsInDim S2x2x5632x2048 (![] : Fin 0 → Fin S2x2x5632x2048.rank)

variable [Facts]

def fn {F : FTy → Type} [FloatOps F] (main_arg0 : FVec F S2x8192x2048 .f32) (main_arg1 : FVec F S2x18432 .f32) (main_arg2 : FVec F S2x2x2048x5632 .f32) (main_arg3 : FVec F S2x2x2048x5632 .f32) (main_arg4 : FVec F S2x2x5632x2048 .f32) (main_arg5 : FVec F S2x3x2048 .f32) (main_arg6 : FVec F S2x3x2048 .f32) : IVec S2x8192x2048 1 × IVec S2x18432 1 × IVec S2x2x2048x5632 1 × IVec S2x2x2048x5632 1 × IVec S2x2x5632x2048 1 :=
  let main_v0 : FVec F S2x8192x2048 .f32 := Host.absf main_arg0
  let main_cst : FVec F S_ .f32 := constant S_ .f32 0x7F800000#32
  let main_v1 : FVec F S2x8192x2048 .f32 := broadcastInDim S2x8192x2048 ![] bcast_S_S2x8192x2048 main_cst
  let main_v2 : IVec S2x8192x2048 1 := cmpf .olt main_v0 main_v1
  let main_v3 : FVec F S2x18432 .f32 := Host.absf main_arg1
  let main_cst_0 : FVec F S_ .f32 := constant S_ .f32 0x7F800000#32
  let main_v4 : FVec F S2x18432 .f32 := broadcastInDim S2x18432 ![] bcast_S_S2x18432 main_cst_0
  let main_v5 : IVec S2x18432 1 := cmpf .olt main_v3 main_v4
  let main_v6 : FVec F S2x2x2048x5632 .f32 := Host.absf main_arg2
  let main_cst_1 : FVec F S_ .f32 := constant S_ .f32 0x7F800000#32
  let main_v7 : FVec F S2x2x2048x5632 .f32 := broadcastInDim S2x2x2048x5632 ![] bcast_S_S2x2x2048x5632 main_cst_1
  let main_v8 : IVec S2x2x2048x5632 1 := cmpf .olt main_v6 main_v7
  let main_v9 : FVec F S2x2x2048x5632 .f32 := Host.absf main_arg3
  let main_cst_2 : FVec F S_ .f32 := constant S_ .f32 0x7F800000#32
  let main_v10 : FVec F S2x2x2048x5632 .f32 := broadcastInDim S2x2x2048x5632 ![] bcast_S_S2x2x2048x5632 main_cst_2
  let main_v11 : IVec S2x2x2048x5632 1 := cmpf .olt main_v9 main_v10
  let main_v12 : FVec F S2x2x5632x2048 .f32 := Host.absf main_arg4
  let main_cst_3 : FVec F S_ .f32 := constant S_ .f32 0x7F800000#32
  let main_v13 : FVec F S2x2x5632x2048 .f32 := broadcastInDim S2x2x5632x2048 ![] bcast_S_S2x2x5632x2048 main_cst_3
  let main_v14 : IVec S2x2x5632x2048 1 := cmpf .olt main_v12 main_v13
  (main_v2, main_v5, main_v8, main_v11, main_v14)
-- ==== Attn.lean ====
abbrev S2x8192x32x64 : Shape := ⟨4, ![2, 8192, 32, 64]⟩
abbrev S2x8192x4x64 : Shape := ⟨4, ![2, 8192, 4, 64]⟩
abbrev S2x256x4x64 : Shape := ⟨4, ![2, 256, 4, 64]⟩
abbrev S32 : Shape := ⟨1, ![32]⟩
abbrev S3 : Shape := ⟨1, ![3]⟩
abbrev S_ : Shape := ⟨0, ![]⟩
abbrev S16384x2048 : Shape := ⟨2, ![16384, 2048]⟩
abbrev S2x8192x4x128 : Shape := ⟨4, ![2, 8192, 4, 128]⟩
abbrev S2x8192x512 : Shape := ⟨3, ![2, 8192, 512]⟩
abbrev S2x512x8192 : Shape := ⟨3, ![2, 512, 8192]⟩
abbrev S2x256x4x128 : Shape := ⟨4, ![2, 256, 4, 128]⟩
abbrev S2x256x512 : Shape := ⟨3, ![2, 256, 512]⟩
abbrev S2x512x256 : Shape := ⟨3, ![2, 512, 256]⟩
abbrev S3x1x1 : Shape := ⟨3, ![3, 1, 1]⟩
abbrev S384 : Shape := ⟨1, ![384]⟩
abbrev S1x384x1 : Shape := ⟨3, ![1, 384, 1]⟩
abbrev S1024 : Shape := ⟨1, ![1024]⟩
abbrev S1x1x1024 : Shape := ⟨3, ![1, 1, 1024]⟩
abbrev S3x384x1 : Shape := ⟨3, ![3, 384, 1]⟩
abbrev S3x384x1024 : Shape := ⟨3, ![3, 384, 1024]⟩
abbrev S128x2048 : Shape := ⟨2, ![128, 2048]⟩
abbrev S1x8192x512 : Shape := ⟨3, ![1, 8192, 512]⟩
abbrev S1x512x8192 : Shape := ⟨3, ![1, 512, 8192]⟩
abbrev S1x256x512 : Shape := ⟨3, ![1, 256, 512]⟩
abbrev S1x512x256 : Shape := ⟨3, ![1, 512, 256]⟩
abbrev S1x384x1024 : Shape := ⟨3, ![1, 384, 1024]⟩
abbrev S128x128 : Shape := ⟨2, ![128, 128]⟩
abbrev S1024x128 : Shape := ⟨2, ![1024, 128]⟩
abbrev S1x256x128 : Shape := ⟨3, ![1, 256, 128]⟩
abbrev S256x128 : Shape := ⟨2, ![256, 128]⟩
abbrev S1x384x128 : Shape := ⟨3, ![1, 384, 128]⟩
abbrev S384x128 : Shape := ⟨2, ![384, 128]⟩
abbrev S640x128 : Shape := ⟨2, ![640, 128]⟩
abbrev S640x1024 : Shape := ⟨2, ![640, 1024]⟩
abbrev S1 : Shape := ⟨1, ![1]⟩
abbrev S1x128 : Shape := ⟨2, ![1, 128]⟩
abbrev S1x1024 : Shape := ⟨2, ![1, 1024]⟩
abbrev S256x1024 : Shape := ⟨2, ![256, 1024]⟩
abbrev S384x1024 : Shape := ⟨2, ![384, 1024]⟩
abbrev S1x128x256 : Shape := ⟨3, ![1, 128, 256]⟩
abbrev S128x256 : Shape := ⟨2, ![128, 256]⟩
abbrev S1x128x384 : Shape := ⟨3, ![1, 128, 384]⟩
abbrev S128x384 : Shape := ⟨2, ![128, 384]⟩
abbrev S128x640 : Shape := ⟨2, ![128, 640]⟩
abbrev S16x640 : Shape := ⟨2, ![16, 640]⟩
abbrev S144x640 : Shape := ⟨2, ![144, 640]⟩
abbrev S144x1024 : Shape := ⟨2, ![144, 1024]⟩
abbrev S128x1024 : Shape := ⟨2, ![128, 1024]⟩

abbrev nBuf : Space → Nat
  | .hbm => 74
  | .vmem => 14
  | .smem => 1
  | _ => 0

abbrev bufTy : (tb : Table) → Fin (tcTables nBuf tb) → BufTy
  | .hbm, ⟨0, _⟩ => ⟨S2x8192x32x64, .f32⟩
  | .hbm, ⟨1, _⟩ => ⟨S2x8192x4x64, .f32⟩
  | .hbm, ⟨2, _⟩ => ⟨S2x8192x4x64, .f32⟩
  | .hbm, ⟨3, _⟩ => ⟨S2x256x4x64, .f32⟩
  | .hbm, ⟨4, _⟩ => ⟨S2x256x4x64, .f32⟩
  | .hbm, ⟨5, _⟩ => ⟨S32, .f32⟩
  | .hbm, ⟨6, _⟩ => ⟨S3, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x2048, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .bf16⟩
  | .hbm, ⟨17, _⟩ => ⟨S2x8192x4x128, .f32⟩
  | .hbm, ⟨18, _⟩ => ⟨S2x8192x4x128, .bf16⟩
  | .hbm, ⟨19, _⟩ => ⟨S2x8192x512, .bf16⟩
  | .hbm, ⟨20, _⟩ => ⟨S2x8192x4x128, .f32⟩
  | .hbm, ⟨21, _⟩ => ⟨S2x8192x4x128, .bf16⟩
  | .hbm, ⟨22, _⟩ => ⟨S2x8192x512, .bf16⟩
  | .hbm, ⟨23, _⟩ => ⟨S2x512x8192, .bf16⟩
  | .hbm, ⟨24, _⟩ => ⟨S2x256x4x128, .f32⟩
  | .hbm, ⟨25, _⟩ => ⟨S2x256x4x128, .bf16⟩
  | .hbm, ⟨26, _⟩ => ⟨S2x256x512, .bf16⟩
  | .hbm, ⟨27, _⟩ => ⟨S2x256x4x128, .f32⟩
  | .hbm, ⟨28, _⟩ => ⟨S2x256x4x128, .bf16⟩
  | .hbm, ⟨29, _⟩ => ⟨S2x256x512, .bf16⟩
  | .hbm, ⟨30, _⟩ => ⟨S2x512x256, .bf16⟩
  | .hbm, ⟨31, _⟩ => ⟨S_, .i32⟩
  | .hbm, ⟨32, _⟩ => ⟨S3, .i32⟩
  | .hbm, ⟨33, _⟩ => ⟨S3, .i32⟩
  | .hbm, ⟨34, _⟩ => ⟨S_, .i32⟩
  | .hbm, ⟨35, _⟩ => ⟨S3, .i32⟩
  | .hbm, ⟨36, _⟩ => ⟨S3, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S3, .i32⟩
  | .hbm, ⟨41, _⟩ => ⟨S3, .i32⟩
  | .hbm, ⟨42, _⟩ => ⟨S_, .i32⟩
  | .hbm, ⟨43, _⟩ => ⟨S3, .i32⟩
  | .hbm, ⟨44, _⟩ => ⟨S3, .i32⟩
  | .hbm, ⟨45, _⟩ => ⟨S_, .i32⟩
  | .hbm, ⟨46, _⟩ => ⟨S3, .i32⟩
  | .hbm, ⟨47, _⟩ => ⟨S3, .i32⟩
  | .hbm, ⟨48, _⟩ => ⟨S3, .i32⟩
  | .hbm, ⟨49, _⟩ => ⟨S3x1x1, .i32⟩
  | .hbm, ⟨50, _⟩ => ⟨S384, .i32⟩
  | .hbm, ⟨51, _⟩ => ⟨S1x384x1, .i32⟩
  | .hbm, ⟨52, _⟩ => ⟨S1024, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1x1x1024, .i32⟩
  | .hbm, ⟨57, _⟩ => ⟨S3x384x1, .i32⟩
  | .hbm, ⟨58, _⟩ => ⟨S3x384x1, .i32⟩
  | .hbm, ⟨59, _⟩ => ⟨S3x384x1, .i32⟩
  | .hbm, ⟨60, _⟩ => ⟨S3x384x1024, .i32⟩
  | .hbm, ⟨61, _⟩ => ⟨S3x384x1024, .i32⟩
  | .hbm, ⟨62, _⟩ => ⟨S3x384x1024, .i32⟩
  | .hbm, ⟨63, _⟩ => ⟨S3x384x1024, .i32⟩
  | .hbm, ⟨64, _⟩ => ⟨S_, .i32⟩
  | .hbm, ⟨65, _⟩ => ⟨S3x384x1024, .i32⟩
  | .hbm, ⟨66, _⟩ => ⟨S3x384x1024, .i1⟩
  | .hbm, ⟨67, _⟩ => ⟨S_, .f32⟩
  | .hbm, ⟨68, _⟩ => ⟨S_, .f32⟩
  | .hbm, ⟨69, _⟩ => ⟨S3x384x1024, .f32⟩
  | .hbm, ⟨70, _⟩ => ⟨S3x384x1024, .f32⟩
  | .hbm, ⟨71, _⟩ => ⟨S3x384x1024, .f32⟩
  | .hbm, ⟨72, _⟩ => ⟨S3x384x1024, .f32⟩
  | .hbm, ⟨73, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512x8192, .bf16⟩
  | .local _ .vmem, ⟨5, _⟩ => ⟨S1x512x8192, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x384x1024, .f32⟩
  | .local _ .vmem, ⟨11, _⟩ => ⟨S1x384x1024, .f32⟩
  | .local _ .vmem, ⟨12, _⟩ => ⟨S128x2048, .bf16⟩
  | .local _ .vmem, ⟨13, _⟩ => ⟨S128x2048, .bf16⟩
  | .local _ .smem, ⟨0, _⟩ => ⟨S32, .f32⟩
  | _, _ => ⟨S2x8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_c_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_cst_10 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  v3
def k0_off1 (i : grid0.Coords) : Fin 3 → Nat :=
  let c0_15 : Index := 0#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v38 : Index := Scalar.indexCast v4
  let c0_16 : Index := 0#32
  ![0, v38.toNat, 0]
def k0_off2 (i : grid0.Coords) : Fin 3 → Nat :=
  let c0_33 : Index := 0#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v70 : Index := Scalar.indexCast v4
  let c128_34 : Index := 128#32
  ![0, v70.toNat, 128]
def k0_off3 (i : grid0.Coords) : Fin 3 → Nat :=
  let c0_51 : Index := 0#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v102 : Index := Scalar.indexCast v4
  let c256_52 : Index := 256#32
  ![0, v102.toNat, 256]
def k0_off4 (i : grid0.Coords) : Fin 3 → Nat :=
  let c0_71 : Index := 0#32
  let c0_72 : Index := 0#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v153 : Index := Scalar.indexCast v4
  ![0, 0, v153.toNat]
def k0_off5 (i : grid0.Coords) : Fin 3 → Nat :=
  let c0_98 : Index := 0#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v218 : Index := Scalar.indexCast v4
  let c384_99 : Index := 384#32
  ![0, v218.toNat, 384]
def k0_off6 (i : grid0.Coords) : Fin 3 → Nat :=
  let c0_117 : Index := 0#32
  let c128_118 : Index := 128#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v269 : Index := Scalar.indexCast v4
  ![0, 128, v269.toNat]
def k0_off7 (i : grid0.Coords) : Fin 3 → Nat :=
  let c0_145 : Index := 0#32
  let c256_146 : Index := 256#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v353 : Index := Scalar.indexCast v4
  ![0, 256, v353.toNat]
def k0_off8 (i : grid0.Coords) : Fin 3 → Nat :=
  let c0_173 : Index := 0#32
  let c384_174 : Index := 384#32
  let c7808_i32 : BitVec 32 := 7808#32
  let c0_i32 : BitVec 32 := 0#32
  let arg1 : BitVec 32 := BitVec.ofNat 32 (i 1).val
  let c1_i32 : BitVec 32 := 1#32
  let v0 : BitVec 32 := Scalar.subi arg1 c1_i32
  let c128_i32 : BitVec 32 := 128#32
  let v1 : BitVec 32 := Scalar.muli v0 c128_i32
  let v2 : BitVec 32 := Scalar.maxsi c0_i32 v1
  let v3 : BitVec 32 := Scalar.minsi c7808_i32 v2
  let v4 : BitVec 32 := v3
  let v437 : Index := Scalar.indexCast v4
  ![0, 384, v437.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c63_i32 : BitVec 32 := 63#32
  let v1 : BitVec 1 := Scalar.cmpi .eq arg1 c63_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S2x8192x32x64 : Shape := ⟨4, ![2, 8192, 32, 64]⟩
abbrev S2x8192x4x64 : Shape := ⟨4, ![2, 8192, 4, 64]⟩
abbrev S2x256x4x64 : Shape := ⟨4, ![2, 256, 4, 64]⟩
abbrev S32 : Shape := ⟨1, ![32]⟩
abbrev S4x8 : Shape := ⟨2, ![4, 8]⟩
abbrev S2x64x128x4x8x64 : Shape := ⟨6, ![2, 64, 128, 4, 8, 64]⟩
abbrev S_ : Shape := ⟨0, ![]⟩
abbrev S2x8448x4x64 : Shape := ⟨4, ![2, 8448, 4, 64]⟩
abbrev S2x66x128x4x64 : Shape := ⟨5, ![2, 66, 128, 4, 64]⟩
abbrev S2x64x128x4x64 : Shape := ⟨5, ![2, 64, 128, 4, 64]⟩
abbrev S2x64x384x4x64 : Shape := ⟨5, ![2, 64, 384, 4, 64]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S384 : Shape := ⟨1, ![384]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S2x4x256x64x128x8 : Shape := ⟨6, ![2, 4, 256, 64, 128, 8]⟩
abbrev S2x64x4x8x128x256 : Shape := ⟨6, ![2, 64, 4, 8, 128, 256]⟩
abbrev S2x64x4x384x128x8 : Shape := ⟨6, ![2, 64, 4, 384, 128, 8]⟩
abbrev S2x64x4x8x128x384 : Shape := ⟨6, ![2, 64, 4, 8, 128, 384]⟩
abbrev S1x64x1x1x128x384 : Shape := ⟨6, ![1, 64, 1, 1, 128, 384]⟩
abbrev S1x1x4x8x1x1 : Shape := ⟨6, ![1, 1, 4, 8, 1, 1]⟩
abbrev S2x64x4x8x128x1 : Shape := ⟨6, ![2, 64, 4, 8, 128, 1]⟩
abbrev S2x64x4x8x128x641 : Shape := ⟨6, ![2, 64, 4, 8, 128, 641]⟩
abbrev S2x64x4x8x128 : Shape := ⟨5, ![2, 64, 4, 8, 128]⟩
abbrev S2x4x64x64x8x128 : Shape := ⟨6, ![2, 4, 64, 64, 8, 128]⟩
abbrev S2x64x4x64x8x128 : Shape := ⟨6, ![2, 64, 4, 64, 8, 128]⟩
abbrev S16384x2048 : Shape := ⟨2, ![16384, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2x8192x32x64, .f32⟩
  | .hbm, ⟨1, _⟩ => ⟨S2x8192x4x64, .f32⟩
  | .hbm, ⟨2, _⟩ => ⟨S2x8192x4x64, .f32⟩
  | .hbm, ⟨3, _⟩ => ⟨S2x256x4x64, .f32⟩
  | .hbm, ⟨4, _⟩ => ⟨S2x256x4x64, .f32⟩
  | .hbm, ⟨5, _⟩ => ⟨S32, .f32⟩
  | .hbm, ⟨6, _⟩ => ⟨S4x8, .f32⟩
  | .hbm, ⟨7, _⟩ => ⟨S2x64x128x4x8x64, .f32⟩
  | .hbm, ⟨8, _⟩ => ⟨S_, .i32⟩
  | .hbm, ⟨9, _⟩ => ⟨S_, .f32⟩
  | .hbm, ⟨10, _⟩ => ⟨S2x8448x4x64, .f32⟩
  | .hbm, ⟨11, _⟩ => ⟨S2x66x128x4x64, .f32⟩
  | .hbm, ⟨12, _⟩ => ⟨S2x64x128x4x64, .f32⟩
  | .hbm, ⟨13, _⟩ => ⟨S2x64x128x4x64, .f32⟩
  | .hbm, ⟨14, _⟩ => ⟨S2x64x128x4x64, .f32⟩
  | .hbm, ⟨15, _⟩ => ⟨S2x64x384x4x64, .f32⟩
  | .hbm, ⟨16, _⟩ => ⟨S_, .i32⟩
  | .hbm, ⟨17, _⟩ => ⟨S_, .f32⟩
  | .hbm, ⟨18, _⟩ => ⟨S2x8448x4x64, .f32⟩
  | .hbm, ⟨19, _⟩ => ⟨S2x66x128x4x64, .f32⟩
  | .hbm, ⟨20, _⟩ => ⟨S2x64x128x4x64, .f32⟩
  | .hbm, ⟨21, _⟩ => ⟨S2x64x128x4x64, .f32⟩
  | .hbm, ⟨22, _⟩ => ⟨S2x64x128x4x64, .f32⟩
  | .hbm, ⟨23, _⟩ => ⟨S2x64x384x4x64, .f32⟩
  | .hbm, ⟨24, _⟩ => ⟨S64, .i32⟩
  | .hbm, ⟨25, _⟩ => ⟨S64x1x1, .i32⟩
  | .hbm, ⟨26, _⟩ => ⟨S128, .i32⟩
  | .hbm, ⟨27, _⟩ => ⟨S1x128x1, .i32⟩
  | .hbm, ⟨28, _⟩ => ⟨S384, .i32⟩
  | .hbm, ⟨29, _⟩ => ⟨S1x1x384, .i32⟩
  | .hbm, ⟨30, _⟩ => ⟨S_, .i32⟩
  | .hbm, ⟨31, _⟩ => ⟨S64x1x1, .i32⟩
  | .hbm, ⟨32, _⟩ => ⟨S64x1x1, .i32⟩
  | .hbm, ⟨33, _⟩ => ⟨S64x1x384, .i32⟩
  | .hbm, ⟨34, _⟩ => ⟨S64x1x384, .i32⟩
  | .hbm, ⟨35, _⟩ => ⟨S64x1x384, .i32⟩
  | .hbm, ⟨36, _⟩ => ⟨S_, .i32⟩
  | .hbm, ⟨37, _⟩ => ⟨S64x1x384, .i32⟩
  | .hbm, ⟨38, _⟩ => ⟨S64x1x384, .i32⟩
  | .hbm, ⟨39, _⟩ => ⟨S_, .i32⟩
  | .hbm, ⟨40, _⟩ => ⟨S1x1x384, .i32⟩
  | .hbm, ⟨41, _⟩ => ⟨S1x1x384, .i32⟩
  | .hbm, ⟨42, _⟩ => ⟨S1x128x384, .i32⟩
  | .hbm, ⟨43, _⟩ => ⟨S1x128x384, .i32⟩
  | .hbm, ⟨44, _⟩ => ⟨S1x128x384, .i32⟩
  | .hbm, ⟨45, _⟩ => ⟨S1x128x384, .i32⟩
  | .hbm, ⟨46, _⟩ => ⟨S_, .i32⟩
  | .hbm, ⟨47, _⟩ => ⟨S1x128x384, .i32⟩
  | .hbm, ⟨48, _⟩ => ⟨S1x128x384, .i1⟩
  | .hbm, ⟨49, _⟩ => ⟨S_, .i32⟩
  | .hbm, ⟨50, _⟩ => ⟨S64x1x384, .i32⟩
  | .hbm, ⟨51, _⟩ => ⟨S64x1x384, .i1⟩
  | .hbm, ⟨52, _⟩ => ⟨S64x128x384, .i1⟩
  | .hbm, ⟨53, _⟩ => ⟨S64x128x384, .i1⟩
  | .hbm, ⟨54, _⟩ => ⟨S64x128x384, .i1⟩
  | .hbm, ⟨55, _⟩ => ⟨S_, .i32⟩
  | .hbm, ⟨56, _⟩ => ⟨S64x1x384, .i32⟩
  | .hbm, ⟨57, _⟩ => ⟨S64x1x384, .i1⟩
  | .hbm, ⟨58, _⟩ => ⟨S64x128x384, .i1⟩
  | .hbm, ⟨59, _⟩ => ⟨S64x128x384, .i1⟩
  | .hbm, ⟨60, _⟩ => ⟨S2x4x256x64x128x8, .f32⟩
  | .hbm, ⟨61, _⟩ => ⟨S2x64x4x8x128x256, .f32⟩
  | .hbm, ⟨62, _⟩ => ⟨S_, .f32⟩
  | .hbm, ⟨63, _⟩ => ⟨S2x64x4x8x128x256, .f32⟩
  | .hbm, ⟨64, _⟩ => ⟨S2x64x4x8x128x256, .f32⟩
  | .hbm, ⟨65, _⟩ => ⟨S2x64x4x384x128x8, .f32⟩
  | .hbm, ⟨66, _⟩ => ⟨S2x64x4x8x128x384, .f32⟩
  | .hbm, ⟨67, _⟩ => ⟨S_, .f32⟩
  | .hbm, ⟨68, _⟩ => ⟨S2x64x4x8x128x384, .f32⟩
  | .hbm, ⟨69, _⟩ => ⟨S2x64x4x8x128x384, .f32⟩
  | .hbm, ⟨70, _⟩ => ⟨S1x64x1x1x128x384, .i1⟩
  | .hbm, ⟨71, _⟩ => ⟨S_, .f32⟩
  | .hbm, ⟨72, _⟩ => ⟨S_, .f32⟩
  | .hbm, ⟨73, _⟩ => ⟨S2x64x4x8x128x384, .i1⟩
  | .hbm, ⟨74, _⟩ => ⟨S2x64x4x8x128x384, .f32⟩
  | .hbm, ⟨75, _⟩ => ⟨S2x64x4x8x128x384, .f32⟩
  | .hbm, ⟨76, _⟩ => ⟨S1x1x4x8x1x1, .f32⟩
  | .hbm, ⟨77, _⟩ => ⟨S2x64x4x8x128x1, .f32⟩
  | .hbm, ⟨78, _⟩ => ⟨S2x64x4x8x128x641, .f32⟩
  | .hbm, ⟨79, _⟩ => ⟨S_, .f32⟩
  | .hbm, ⟨80, _⟩ => ⟨S2x64x4x8x128, .f32⟩
  | .hbm, ⟨81, _⟩ => ⟨S_, .f32⟩
  | .hbm, ⟨82, _⟩ => ⟨S2x64x4x8x128, .f32⟩
  | .hbm, ⟨83, _⟩ => ⟨S2x64x4x8x128, .f32⟩
  | .hbm, ⟨84, _⟩ => ⟨S2x64x4x8x128x1, .f32⟩
  | .hbm, ⟨85, _⟩ => ⟨S2x64x4x8x128x641, .f32⟩
  | .hbm, ⟨86, _⟩ => ⟨S2x64x4x8x128x641, .f32⟩
  | .hbm, ⟨87, _⟩ => ⟨S2x64x4x8x128x641, .f32⟩
  | .hbm, ⟨88, _⟩ => ⟨S_, .f32⟩
  | .hbm, ⟨89, _⟩ => ⟨S2x64x4x8x128, .f32⟩
  | .hbm, ⟨90, _⟩ => ⟨S2x64x4x8x128x1, .f32⟩
  | .hbm, ⟨91, _⟩ => ⟨S2x64x4x8x128x641, .f32⟩
  | .hbm, ⟨92, _⟩ => ⟨S2x64x4x8x128x641, .f32⟩
  | .hbm, ⟨93, _⟩ => ⟨S2x64x4x8x128x256, .f32⟩
  | .hbm, ⟨94, _⟩ => ⟨S2x4x64x64x8x128, .f32⟩
  | .hbm, ⟨95, _⟩ => ⟨S2x64x128x4x8x64, .f32⟩
  | .hbm, ⟨96, _⟩ => ⟨S2x64x4x8x128x384, .f32⟩
  | .hbm, ⟨97, _⟩ => ⟨S2x64x4x64x8x128, .f32⟩
  | .hbm, ⟨98, _⟩ => ⟨S2x64x128x4x8x64, .f32⟩
  | .hbm, ⟨99, _⟩ => ⟨S2x64x128x4x8x64, .f32⟩
  | .hbm, ⟨100, _⟩ => ⟨S16384x2048, .f32⟩
  | .hbm, ⟨101, _⟩ => ⟨S16384x2048, .bf16⟩
  | _, _ => ⟨S2x8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Ffn.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2x9x1x2048 : Shape := ⟨5, ![1, 2, 9, 1, 2048]⟩
abbrev S_ : Shape := ⟨0, ![]⟩
abbrev S2x8x9x1x2048 : Shape := ⟨5, ![2, 8, 9, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x2048 : Shape := ⟨2, ![16384, 2048]⟩
abbrev S2x3x1x2048 : Shape := ⟨4, ![2, 3, 1, 2048]⟩
abbrev S1024x2048 : Shape := ⟨2, ![1024, 2048]⟩
abbrev S1x1x1x1x2048 : Shape := ⟨5, ![1, 1, 1, 1, 2048]⟩
abbrev S2048x512 : Shape := ⟨2, ![2048, 512]⟩
abbrev S512x2048 : Shape := ⟨2, ![512, 2048]⟩
abbrev S1x1x1x2048 : Shape := ⟨4, ![1, 1, 1, 2048]⟩
abbrev S1x2048 : Shape := ⟨2, ![1, 2048]⟩
abbrev S256x2048 : Shape := ⟨2, ![256, 2048]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 24
  | .vmem => 19
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S1x2x9x1x2048, .f32⟩
  | .hbm, ⟨8, _⟩ => ⟨S_, .i32⟩
  | .hbm, ⟨9, _⟩ => ⟨S_, .f32⟩
  | .hbm, ⟨10, _⟩ => ⟨S2x8x9x1x2048, .f32⟩
  | .hbm, ⟨11, _⟩ => ⟨S1x1x2048x5632, .f32⟩
  | .hbm, ⟨12, _⟩ => ⟨S2048x5632, .f32⟩
  | .hbm, ⟨13, _⟩ => ⟨S2048x5632, .bf16⟩
  | .hbm, ⟨14, _⟩ => ⟨S1x1x2048x5632, .f32⟩
  | .hbm, ⟨15, _⟩ => ⟨S2048x5632, .f32⟩
  | .hbm, ⟨16, _⟩ => ⟨S2048x5632, .bf16⟩
  | .hbm, ⟨17, _⟩ => ⟨S1x1x5632x2048, .f32⟩
  | .hbm, ⟨18, _⟩ => ⟨S5632x2048, .f32⟩
  | .hbm, ⟨19, _⟩ => ⟨S5632x2048, .bf16⟩
  | .hbm, ⟨20, _⟩ => ⟨S16384x2048, .f32⟩
  | .hbm, ⟨21, _⟩ => ⟨S2x3x1x2048, .f32⟩
  | .hbm, ⟨22, _⟩ => ⟨S2x3x1x2048, .f32⟩
  | .hbm, ⟨23, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x1x1x2048, .f32⟩
  | .local _ .vmem, ⟨15, _⟩ => ⟨S1x1x1x2048, .f32⟩
  | .local _ .vmem, ⟨16, _⟩ => ⟨S1024x2048, .f32⟩
  | .local _ .vmem, ⟨17, _⟩ => ⟨S1024x2048, .f32⟩
  | .local _ .vmem, ⟨18, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let c10_i32 : BitVec 32 := 10#32
  let v8 : BitVec 1 := Scalar.cmpi .slt arg1 c10_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c10_i32_7 : BitVec 32 := 10#32
  let v12 : BitVec 1 := Scalar.cmpi .eq arg1 c10_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c6_i32 : BitVec 32 := 6#32
  let c0_i32_5 : BitVec 32 := 0#32
  let c0_i32_6 : BitVec 32 := 0#32
  let c0_i32_7 : BitVec 32 := 0#32
  ![c1_i32_4.toNat, v16.toNat, c6_i32.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c7_i32 : BitVec 32 := 7#32
  let c0_i32_5 : BitVec 32 := 0#32
  let c0_i32_6 : BitVec 32 := 0#32
  let c0_i32_7 : BitVec 32 := 0#32
  ![c1_i32_4.toNat, v16.toNat, c7_i32.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c8_i32_5 : BitVec 32 := 8#32
  let c0_i32_6 : BitVec 32 := 0#32
  let c0_i32_7 : BitVec 32 := 0#32
  let c0_i32_8 : BitVec 32 := 0#32
  ![c1_i32_4.toNat, v16.toNat, c8_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S2x1x18432 : Shape := ⟨3, ![2, 1, 18432]⟩
abbrev S2x1x2048 : Shape := ⟨3, ![2, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S16384x2048 : Shape := ⟨2, ![16384, 2048]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S2x1x18432, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S1x1x2048x5632, .f32⟩
  | .hbm, ⟨18, _⟩ => ⟨S2048x5632, .f32⟩
  | .hbm, ⟨19, _⟩ => ⟨S1x1x2048x5632, .f32⟩
  | .hbm, ⟨20, _⟩ => ⟨S2048x5632, .f32⟩
  | .hbm, ⟨21, _⟩ => ⟨S1x1x5632x2048, .f32⟩
  | .hbm, ⟨22, _⟩ => ⟨S5632x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S_, .f32⟩
  | .hbm, ⟨38, _⟩ => ⟨S2x8192x5632, .f32⟩
  | .hbm, ⟨39, _⟩ => ⟨S2x8192x5632, .f32⟩
  | .hbm, ⟨40, _⟩ => ⟨S_, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S2x8192x2048, .f32⟩
  | .hbm, ⟨47, _⟩ => ⟨S_, .f32⟩
  | .hbm, ⟨48, _⟩ => ⟨S2x8192x2048, .f32⟩
  | .hbm, ⟨49, _⟩ => ⟨S2x8192x2048, .f32⟩
  | .hbm, ⟨50, _⟩ => ⟨S_, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S_, .f32⟩
  | .hbm, ⟨66, _⟩ => ⟨S2x8192, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x2048, .f32⟩
  | .hbm, ⟨72, _⟩ => ⟨S2x8192x2048, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S2x8192x1, .f32⟩
  | .hbm, ⟨77, _⟩ => ⟨S2x8192x2048, .f32⟩
  | .hbm, ⟨78, _⟩ => ⟨S2x8192x2048, .f32⟩
  | .hbm, ⟨79, _⟩ => ⟨S1x1x2048, .f32⟩
  | .hbm, ⟨80, _⟩ => ⟨S2x8192x2048, .f32⟩
  | .hbm, ⟨81, _⟩ => ⟨S2x8192x2048, .f32⟩
  | .hbm, ⟨82, _⟩ => ⟨S1x1x2048, .f32⟩
  | .hbm, ⟨83, _⟩ => ⟨S2x8192x2048, .f32⟩
  | .hbm, ⟨84, _⟩ => ⟨S2x8192x2048, .f32⟩
  | .hbm, ⟨85, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== FfnC.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2x9x1x2048 : Shape := ⟨5, ![1, 2, 9, 1, 2048]⟩
abbrev S_ : Shape := ⟨0, ![]⟩
abbrev S2x8x9x1x2048 : Shape := ⟨5, ![2, 8, 9, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x2048 : Shape := ⟨2, ![16384, 2048]⟩
abbrev S2x3x1x2048 : Shape := ⟨4, ![2, 3, 1, 2048]⟩
abbrev S1024x2048 : Shape := ⟨2, ![1024, 2048]⟩
abbrev S1x1x1x1x2048 : Shape := ⟨5, ![1, 1, 1, 1, 2048]⟩
abbrev S2048x512 : Shape := ⟨2, ![2048, 512]⟩
abbrev S512x2048 : Shape := ⟨2, ![512, 2048]⟩
abbrev S1x1x1x2048 : Shape := ⟨4, ![1, 1, 1, 2048]⟩
abbrev S1x1x16x5632 : Shape := ⟨4, ![1, 1, 16, 5632]⟩
abbrev S1x1x32x2048 : Shape := ⟨4, ![1, 1, 32, 2048]⟩
abbrev S16x5632 : Shape := ⟨2, ![16, 5632]⟩
abbrev S32x2048 : Shape := ⟨2, ![32, 2048]⟩
abbrev S1x2048 : Shape := ⟨2, ![1, 2048]⟩
abbrev S256x2048 : Shape := ⟨2, ![256, 2048]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 27
  | .vmem => 31
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S1x2x9x1x2048, .f32⟩
  | .hbm, ⟨8, _⟩ => ⟨S_, .i32⟩
  | .hbm, ⟨9, _⟩ => ⟨S_, .f32⟩
  | .hbm, ⟨10, _⟩ => ⟨S2x8x9x1x2048, .f32⟩
  | .hbm, ⟨11, _⟩ => ⟨S1x1x2048x5632, .f32⟩
  | .hbm, ⟨12, _⟩ => ⟨S2048x5632, .f32⟩
  | .hbm, ⟨13, _⟩ => ⟨S2048x5632, .bf16⟩
  | .hbm, ⟨14, _⟩ => ⟨S1x1x2048x5632, .f32⟩
  | .hbm, ⟨15, _⟩ => ⟨S2048x5632, .f32⟩
  | .hbm, ⟨16, _⟩ => ⟨S2048x5632, .bf16⟩
  | .hbm, ⟨17, _⟩ => ⟨S1x1x5632x2048, .f32⟩
  | .hbm, ⟨18, _⟩ => ⟨S5632x2048, .f32⟩
  | .hbm, ⟨19, _⟩ => ⟨S5632x2048, .bf16⟩
  | .hbm, ⟨20, _⟩ => ⟨S16384x2048, .f32⟩
  | .hbm, ⟨21, _⟩ => ⟨S2x3x1x2048, .f32⟩
  | .hbm, ⟨22, _⟩ => ⟨S2x3x1x2048, .f32⟩
  | .hbm, ⟨23, _⟩ => ⟨S16384x2048, .f32⟩
  | .hbm, ⟨24, _⟩ => ⟨S2048x5632, .bf16⟩
  | .hbm, ⟨25, _⟩ => ⟨S2048x5632, .bf16⟩
  | .hbm, ⟨26, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x1x1x2048, .f32⟩
  | .local _ .vmem, ⟨15, _⟩ => ⟨S1x1x1x2048, .f32⟩
  | .local _ .vmem, ⟨16, _⟩ => ⟨S1x1x16x5632, .f32⟩
  | .local _ .vmem, ⟨17, _⟩ => ⟨S1x1x16x5632, .f32⟩
  | .local _ .vmem, ⟨18, _⟩ => ⟨S1x1x16x5632, .f32⟩
  | .local _ .vmem, ⟨19, _⟩ => ⟨S1x1x16x5632, .f32⟩
  | .local _ .vmem, ⟨20, _⟩ => ⟨S1x1x32x2048, .f32⟩
  | .local _ .vmem, ⟨21, _⟩ => ⟨S1x1x32x2048, .f32⟩
  | .local _ .vmem, ⟨22, _⟩ => ⟨S1024x2048, .f32⟩
  | .local _ .vmem, ⟨23, _⟩ => ⟨S1024x2048, .f32⟩
  | .local _ .vmem, ⟨24, _⟩ => ⟨S16x5632, .bf16⟩
  | .local _ .vmem, ⟨25, _⟩ => ⟨S16x5632, .bf16⟩
  | .local _ .vmem, ⟨26, _⟩ => ⟨S16x5632, .bf16⟩
  | .local _ .vmem, ⟨27, _⟩ => ⟨S16x5632, .bf16⟩
  | .local _ .vmem, ⟨28, _⟩ => ⟨S32x2048, .bf16⟩
  | .local _ .vmem, ⟨29, _⟩ => ⟨S32x2048, .bf16⟩
  | .local _ .vmem, ⟨30, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let c10_i32 : BitVec 32 := 10#32
  let v8 : BitVec 1 := Scalar.cmpi .slt arg1 c10_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c10_i32_7 : BitVec 32 := 10#32
  let v12 : BitVec 1 := Scalar.cmpi .eq arg1 c10_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v16.toNat, c0_i32_5.toNat, c0_i32_6.toNat, c0_i32_7.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c2_i32 : BitVec 32 := 2#32
  let c0_i32_5 : BitVec 32 := 0#32
  let c0_i32_6 : BitVec 32 := 0#32
  let c0_i32_7 : BitVec 32 := 0#32
  ![c1_i32_4.toNat, v16.toNat, c2_i32.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_10 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_11 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnCRefIdeal.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S2x1x18432 : Shape := ⟨3, ![2, 1, 18432]⟩
abbrev S2x1x2048 : Shape := ⟨3, ![2, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S16384x2048 : Shape := ⟨2, ![16384, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S2x1x18432, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S1x1x2048x5632, .f32⟩
  | .hbm, ⟨18, _⟩ => ⟨S2048x5632, .f32⟩
  | .hbm, ⟨19, _⟩ => ⟨S1x1x2048x5632, .f32⟩
  | .hbm, ⟨20, _⟩ => ⟨S2048x5632, .f32⟩
  | .hbm, ⟨21, _⟩ => ⟨S1x1x5632x2048, .f32⟩
  | .hbm, ⟨22, _⟩ => ⟨S5632x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S_, .f32⟩
  | .hbm, ⟨38, _⟩ => ⟨S2x8192x5632, .f32⟩
  | .hbm, ⟨39, _⟩ => ⟨S2x8192x5632, .f32⟩
  | .hbm, ⟨40, _⟩ => ⟨S_, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S2x8192x2048, .f32⟩
  | .hbm, ⟨47, _⟩ => ⟨S_, .f32⟩
  | .hbm, ⟨48, _⟩ => ⟨S2x8192x2048, .f32⟩
  | .hbm, ⟨49, _⟩ => ⟨S2x8192x2048, .f32⟩
  | .hbm, ⟨50, _⟩ => ⟨S_, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S_, .f32⟩
  | .hbm, ⟨66, _⟩ => ⟨S2x8192, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x2048, .f32⟩
  | .hbm, ⟨72, _⟩ => ⟨S2x8192x2048, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S2x8192x1, .f32⟩
  | .hbm, ⟨77, _⟩ => ⟨S2x8192x2048, .f32⟩
  | .hbm, ⟨78, _⟩ => ⟨S2x8192x2048, .f32⟩
  | .hbm, ⟨79, _⟩ => ⟨S1x1x2048, .f32⟩
  | .hbm, ⟨80, _⟩ => ⟨S2x8192x2048, .f32⟩
  | .hbm, ⟨81, _⟩ => ⟨S2x8192x2048, .f32⟩
  | .hbm, ⟨82, _⟩ => ⟨S1x1x2048, .f32⟩
  | .hbm, ⟨83, _⟩ => ⟨S2x8192x2048, .f32⟩
  | .hbm, ⟨84, _⟩ => ⟨S2x8192x2048, .f32⟩
  | .hbm, ⟨85, _⟩ => ⟨S16384x2048, .f32⟩
  | .hbm, ⟨86, _⟩ => ⟨S1x1x2048x5632, .f32⟩
  | .hbm, ⟨87, _⟩ => ⟨S2048x5632, .f32⟩
  | .hbm, ⟨88, _⟩ => ⟨S2048x5632, .bf16⟩
  | .hbm, ⟨89, _⟩ => ⟨S1x1x2048x5632, .f32⟩
  | .hbm, ⟨90, _⟩ => ⟨S2048x5632, .f32⟩
  | .hbm, ⟨91, _⟩ => ⟨S2048x5632, .bf16⟩
  | .hbm, ⟨92, _⟩ => ⟨S1x1x5632x2048, .f32⟩
  | .hbm, ⟨93, _⟩ => ⟨S5632x2048, .f32⟩
  | .hbm, ⟨94, _⟩ => ⟨S5632x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== FfnB.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2x9x1x2048 : Shape := ⟨5, ![1, 2, 9, 1, 2048]⟩
abbrev S_ : Shape := ⟨0, ![]⟩
abbrev S2x8x9x1x2048 : Shape := ⟨5, ![2, 8, 9, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x2048 : Shape := ⟨2, ![16384, 2048]⟩
abbrev S2x3x1x2048 : Shape := ⟨4, ![2, 3, 1, 2048]⟩
abbrev S1024x2048 : Shape := ⟨2, ![1024, 2048]⟩
abbrev S1x1x1x1x2048 : Shape := ⟨5, ![1, 1, 1, 1, 2048]⟩
abbrev S2048x512 : Shape := ⟨2, ![2048, 512]⟩
abbrev S512x2048 : Shape := ⟨2, ![512, 2048]⟩
abbrev S1x1x1x2048 : Shape := ⟨4, ![1, 1, 1, 2048]⟩
abbrev S1x1x16x5632 : Shape := ⟨4, ![1, 1, 16, 5632]⟩
abbrev S1x1x32x2048 : Shape := ⟨4, ![1, 1, 32, 2048]⟩
abbrev S16x5632 : Shape := ⟨2, ![16, 5632]⟩
abbrev S32x2048 : Shape := ⟨2, ![32, 2048]⟩
abbrev S1x2048 : Shape := ⟨2, ![1, 2048]⟩
abbrev S256x2048 : Shape := ⟨2, ![256, 2048]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 27
  | .vmem => 31
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S1x2x9x1x2048, .f32⟩
  | .hbm, ⟨8, _⟩ => ⟨S_, .i32⟩
  | .hbm, ⟨9, _⟩ => ⟨S_, .f32⟩
  | .hbm, ⟨10, _⟩ => ⟨S2x8x9x1x2048, .f32⟩
  | .hbm, ⟨11, _⟩ => ⟨S1x1x2048x5632, .f32⟩
  | .hbm, ⟨12, _⟩ => ⟨S2048x5632, .f32⟩
  | .hbm, ⟨13, _⟩ => ⟨S2048x5632, .bf16⟩
  | .hbm, ⟨14, _⟩ => ⟨S1x1x2048x5632, .f32⟩
  | .hbm, ⟨15, _⟩ => ⟨S2048x5632, .f32⟩
  | .hbm, ⟨16, _⟩ => ⟨S2048x5632, .bf16⟩
  | .hbm, ⟨17, _⟩ => ⟨S1x1x5632x2048, .f32⟩
  | .hbm, ⟨18, _⟩ => ⟨S5632x2048, .f32⟩
  | .hbm, ⟨19, _⟩ => ⟨S5632x2048, .bf16⟩
  | .hbm, ⟨20, _⟩ => ⟨S16384x2048, .f32⟩
  | .hbm, ⟨21, _⟩ => ⟨S2x3x1x2048, .f32⟩
  | .hbm, ⟨22, _⟩ => ⟨S2x3x1x2048, .f32⟩
  | .hbm, ⟨23, _⟩ => ⟨S16384x2048, .f32⟩
  | .hbm, ⟨24, _⟩ => ⟨S2048x5632, .bf16⟩
  | .hbm, ⟨25, _⟩ => ⟨S2048x5632, .bf16⟩
  | .hbm, ⟨26, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x1x1x2048, .f32⟩
  | .local _ .vmem, ⟨15, _⟩ => ⟨S1x1x1x2048, .f32⟩
  | .local _ .vmem, ⟨16, _⟩ => ⟨S1x1x16x5632, .f32⟩
  | .local _ .vmem, ⟨17, _⟩ => ⟨S1x1x16x5632, .f32⟩
  | .local _ .vmem, ⟨18, _⟩ => ⟨S1x1x16x5632, .f32⟩
  | .local _ .vmem, ⟨19, _⟩ => ⟨S1x1x16x5632, .f32⟩
  | .local _ .vmem, ⟨20, _⟩ => ⟨S1x1x32x2048, .f32⟩
  | .local _ .vmem, ⟨21, _⟩ => ⟨S1x1x32x2048, .f32⟩
  | .local _ .vmem, ⟨22, _⟩ => ⟨S1024x2048, .f32⟩
  | .local _ .vmem, ⟨23, _⟩ => ⟨S1024x2048, .f32⟩
  | .local _ .vmem, ⟨24, _⟩ => ⟨S16x5632, .bf16⟩
  | .local _ .vmem, ⟨25, _⟩ => ⟨S16x5632, .bf16⟩
  | .local _ .vmem, ⟨26, _⟩ => ⟨S16x5632, .bf16⟩
  | .local _ .vmem, ⟨27, _⟩ => ⟨S16x5632, .bf16⟩
  | .local _ .vmem, ⟨28, _⟩ => ⟨S32x2048, .bf16⟩
  | .local _ .vmem, ⟨29, _⟩ => ⟨S32x2048, .bf16⟩
  | .local _ .vmem, ⟨30, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let c10_i32 : BitVec 32 := 10#32
  let v8 : BitVec 1 := Scalar.cmpi .slt arg1 c10_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c10_i32_7 : BitVec 32 := 10#32
  let v12 : BitVec 1 := Scalar.cmpi .eq arg1 c10_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c6_i32 : BitVec 32 := 6#32
  let c0_i32_5 : BitVec 32 := 0#32
  let c0_i32_6 : BitVec 32 := 0#32
  let c0_i32_7 : BitVec 32 := 0#32
  ![c0_i32_4.toNat, v16.toNat, c6_i32.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c7_i32 : BitVec 32 := 7#32
  let c0_i32_5 : BitVec 32 := 0#32
  let c0_i32_6 : BitVec 32 := 0#32
  let c0_i32_7 : BitVec 32 := 0#32
  ![c0_i32_4.toNat, v16.toNat, c7_i32.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c8_i32_5 : BitVec 32 := 8#32
  let c0_i32_6 : BitVec 32 := 0#32
  let c0_i32_7 : BitVec 32 := 0#32
  let c0_i32_8 : BitVec 32 := 0#32
  ![c0_i32_4.toNat, v16.toNat, c8_i32_5.toNat, c0_i32_6.toNat, c0_i32_7.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc0_transform_10 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc0_transform_11 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c1_i32 : BitVec 32 := 1#32
  let c0_i32 : BitVec 32 := 0#32
  let c0_i32_0 : BitVec 32 := 0#32
  let c0_i32_1 : BitVec 32 := 0#32
  ![c1_i32.toNat, c0_i32.toNat, v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnBRefIdeal.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S2x1x18432 : Shape := ⟨3, ![2, 1, 18432]⟩
abbrev S2x1x2048 : Shape := ⟨3, ![2, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S16384x2048 : Shape := ⟨2, ![16384, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S2x1x18432, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S1x1x2048x5632, .f32⟩
  | .hbm, ⟨18, _⟩ => ⟨S2048x5632, .f32⟩
  | .hbm, ⟨19, _⟩ => ⟨S1x1x2048x5632, .f32⟩
  | .hbm, ⟨20, _⟩ => ⟨S2048x5632, .f32⟩
  | .hbm, ⟨21, _⟩ => ⟨S1x1x5632x2048, .f32⟩
  | .hbm, ⟨22, _⟩ => ⟨S5632x2048, .f32⟩
  | .hbm, ⟨23, _⟩ => ⟨S1x1x2048, .f32⟩
  | .hbm, ⟨24, _⟩ => ⟨S2048, .f32⟩
  | .hbm, ⟨25, _⟩ => ⟨S1x1x2048, .f32⟩
  | .hbm, ⟨26, _⟩ => ⟨S2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S_, .f32⟩
  | .hbm, ⟨38, _⟩ => ⟨S2x8192x5632, .f32⟩
  | .hbm, ⟨39, _⟩ => ⟨S2x8192x5632, .f32⟩
  | .hbm, ⟨40, _⟩ => ⟨S_, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S2x8192x5632, .f32⟩
  | .hbm, ⟨45, _⟩ => ⟨S2x8192x5632, .f32⟩
  | .hbm, ⟨46, _⟩ => ⟨S2x8192x2048, .f32⟩
  | .hbm, ⟨47, _⟩ => ⟨S_, .f32⟩
  | .hbm, ⟨48, _⟩ => ⟨S2x8192x2048, .f32⟩
  | .hbm, ⟨49, _⟩ => ⟨S2x8192x2048, .f32⟩
  | .hbm, ⟨50, _⟩ => ⟨S_, .f32⟩
  | .hbm, ⟨51, _⟩ => ⟨S2x8192x2048, .f32⟩
  | .hbm, ⟨52, _⟩ => ⟨S2x8192x2048, .f32⟩
  | .hbm, ⟨53, _⟩ => ⟨S2x8192x2048, .f32⟩
  | .hbm, ⟨54, _⟩ => ⟨S2x8192x2048, .f32⟩
  | .hbm, ⟨55, _⟩ => ⟨S2x8192x2048, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x2048, .f32⟩
  | .hbm, ⟨63, _⟩ => ⟨S2x8192x2048, .f32⟩
  | .hbm, ⟨64, _⟩ => ⟨S2x8192x2048, .f32⟩
  | .hbm, ⟨65, _⟩ => ⟨S_, .f32⟩
  | .hbm, ⟨66, _⟩ => ⟨S2x8192, .f32⟩
  | .hbm, ⟨67, _⟩ => ⟨S2x8192x1, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x2048, .f32⟩
  | .hbm, ⟨72, _⟩ => ⟨S2x8192x2048, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S2x8192x1, .f32⟩
  | .hbm, ⟨77, _⟩ => ⟨S2x8192x2048, .f32⟩
  | .hbm, ⟨78, _⟩ => ⟨S2x8192x2048, .f32⟩
  | .hbm, ⟨79, _⟩ => ⟨S1x1x2048, .f32⟩
  | .hbm, ⟨80, _⟩ => ⟨S2x8192x2048, .f32⟩
  | .hbm, ⟨81, _⟩ => ⟨S2x8192x2048, .f32⟩
  | .hbm, ⟨82, _⟩ => ⟨S1x1x2048, .f32⟩
  | .hbm, ⟨83, _⟩ => ⟨S2x8192x2048, .f32⟩
  | .hbm, ⟨84, _⟩ => ⟨S2x8192x2048, .f32⟩
  | .hbm, ⟨85, _⟩ => ⟨S16384x2048, .f32⟩
  | .hbm, ⟨86, _⟩ => ⟨S1x1x2048x5632, .f32⟩
  | .hbm, ⟨87, _⟩ => ⟨S2048x5632, .f32⟩
  | .hbm, ⟨88, _⟩ => ⟨S2048x5632, .bf16⟩
  | .hbm, ⟨89, _⟩ => ⟨S1x1x2048x5632, .f32⟩
  | .hbm, ⟨90, _⟩ => ⟨S2048x5632, .f32⟩
  | .hbm, ⟨91, _⟩ => ⟨S2048x5632, .bf16⟩
  | .hbm, ⟨92, _⟩ => ⟨S1x1x5632x2048, .f32⟩
  | .hbm, ⟨93, _⟩ => ⟨S5632x2048, .f32⟩
  | .hbm, ⟨94, _⟩ => ⟨S5632x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== FfnA.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2048x4096 : Shape := ⟨3, ![1, 2048, 4096]⟩
abbrev S1x2048x2048 : Shape := ⟨3, ![1, 2048, 2048]⟩
abbrev S1x2048x2560 : Shape := ⟨3, ![1, 2048, 2560]⟩
abbrev S1x2x9x1x2048 : Shape := ⟨5, ![1, 2, 9, 1, 2048]⟩
abbrev S_ : Shape := ⟨0, ![]⟩
abbrev S2x8x9x1x2048 : Shape := ⟨5, ![2, 8, 9, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S16384x2048 : Shape := ⟨2, ![16384, 2048]⟩
abbrev S2x3x1x2048 : Shape := ⟨4, ![2, 3, 1, 2048]⟩
abbrev S2048x4096 : Shape := ⟨2, ![2048, 4096]⟩
abbrev S2048x2048 : Shape := ⟨2, ![2048, 2048]⟩
abbrev S2048x2560 : Shape := ⟨2, ![2048, 2560]⟩
abbrev S1024x2048 : Shape := ⟨2, ![1024, 2048]⟩
abbrev S1x1x1x1x2048 : Shape := ⟨5, ![1, 1, 1, 1, 2048]⟩
abbrev S2048x512 : Shape := ⟨2, ![2048, 512]⟩
abbrev S512x2048 : Shape := ⟨2, ![512, 2048]⟩
abbrev S1x1x1x2048 : Shape := ⟨4, ![1, 1, 1, 2048]⟩
abbrev S1x1x16x5632 : Shape := ⟨4, ![1, 1, 16, 5632]⟩
abbrev S1x1x32x2048 : Shape := ⟨4, ![1, 1, 32, 2048]⟩
abbrev S1x16x4096 : Shape := ⟨3, ![1, 16, 4096]⟩
abbrev S1x16x2048 : Shape := ⟨3, ![1, 16, 2048]⟩
abbrev S1x16x2560 : Shape := ⟨3, ![1, 16, 2560]⟩
abbrev S16x5632 : Shape := ⟨2, ![16, 5632]⟩
abbrev S32x2048 : Shape := ⟨2, ![32, 2048]⟩
abbrev S16x4096 : Shape := ⟨2, ![16, 4096]⟩
abbrev S16x2048 : Shape := ⟨2, ![16, 2048]⟩
abbrev S16x2560 : Shape := ⟨2, ![16, 2560]⟩
abbrev S1x2048 : Shape := ⟨2, ![1, 2048]⟩
abbrev S256x2048 : Shape := ⟨2, ![256, 2048]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩

abbrev nBuf : Space → Nat
  | .hbm => 35
  | .vmem => 47
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S1x2048x4096, .f32⟩
  | .hbm, ⟨8, _⟩ => ⟨S1x2048x2048, .f32⟩
  | .hbm, ⟨9, _⟩ => ⟨S1x2048x2560, .f32⟩
  | .hbm, ⟨10, _⟩ => ⟨S1x2048x2048, .f32⟩
  | .hbm, ⟨11, _⟩ => ⟨S1x2x9x1x2048, .f32⟩
  | .hbm, ⟨12, _⟩ => ⟨S_, .i32⟩
  | .hbm, ⟨13, _⟩ => ⟨S_, .f32⟩
  | .hbm, ⟨14, _⟩ => ⟨S2x8x9x1x2048, .f32⟩
  | .hbm, ⟨15, _⟩ => ⟨S1x1x2048x5632, .f32⟩
  | .hbm, ⟨16, _⟩ => ⟨S2048x5632, .f32⟩
  | .hbm, ⟨17, _⟩ => ⟨S2048x5632, .bf16⟩
  | .hbm, ⟨18, _⟩ => ⟨S1x1x2048x5632, .f32⟩
  | .hbm, ⟨19, _⟩ => ⟨S2048x5632, .f32⟩
  | .hbm, ⟨20, _⟩ => ⟨S2048x5632, .bf16⟩
  | .hbm, ⟨21, _⟩ => ⟨S1x1x5632x2048, .f32⟩
  | .hbm, ⟨22, _⟩ => ⟨S5632x2048, .f32⟩
  | .hbm, ⟨23, _⟩ => ⟨S5632x2048, .bf16⟩
  | .hbm, ⟨24, _⟩ => ⟨S16384x2048, .f32⟩
  | .hbm, ⟨25, _⟩ => ⟨S2x3x1x2048, .f32⟩
  | .hbm, ⟨26, _⟩ => ⟨S2x3x1x2048, .f32⟩
  | .hbm, ⟨27, _⟩ => ⟨S16384x2048, .f32⟩
  | .hbm, ⟨28, _⟩ => ⟨S2048x5632, .bf16⟩
  | .hbm, ⟨29, _⟩ => ⟨S2048x5632, .bf16⟩
  | .hbm, ⟨30, _⟩ => ⟨S5632x2048, .bf16⟩
  | .hbm, ⟨31, _⟩ => ⟨S2048x4096, .bf16⟩
  | .hbm, ⟨32, _⟩ => ⟨S2048x2048, .bf16⟩
  | .hbm, ⟨33, _⟩ => ⟨S2048x2560, .bf16⟩
  | .hbm, ⟨34, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1x1x1x2048, .f32⟩
  | .local _ .vmem, ⟨3, _⟩ => ⟨S1x1x1x1x2048, .f32⟩
  | .local _ .vmem, ⟨4, _⟩ => ⟨S1x1x1x1x2048, .f32⟩
  | .local _ .vmem, ⟨5, _⟩ => ⟨S1x1x1x1x2048, .f32⟩
  | .local _ .vmem, ⟨6, _⟩ => ⟨S1x1x1x1x2048, .f32⟩
  | .local _ .vmem, ⟨7, _⟩ => ⟨S1x1x1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x1x1x2048, .f32⟩
  | .local _ .vmem, ⟨15, _⟩ => ⟨S1x1x1x2048, .f32⟩
  | .local _ .vmem, ⟨16, _⟩ => ⟨S1x1x16x5632, .f32⟩
  | .local _ .vmem, ⟨17, _⟩ => ⟨S1x1x16x5632, .f32⟩
  | .local _ .vmem, ⟨18, _⟩ => ⟨S1x1x16x5632, .f32⟩
  | .local _ .vmem, ⟨19, _⟩ => ⟨S1x1x16x5632, .f32⟩
  | .local _ .vmem, ⟨20, _⟩ => ⟨S1x1x32x2048, .f32⟩
  | .local _ .vmem, ⟨21, _⟩ => ⟨S1x1x32x2048, .f32⟩
  | .local _ .vmem, ⟨22, _⟩ => ⟨S1x16x4096, .f32⟩
  | .local _ .vmem, ⟨23, _⟩ => ⟨S1x16x4096, .f32⟩
  | .local _ .vmem, ⟨24, _⟩ => ⟨S1x16x2048, .f32⟩
  | .local _ .vmem, ⟨25, _⟩ => ⟨S1x16x2048, .f32⟩
  | .local _ .vmem, ⟨26, _⟩ => ⟨S1x16x2560, .f32⟩
  | .local _ .vmem, ⟨27, _⟩ => ⟨S1x16x2560, .f32⟩
  | .local _ .vmem, ⟨28, _⟩ => ⟨S1x16x2048, .f32⟩
  | .local _ .vmem, ⟨29, _⟩ => ⟨S1x16x2048, .f32⟩
  | .local _ .vmem, ⟨30, _⟩ => ⟨S1024x2048, .f32⟩
  | .local _ .vmem, ⟨31, _⟩ => ⟨S1024x2048, .f32⟩
  | .local _ .vmem, ⟨32, _⟩ => ⟨S16x5632, .bf16⟩
  | .local _ .vmem, ⟨33, _⟩ => ⟨S16x5632, .bf16⟩
  | .local _ .vmem, ⟨34, _⟩ => ⟨S16x5632, .bf16⟩
  | .local _ .vmem, ⟨35, _⟩ => ⟨S16x5632, .bf16⟩
  | .local _ .vmem, ⟨36, _⟩ => ⟨S32x2048, .bf16⟩
  | .local _ .vmem, ⟨37, _⟩ => ⟨S32x2048, .bf16⟩
  | .local _ .vmem, ⟨38, _⟩ => ⟨S16x4096, .bf16⟩
  | .local _ .vmem, ⟨39, _⟩ => ⟨S16x4096, .bf16⟩
  | .local _ .vmem, ⟨40, _⟩ => ⟨S16x2048, .bf16⟩
  | .local _ .vmem, ⟨41, _⟩ => ⟨S16x2048, .bf16⟩
  | .local _ .vmem, ⟨42, _⟩ => ⟨S16x2560, .bf16⟩
  | .local _ .vmem, ⟨43, _⟩ => ⟨S16x2560, .bf16⟩
  | .local _ .vmem, ⟨44, _⟩ => ⟨S16x2048, .bf16⟩
  | .local _ .vmem, ⟨45, _⟩ => ⟨S16x2048, .bf16⟩
  | .local _ .vmem, ⟨46, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let c10_i32 : BitVec 32 := 10#32
  let v8 : BitVec 1 := Scalar.cmpi .slt arg1 c10_i32
  let v9 : BitVec 1 := Scalar.andi v7 v8
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c10_i32_7 : BitVec 32 := 10#32
  let v12 : BitVec 1 := Scalar.cmpi .eq arg1 c10_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_3 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  let c0_i32_6 : BitVec 32 := 0#32
  let c0_i32_7 : BitVec 32 := 0#32
  ![c0_i32_4.toNat, v16.toNat, c2_i32.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_10 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_11 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c1_i32 : BitVec 32 := 1#32
  let c0_i32_0 : BitVec 32 := 0#32
  let c0_i32_1 : BitVec 32 := 0#32
  ![c0_i32.toNat, c1_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c175_i32 : BitVec 32 := 175#32
  let v2 : BitVec 32 := Scalar.minsi v1 c175_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_22 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_23 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x2560 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S16x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S16x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S16x4096 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S16x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S16x2560 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S16x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== FfnARefIdeal.lean ====
abbrev S2x8192x2048 : Shape := ⟨3, ![2, 8192, 2048]⟩
abbrev S2x18432 : Shape := ⟨2, ![2, 18432]⟩
abbrev S2x2x2048x5632 : Shape := ⟨4, ![2, 2, 2048, 5632]⟩
abbrev S2x2x5632x2048 : Shape := ⟨4, ![2, 2, 5632, 2048]⟩
abbrev S2x3x2048 : Shape := ⟨3, ![2, 3, 2048]⟩
abbrev S1x2048x4096 : Shape := ⟨3, ![1, 2048, 4096]⟩
abbrev S1x2048x2048 : Shape := ⟨3, ![1, 2048, 2048]⟩
abbrev S1x2048x2560 : Shape := ⟨3, ![1, 2048, 2560]⟩
abbrev S2x1x18432 : Shape := ⟨3, ![2, 1, 18432]⟩
abbrev S2x1x2048 : Shape := ⟨3, ![2, 1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S2x8192x5632 : Shape := ⟨3, ![2, 8192, 5632]⟩
abbrev S2x8192 : Shape := ⟨2, ![2, 8192]⟩
abbrev S2x8192x1 : Shape := ⟨3, ![2, 8192, 1]⟩
abbrev S16384x2048 : Shape := ⟨2, ![16384, 2048]⟩
abbrev S2048x4096 : Shape := ⟨2, ![2048, 4096]⟩
abbrev S2048x2048 : Shape := ⟨2, ![2048, 2048]⟩
abbrev S2048x2560 : Shape := ⟨2, ![2048, 2560]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x18432, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x3x2048, .f32⟩
  | .hbm, ⟨6, _⟩ => ⟨S2x3x2048, .f32⟩
  | .hbm, ⟨7, _⟩ => ⟨S1x2048x4096, .f32⟩
  | .hbm, ⟨8, _⟩ => ⟨S1x2048x2048, .f32⟩
  | .hbm, ⟨9, _⟩ => ⟨S1x2048x2560, .f32⟩
  | .hbm, ⟨10, _⟩ => ⟨S1x2048x2048, .f32⟩
  | .hbm, ⟨11, _⟩ => ⟨S2x1x18432, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2x1x2048, .f32⟩
  | .hbm, ⟨18, _⟩ => ⟨S2x1x2048, .f32⟩
  | .hbm, ⟨19, _⟩ => ⟨S2x1x2048, .f32⟩
  | .hbm, ⟨20, _⟩ => ⟨S2x1x2048, .f32⟩
  | .hbm, ⟨21, _⟩ => ⟨S1x1x2048x5632, .f32⟩
  | .hbm, ⟨22, _⟩ => ⟨S2048x5632, .f32⟩
  | .hbm, ⟨23, _⟩ => ⟨S1x1x2048x5632, .f32⟩
  | .hbm, ⟨24, _⟩ => ⟨S2048x5632, .f32⟩
  | .hbm, ⟨25, _⟩ => ⟨S1x1x5632x2048, .f32⟩
  | .hbm, ⟨26, _⟩ => ⟨S5632x2048, .f32⟩
  | .hbm, ⟨27, _⟩ => ⟨S1x1x2048, .f32⟩
  | .hbm, ⟨28, _⟩ => ⟨S2048, .f32⟩
  | .hbm, ⟨29, _⟩ => ⟨S1x1x2048, .f32⟩
  | .hbm, ⟨30, _⟩ => ⟨S2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x8192x5632, .f32⟩
  | .hbm, ⟨39, _⟩ => ⟨S2x8192x5632, .f32⟩
  | .hbm, ⟨40, _⟩ => ⟨S2x8192x5632, .f32⟩
  | .hbm, ⟨41, _⟩ => ⟨S_, .f32⟩
  | .hbm, ⟨42, _⟩ => ⟨S2x8192x5632, .f32⟩
  | .hbm, ⟨43, _⟩ => ⟨S2x8192x5632, .f32⟩
  | .hbm, ⟨44, _⟩ => ⟨S_, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S2x8192x5632, .f32⟩
  | .hbm, ⟨50, _⟩ => ⟨S2x8192x2048, .f32⟩
  | .hbm, ⟨51, _⟩ => ⟨S_, .f32⟩
  | .hbm, ⟨52, _⟩ => ⟨S2x8192x2048, .f32⟩
  | .hbm, ⟨53, _⟩ => ⟨S2x8192x2048, .f32⟩
  | .hbm, ⟨54, _⟩ => ⟨S_, .f32⟩
  | .hbm, ⟨55, _⟩ => ⟨S2x8192x2048, .f32⟩
  | .hbm, ⟨56, _⟩ => ⟨S2x8192x2048, .f32⟩
  | .hbm, ⟨57, _⟩ => ⟨S2x8192x2048, .f32⟩
  | .hbm, ⟨58, _⟩ => ⟨S2x8192x2048, .f32⟩
  | .hbm, ⟨59, _⟩ => ⟨S2x8192x2048, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x2048, .f32⟩
  | .hbm, ⟨67, _⟩ => ⟨S2x8192x2048, .f32⟩
  | .hbm, ⟨68, _⟩ => ⟨S2x8192x2048, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x2048, .f32⟩
  | .hbm, ⟨76, _⟩ => ⟨S2x8192x2048, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x2048, .f32⟩
  | .hbm, ⟨82, _⟩ => ⟨S2x8192x2048, .f32⟩
  | .hbm, ⟨83, _⟩ => ⟨S1x1x2048, .f32⟩
  | .hbm, ⟨84, _⟩ => ⟨S2x8192x2048, .f32⟩
  | .hbm, ⟨85, _⟩ => ⟨S2x8192x2048, .f32⟩
  | .hbm, ⟨86, _⟩ => ⟨S1x1x2048, .f32⟩
  | .hbm, ⟨87, _⟩ => ⟨S2x8192x2048, .f32⟩
  | .hbm, ⟨88, _⟩ => ⟨S2x8192x2048, .f32⟩
  | .hbm, ⟨89, _⟩ => ⟨S16384x2048, .f32⟩
  | .hbm, ⟨90, _⟩ => ⟨S1x1x2048x5632, .f32⟩
  | .hbm, ⟨91, _⟩ => ⟨S2048x5632, .f32⟩
  | .hbm, ⟨92, _⟩ => ⟨S2048x5632, .bf16⟩
  | .hbm, ⟨93, _⟩ => ⟨S1x1x2048x5632, .f32⟩
  | .hbm, ⟨94, _⟩ => ⟨S2048x5632, .f32⟩
  | .hbm, ⟨95, _⟩ => ⟨S2048x5632, .bf16⟩
  | .hbm, ⟨96, _⟩ => ⟨S1x1x5632x2048, .f32⟩
  | .hbm, ⟨97, _⟩ => ⟨S5632x2048, .f32⟩
  | .hbm, ⟨98, _⟩ => ⟨S5632x2048, .bf16⟩
  | .hbm, ⟨99, _⟩ => ⟨S2048x4096, .f32⟩
  | .hbm, ⟨100, _⟩ => ⟨S2048x4096, .bf16⟩
  | .hbm, ⟨101, _⟩ => ⟨S2048x2048, .f32⟩
  | .hbm, ⟨102, _⟩ => ⟨S2048x2048, .bf16⟩
  | .hbm, ⟨103, _⟩ => ⟨S2048x2560, .f32⟩
  | .hbm, ⟨104, _⟩ => ⟨S2048x2560, .bf16⟩
  | .hbm, ⟨105, _⟩ => ⟨S2048x2048, .f32⟩
  | .hbm, ⟨106, _⟩ => ⟨S2048x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Proof.AttnRefBand.lean ====
/-
  The reference's bands and mask, read at an index: band entry (block, key) is the key at sequence position
  `128 * block + key - 128`, zero outside the sequence; the mask keeps the keys inside the window and the sequence.
-/
module

public import proofs.«01_k».proof.Proof.Gen.AttnRefIdeal.Run
public import Idealize.ShloMosaic.Lib.Pointwise

@[expose] public section

set_option maxRecDepth 16384

noncomputable section

namespace Cert.AttnRefIdeal.Plain

open Idealize.ShloMosaic Idealize.ShloMosaic.TcCoe Cert.AttnRefIdeal Cert.AttnRefIdeal.Gen

/-- The sequence padded by one block of zeros at either end, in blocks of 128. -/
def padded (x : FVec Ideal S2x8192x4x64 .f32) : FVec Ideal S2x66x128x4x64 .f32 :=
  shapeCast S2x66x128x4x64 (pad S2x8448x4x64 ![0, 128, 0, 0] ![0, 128, 0, 0] ![0, 0, 0, 0] x (sitofp (F := Ideal) .f32 (constantI S_ 32 0#32))
    pads_S2x8192x4x64_S2x8448x4x64_000_1281280_000_000 h_S_) shapeCasts_S2x8448x4x64_S2x66x128x4x64

theorem padded_apply (x : FVec Ideal S2x8192x4x64 .f32) (b : Fin 2) (i : Fin 66) (j : Fin 128) (g : Fin 4) (l : Fin 64) :
    padded x (ix5 b i j g l) =
      if h : 128 ≤ 128 * i.val + j.val ∧ 128 * i.val + j.val < 8320 then x (ix4 b ⟨128 * i.val + j.val - 128, by omega⟩ g l) else 0 := by
  unfold padded
  pointwise
  have h0 : (FloatOps.sitofp (F := Ideal) FTy.f32 0#32 : EReal) = 0 := by simp [FloatOps.sitofp]
  rw [h0]
  by_cases h : 128 ≤ 128 * i.val + j.val ∧ 128 * i.val + j.val < 8320
  · rw [dif_pos h, dif_pos (by omega)]; congr 2; apply Fin.ext; dsimp only; omega
  · rw [dif_neg h, dif_neg (by omega)]

/-- Each block's band: the block before it, itself and the block after it. -/
def band (x : FVec Ideal S2x8192x4x64 .f32) : FVec Ideal S2x64x384x4x64 .f32 :=
  concatenate S2x64x384x4x64 2
    [⟨S2x64x128x4x64, extractStridedSlice S2x64x128x4x64 ![0, 0, 0, 0, 0] (padded x) slices_S2x66x128x4x64_S2x64x128x4x64_0_0_0_0_0⟩,
     ⟨S2x64x128x4x64, extractStridedSlice S2x64x128x4x64 ![0, 1, 0, 0, 0] (padded x) slices_S2x66x128x4x64_S2x64x128x4x64_0_1_0_0_0⟩,
     ⟨S2x64x128x4x64, extractStridedSlice S2x64x128x4x64 ![0, 2, 0, 0, 0] (padded x) slices_S2x66x128x4x64_S2x64x128x4x64_0_2_0_0_0⟩]
    concatenates_S2x64x128x4x64_S2x64x128x4x64_S2x64x128x4x64_S2x64x384x4x64_d2

theorem band_apply (x : FVec Ideal S2x8192x4x64 .f32) (b : Fin 2) (i : Fin 64) (j : Fin 384) (g : Fin 4) (l : Fin 64) :
    band x (ix5 b i j g l) =
      if h : 128 ≤ 128 * i.val + j.val ∧ 128 * i.val + j.val < 8320 then x (ix4 b ⟨128 * i.val + j.val - 128, by omega⟩ g l) else 0 := by
  unfold band
  pointwise
  simp only [padded_apply]
  by_cases h1 : j.val < 128
  · rw [dif_pos h1]
  · rw [dif_neg h1]
    by_cases h2 : j.val - 128 < 128
    · rw [dif_pos h2]
      by_cases h : 128 ≤ 128 * i.val + j.val ∧ 128 * i.val + j.val < 8320
      · rw [dif_pos h, dif_pos (by omega)]; congr 2; apply Fin.ext; dsimp only; omega
      · rw [dif_neg h, dif_neg (by omega)]
    · rw [dif_neg h2]
      by_cases h : 128 ≤ 128 * i.val + j.val ∧ 128 * i.val + j.val < 8320
      · rw [dif_pos h, dif_pos (by omega)]; congr 2; apply Fin.ext; dsimp only; omega
      · rw [dif_neg h, dif_neg (by omega)]

/-- Positions of a block's keys in the sequence, less one block. -/
def pos : IVec S64x1x384 32 :=
  subi (addi (broadcastInDim S64x1x384 ![0, 1, 2] bcast_S64x1x1_S64x1x384_0_1_2
      (muli (broadcastInDim S64x1x1 ![0] bcast_S64_S64x1x1_0 (iotaInDim S64 32 0)) (broadcastInDim S64x1x1 ![] bcast_S_S64x1x1 (constantI S_ 32 128#32))))
    (broadcastInDim S64x1x384 ![0, 1, 2] bcast_S1x1x384_S64x1x384_0_1_2 (broadcastInDim S1x1x384 ![2] bcast_S384_S1x1x384_2 (iotaInDim S384 32 0))))
    (broadcastInDim S64x1x384 ![] bcast_S_S64x1x384 (constantI S_ 32 128#32))

/-- The mask: keys at most 128 from the query, inside the sequence. -/
def mask : IVec S64x128x384 1 :=
  andi
    (andi
      (broadcastInDim S64x128x384 ![0, 1, 2] bcast_S1x128x384_S64x128x384_0_1_2
        (cmpi .sle
          (absi (subi
            (broadcastInDim S1x128x384 ![0, 1, 2] bcast_S1x1x384_S1x128x384_0_1_2
              (subi (broadcastInDim S1x1x384 ![2] bcast_S384_S1x1x384_2 (iotaInDim S384 32 0)) (broadcastInDim S1x1x384 ![] bcast_S_S1x1x384 (constantI S_ 32 128#32))))
            (broadcastInDim S1x128x384 ![0, 1, 2] bcast_S1x128x1_S1x128x384_0_1_2 (broadcastInDim S1x128x1 ![1] bcast_S128_S1x128x1_1 (iotaInDim S128 32 0)))))
          (broadcastInDim S1x128x384 ![] bcast_S_S1x128x384 (constantI S_ 32 128#32))))
      (broadcastInDim S64x128x384 ![0, 1, 2] bcast_S64x1x384_S64x128x384_0_1_2
        (cmpi .sge pos (broadcastInDim S64x1x384 ![] bcast_S_S64x1x384 (constantI S_ 32 0#32)))))
    (broadcastInDim S64x128x384 ![0, 1, 2] bcast_S64x1x384_S64x128x384_0_1_2
      (cmpi .slt pos (broadcastInDim S64x1x384 ![] bcast_S_S64x1x384 (constantI S_ 32 8192#32))))

theorem mask_apply (i : Fin 64) (a : Fin 128) (j : Fin 384) :
    mask (ix3 i a j) =
      if (a.val ≤ j.val ∧ j.val ≤ a.val + 256) ∧ 128 ≤ 128 * i.val + j.val ∧ 128 * i.val + j.val < 8320 then 1#1 else 0#1 := by
  unfold mask
  pointwise [pos]
  have key : ∀ d : Fin 1024, IntOp.cmpi CmpIPredicate.sle (IntOp.absi (BitVec.ofInt 32 ((d.val : Int) - 600))) 128#32 =
      if 472 ≤ d.val ∧ d.val ≤ 728 then 1#1 else 0#1 := by decide +kernel
  have hw : IntOp.subi (IntOp.subi (BitVec.ofNat 32 j.val) 128#32) (BitVec.ofNat 32 a.val) =
      BitVec.ofInt 32 (((j.val + 472 - a.val : ℕ) : Int) - 600) := by
    rw [show (((j.val + 472 - a.val : ℕ) : Int) - 600) = (j.val : Int) + -((128 : ℕ) : Int) + -((a.val : ℕ) : Int) by omega,
      BitVec.ofInt_add, BitVec.ofInt_add, BitVec.ofInt_neg (n := ((128 : ℕ) : Int)), BitVec.ofInt_neg (n := ((a.val : ℕ) : Int)),
      BitVec.ofInt_natCast, BitVec.ofInt_natCast, BitVec.ofInt_natCast, ← BitVec.sub_eq_add_neg, ← BitVec.sub_eq_add_neg]
    rfl
  have hp : IntOp.subi (IntOp.addi (IntOp.muli (BitVec.ofNat 32 i.val) 128#32) (BitVec.ofNat 32 j.val)) 128#32 =
      IntOp.subi (BitVec.ofNat 32 (128 * i.val + j.val)) 128#32 := by
    rw [Nat.mul_comm, BitVec.ofNat_add, BitVec.ofNat_mul]
    rfl
  have hge : ∀ d : Fin 8704, IntOp.cmpi CmpIPredicate.sge (IntOp.subi (BitVec.ofNat 32 d.val) 128#32) 0#32 = if 128 ≤ d.val then 1#1 else 0#1 := by
    decide +kernel
  have hlt : ∀ d : Fin 8704, IntOp.cmpi CmpIPredicate.slt (IntOp.subi (BitVec.ofNat 32 d.val) 128#32) 8192#32 = if d.val < 8320 then 1#1 else 0#1 := by
    decide +kernel
  rw [hw, hp, key ⟨j.val + 472 - a.val, by omega⟩, hge ⟨128 * i.val + j.val, by omega⟩, hlt ⟨128 * i.val + j.val, by omega⟩]
  dsimp only
  split_ifs <;> first | rfl | (exfalso; omega)

end Cert.AttnRefIdeal.Plain

end
-- ==== Proof.AttnMath.lean ====
/-
  The mathematics of the attention claim, free of programs: a softmax taken with powers of two of scores scaled by
  `1 / log 2`, normalised after the product with the values, is the softmax taken with exponentials and normalised
  before it. The keys are a family of context keys, a family of band keys of which some are masked (score `⊥`), and a
  sink, which has a score and no value.
-/
module

public import Idealize.ShloMosaic.Lib.Pointwise

@[expose] public section

noncomputable section

namespace Cert.AttnMath

open Idealize.ShloMosaic

/-- A positive real factor goes into a finite sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- The greatest of a finite family of scores, each real or masked, and a real sink is real. -/
theorem sup_real {ι : Type*} (s : Finset ι) (f : ι → EReal) (hf : ∀ k, f k ≠ ⊤) : s.sup f ≠ ⊤ := by
  have : s.sup f < ⊤ := (Finset.sup_lt_iff (by simp)).2 fun k _ => lt_top_iff_ne_top.2 (hf k)
  exact this.ne

/-- Scaling by a positive real is monotone on the extended reals. -/
theorem scale_mono (L : ℝ) (hL : 0 < L) : Monotone fun x : EReal => (L : EReal) * x :=
  fun _ _ h => mul_le_mul_of_nonneg_left h (by exact_mod_cast hL.le)

/-- Scaling by a positive real commutes with the greatest of a finite family. -/
theorem sup_scale {ι : Type*} (s : Finset ι) (L : ℝ) (hL : 0 < L) (f : ι → EReal) :
    (s.sup fun k => (L : EReal) * f k) = (L : EReal) * s.sup f :=
  (Finset.comp_sup_eq_sup_comp (fun x : EReal => (L : EReal) * x)
    (fun a b => (scale_mono L hL).map_sup a b) (EReal.coe_mul_bot_of_pos hL)).symm

theorem exp_bot : Ideal.exp ⊥ = 0 := rfl

theorem exp2_bot : Ideal.exp2 ⊥ = 0 := rfl

/-- A finite sum of reals is the same real in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The power of two of a scaled difference is the exponential of the difference. -/
theorem exp2_scaled (x : EReal) (hx : x ≠ ⊤) (M : ℝ) :
    Ideal.exp2 ((((Real.log 2)⁻¹ : ℝ) : EReal) * x - (((Real.log 2)⁻¹ * M : ℝ) : EReal)) = Ideal.exp (x - (M : EReal)) := by
  have h2 : (0 : ℝ) < Real.log 2 := Real.log_pos (by norm_num)
  induction x with
  | top => exact absurd rfl hx
  | bot => rw [EReal.coe_mul_bot_of_pos (inv_pos.2 h2), EReal.bot_sub, EReal.bot_sub, exp2_bot, exp_bot]
  | coe r =>
    rw [← EReal.coe_mul, ← EReal.coe_sub, ← EReal.coe_sub, Ideal.exp2_coe, Ideal.exp_coe]
    congr 1
    rw [← mul_sub, Real.rpow_eq_pow, Real.rpow_def_of_pos (by norm_num), ← mul_assoc, mul_inv_cancel₀ h2.ne', one_mul]

/-- The exponential of a score that is not `⊤`, less a real, is a real that is not negative. -/
theorem exp_real (x : EReal) (hx : x ≠ ⊤) (M : ℝ) : ∃ e : ℝ, 0 ≤ e ∧ Ideal.exp (x - (M : EReal)) = (e : EReal) := by
  induction x with
  | top => exact absurd rfl hx
  | bot => exact ⟨0, le_rfl, by rw [EReal.bot_sub, exp_bot]; rfl⟩
  | coe r => exact ⟨Real.exp (r - M), (Real.exp_pos _).le, by rw [← EReal.coe_sub, Ideal.exp_coe]⟩

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The word of one eighth. -/
theorem ofBits_eighth : Ideal.ofBits .f32 0x3E000000#32 = ((1 / 8 : ℝ) : EReal) := by
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; norm_num

variable {n k : ℕ}

/-- What the tiled program computes for one query and one value lane: scores already scaled, powers of two, one
    division at the end. -/
def tiled (sc : Fin n → EReal) (sl : Fin k → EReal) (sk : EReal) (vc : Fin n → EReal) (vl : Fin k → EReal) : EReal :=
  let m := max (max (Finset.univ.sup sc) (Finset.univ.sup sl)) sk
  Ideal.div (∑ c, vc c * Ideal.exp2 (sc c - m) + ∑ j, vl j * Ideal.exp2 (sl j - m))
    ((∑ c, Ideal.exp2 (sc c - m) + ∑ j, Ideal.exp2 (sl j - m)) + Ideal.exp2 (sk - m))

/-- What the problem states for one query and one value lane: the softmax of sink, context and band scores, its
    context and band parts against the values. -/
def plain (sc : Fin n → EReal) (sl : Fin k → EReal) (sk : EReal) (vc : Fin n → EReal) (vl : Fin k → EReal) : EReal :=
  let m := max sk (max (Finset.univ.sup sc) (Finset.univ.sup sl))
  let D := Ideal.exp (sk - m) + (∑ c, Ideal.exp (sc c - m) + ∑ j, Ideal.exp (sl j - m))
  (∑ c, Ideal.div (Ideal.exp (sc c - m)) D * vc c) + ∑ j, Ideal.div (Ideal.exp (sl j - m)) D * vl j

/-- The two are equal where the tiled program's scores are the plain ones over `log 2`, its band keys a permutation of
    the plain ones, and the values agree on the keys that are not masked. -/
theorem tiled_eq_plain (σ : Equiv.Perm (Fin k)) (sc sc' : Fin n → EReal) (sl sl' : Fin k → EReal) (sk : ℝ) (sk' : EReal)
    (vc : Fin n → EReal) (vl vl' : Fin k → EReal)
    (hc : ∀ c, sc' c = (((Real.log 2)⁻¹ : ℝ) : EReal) * sc c) (hct : ∀ c, sc c ≠ ⊤)
    (hl : ∀ j, sl' (σ j) = (((Real.log 2)⁻¹ : ℝ) : EReal) * sl j) (hlt : ∀ j, sl j ≠ ⊤)
    (hv : ∀ j, sl j ≠ ⊥ → vl' (σ j) = vl j)
    (hk : sk' = (((Real.log 2)⁻¹ : ℝ) : EReal) * (sk : EReal)) :
    tiled sc' sl' sk' vc vl' = plain sc sl (sk : EReal) vc vl := by
  have h2 : (0 : ℝ) < Real.log 2 := Real.log_pos (by norm_num)
  have hL : (0 : ℝ) < (Real.log 2)⁻¹ := inv_pos.2 h2
  have hsup : Finset.univ.sup sl' = (((Real.log 2)⁻¹ : ℝ) : EReal) * Finset.univ.sup sl := by
    rw [← sup_scale _ _ hL]
    have : Finset.univ.sup sl' = Finset.univ.sup (sl' ∘ σ) := by
      rw [← Finset.sup_image, Finset.image_univ_of_surjective σ.surjective]
    rw [this]; exact Finset.sup_congr rfl fun j _ => hl j
  have hsupc : Finset.univ.sup sc' = (((Real.log 2)⁻¹ : ℝ) : EReal) * Finset.univ.sup sc := by
    rw [← sup_scale _ _ hL]; exact Finset.sup_congr rfl fun c _ => hc c
  obtain ⟨M, hM⟩ : ∃ M : ℝ, max (sk : EReal) (max (Finset.univ.sup sc) (Finset.univ.sup sl)) = (M : EReal) := by
    have ht : max (sk : EReal) (max (Finset.univ.sup sc) (Finset.univ.sup sl)) ≠ ⊤ := by
      have h1 := lt_top_iff_ne_top.2 (sup_real Finset.univ sc hct)
      have h2 := lt_top_iff_ne_top.2 (sup_real Finset.univ sl hlt)
      exact (max_lt (EReal.coe_lt_top sk) (max_lt h1 h2)).ne
    have hb : max (sk : EReal) (max (Finset.univ.sup sc) (Finset.univ.sup sl)) ≠ ⊥ :=
      (lt_of_lt_of_le (EReal.bot_lt_coe sk) (le_max_left _ _)).ne'
    exact ⟨_, (EReal.coe_toReal ht hb).symm⟩
  have hM' : max (max (Finset.univ.sup sc') (Finset.univ.sup sl')) sk' = (((Real.log 2)⁻¹ * M : ℝ) : EReal) := by
    rw [hsup, hsupc, hk, EReal.coe_mul, ← hM, max_comm, (scale_mono _ hL).map_max, (scale_mono _ hL).map_max]
  unfold tiled plain
  dsimp only
  rw [hM, hM']
  have eC : ∀ c, Ideal.exp2 (sc' c - (((Real.log 2)⁻¹ * M : ℝ) : EReal)) = Ideal.exp (sc c - (M : EReal)) := fun c => by
    rw [hc, exp2_scaled _ (hct c)]
  have eL : ∀ j, Ideal.exp2 (sl' (σ j) - (((Real.log 2)⁻¹ * M : ℝ) : EReal)) = Ideal.exp (sl j - (M : EReal)) := fun j => by
    rw [hl, exp2_scaled _ (hlt j)]
  have eK : Ideal.exp2 (sk' - (((Real.log 2)⁻¹ * M : ℝ) : EReal)) = Ideal.exp ((sk : EReal) - (M : EReal)) := by
    rw [hk, exp2_scaled _ (EReal.coe_ne_top sk)]
  rw [← Equiv.sum_comp σ (fun j => vl' j * Ideal.exp2 (sl' j - (((Real.log 2)⁻¹ * M : ℝ) : EReal))),
    ← Equiv.sum_comp σ (fun j => Ideal.exp2 (sl' j - (((Real.log 2)⁻¹ * M : ℝ) : EReal)))]
  simp only [eC, eL, eK]
  have hvl : ∀ j, vl' (σ j) * Ideal.exp (sl j - (M : EReal)) = Ideal.exp (sl j - (M : EReal)) * vl j := fun j => by
    by_cases h : sl j = ⊥
    · rw [h, EReal.bot_sub, exp_bot, mul_zero, zero_mul]
    · rw [hv j h, mul_comm]
  simp only [hvl, mul_comm (vc _)]
  choose ec ec0 hec using fun c => exp_real (sc c) (hct c) M
  choose el el0 hel using fun j => exp_real (sl j) (hlt j) M
  simp only [hec, hel]
  rw [← EReal.coe_sub, Ideal.exp_coe]
  have hcs : (∑ c, ((ec c : ℝ) : EReal)) = ((∑ c, ec c : ℝ) : EReal) := (coe_sum _ _).symm
  have hls : (∑ j, ((el j : ℝ) : EReal)) = ((∑ j, el j : ℝ) : EReal) := (coe_sum _ _).symm
  rw [hcs, hls, ← EReal.coe_add, ← EReal.coe_add, ← EReal.coe_add]
  have hD : (0 : ℝ) < Real.exp (sk - M) + (∑ c, ec c + ∑ j, el j) :=
    add_pos_of_pos_of_nonneg (Real.exp_pos _)
      (add_nonneg (Finset.sum_nonneg fun c _ => ec0 c) (Finset.sum_nonneg fun j _ => el0 j))
  rw [add_comm (∑ c, ec c + ∑ j, el j) (Real.exp (sk - M))]
  generalize Real.exp (sk - M) + (∑ c, ec c + ∑ j, el j) = D at hD
  have hdiv : ∀ x : EReal, Ideal.div x (D : EReal) = ((D⁻¹ : ℝ) : EReal) * x := fun x => by
    unfold Ideal.div
    rw [if_neg (by exact_mod_cast hD.ne'), EReal.coe_inv, mul_comm]
  have hD0 : (0 : ℝ) ≤ D⁻¹ := (inv_pos.2 hD).le
  simp only [hdiv]
  rw [EReal.left_distrib_of_nonneg_of_ne_top (by exact_mod_cast hD0) (EReal.coe_ne_top _), coe_mul_sum _ _ hD0,
    coe_mul_sum _ _ hD0]
  simp only [mul_assoc]

end Cert.AttnMath

end
-- ==== Proof.AttnRefSteps.lean ====
/-
  The attention reference's steps, named.
-/
module

public import proofs.«01_k».proof.Proof.AttnRefBand
public import proofs.«01_k».proof.Proof.AttnMath

@[expose] public section

set_option maxRecDepth 16384

noncomputable section

namespace Cert.AttnRefIdeal.Plain

open Idealize.ShloMosaic Idealize.ShloMosaic.TcCoe Cert.AttnRefIdeal Cert.AttnRefIdeal.Gen Cert.AttnMath

variable (q : FVec Ideal S2x8192x32x64 .f32) (k v : FVec Ideal S2x8192x4x64 .f32) (kc vc : FVec Ideal S2x256x4x64 .f32) (sk : FVec Ideal S32 .f32)

/-- The queries of each block, by key head. -/
def qb : FVec Ideal S2x64x128x4x8x64 .f32 := shapeCast S2x64x128x4x8x64 q shapeCasts_S2x8192x32x64_S2x64x128x4x8x64

/-- Context scores over the root of the head size. -/
def sctx : FVec Ideal S2x64x4x8x128x256 .f32 :=
  mulf (transpose S2x64x4x8x128x256 [0, 3, 1, 5, 4, 2]
      (Host.dotGeneral dot_S2x256x4x64_S2x64x128x4x8x64_S2x4x256x64x128x8_3_5_1_124_02_03 none kc (qb q))
      transposes_S2x4x256x64x128x8_S2x64x4x8x128x256_0_3_1_5_4_2)
    (broadcastInDim S2x64x4x8x128x256 ![] bcast_S_S2x64x4x8x128x256 (constant (F := Ideal) S_ .f32 0x3E000000#32))

/-- Band scores over the root of the head size, minus infinity where masked. -/
def sloc : FVec Ideal S2x64x4x8x128x384 .f32 :=
  select (broadcastInDim S2x64x4x8x128x384 ![0, 1, 2, 3, 4, 5] bcast_S1x64x1x1x128x384_S2x64x4x8x128x384_0_1_2_3_4_5
      (broadcastInDim S1x64x1x1x128x384 ![1, 4, 5] bcast_S64x128x384_S1x64x1x1x128x384_1_4_5 mask))
    (mulf (transpose S2x64x4x8x128x384 [0, 1, 2, 5, 4, 3]
        (Host.dotGeneral dot_S2x64x384x4x64_S2x64x128x4x8x64_S2x64x4x384x128x8_4_5_2_24_013_013 none (band k) (qb q))
        transposes_S2x64x4x384x128x8_S2x64x4x8x128x384_0_1_2_5_4_3)
      (broadcastInDim S2x64x4x8x128x384 ![] bcast_S_S2x64x4x8x128x384 (constant (F := Ideal) S_ .f32 0x3E000000#32)))
    (broadcastInDim S2x64x4x8x128x384 ![] bcast_S_S2x64x4x8x128x384 (constant (F := Ideal) S_ .f32 0xFF800000#32))

/-- All scores of a query and head: the sink, the context's, the band's. -/
def scores : FVec Ideal S2x64x4x8x128x641 .f32 :=
  concatenate S2x64x4x8x128x641 5
    [⟨S2x64x4x8x128x1, broadcastInDim S2x64x4x8x128x1 ![0, 1, 2, 3, 4, 5] bcast_S1x1x4x8x1x1_S2x64x4x8x128x1_0_1_2_3_4_5
      (broadcastInDim S1x1x4x8x1x1 ![2, 3] bcast_S4x8_S1x1x4x8x1x1_2_3 (shapeCast S4x8 sk shapeCasts_S32_S4x8))⟩,
     ⟨S2x64x4x8x128x256, sctx q kc⟩, ⟨S2x64x4x8x128x384, sloc q k⟩]
    concatenates_S2x64x4x8x128x1_S2x64x4x8x128x256_S2x64x4x8x128x384_S2x64x4x8x128x641_d5

/-- Greatest score of each query and head. -/
def top (s : FVec Ideal S2x64x4x8x128x641 .f32) : FVec Ideal S2x64x4x8x128 .f32 :=
  Host.reduce FloatOps.maximumf s (constant (F := Ideal) S_ .f32 0xFF800000#32) reducesTo_S2x64x4x8x128x641_S2x64x4x8x128_d5 h_S_

/-- Sum of each query and head. -/
def total (s : FVec Ideal S2x64x4x8x128x641 .f32) : FVec Ideal S2x64x4x8x128 .f32 :=
  Host.reduceAdd s (constant (F := Ideal) S_ .f32 0x00000000#32) reducesTo_S2x64x4x8x128x641_S2x64x4x8x128_d5 h_S_

/-- One number of each query and head, along all its scores. -/
def along (x : FVec Ideal S2x64x4x8x128 .f32) : FVec Ideal S2x64x4x8x128x641 .f32 :=
  broadcastInDim S2x64x4x8x128x641 ![0, 1, 2, 3, 4, 5] bcast_S2x64x4x8x128x1_S2x64x4x8x128x641_0_1_2_3_4_5
    (broadcastInDim S2x64x4x8x128x1 ![0, 1, 2, 3, 4] bcast_S2x64x4x8x128_S2x64x4x8x128x1_0_1_2_3_4 x)

/-- The scores less their maximum, exponentiated. -/
def expd (s : FVec Ideal S2x64x4x8x128x641 .f32) : FVec Ideal S2x64x4x8x128x641 .f32 :=
  Host.exp (subf s (along
      (maximumf (broadcastInDim S2x64x4x8x128 ![] bcast_S_S2x64x4x8x128 (constant (F := Ideal) S_ .f32 0xFF800000#32)) (top s))))

/-- … and divided by their sum. -/
def probs (s : FVec Ideal S2x64x4x8x128x641 .f32) : FVec Ideal S2x64x4x8x128x641 .f32 :=
  Host.divf (expd s) (along (total (expd s)))

/-- The result's rows (batch, position) and columns (head, lane). -/
def out (p : FVec Ideal S2x64x4x8x128x641 .f32) : FVec Ideal S16384x2048 .bf16 :=
  truncf .bf16 (shapeCast S16384x2048 (addf
    (transpose S2x64x128x4x8x64 [0, 3, 5, 1, 4, 2] (Host.dotGeneral dot_S2x256x4x64_S2x64x4x8x128x256_S2x4x64x64x8x128_1_5_3_134_02_02 none vc
      (extractStridedSlice S2x64x4x8x128x256 ![0, 0, 0, 0, 0, 1] p slices_S2x64x4x8x128x641_S2x64x4x8x128x256_0_0_0_0_0_1))
      transposes_S2x4x64x64x8x128_S2x64x128x4x8x64_0_3_5_1_4_2)
    (transpose S2x64x128x4x8x64 [0, 1, 5, 2, 4, 3] (Host.dotGeneral dot_S2x64x384x4x64_S2x64x4x8x128x384_S2x64x4x64x8x128_2_5_4_34_013_012 none (band v)
      (extractStridedSlice S2x64x4x8x128x384 ![0, 0, 0, 0, 0, 257] p slices_S2x64x4x8x128x641_S2x64x4x8x128x384_0_0_0_0_0_257))
      transposes_S2x64x4x64x8x128_S2x64x128x4x8x64_0_1_5_2_4_3)) shapeCasts_S2x64x128x4x8x64_S16384x2048) bitsLt_bf16_f32

end Cert.AttnRefIdeal.Plain

end
-- ==== Proof.AttnRefRows.lean ====
/-
  The attention reference's softmax of one query and head over its 641 scores.
-/
module

public import proofs.«01_k».proof.Proof.AttnRefSteps

@[expose] public section

set_option maxRecDepth 16384

noncomputable section

namespace Cert.AttnRefIdeal.Plain

open Idealize.ShloMosaic Idealize.ShloMosaic.TcCoe Cert.AttnRefIdeal Cert.AttnRefIdeal.Gen Cert.AttnMath

theorem reduces : Shape.Reduces S2x64x4x8x128x641 [5] S2x64x4x8x128 := by decide

/-- A query and head with a score's number put back. -/
theorem lift_row (b : Fin 2) (i : Fin 64) (g : Fin 4) (h : Fin 8) (a : Fin 128) (t : Fin 641) :
    reduces.lift (ix5 b i g h a) t = ix6 b i g h a t := by
  funext c; apply Fin.ext
  fin_cases c <;> rfl

/-- The greatest score. -/
theorem top_apply (s : FVec Ideal S2x64x4x8x128x641 .f32) (b : Fin 2) (i : Fin 64) (g : Fin 4) (h : Fin 8) (a : Fin 128) :
    top s (ix5 b i g h a) = Finset.univ.sup fun t : Fin 641 => s (ix6 b i g h a t) := by
  unfold top
  rw [Host.reduce_eq_fold_single FloatOps.maximumf s _ _ reduces _]
  have hf : (s ∘ reduces.lift (ix5 b i g h a)) = fun t : Fin 641 => s (ix6 b i g h a t) := funext fun t => congrArg s (lift_row b i g h a t)
  refine (congrArg (fun f => Finset.fold max (Ideal.ofBits .f32 0xFF800000#32) f (Finset.univ : Finset (Fin 641))) hf).trans ?_
  rw [ofBits_bot]; rfl

/-- The sum. -/
theorem total_apply (s : FVec Ideal S2x64x4x8x128x641 .f32) (b : Fin 2) (i : Fin 64) (g : Fin 4) (h : Fin 8) (a : Fin 128) :
    total s (ix5 b i g h a) = ∑ t : Fin 641, s (ix6 b i g h a t) := by
  unfold total
  refine (Ideal.hostReduceAdd_single reducesTo_S2x64x4x8x128x641_S2x64x4x8x128_d5 reduces s _ (ix5 b i g h a)).trans ?_
  have h0 : (constant (F := Ideal) S_ .f32 0x00000000#32) (Shape.Idx.first h_S_) = (0 : EReal) := by
    show Ideal.ofBits .f32 0x00000000#32 = 0; simp [Ideal.ofBits, Ideal.ieee]
  rw [h0, zero_add]
  exact Finset.sum_congr rfl fun t _ => congrArg s (lift_row b i g h a t)

theorem along_apply (x : FVec Ideal S2x64x4x8x128 .f32) (b : Fin 2) (i : Fin 64) (g : Fin 4) (h : Fin 8) (a : Fin 128) (t : Fin 641) :
    along x (ix6 b i g h a t) = x (ix5 b i g h a) := by
  unfold along
  pointwise

theorem peak_apply (x : FVec Ideal S2x64x4x8x128 .f32) (b : Fin 2) (i : Fin 64) (g : Fin 4) (h : Fin 8) (a : Fin 128) :
    (maximumf (broadcastInDim S2x64x4x8x128 ![] bcast_S_S2x64x4x8x128 (constant (F := Ideal) S_ .f32 0xFF800000#32)) x : FVec Ideal S2x64x4x8x128 .f32) (ix5 b i g h a)
      = x (ix5 b i g h a) := by
  pointwise
  rw [ofBits_bot]; exact max_eq_right bot_le

/-- A score less the greatest, exponentiated. -/
theorem expd_apply (s : FVec Ideal S2x64x4x8x128x641 .f32) (b : Fin 2) (i : Fin 64) (g : Fin 4) (h : Fin 8) (a : Fin 128) (t : Fin 641) :
    expd s (ix6 b i g h a t) = Ideal.exp (s (ix6 b i g h a t) - Finset.univ.sup fun t : Fin 641 => s (ix6 b i g h a t)) := by
  rw [← top_apply s, ← peak_apply (top s),
    ← along_apply (maximumf (broadcastInDim S2x64x4x8x128 ![] bcast_S_S2x64x4x8x128 (constant (F := Ideal) S_ .f32 0xFF800000#32)) (top s)) b i g h a t]
  rfl

/-- The softmax. -/
theorem probs_apply (s : FVec Ideal S2x64x4x8x128x641 .f32) (b : Fin 2) (i : Fin 64) (g : Fin 4) (h : Fin 8) (a : Fin 128) (t : Fin 641) :
    probs s (ix6 b i g h a t) = Ideal.div (Ideal.exp (s (ix6 b i g h a t) - Finset.univ.sup fun t : Fin 641 => s (ix6 b i g h a t)))
      (∑ u : Fin 641, Ideal.exp (s (ix6 b i g h a u) - Finset.univ.sup fun t : Fin 641 => s (ix6 b i g h a t))) := by
  rw [← expd_apply s b i g h a t, ← Finset.sum_congr rfl fun u _ => expd_apply s b i g h a u, ← total_apply (expd s), ← along_apply (total (expd s)) b i g h a t]
  rfl

end Cert.AttnRefIdeal.Plain

end
-- ==== Proof.AttnRef.lean ====
/-
  What the attention reference computes, read at an index: the softmax of the sink, the 256 context scores and the 384
  masked band scores of one query and head, its context and band parts against the values.
-/
module

public import proofs.«01_k».proof.Proof.AttnRefRows

@[expose] public section

set_option maxRecDepth 16384

noncomputable section

namespace Cert.AttnRefIdeal.Plain

open Idealize.ShloMosaic Idealize.ShloMosaic.TcCoe Cert.AttnRefIdeal Cert.AttnRefIdeal.Gen Cert.AttnMath

variable (q : FVec Ideal S2x8192x32x64 .f32) (k v : FVec Ideal S2x8192x4x64 .f32) (kc vc : FVec Ideal S2x256x4x64 .f32) (sk : FVec Ideal S32 .f32)

/-- The reference's result is the composition of its steps. -/
theorem res_eq (m : (ℓ : Loc nD τ sig) → Buf (Elt Ideal) ℓ) (c : Dev nD) : Value.res_main_v76 m c =
    out (m ((c.tc : Thread nD τ).loc main_arg2) : FVec Ideal S2x8192x4x64 .f32) (m ((c.tc : Thread nD τ).loc main_arg4) : FVec Ideal S2x256x4x64 .f32)
      (probs (scores (m ((c.tc : Thread nD τ).loc main_arg0) : FVec Ideal S2x8192x32x64 .f32) (m ((c.tc : Thread nD τ).loc main_arg1) : FVec Ideal S2x8192x4x64 .f32)
        (m ((c.tc : Thread nD τ).loc main_arg3) : FVec Ideal S2x256x4x64 .f32) (m ((c.tc : Thread nD τ).loc main_arg5) : FVec Ideal S32 .f32))) := rfl

/-- A context score. -/
theorem sctx_apply (b : Fin 2) (i : Fin 64) (g : Fin 4) (h : Fin 8) (a : Fin 128) (c : Fin 256) :
    sctx q kc (ix6 b i g h a c) =
      (∑ x : Fin 64, kc (ix4 b c g x) * q (ix4 b ⟨i.val * 128 + a.val, by omega⟩ ⟨g.val * 8 + h.val, by omega⟩ x)) * ((1 / 8 : ℝ) : EReal) := by
  rw [← ofBits_eighth]
  unfold sctx
  pointwise [qb]

/-- A band score. -/
theorem sloc_apply (b : Fin 2) (i : Fin 64) (g : Fin 4) (h : Fin 8) (a : Fin 128) (j : Fin 384) :
    sloc q k (ix6 b i g h a j) =
      if (a.val ≤ j.val ∧ j.val ≤ a.val + 256) ∧ 128 ≤ 128 * i.val + j.val ∧ 128 * i.val + j.val < 8320 then
        (∑ x : Fin 64, band k (ix5 b i j g x) * q (ix4 b ⟨i.val * 128 + a.val, by omega⟩ ⟨g.val * 8 + h.val, by omega⟩ x)) * ((1 / 8 : ℝ) : EReal)
      else ⊥ := by
  rw [← ofBits_eighth, ← ofBits_bot]
  unfold sloc
  pointwise [qb]
  rw [mask_apply]
  split <;> rfl

/-- All scores of one query and head. -/
theorem scores_apply (b : Fin 2) (i : Fin 64) (g : Fin 4) (h : Fin 8) (a : Fin 128) (t : Fin 641) :
    scores q k kc sk (ix6 b i g h a t) =
      if t.val < 1 then sk (ix1 ⟨g.val * 8 + h.val, by omega⟩)
      else if h2 : t.val - 1 < 256 then sctx q kc (ix6 b i g h a ⟨t.val - 1, h2⟩)
      else sloc q k (ix6 b i g h a ⟨t.val - 1 - 256, by omega⟩) := by
  unfold scores
  pointwise
  by_cases h1 : t.val < 1
  · rw [if_pos h1, dif_pos h1]
  · rw [if_neg h1, dif_neg h1]

/-- A result entry from the probabilities. -/
theorem out_apply (p : FVec Ideal S2x64x4x8x128x641 .f32) (r : Fin 16384) (n : Fin 2048) :
    out v vc p (ix2 r n) =
      (∑ x : Fin 256, vc (ix4 ⟨r.val / 8192, by omega⟩ x ⟨n.val / 512, by omega⟩ ⟨n.val % 64, by omega⟩)
          * p (ix6 ⟨r.val / 8192, by omega⟩ ⟨r.val / 128 % 64, by omega⟩ ⟨n.val / 512, by omega⟩ ⟨n.val / 64 % 8, by omega⟩ ⟨r.val % 128, by omega⟩ ⟨1 + x.val, by omega⟩))
      + ∑ x : Fin 384, band v (ix5 ⟨r.val / 8192, by omega⟩ ⟨r.val / 128 % 64, by omega⟩ x ⟨n.val / 512, by omega⟩ ⟨n.val % 64, by omega⟩)
          * p (ix6 ⟨r.val / 8192, by omega⟩ ⟨r.val / 128 % 64, by omega⟩ ⟨n.val / 512, by omega⟩ ⟨n.val / 64 % 8, by omega⟩ ⟨r.val % 128, by omega⟩ ⟨257 + x.val, by omega⟩) := by
  unfold out
  pointwise

/-- A supremum over 641 numbers, by their three parts. -/
theorem sup_parts (f : Fin 641 → EReal) : Finset.univ.sup f =
    max (f 0) (max (Finset.univ.sup fun c : Fin 256 => f ⟨1 + c.val, by omega⟩) (Finset.univ.sup fun j : Fin 384 => f ⟨257 + j.val, by omega⟩)) := by
  apply le_antisymm
  · refine Finset.sup_le fun t _ => ?_
    by_cases h1 : t.val < 1
    · have : t = 0 := Fin.ext (by show t.val = 0; omega)
      rw [this]; exact le_max_left _ _
    · by_cases h2 : t.val < 257
      · refine le_max_of_le_right (le_max_of_le_left ?_)
        have := Finset.le_sup (f := fun c : Fin 256 => f ⟨1 + c.val, by omega⟩) (Finset.mem_univ ⟨t.val - 1, by omega⟩)
        refine le_trans (le_of_eq ?_) this
        congr 1; apply Fin.ext; dsimp only; omega
      · refine le_max_of_le_right (le_max_of_le_right ?_)
        have := Finset.le_sup (f := fun j : Fin 384 => f ⟨257 + j.val, by omega⟩) (Finset.mem_univ ⟨t.val - 257, by omega⟩)
        refine le_trans (le_of_eq ?_) this
        congr 1; apply Fin.ext; dsimp only; omega
  · refine max_le (Finset.le_sup (Finset.mem_univ _)) (max_le ?_ ?_) <;>
      exact Finset.sup_le fun t _ => Finset.le_sup (Finset.mem_univ _)

/-- A sum over 641 numbers, by their three parts. -/
theorem sum_parts (f : Fin 641 → EReal) : ∑ t, f t =
    f 0 + (∑ c : Fin 256, f ⟨1 + c.val, by omega⟩ + ∑ j : Fin 384, f ⟨257 + j.val, by omega⟩) := by
  refine (Fin.sum_univ_succ f).trans ?_
  congr 1
  refine (Fin.sum_univ_add (a := 256) (b := 384) fun t => f t.succ).trans ?_
  congr 1 <;> refine Finset.sum_congr rfl fun t _ => ?_ <;> congr 1 <;> apply Fin.ext <;> simp <;> omega

/-- The softmax against the values, its scores given in three parts. -/
theorem softmax_parts (f : Fin 641 → EReal) (sk : EReal) (sc wc : Fin 256 → EReal) (sl wl : Fin 384 → EReal)
    (hk : f 0 = sk) (hc : ∀ c : Fin 256, f ⟨1 + c.val, by omega⟩ = sc c) (hl : ∀ j : Fin 384, f ⟨257 + j.val, by omega⟩ = sl j)
    (p : Fin 641 → EReal)
    (hp : ∀ t, p t = Ideal.div (Ideal.exp (f t - Finset.univ.sup f)) (∑ u, Ideal.exp (f u - Finset.univ.sup f))) :
    (∑ c : Fin 256, wc c * p ⟨1 + c.val, by omega⟩) + (∑ j : Fin 384, wl j * p ⟨257 + j.val, by omega⟩) = plain sc sl sk wc wl := by
  have hm : Finset.univ.sup f = max sk (max (Finset.univ.sup sc) (Finset.univ.sup sl)) := by
    rw [sup_parts, hk]; simp only [hc, hl]
  have hD : ∑ u, Ideal.exp (f u - Finset.univ.sup f) = Ideal.exp (sk - max sk (max (Finset.univ.sup sc) (Finset.univ.sup sl))) +
      (∑ c, Ideal.exp (sc c - max sk (max (Finset.univ.sup sc) (Finset.univ.sup sl))) + ∑ j, Ideal.exp (sl j - max sk (max (Finset.univ.sup sc) (Finset.univ.sup sl)))) := by
    rw [sum_parts]; simp only [hm, hk, hc, hl]
  simp only [hp, hD]
  simp only [hm, hc, hl, plain]
  congr 1 <;> exact Finset.sum_congr rfl fun t _ => mul_comm _ _

/-- A result entry: row = (batch, position), column = (head, lane). -/
theorem result_apply (r : Fin 16384) (n : Fin 2048) :
    out v vc (probs (scores q k kc sk)) (ix2 r n) = plain
      (fun c : Fin 256 => (∑ x : Fin 64, kc (ix4 ⟨r.val / 8192, by omega⟩ c ⟨n.val / 512, by omega⟩ x)
        * q (ix4 ⟨r.val / 8192, by omega⟩ ⟨r.val % 8192, by omega⟩ ⟨n.val / 64, by omega⟩ x)) * ((1 / 8 : ℝ) : EReal))
      (fun j : Fin 384 => if (r.val % 128 ≤ j.val ∧ j.val ≤ r.val % 128 + 256) ∧ 128 ≤ 128 * (r.val / 128 % 64) + j.val ∧ 128 * (r.val / 128 % 64) + j.val < 8320 then
        (∑ x : Fin 64, band k (ix5 ⟨r.val / 8192, by omega⟩ ⟨r.val / 128 % 64, by omega⟩ j ⟨n.val / 512, by omega⟩ x)
          * q (ix4 ⟨r.val / 8192, by omega⟩ ⟨r.val % 8192, by omega⟩ ⟨n.val / 64, by omega⟩ x)) * ((1 / 8 : ℝ) : EReal)
        else ⊥)
      (sk (ix1 ⟨n.val / 64, by omega⟩))
      (fun c => vc (ix4 ⟨r.val / 8192, by omega⟩ c ⟨n.val / 512, by omega⟩ ⟨n.val % 64, by omega⟩))
      (fun j => band v (ix5 ⟨r.val / 8192, by omega⟩ ⟨r.val / 128 % 64, by omega⟩ j ⟨n.val / 512, by omega⟩ ⟨n.val % 64, by omega⟩)) := by
  rw [out_apply]
  have er : (⟨r.val / 128 % 64 * 128 + r.val % 128, by omega⟩ : Fin 8192) = ⟨r.val % 8192, by omega⟩ := Fin.ext (by dsimp only; omega)
  have en : (⟨n.val / 512 * 8 + n.val / 64 % 8, by omega⟩ : Fin 32) = ⟨n.val / 64, by omega⟩ := Fin.ext (by dsimp only; omega)
  refine softmax_parts (fun t => scores q k kc sk (ix6 ⟨r.val / 8192, by omega⟩ ⟨r.val / 128 % 64, by omega⟩ ⟨n.val / 512, by omega⟩ ⟨n.val / 64 % 8, by omega⟩ ⟨r.val % 128, by omega⟩ t))
    _ _ _ _ _ ?_ ?_ ?_ _ fun t => probs_apply _ _ _ _ _ _ t
  · rw [scores_apply, if_pos (by decide), en]
  · intro c
    rw [scores_apply, if_neg (by dsimp only; omega), dif_pos (by dsimp only; omega), sctx_apply]
    dsimp only
    simp only [er, en, Nat.add_sub_cancel_left, Fin.eta]
  · intro j
    rw [scores_apply, if_neg (by dsimp only; omega), dif_neg (by dsimp only; omega), sloc_apply]
    dsimp only
    have ej : (⟨257 + j.val - 1 - 256, by omega⟩ : Fin 384) = j := Fin.ext (by dsimp only; omega)
    simp only [er, en, ej, show 257 + j.val - 1 - 256 = j.val by omega]

end Cert.AttnRefIdeal.Plain

end
-- ==== Proof.AttnEquation.lean ====
/-
  One entry of the attention's result: the tiled softmax over the kernel's band of 384 keys, held inside the sequence, is
  the plain softmax over the reference's band, which may reach outside it. The keys correspond by a rotation: none for
  an inner block, by one block for the first and the last.
-/
module

public import proofs.«01_k».proof.Proof.AttnRef

@[expose] public section

set_option maxRecDepth 16384

noncomputable section

namespace Cert.AttnRefIdeal.Plain

open Idealize.ShloMosaic Idealize.ShloMosaic.TcCoe Cert.AttnRefIdeal Cert.AttnRefIdeal.Gen Cert.AttnMath

/-- A product of real vectors: over the root of the head size it is a real number, and the product with the scaled
    query is that number over `log 2`. -/
theorem dot_scaled (K Q : Fin 64 → EReal) (hK : ∀ x, ∃ r : ℝ, K x = r) (hQ : ∀ x, ∃ r : ℝ, Q x = r) :
    ∃ R : ℝ, (∑ x, K x * Q x) * ((1 / 8 : ℝ) : EReal) = R ∧
      ∑ x, K x * (Q x * (((Real.log 2)⁻¹ / 8 : ℝ) : EReal)) = (((Real.log 2)⁻¹ : ℝ) : EReal) * (R : EReal) := by
  choose k hk using hK
  choose q hq using hQ
  refine ⟨(∑ x, k x * q x) * (1 / 8), ?_, ?_⟩
  · simp only [hk, hq]
    rw [EReal.coe_mul, coe_sum]
    simp only [EReal.coe_mul]
  · simp only [hk, hq, ← EReal.coe_mul]
    rw [← coe_sum]
    congr 1
    rw [← mul_assoc, mul_comm ((Real.log 2)⁻¹), mul_assoc, Finset.sum_mul]
    exact Finset.sum_congr rfl fun x _ => by ring

/-- By how much block `i`'s keys are rotated. -/
def turn (i : ℕ) : Fin 384 := if i = 0 then 256 else if i = 63 then 128 else 0

/-- Where key `j` of the reference's band stands in the kernel's. -/
def rotate (i : ℕ) : Equiv.Perm (Fin 384) := Equiv.addRight (turn i)

/-- Where block `i`'s band of keys starts in the kernel. -/
def first (i : ℕ) : ℕ := min 7808 ((i - 1) * 128)

theorem rotate_val (i : ℕ) (j : Fin 384) :
    (rotate i j).val = if i = 0 then (j.val + 256) % 384 else if i = 63 then (j.val + 128) % 384 else j.val := by
  show (j + turn i).val = _
  rw [Fin.val_add]
  unfold turn
  split_ifs
  · rfl
  · rfl
  · show (j.val + 0) % 384 = j.val; omega

/-- A key that is not masked stands at the same place of the sequence. -/
theorem rotate_pos (i : ℕ) (hi : i < 64) (j : Fin 384) (h : 128 ≤ 128 * i + j.val ∧ 128 * i + j.val < 8320) :
    first i + (rotate i j).val = 128 * i + j.val - 128 := by
  rw [rotate_val]; unfold first
  split_ifs <;> omega

/-- The caps and the mask agree. -/
theorem rotate_cap (i a w : ℕ) (hi : i < 64) (ha : a < 128) (hw : w = if i = 0 then 0 else if i = 63 then 2 else 1) (j : Fin 384) :
    (a + 128 * w ≤ (rotate i j).val + 128 ∧ (rotate i j).val ≤ a + 128 * w + 128) ↔
      ((a ≤ j.val ∧ j.val ≤ a + 256) ∧ 128 ≤ 128 * i + j.val ∧ 128 * i + j.val < 8320) := by
  rw [rotate_val, hw]
  split_ifs <;> omega

variable (k v : FVec Ideal S2x8192x4x64 .f32)

/-- The two softmaxes of one query (row `a` of block `i` of batch `b`) and one head (of group `g`), given the query's
    numbers `Q`, the context scores' keys and values, and the sink. -/
theorem entry_eq (hk : ∀ i, ∃ r : ℝ, k i = r) (b : Fin 2) (i : Fin 64) (g : Fin 4) (l : Fin 64) (a w : ℕ) (ha : a < 128)
    (hw : w = if i.val = 0 then 0 else if i.val = 63 then 2 else 1) (hf : first i.val + 384 ≤ 8192)
    (Q : Fin 64 → EReal) (hQ : ∀ x, ∃ r : ℝ, Q x = r) (KC : Fin 256 → Fin 64 → EReal) (hKC : ∀ c x, ∃ r : ℝ, KC c x = r)
    (sk : EReal) (hsk : ∃ r : ℝ, sk = r) (VC : Fin 256 → EReal) :
    tiled (fun c => ∑ x, KC c x * (Q x * (((Real.log 2)⁻¹ / 8 : ℝ) : EReal)))
      (fun j : Fin 384 => min (∑ x, k (ix4 b ⟨first i.val + j.val, by omega⟩ g x) * (Q x * (((Real.log 2)⁻¹ / 8 : ℝ) : EReal)))
        (if a + 128 * w ≤ j.val + 128 ∧ j.val ≤ a + 128 * w + 128 then (⊤ : EReal) else ⊥))
      (sk * (((Real.log 2)⁻¹ : ℝ) : EReal)) VC (fun j : Fin 384 => v (ix4 b ⟨first i.val + j.val, by omega⟩ g l)) =
    plain (fun c => (∑ x, KC c x * Q x) * ((1 / 8 : ℝ) : EReal))
      (fun j : Fin 384 => if (a ≤ j.val ∧ j.val ≤ a + 256) ∧ 128 ≤ 128 * i.val + j.val ∧ 128 * i.val + j.val < 8320 then
        (∑ x, band k (ix5 b i j g x) * Q x) * ((1 / 8 : ℝ) : EReal) else ⊥)
      sk VC (fun j => band v (ix5 b i j g l)) := by
  obtain ⟨s, rfl⟩ := hsk
  have hL : (0 : ℝ) < (Real.log 2)⁻¹ := inv_pos.2 (Real.log_pos (by norm_num))
  have hpos : ∀ j : Fin 384, ∀ h : 128 ≤ 128 * i.val + j.val ∧ 128 * i.val + j.val < 8320,
      (⟨first i.val + (rotate i.val j).val, by omega⟩ : Fin 8192) = ⟨128 * i.val + j.val - 128, by omega⟩ :=
    fun j h => Fin.ext (rotate_pos i.val i.isLt j h)
  have hband : ∀ (y : FVec Ideal S2x8192x4x64 .f32) (j : Fin 384) (x : Fin 64), 128 ≤ 128 * i.val + j.val ∧ 128 * i.val + j.val < 8320 →
      band y (ix5 b i j g x) = y (ix4 b ⟨first i.val + (rotate i.val j).val, by omega⟩ g x) := by
    intro y j x h
    rw [band_apply, dif_pos h, hpos j h]
  refine tiled_eq_plain (rotate i.val) _ _ _ _ s _ VC _ _ ?_ ?_ ?_ ?_ ?_ (mul_comm _ _)
  · intro c
    obtain ⟨R, h1, h2⟩ := dot_scaled (KC c) Q (hKC c) hQ
    rw [h1, h2]
  · intro c
    obtain ⟨R, h1, h2⟩ := dot_scaled (KC c) Q (hKC c) hQ
    rw [h1]; exact EReal.coe_ne_top R
  · intro j
    simp only [rotate_cap i.val a w i.isLt ha hw j]
    by_cases h : (a ≤ j.val ∧ j.val ≤ a + 256) ∧ 128 ≤ 128 * i.val + j.val ∧ 128 * i.val + j.val < 8320
    · rw [if_pos h, if_pos h, min_eq_left le_top]
      obtain ⟨R, h1, h2⟩ := dot_scaled (fun x => k (ix4 b ⟨first i.val + (rotate i.val j).val, by omega⟩ g x)) Q (fun x => hk _) hQ
      rw [h2, ← h1]
      simp only [hband k j _ h.2]
    · rw [if_neg h, if_neg h, min_eq_right bot_le, EReal.coe_mul_bot_of_pos hL]
  · intro j
    by_cases h : (a ≤ j.val ∧ j.val ≤ a + 256) ∧ 128 ≤ 128 * i.val + j.val ∧ 128 * i.val + j.val < 8320
    · rw [if_pos h]
      obtain ⟨R, h1, h2⟩ := dot_scaled (fun x => k (ix4 b ⟨first i.val + (rotate i.val j).val, by omega⟩ g x)) Q (fun x => hk _) hQ
      simp only [hband k j _ h.2]
      rw [h1]; exact EReal.coe_ne_top R
    · rw [if_neg h]; exact bot_ne_top
  · intro j hj
    by_cases h : (a ≤ j.val ∧ j.val ≤ a + 256) ∧ 128 ≤ 128 * i.val + j.val ∧ 128 * i.val + j.val < 8320
    · exact (hband v j l h.2).symm
    · rw [if_neg h] at hj; exact absurd rfl hj

end Cert.AttnRefIdeal.Plain

end
-- ==== Proof.AttnHeads.lean ====
/-
  One group of eight query heads of the attention block, read at an index. The block computes it from the scores of the
  group (640 keys: 256 context keys, then 384 band keys; 1024 columns: eight heads of 128 queries), the eight sinks, the
  cap that masks the band and the two value tiles.
-/
module

public import proofs.«01_k».proof.Proof.Gen.AttnIdeal.Skeleton
public import proofs.«01_k».proof.Proof.AttnMath
public import Idealize.ShloMosaic.Lib.Pointwise

@[expose] public section

set_option maxRecDepth 16384

noncomputable section

namespace Cert.AttnIdeal.Block

open Idealize.ShloMosaic Cert.AttnIdeal Cert.AttnIdeal.Gen Cert.AttnMath

variable [Facts]

/-- The sinks of the eight heads of a group. -/
abbrev Sinks := Fin 8 → Elt Ideal .f32

/-- The constant named `log2e` is the reciprocal of `log 2`. -/
theorem log2e_eq (b : BitVec 32) : Named.named (F := Ideal) κ "log2e" (φ := .f32) b = (((Real.log 2)⁻¹ : ℝ) : EReal) := rfl

set_option maxHeartbeats 2000000 in
/-- The row of sinks: each head's sink over `log 2`, for its 128 columns. -/
theorem sinks_apply (z : Sinks) (n : Fin 1024) :
    k0_pay12 (z 0) (z 1) (z 2) (z 3) (z 4) (z 5) (z 6) (z 7) (ix2 0 n) =
      z ⟨n.val / 128, by omega⟩ * (((Real.log 2)⁻¹ : ℝ) : EReal) := by
  pointwise [k0_pay12]
  simp only [log2e_eq]
  obtain ⟨⟨q, hq8⟩, hq⟩ : ∃ q : Fin 8, q.val = n.val / 128 := ⟨⟨n.val / 128, by omega⟩, rfl⟩
  have hz : (⟨n.val / 128, by omega⟩ : Fin 8) = ⟨q, hq8⟩ := Fin.ext hq.symm
  rw [hz]
  clear hz
  interval_cases q <;> dsimp only at hq <;> split_ifs <;>
    first
      | (exfalso; omega)
      | rfl

/-- The 128 × 1024 tile of one group: value lanes against the columns (head, query). -/
def heads (S : FVec Ideal S640x1024 .f32) (z : Sinks) (cap : Vec Ideal S1x384x1024 .f32)
    (vc : Vec Ideal S1x128x256 .bf16) (vl : Vec Ideal S1x128x384 .bf16) : FVec Ideal S128x1024 .f32 :=
  k0_pay17 (k0_pay12 (z 0) (z 1) (z 2) (z 3) (z 4) (z 5) (z 6) (z 7)) (k0_pay14 S cap)
    (k0_pay15 S (z 0) (z 1) (z 2) (z 3) (z 4) (z 5) (z 6) (z 7) cap)
    (k0_pay16 S (z 0) (z 1) (z 2) (z 3) (z 4) (z 5) (z 6) (z 7) cap) vc vl

/-- Read at a value lane and a column, it is the tiled softmax of that column's scores against that lane's values. -/
theorem heads_apply (S : FVec Ideal S640x1024 .f32) (z : Sinks) (cap : Vec Ideal S1x384x1024 .f32)
    (vc : Vec Ideal S1x128x256 .bf16) (vl : Vec Ideal S1x128x384 .bf16) (d : Fin 128) (n : Fin 1024) :
    heads S z cap vc vl (ix2 d n) =
      tiled (fun c : Fin 256 => S (ix2 ⟨c.val, by omega⟩ n))
        (fun j : Fin 384 => min (S (ix2 ⟨256 + j.val, by omega⟩ n)) (cap (ix3 0 j n)))
        (z ⟨n.val / 128, by omega⟩ * (((Real.log 2)⁻¹ : ℝ) : EReal))
        (fun c => vc (ix3 0 d c)) (fun j => vl (ix3 0 d j)) := by
  unfold heads tiled
  pointwise [k0_pay17, k0_pay14, k0_pay15, k0_pay16, k0_pay13]
  rw [sinks_apply, ofBits_bot]
  rfl

end Cert.AttnIdeal.Block

end
-- ==== Proof.AttnScores.lean ====
/-
  The scores of one group of eight query heads: the 640 keys against the group's query rows, each masked to the half of
  the 128 lanes its head fills; read at an index.
-/
module

public import proofs.«01_k».proof.Proof.Gen.AttnIdeal.Skeleton
public import proofs.«01_k».proof.Proof.AttnMath
public import Idealize.ShloMosaic.Lib.Pointwise

@[expose] public section

set_option maxRecDepth 16384

noncomputable section

namespace Cert.AttnIdeal.Block

open Idealize.ShloMosaic Cert.AttnIdeal Cert.AttnIdeal.Gen Cert.AttnMath

variable [Facts]

/-- The masked query rows of a group, from the four query tiles of its head pairs: column block `h` holds head `h`'s
    queries in the half of the lanes that head fills, and zero in the other half. -/
def qRows (b : Fin 4 → Vec Ideal S128x128 .bf16) : FVec Ideal S1024x128 .bf16 := k0_pay6 k0_pay2 (b 0) (b 1) (b 2) (b 3)

/-- The block's lane mask: below lane 64, or not. -/
theorem select_low {α : Type} (l : Fin 128) (x y : α) :
    Scalar.select (IntOp.cmpi CmpIPredicate.slt (BitVec.ofNat 32 l.val) 64#32) x y = if l.val < 64 then x else y := by
  have h : ∀ l : Fin 128, (IntOp.cmpi CmpIPredicate.slt (BitVec.ofNat 32 l.val) 64#32) = if l.val < 64 then 1#1 else 0#1 := by
    decide +kernel
  rw [h]; split_ifs <;> rfl

set_option maxHeartbeats 4000000 in
/-- Read at a column (head, query) and a lane: the head's query in the head's own half of the lanes, zero in the other. -/
theorem qRows_apply (b : Fin 4 → Vec Ideal S128x128 .bf16) (n : Fin 1024) (l : Fin 128) :
    qRows b (ix2 n l) =
      if (l.val < 64 ↔ n.val / 128 % 2 = 0) then b ⟨n.val / 128 / 2, by omega⟩ (ix2 ⟨n.val % 128, by omega⟩ l) else 0 := by
  unfold qRows
  pointwise [k0_pay6, k0_pay2]
  simp only [select_low]
  obtain ⟨⟨q, hq8⟩, hq⟩ : ∃ q : Fin 8, q.val = n.val / 128 := ⟨⟨n.val / 128, by omega⟩, rfl⟩
  obtain ⟨a, ha⟩ : ∃ a : Fin 128, (⟨n.val % 128, by omega⟩ : Fin 128) = a := ⟨_, rfl⟩
  have ha' : n.val % 128 = a.val := congrArg Fin.val ha
  have hz : (⟨n.val / 128 / 2, by omega⟩ : Fin 4) = ⟨q / 2, by omega⟩ := Fin.ext (by dsimp only at hq ⊢; omega)
  rw [hz, ha, ← hq]
  clear hz ha
  by_cases hl : l.val < 64 <;> simp only [hl, if_true, if_false] <;>
  interval_cases q <;> dsimp only at hq <;>
    simp only [Nat.reduceMod, Nat.reduceDiv, true_iff, false_iff, OfNat.one_ne_ofNat, one_ne_zero, not_true_eq_false,
      not_false_eq_true, if_true, if_false, reduceCtorEq] <;>
    split_ifs <;>
    first
      | (exfalso; omega)
      | rfl
      | (congr 2; apply Fin.ext; dsimp only; omega)

/-- The scores of a group: the 640 keys against the masked query rows. -/
def scores (b : Fin 4 → Vec Ideal S128x128 .bf16) (kc : Vec Ideal S1x256x128 .bf16) (kl : Vec Ideal S1x384x128 .bf16) :
    FVec Ideal S640x1024 .f32 := k0_pay8 (qRows b) (k0_pay7 kc) kl

/-- A context score: the key against the column's masked query. -/
theorem scores_ctx (b : Fin 4 → Vec Ideal S128x128 .bf16) (kc : Vec Ideal S1x256x128 .bf16) (kl : Vec Ideal S1x384x128 .bf16)
    (c : Fin 256) (n : Fin 1024) :
    scores b kc kl (ix2 ⟨c.val, by omega⟩ n) = ∑ l : Fin 128, kc (ix3 0 c l) * qRows b (ix2 n l) := by
  unfold scores
  pointwise [k0_pay8, k0_pay7]

/-- A band score: the key against the column's masked query. -/
theorem scores_band (b : Fin 4 → Vec Ideal S128x128 .bf16) (kc : Vec Ideal S1x256x128 .bf16) (kl : Vec Ideal S1x384x128 .bf16)
    (j : Fin 384) (n : Fin 1024) :
    scores b kc kl (ix2 ⟨256 + j.val, by omega⟩ n) = ∑ l : Fin 128, kl (ix3 0 j l) * qRows b (ix2 n l) := by
  unfold scores
  pointwise [k0_pay8, k0_pay7]

end Cert.AttnIdeal.Block

end
-- ==== Proof.AttnTile.lean ====
/-
  One block of the attention kernel, as the body leaves it: for each of the four groups the 128 × 1024 tile of the group,
  turned into the block's rows (queries) and columns (head pair, lane).
-/
module

public import proofs.«01_k».proof.Proof.Gen.AttnIdeal.Frame
public import proofs.«01_k».proof.Proof.AttnHeads
public import proofs.«01_k».proof.Proof.AttnScores
public import Idealize.ShloMosaic.Lib.Pointwise
public import Idealize.ShloMosaic.Lib.Pipeline.Value
public import Idealize.ShloMosaic.Lib.Tactic

@[expose] public section

set_option maxRecDepth 16384

noncomputable section

namespace Cert.AttnIdeal.Block

open Idealize.ShloMosaic Idealize.ShloMosaic.TcCoe Cert.AttnIdeal Cert.AttnIdeal.Gen Cert.AttnMath

/-- The four head pairs of a tile: a pair's lanes below 64 come from its first head's columns, the others from its
    second head's, and lanes become columns. -/
def pair (p : Fin 4) (T : FVec Ideal S128x1024 .f32) : FVec Ideal S128x128 .bf16 :=
  match p with
  | 0 => truncf .bf16 (transpose S128x128 [1, 0] (select k0_pay3 (extractStridedSlice S128x128 ![0, 0] T slices_S128x1024_o0_0_S128x128)
      (extractStridedSlice S128x128 ![0, 128] T slices_S128x1024_o0_128_S128x128)) transposes_S128x128_p1_0_S128x128) bitsLt_bf16_f32
  | 1 => truncf .bf16 (transpose S128x128 [1, 0] (select k0_pay3 (extractStridedSlice S128x128 ![0, 256] T slices_S128x1024_o0_256_S128x128)
      (extractStridedSlice S128x128 ![0, 384] T slices_S128x1024_o0_384_S128x128)) transposes_S128x128_p1_0_S128x128) bitsLt_bf16_f32
  | 2 => truncf .bf16 (transpose S128x128 [1, 0] (select k0_pay3 (extractStridedSlice S128x128 ![0, 512] T slices_S128x1024_o0_512_S128x128)
      (extractStridedSlice S128x128 ![0, 640] T slices_S128x1024_o0_640_S128x128)) transposes_S128x128_p1_0_S128x128) bitsLt_bf16_f32
  | 3 => truncf .bf16 (transpose S128x128 [1, 0] (select k0_pay3 (extractStridedSlice S128x128 ![0, 768] T slices_S128x1024_o0_768_S128x128)
      (extractStridedSlice S128x128 ![0, 896] T slices_S128x1024_o0_896_S128x128)) transposes_S128x128_p1_0_S128x128) bitsLt_bf16_f32

/-- A head pair read at a query and a lane: the tile at that lane, in the column of the lane's head and the query. -/
theorem pair_apply (p : Fin 4) (T : FVec Ideal S128x1024 .f32) (a l : Fin 128) :
    pair p T (ix2 a l) = T (ix2 l ⟨(2 * p.val + l.val / 64) * 128 + a.val, by omega⟩) := by
  have h : ∀ (x y : Ideal .f32), Scalar.select (IntOp.cmpi CmpIPredicate.slt (BitVec.ofNat 32 l.val) 64#32) x y =
      if l.val < 64 then x else y := select_low l
  match p with
  | 0 => unfold pair; pointwise [k0_pay3]; rw [h]; split_ifs <;> (congr 2; apply Fin.ext; dsimp only; omega)
  | 1 => unfold pair; pointwise [k0_pay3]; rw [h]; split_ifs <;> (congr 2; apply Fin.ext; dsimp only; omega)
  | 2 => unfold pair; pointwise [k0_pay3]; rw [h]; split_ifs <;> (congr 2; apply Fin.ext; dsimp only; omega)
  | 3 => unfold pair; pointwise [k0_pay3]; rw [h]; split_ifs <;> (congr 2; apply Fin.ext; dsimp only; omega)

variable (x0 : Vec Ideal S32 .f32) (x1 : Vec Ideal S128x2048 .bf16) (x2 : Vec Ideal S1x8192x512 .bf16)
  (x3 : Vec Ideal S1x512x8192 .bf16) (x4 : Vec Ideal S1x256x512 .bf16) (x5 : Vec Ideal S1x512x256 .bf16)
  (x6 : Vec Ideal S1x384x1024 .f32)

/-- The column offset of group `g`'s head pair `p` lies in the block. -/
theorem inb_q (g p : Fin 4) : ∀ a, (![0, 128 * (4 * g.val + p.val)] : Fin 2 → ℕ) a + S128x128.size a ≤ S128x2048.size a :=
  (by decide +kernel : ∀ g p : Fin 4, ∀ a, (![0, 128 * (4 * g.val + p.val)] : Fin 2 → ℕ) a + S128x128.size a ≤ S128x2048.size a) g p

theorem inb_kc (g : Fin 4) : ∀ a, (![0, 0, 128 * g.val] : Fin 3 → ℕ) a + S1x256x128.size a ≤ S1x256x512.size a :=
  (by decide +kernel : ∀ g : Fin 4, ∀ a, (![0, 0, 128 * g.val] : Fin 3 → ℕ) a + S1x256x128.size a ≤ S1x256x512.size a) g

theorem inb_vc (g : Fin 4) : ∀ a, (![0, 128 * g.val, 0] : Fin 3 → ℕ) a + S1x128x256.size a ≤ S1x512x256.size a :=
  (by decide +kernel : ∀ g : Fin 4, ∀ a, (![0, 128 * g.val, 0] : Fin 3 → ℕ) a + S1x128x256.size a ≤ S1x512x256.size a) g

theorem inb_kl (g : Fin 4) (s : ℕ) (hs : s + 384 ≤ 8192) :
    ∀ a, (![0, s, 128 * g.val] : Fin 3 → ℕ) a + S1x384x128.size a ≤ S1x8192x512.size a := by
  intro a
  fin_cases a
  · show 0 + 1 ≤ 1; omega
  · show s + 384 ≤ 8192; omega
  · show 128 * g.val + 128 ≤ 512; omega

theorem inb_vl (g : Fin 4) (s : ℕ) (hs : s + 384 ≤ 8192) :
    ∀ a, (![0, 128 * g.val, s] : Fin 3 → ℕ) a + S1x128x384.size a ≤ S1x512x8192.size a := by
  intro a
  fin_cases a
  · show 0 + 1 ≤ 1; omega
  · show 128 * g.val + 128 ≤ 512; omega
  · show s + 384 ≤ 8192; omega

theorem inb_s (g : Fin 4) (h : Fin 8) : ∀ a, (![8 * g.val + h.val] : Fin 1 → ℕ) a + S1.size a ≤ S32.size a :=
  (by decide +kernel : ∀ (g : Fin 4) (h : Fin 8), ∀ a, (![8 * g.val + h.val] : Fin 1 → ℕ) a + S1.size a ≤ S32.size a) g h

/-- The tile of group `g` over the block's arguments, its band of keys starting at `s`. -/
def tile (s : ℕ) (hs : s + 384 ≤ 8192) (g : Fin 4) : FVec Ideal S128x1024 .f32 :=
  heads
    (scores (fun p => View.ld x1 (Rect.unit (s := S128x2048) ![0, 128 * (4 * g.val + p.val)] S128x128.size (inb_q g p)))
      (View.ld x4 (Rect.unit (s := S1x256x512) ![0, 0, 128 * g.val] S1x256x128.size (inb_kc g)))
      (View.ld x2 (Rect.unit (s := S1x8192x512) ![0, s, 128 * g.val] S1x384x128.size (inb_kl g s hs))))
    (fun h => View.ld x0 (Rect.unit (s := S32) ![8 * g.val + h.val] S1.size (inb_s g h)) (Shape.Idx.first (show 0 < S1.numel by decide)))
    x6
    (View.ld x5 (Rect.unit (s := S1x512x256) ![0, 128 * g.val, 0] S1x128x256.size (inb_vc g)))
    (View.ld x3 (Rect.unit (s := S1x512x8192) ![0, 128 * g.val, s] S1x128x384.size (inb_vl g s hs)))

/-- The block the body leaves, at a query and a column. -/
def block (s : ℕ) (hs : s + 384 ≤ 8192) : Vec Ideal S128x2048 .bf16 := fun y =>
  tile x0 x1 x2 x3 x4 x5 x6 s hs ⟨(y 1).val / 512, Nat.div_lt_of_lt_mul (y 1).isLt⟩
    (ix2 ⟨(y 1).val % 128, Nat.mod_lt _ (by decide)⟩
      ⟨(2 * ((y 1).val / 128 % 4) + (y 1).val % 128 / 64) * 128 + (y 0).val, by have := (y 0).isLt; have : (y 0).val < 128 := this; omega⟩)

/-- Group `g`'s head pair `p` is the block at its columns. -/
theorem pair_block (s : ℕ) (hs : s + 384 ≤ 8192) (g p : Fin 4) (x : S128x128.Idx) :
    pair p (tile x0 x1 x2 x3 x4 x5 x6 s hs g) x =
      block x0 x1 x2 x3 x4 x5 x6 s hs ((Rect.unit (s := S128x2048) ![0, 128 * (4 * g.val + p.val)] S128x128.size (inb_q g p)).emb x) := by
  obtain ⟨a, l, rfl⟩ : ∃ (a l : Fin 128), x = ix2 a l := ⟨x 0, x 1, funext fun k => by fin_cases k <;> rfl⟩
  rw [pair_apply]
  have e0 : ((Rect.unit (s := S128x2048) ![0, 128 * (4 * g.val + p.val)] S128x128.size (inb_q g p)).emb (ix2 a l) 0).val = 0 + 1 * a.val := rfl
  have e1 : ((Rect.unit (s := S128x2048) ![0, 128 * (4 * g.val + p.val)] S128x128.size (inb_q g p)).emb (ix2 a l) 1).val =
      128 * (4 * g.val + p.val) + 1 * l.val := rfl
  unfold block
  have hg : g.val < 4 := g.isLt
  have hp : p.val < 4 := p.isLt
  have hl : l.val < 128 := l.isLt
  congr 1
  · congr 1
    apply Fin.ext
    show g.val = _ / 512
    rw [e1]; omega
  · congr 1
    · apply Fin.ext
      show l.val = _ % 128
      rw [e1]; omega
    · apply Fin.ext
      show _ = (2 * (_ / 128 % 4) + _ % 128 / 64) * 128 + _
      rw [e0, e1]
      dsimp only
      omega

/-- The band of keys of block `i` starts one block before it, held inside the sequence. -/
def start (i : grid0.Coords) : ℕ :=
  BitVec.toNat (Scalar.indexCast (Scalar.minsi (7808#32)
    (Scalar.maxsi (0#32) (Scalar.muli (Scalar.subi (BitVec.ofNat 32 (i 1).val) 1#32) 128#32))))

theorem start_eq (i : grid0.Coords) : start i = min 7808 (((i 1).val - 1) * 128) :=
  (by decide +kernel : ∀ k : Fin 64, BitVec.toNat (Scalar.indexCast (Scalar.minsi (7808#32)
    (Scalar.maxsi (0#32) (Scalar.muli (Scalar.subi (BitVec.ofNat 32 k.val) 1#32) 128#32)))) = min 7808 ((k.val - 1) * 128)) (i 1)

theorem start_le (i : grid0.Coords) : start i + 384 ≤ 8192 := by rw [start_eq]; omega

set_option maxHeartbeats 4000000 in
/-- What the body leaves in the output's buffer is the block. -/
theorem out_A (c : Dev nD) (i : grid0.Coords) (arg2 : Memref sig .tc .smem S32 .f32) (harg2 : arg2.IsWhole)
    (arg3 : Memref sig .tc .vmem S128x2048 .bf16) (harg3 : arg3.IsWhole) (arg4 : Memref sig .tc .vmem S1x8192x512 .bf16)
    (harg4 : arg4.IsWhole) (arg5 : Memref sig .tc .vmem S1x512x8192 .bf16) (harg5 : arg5.IsWhole)
    (arg6 : Memref sig .tc .vmem S1x256x512 .bf16) (harg6 : arg6.IsWhole) (arg7 : Memref sig .tc .vmem S1x512x256 .bf16)
    (harg7 : arg7.IsWhole) (arg8 : Memref sig .tc .vmem S1x384x1024 .f32) (harg8 : arg8.IsWhole)
    (arg9 : Memref sig .tc .vmem S128x2048 .bf16) (harg9 : arg9.IsWhole) :
    out0_A_7 c i arg2 harg2 arg3 harg3 arg4 harg4 arg5 harg5 arg6 harg6 arg7 harg7 arg8 harg8 arg9 harg9 x0 x1 x2 x3 x4 x5 x6 =
      block x0 x1 x2 x3 x4 x5 x6 (start i) (start_le i) := by
  have hcov := cover0_A_7 (F := Ideal) c i arg2 harg2 arg3 harg3 arg4 harg4 arg5 harg5 arg6 harg6 arg7 harg7 arg8 harg8 arg9 harg9 x0 x1 x2 x3 x4 x5 x6
  unfold out0_A_7
  rw [View.read_writes_eq_canon _ _ _ hcov]
  funext y
  refine View.canon_apply_of_pieces _ _ ?_ y (hcov y)
  clear hcov
  unfold kernelRun0_A
  dsimp only
  sl_unfold_words
  have hz : (![0, 0, 0] : Fin 3 → ℕ) = fun _ => 0 := funext fun a => by fin_cases a <;> rfl
  simp only [View.readAt_eq_ld, harg2.read_unread, harg3.read_unread, harg4.read_unread, harg5.read_unread, harg6.read_unread,
    harg7.read_unread, harg8.read_unread, View.ld_unit_zero (S := S1x384x1024) hz, List.forall_mem_cons]
  have key := pair_block x0 x1 x2 x3 x4 x5 x6 (start i) (start_le i)
  refine ⟨key 3 3, key 3 2, key 3 1, key 3 0, key 2 3, key 2 2, key 2 1, key 2 0, key 1 3, key 1 2, key 1 1, key 1 0,
    key 0 3, key 0 2, key 0 1, key 0 0, fun _ h => absurd h List.not_mem_nil⟩

end Cert.AttnIdeal.Block

end
-- ==== Proof.AttnEntry.lean ====
/-
  One entry of an attention block, by the numbers its arguments hold: the tiled softmax of the head's scores, each a
  product over the head's own 64 lanes.
-/
module

public import proofs.«01_k».proof.Proof.AttnTile

@[expose] public section

set_option maxRecDepth 16384

noncomputable section

namespace Cert.AttnIdeal.Block

open Idealize.ShloMosaic Idealize.ShloMosaic.TcCoe Cert.AttnIdeal Cert.AttnIdeal.Gen Cert.AttnMath

/-- A product over 128 lanes of which only one half counts, the keys' halves alike. -/
theorem half_sum (k q : Fin 128 → EReal) (K Q : Fin 64 → EReal) (p : ℕ) (hp : p < 2)
    (hk : ∀ x : Fin 128, k x = K ⟨x.val % 64, by omega⟩) (hq : ∀ x : Fin 64, q ⟨64 * p + x.val, by omega⟩ = Q x) :
    ∑ x : Fin 128, k x * (if (x.val < 64 ↔ p % 2 = 0) then q x else 0) = ∑ x : Fin 64, K x * Q x := by
  refine (Fin.sum_univ_add (a := 64) (b := 64) fun x : Fin 128 => k x * (if (x.val < 64 ↔ p % 2 = 0) then q x else 0)).trans ?_
  obtain rfl | rfl : p = 0 ∨ p = 1 := by omega
  · have h1 : ∀ x : Fin 64, (fun x : Fin 128 => k x * (if (x.val < 64 ↔ 0 % 2 = 0) then q x else 0)) (Fin.castAdd 64 x) = K x * Q x := by
      intro x
      have e : (⟨64 * 0 + x.val, by omega⟩ : Fin 128) = Fin.castAdd 64 x := Fin.ext (by simp)
      have hx : (Fin.castAdd 64 x : Fin 128).val < 64 := x.isLt
      dsimp only
      rw [if_pos (by simp [hx]), hk, ← hq x, e]
      congr 2; apply Fin.ext; show x.val % 64 = x.val; omega
    have h2 : ∀ x : Fin 64, (fun x : Fin 128 => k x * (if (x.val < 64 ↔ 0 % 2 = 0) then q x else 0)) (Fin.natAdd 64 x) = 0 := by
      intro x
      have hx : ¬ (Fin.natAdd 64 x : Fin 128).val < 64 := by simp
      dsimp only
      rw [if_neg (by simp [hx]), mul_zero]
    rw [Finset.sum_congr rfl fun x _ => h1 x, Finset.sum_congr rfl fun x _ => h2 x, Finset.sum_const_zero, add_zero]
  · have h1 : ∀ x : Fin 64, (fun x : Fin 128 => k x * (if (x.val < 64 ↔ 1 % 2 = 0) then q x else 0)) (Fin.natAdd 64 x) = K x * Q x := by
      intro x
      have e : (⟨64 * 1 + x.val, by omega⟩ : Fin 128) = Fin.natAdd 64 x := Fin.ext (by show 64 * 1 + x.val = 64 + x.val; omega)
      have hx : ¬ (Fin.natAdd 64 x : Fin 128).val < 64 := by simp
      dsimp only
      rw [if_pos (by simp [hx]), hk, ← hq x, e]
      congr 2; apply Fin.ext; show (64 + x.val) % 64 = x.val; omega
    have h2 : ∀ x : Fin 64, (fun x : Fin 128 => k x * (if (x.val < 64 ↔ 1 % 2 = 0) then q x else 0)) (Fin.castAdd 64 x) = 0 := by
      intro x
      have hx : (Fin.castAdd 64 x : Fin 128).val < 64 := x.isLt
      dsimp only
      rw [if_neg (by simp [hx]), mul_zero]
    rw [Finset.sum_congr rfl fun x _ => h1 x, Finset.sum_congr rfl fun x _ => h2 x, Finset.sum_const_zero, zero_add]

variable (x0 : Vec Ideal S32 .f32) (x1 : Vec Ideal S128x2048 .bf16) (x2 : Vec Ideal S1x8192x512 .bf16)
  (x3 : Vec Ideal S1x512x8192 .bf16) (x4 : Vec Ideal S1x256x512 .bf16) (x5 : Vec Ideal S1x512x256 .bf16)
  (x6 : Vec Ideal S1x384x1024 .f32)

/-- The block's pieces, read. -/
theorem ld_q (g p : Fin 4) (a x : Fin 128) :
    View.ld x1 (Rect.unit (s := S128x2048) ![0, 128 * (4 * g.val + p.val)] S128x128.size (inb_q g p)) (ix2 a x) =
      x1 (ix2 a ⟨128 * (4 * g.val + p.val) + x.val, by omega⟩) := by
  refine congrArg x1 (funext fun k => Fin.ext ?_)
  fin_cases k
  · show 0 + 1 * a.val = a.val; omega
  · show 128 * (4 * g.val + p.val) + 1 * x.val = _; dsimp only [ix2]; simp

theorem ld_kc (g : Fin 4) (c : Fin 256) (x : Fin 128) :
    View.ld x4 (Rect.unit (s := S1x256x512) ![0, 0, 128 * g.val] S1x256x128.size (inb_kc g)) (ix3 0 c x) =
      x4 (ix3 0 c ⟨128 * g.val + x.val, by omega⟩) := by
  refine congrArg x4 (funext fun k => Fin.ext ?_)
  fin_cases k
  · rfl
  · show 0 + 1 * c.val = c.val; omega
  · show 128 * g.val + 1 * x.val = 128 * g.val + x.val; omega

theorem ld_kl (s : ℕ) (hs : s + 384 ≤ 8192) (g : Fin 4) (j : Fin 384) (x : Fin 128) :
    View.ld x2 (Rect.unit (s := S1x8192x512) ![0, s, 128 * g.val] S1x384x128.size (inb_kl g s hs)) (ix3 0 j x) =
      x2 (ix3 0 ⟨s + j.val, by omega⟩ ⟨128 * g.val + x.val, by omega⟩) := by
  refine congrArg x2 (funext fun k => Fin.ext ?_)
  fin_cases k
  · rfl
  · show s + 1 * j.val = s + j.val; omega
  · show 128 * g.val + 1 * x.val = 128 * g.val + x.val; omega

theorem ld_vc (g : Fin 4) (x : Fin 128) (c : Fin 256) :
    View.ld x5 (Rect.unit (s := S1x512x256) ![0, 128 * g.val, 0] S1x128x256.size (inb_vc g)) (ix3 0 x c) =
      x5 (ix3 0 ⟨128 * g.val + x.val, by omega⟩ c) := by
  refine congrArg x5 (funext fun k => Fin.ext ?_)
  fin_cases k
  · rfl
  · show 128 * g.val + 1 * x.val = 128 * g.val + x.val; omega
  · show 0 + 1 * c.val = c.val; omega

theorem ld_vl (s : ℕ) (hs : s + 384 ≤ 8192) (g : Fin 4) (x : Fin 128) (j : Fin 384) :
    View.ld x3 (Rect.unit (s := S1x512x8192) ![0, 128 * g.val, s] S1x128x384.size (inb_vl g s hs)) (ix3 0 x j) =
      x3 (ix3 0 ⟨128 * g.val + x.val, by omega⟩ ⟨s + j.val, by omega⟩) := by
  refine congrArg x3 (funext fun k => Fin.ext ?_)
  fin_cases k
  · rfl
  · show 128 * g.val + 1 * x.val = 128 * g.val + x.val; omega
  · show s + 1 * j.val = s + j.val; omega

theorem ld_s (g : Fin 4) (h : Fin 8) :
    View.ld x0 (Rect.unit (s := S32) ![8 * g.val + h.val] S1.size (inb_s g h)) (Shape.Idx.first (show 0 < S1.numel by decide)) =
      x0 (ix1 ⟨8 * g.val + h.val, by omega⟩) := by
  refine congrArg x0 (funext fun k => Fin.ext ?_)
  fin_cases k
  rfl

/-- A query's masked lanes in a tile. -/
theorem q_masked (g : Fin 4) (n : Fin 1024) (x : Fin 128) :
    qRows (fun p => View.ld x1 (Rect.unit (s := S128x2048) ![0, 128 * (4 * g.val + p.val)] S128x128.size (inb_q g p))) (ix2 n x) =
      if (x.val < 64 ↔ (n.val / 128 % 2) % 2 = 0) then
        x1 (ix2 ⟨n.val % 128, by omega⟩ ⟨128 * (4 * g.val + n.val / 128 / 2) + x.val, by omega⟩) else 0 := by
  rw [qRows_apply, Nat.mod_mod]
  split_ifs with h
  · exact ld_q x1 g ⟨n.val / 128 / 2, by omega⟩ _ x
  · rfl

/-- A block's entry at query `a` and column `n`: head `n / 64`, of group `n / 512`. -/
theorem block_apply (s : ℕ) (hs : s + 384 ≤ 8192) (a : Fin 128) (n : Fin 2048) (Q : Fin 64 → EReal)
    (KC : Fin 256 → Fin 64 → EReal) (KL : Fin 384 → Fin 64 → EReal) (VC : Fin 256 → EReal) (VL cap : Fin 384 → EReal)
    (hQ : ∀ x : Fin 64, x1 (ix2 a ⟨n.val / 64 * 64 + x.val, by omega⟩) = Q x)
    (hKC : ∀ c (x : Fin 128), x4 (ix3 0 c ⟨128 * (n.val / 512) + x.val, by omega⟩) = KC c ⟨x.val % 64, by omega⟩)
    (hKL : ∀ (j : Fin 384) (x : Fin 128), x2 (ix3 0 ⟨s + j.val, by omega⟩ ⟨128 * (n.val / 512) + x.val, by omega⟩) = KL j ⟨x.val % 64, by omega⟩)
    (hVC : ∀ c, x5 (ix3 0 ⟨128 * (n.val / 512) + n.val % 128, by omega⟩ c) = VC c)
    (hVL : ∀ j : Fin 384, x3 (ix3 0 ⟨128 * (n.val / 512) + n.val % 128, by omega⟩ ⟨s + j.val, by omega⟩) = VL j)
    (hcap : ∀ (j : Fin 384) (k : Fin 1024), k.val % 128 = a.val → x6 (ix3 0 j k) = cap j) :
    block x0 x1 x2 x3 x4 x5 x6 s hs (ix2 a n) =
      tiled (fun c => ∑ x, KC c x * Q x) (fun j => min (∑ x, KL j x * Q x) (cap j))
        (x0 (ix1 ⟨n.val / 64, by omega⟩) * (((Real.log 2)⁻¹ : ℝ) : EReal)) VC VL := by
  obtain ⟨g, hg⟩ : ∃ g : Fin 4, g.val = n.val / 512 := ⟨⟨n.val / 512, by omega⟩, rfl⟩
  obtain ⟨N, hN⟩ : ∃ N : Fin 1024, N.val = (2 * (n.val / 128 % 4) + n.val % 128 / 64) * 128 + a.val := ⟨⟨_, by omega⟩, rfl⟩
  have hb : block x0 x1 x2 x3 x4 x5 x6 s hs (ix2 a n) = tile x0 x1 x2 x3 x4 x5 x6 s hs g (ix2 ⟨n.val % 128, by omega⟩ N) := by
    have e1 : g = ⟨n.val / 512, by omega⟩ := Fin.ext hg
    have e2 : N = ⟨(2 * (n.val / 128 % 4) + n.val % 128 / 64) * 128 + a.val, by omega⟩ := Fin.ext hN
    rw [e1, e2]
    rfl
  obtain ⟨w, hw⟩ : ∃ w : Fin 128 → EReal, w = fun x => x1 (ix2 ⟨N.val % 128, by omega⟩ ⟨128 * (4 * g.val + N.val / 128 / 2) + x.val, by omega⟩) := ⟨_, rfl⟩
  have hq : ∀ x : Fin 64, w ⟨64 * (N.val / 128 % 2) + x.val, by omega⟩ = Q x := by
    intro x
    rw [← hQ x, hw]
    dsimp only
    congr 2 <;> apply Fin.ext <;> dsimp only <;> omega
  rw [hb]
  unfold tile
  rw [heads_apply]
  congr 1
  · funext c
    rw [scores_ctx]
    refine Eq.trans (Finset.sum_congr rfl fun x _ => ?_) (half_sum (fun x => x4 (ix3 0 c ⟨128 * (n.val / 512) + x.val, by omega⟩)) w (KC c) Q (N.val / 128 % 2) (by omega) (hKC c) hq)
    rw [ld_kc, q_masked, hw]
    simp only [hg]
  · funext j
    rw [scores_band, hcap j N (by omega)]
    congr 1
    refine Eq.trans (Finset.sum_congr rfl fun x _ => ?_) (half_sum (fun x => x2 (ix3 0 ⟨s + j.val, by omega⟩ ⟨128 * (n.val / 512) + x.val, by omega⟩)) w (KL j) Q (N.val / 128 % 2) (by omega) (hKL j) hq)
    rw [ld_kl x2 s hs, q_masked, hw]
    simp only [hg]
  · congr 1
    rw [ld_s]
    congr 2; apply Fin.ext; dsimp only; omega
  · funext c
    rw [ld_vc, ← hVC c]
    simp only [hg]
  · funext j
    rw [ld_vl x3 s hs, ← hVL j]
    simp only [hg]

end Cert.AttnIdeal.Block

end
-- ==== Proof.AttnWindows.lean ====
/-
  The attention kernel's blocks, read from the arrays they are staged from: point `t` is (batch `t / 64`, block `t % 64`).
-/
module

public import proofs.«01_k».proof.Proof.Gen.AttnIdeal.Value
public import Idealize.ShloMosaic.Lib.Pipeline.ValueKit
public import Idealize.ShloMosaic.Lib.Pointwise

@[expose] public section

set_option maxRecDepth 16384

noncomputable section

namespace Cert.AttnIdeal.Windows

open Idealize.ShloMosaic Idealize.ShloMosaic.TcCoe Cert.AttnIdeal Cert.AttnIdeal.Gen

variable (m : (ℓ : Loc nD τ sig) → Buf (Elt Ideal) ℓ) (c : Dev nD)

/-- Where each window's block lies, by the point. -/
theorem idx : ∀ t : Fin grid0.N, win0_0.index t = ![0] ∧ win0_1.index t = ![t.val, 0] ∧ win0_2.index t = ![t.val / 64, 0, 0] ∧
    win0_3.index t = ![t.val / 64, 0, 0] ∧ win0_4.index t = ![t.val / 64, 0, 0] ∧ win0_5.index t = ![t.val / 64, 0, 0] ∧
    win0_6.index t = ![if t.val % 64 = 0 then 0 else if t.val % 64 = 63 then 2 else 1, 0, 0] ∧ win0_7.index t = ![t.val, 0] ∧
    (grid0.coords t 1).val = t.val % 64 := by decide +kernel

theorem lt_N (t : Fin grid0.N) : t.val < 128 := lt_of_lt_of_eq t.isLt N_0

/-- The sinks. -/
theorem blk0 (t : Fin grid0.N) (h : Fin 32) :
    (iblk m c 0 t : Vec Ideal S32 .f32) (ix1 h) = (V m c main_arg5 : Vec Ideal S32 .f32) (ix1 h) := by
  blk_ext [iblk, V, idx t]

/-- The queries. -/
theorem blk1 (t : Fin grid0.N) (a : Fin 128) (n : Fin 2048) :
    (iblk m c 1 t : Vec Ideal S128x2048 .bf16) (ix2 a n) =
      (V m c main_v6 : Vec Ideal S16384x2048 .bf16) (ix2 ⟨t.val * 128 + a.val, by have := lt_N t; omega⟩ n) := by
  have := lt_N t
  blk_ext [iblk, idx t]

/-- The keys. -/
theorem blk2 (t : Fin grid0.N) (b : Fin 2) (hb : b.val = t.val / 64) (s : Fin 8192) (n : Fin 512) :
    (iblk m c 2 t : Vec Ideal S1x8192x512 .bf16) (ix3 0 s n) =
      (V m c main_v9 : Vec Ideal S2x8192x512 .bf16) (ix3 b s n) := by
  have e : win0_2.index t = ![b.val, 0, 0] := by rw [hb]; have h := idx t; tauto
  have hi : (((cfg0.win 2).blk t).view.emb (ix3 0 s n) : S2x8192x512.Idx) = (ix3 b s n : S2x8192x512.Idx) := by
    funext a
    apply Fin.ext
    match a with
    | ⟨0, _⟩ => show win0_2.index t 0 * 1 + 1 * 0 = b.val; rw [e]; simp
    | ⟨1, _⟩ => show win0_2.index t 1 * 8192 + 1 * s.val = s.val; rw [e]; simp
    | ⟨2, _⟩ => show win0_2.index t 2 * 512 + 1 * n.val = n.val; rw [e]; simp
  unfold iblk
  generalize V m c = W
  rw [View.read_apply]
  erw [hi]
  exact cast_eq _ _

/-- The values. -/
theorem blk3 (t : Fin grid0.N) (b : Fin 2) (hb : b.val = t.val / 64) (n : Fin 512) (s : Fin 8192) :
    (iblk m c 3 t : Vec Ideal S1x512x8192 .bf16) (ix3 0 n s) =
      (V m c main_v13 : Vec Ideal S2x512x8192 .bf16) (ix3 b n s) := by
  have e : win0_3.index t = ![b.val, 0, 0] := by rw [hb]; have h := idx t; tauto
  have hi : (((cfg0.win 3).blk t).view.emb (ix3 0 n s) : S2x512x8192.Idx) = (ix3 b n s : S2x512x8192.Idx) := by
    funext a
    apply Fin.ext
    match a with
    | ⟨0, _⟩ => show win0_3.index t 0 * 1 + 1 * 0 = b.val; rw [e]; simp
    | ⟨1, _⟩ => show win0_3.index t 1 * 512 + 1 * n.val = n.val; rw [e]; simp
    | ⟨2, _⟩ => show win0_3.index t 2 * 8192 + 1 * s.val = s.val; rw [e]; simp
  unfold iblk
  generalize V m c = W
  rw [View.read_apply]
  erw [hi]
  exact cast_eq _ _

/-- The context keys. -/
theorem blk4 (t : Fin grid0.N) (b : Fin 2) (hb : b.val = t.val / 64) (s : Fin 256) (n : Fin 512) :
    (iblk m c 4 t : Vec Ideal S1x256x512 .bf16) (ix3 0 s n) =
      (V m c main_v16 : Vec Ideal S2x256x512 .bf16) (ix3 b s n) := by
  have e : win0_4.index t = ![b.val, 0, 0] := by rw [hb]; have h := idx t; tauto
  have hi : (((cfg0.win 4).blk t).view.emb (ix3 0 s n) : S2x256x512.Idx) = (ix3 b s n : S2x256x512.Idx) := by
    funext a
    apply Fin.ext
    match a with
    | ⟨0, _⟩ => show win0_4.index t 0 * 1 + 1 * 0 = b.val; rw [e]; simp
    | ⟨1, _⟩ => show win0_4.index t 1 * 256 + 1 * s.val = s.val; rw [e]; simp
    | ⟨2, _⟩ => show win0_4.index t 2 * 512 + 1 * n.val = n.val; rw [e]; simp
  unfold iblk
  generalize V m c = W
  rw [View.read_apply]
  erw [hi]
  exact cast_eq _ _

/-- The context values. -/
theorem blk5 (t : Fin grid0.N) (b : Fin 2) (hb : b.val = t.val / 64) (n : Fin 512) (s : Fin 256) :
    (iblk m c 5 t : Vec Ideal S1x512x256 .bf16) (ix3 0 n s) =
      (V m c main_v20 : Vec Ideal S2x512x256 .bf16) (ix3 b n s) := by
  have e : win0_5.index t = ![b.val, 0, 0] := by rw [hb]; have h := idx t; tauto
  have hi : (((cfg0.win 5).blk t).view.emb (ix3 0 n s) : S2x512x256.Idx) = (ix3 b n s : S2x512x256.Idx) := by
    funext a
    apply Fin.ext
    match a with
    | ⟨0, _⟩ => show win0_5.index t 0 * 1 + 1 * 0 = b.val; rw [e]; simp
    | ⟨1, _⟩ => show win0_5.index t 1 * 512 + 1 * n.val = n.val; rw [e]; simp
    | ⟨2, _⟩ => show win0_5.index t 2 * 256 + 1 * s.val = s.val; rw [e]; simp
  unfold iblk
  generalize V m c = W
  rw [View.read_apply]
  erw [hi]
  exact cast_eq _ _

/-- The cap: the first, the last or an inner block's. -/
theorem blk6 (t : Fin grid0.N) (v : Fin 3) (hv : v.val = if t.val % 64 = 0 then 0 else if t.val % 64 = 63 then 2 else 1)
    (j : Fin 384) (n : Fin 1024) :
    (iblk m c 6 t : Vec Ideal S1x384x1024 .f32) (ix3 0 j n) = (V m c main_v46 : Vec Ideal S3x384x1024 .f32) (ix3 v j n) := by
  have := lt_N t
  have e : win0_6.index t = ![v.val, 0, 0] := by rw [hv]; exact (idx t).2.2.2.2.2.2.1
  blk_ext [iblk, e]

/-- If what every point's body leaves is its block's rows of one array, the result array is that array. -/
theorem array (G : Vec Ideal S16384x2048 .bf16)
    (hG : ∀ (t : Fin grid0.N) (a : Fin 128) (n : Fin 2048),
      (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) : Vec Ideal S128x2048 .bf16) (ix2 a n)
        = G (ix2 ⟨t.val * 128 + a.val, by have := lt_N t; omega⟩ n)) :
    (dats m 0 c).arrAt 7 cfg0.N = (G : Buf (Elt Ideal) ((c.tc : Thread nD τ).loc main_v47)) := by
  have hcov : (cfg0.win 7).Covers := by decide +kernel
  refine (dats m 0 c).arrAt_eq_of_cover 7 _ (fun t _ => ?_) (Pipeline.Window.Covers.cover _ hcov (Memref.isWhole_whole _))
  rw [Value.flushed7_A]
  have e : win0_7.index t = ![t.val, 0] := (idx t).2.2.2.2.2.2.2.1
  funext y
  have h0 : (y 0).val < 128 := (y 0).isLt
  have h1 : (y 1).val < 2048 := (y 1).isLt
  refine Eq.trans (congrArg _ (funext fun a => Fin.ext ?_)) ((hG t ⟨(y 0).val, h0⟩ ⟨(y 1).val, h1⟩).trans (congrArg G (funext fun a => Fin.ext ?_)))
  · fin_cases a <;> rfl
  · fin_cases a
    · show t.val * 128 + (y 0).val = win0_7.index t 0 * 128 + 1 * (y 0).val; rw [e]; simp
    · show (y 1).val = win0_7.index t 1 * 2048 + 1 * (y 1).val; rw [e]; simp

end Cert.AttnIdeal.Windows

end
-- ==== Proof.AttnHost.lean ====
/-
  The arrays the attention kernel is handed, at an index of the arguments: the host lines before the launch scale the
  queries, repeat each key and value head over the two halves of 128 lanes, transpose the values, and build the three caps
  that mask a band.
-/
module

public import proofs.«01_k».proof.Proof.Gen.AttnIdeal.Frame
public import proofs.«01_k».proof.Proof.AttnMath
public import Idealize.ShloMosaic.Lib.Pointwise
public import Idealize.ShloMosaic.Lib.StableHlo.Run
public import Idealize.ShloMosaic.Lib.Tactic

@[expose] public section

set_option maxRecDepth 16384

noncomputable section

namespace Cert.AttnIdeal.Host

open Idealize.ShloMosaic Idealize.ShloMosaic.TcCoe Cert.AttnIdeal Cert.AttnIdeal.Gen Cert.AttnMath

variable (m : (ℓ : Loc nD τ sig) → Buf (Elt Ideal) ℓ) (c : Dev nD)

/-- The host's scale of the queries. -/
theorem scale_eq : Ideal.div 1 (Ideal.log (Ideal.ofBits FTy.f32 1073741824#32)) * Ideal.ofBits FTy.f32 1040187392#32 =
    (((Real.log 2)⁻¹ / 8 : ℝ) : EReal) := by
  have h2 : Real.log 2 ≠ 0 := (Real.log_pos (by norm_num)).ne'
  rw [ofBits_two, ofBits_eighth, Ideal.log_coe, if_neg (by norm_num), Ideal.div_coe h2, one_mul, ← EReal.coe_mul]
  congr 1
  ring

/-- The queries: row (batch, position), column (head, lane); scaled by `1 / log 2` and an eighth. -/
theorem q_apply (r : Fin 16384) (n : Fin 2048) :
    (V m c main_v6 : Vec Ideal S16384x2048 .bf16) (ix2 r n) =
      (show EReal from (m (c.tc.loc main_arg0) : Vec Ideal S2x8192x32x64 .f32)
          (ix4 ⟨r.val / 8192, by omega⟩ ⟨r.val % 8192, by omega⟩ ⟨n.val / 64, by omega⟩ ⟨n.val % 64, by omega⟩)) *
        (((Real.log 2)⁻¹ / 8 : ℝ) : EReal) := by
  simp only [V, hostOps0, hostOps0_1, hostOps0_2, hostOps0_3, hostOps0_4, List.flatten_cons, List.flatten_nil, List.append_nil,
    List.cons_append, List.nil_append]
  after_results
  pointwise
  rw [scale_eq]

/-- The word that decides a cap's entry says whether the key lies at most 128 from the query. -/
theorem cap_word (i : Fin 3) (j : Fin 384) (n : Fin 1024) :
    IntOp.cmpi CmpIPredicate.sle
      (IntOp.absi (IntOp.subi (IntOp.addi (BitVec.ofNat 32 j.val)
        (IntOp.subi (IntOp.minsi 7808#32 (IntOp.maxsi 0#32 (IntOp.muli (IntOp.subi (lit0 (S3.rowMajor (ix1 i))) 1#32) 128#32)))
          (IntOp.muli (lit0 (S3.rowMajor (ix1 i))) 128#32)))
        (IntOp.andi (BitVec.ofNat 32 n.val) 127#32))) 128#32 =
      if n.val % 128 + 128 * i.val ≤ j.val + 128 ∧ j.val ≤ n.val % 128 + 128 * i.val + 128 then 1#1 else 0#1 := by
  have hd : IntOp.subi (IntOp.minsi 7808#32 (IntOp.maxsi 0#32 (IntOp.muli (IntOp.subi (lit0 (S3.rowMajor (ix1 i))) 1#32) 128#32)))
      (IntOp.muli (lit0 (S3.rowMajor (ix1 i))) 128#32) = BitVec.ofInt 32 (-(128 * i.val)) :=
    (by decide +kernel : ∀ i : Fin 3, IntOp.subi (IntOp.minsi 7808#32 (IntOp.maxsi 0#32 (IntOp.muli (IntOp.subi (lit0 (S3.rowMajor (ix1 i))) 1#32) 128#32)))
      (IntOp.muli (lit0 (S3.rowMajor (ix1 i))) 128#32) = BitVec.ofInt 32 (-(128 * i.val))) i
  have hn : IntOp.andi (BitVec.ofNat 32 n.val) 127#32 = BitVec.ofNat 32 (n.val % 128) :=
    (by decide +kernel : ∀ n : Fin 1024, IntOp.andi (BitVec.ofNat 32 n.val) 127#32 = BitVec.ofNat 32 (n.val % 128)) n
  rw [hd, hn]
  have key : ∀ d : Fin 1024, IntOp.cmpi CmpIPredicate.sle (IntOp.absi (BitVec.ofInt 32 ((d.val : Int) - 600))) 128#32 =
      if 472 ≤ d.val ∧ d.val ≤ 728 then 1#1 else 0#1 := by decide +kernel
  have hw : IntOp.subi (IntOp.addi (BitVec.ofNat 32 j.val) (BitVec.ofInt 32 (-(128 * i.val)))) (BitVec.ofNat 32 (n.val % 128)) =
      BitVec.ofInt 32 (((j.val + 600 - 128 * i.val - n.val % 128 : ℕ) : Int) - 600) := by
    rw [show (((j.val + 600 - 128 * i.val - n.val % 128 : ℕ) : Int) - 600) = (j.val : Int) + (-(128 * i.val)) + -((n.val % 128 : ℕ) : Int) by omega,
      BitVec.ofInt_add, BitVec.ofInt_add, BitVec.ofInt_neg (w := 32) (n := ((n.val % 128 : ℕ) : Int)), BitVec.ofInt_natCast, BitVec.ofInt_natCast]
    exact BitVec.sub_eq_add_neg _ _
  rw [hw, key ⟨j.val + 600 - 128 * i.val - n.val % 128, by omega⟩]
  dsimp only
  split_ifs <;> first | rfl | (exfalso; omega)

/-- The caps before the first block, at an inner block and at the last block: plus infinity inside the window, minus
    infinity outside it. -/
theorem cap_apply (i : Fin 3) (j : Fin 384) (n : Fin 1024) :
    (V m c main_v46 : Vec Ideal S3x384x1024 .f32) (ix3 i j n) =
      if n.val % 128 + 128 * i.val ≤ j.val + 128 ∧ j.val ≤ n.val % 128 + 128 * i.val + 128 then (⊤ : EReal) else ⊥ := by
  simp only [V, hostOps0, hostOps0_1, hostOps0_2, hostOps0_3, hostOps0_4, List.flatten_cons, List.flatten_nil, List.append_nil,
    List.cons_append, List.nil_append]
  after_results
  simp only [StableHlo.TRef.toBuf, StableHlo.TRef.ofBuf, cast_eq, id]
  pointwise
  rw [ofBits_top, ofBits_bot, cap_word]
  split_ifs <;> rfl

/-- The keys: column (head, lane of 128), the head's 64 lanes twice. -/
theorem kl_apply (b : Fin 2) (s : Fin 8192) (n : Fin 512) :
    (V m c main_v9 : Vec Ideal S2x8192x512 .bf16) (ix3 b s n) =
      (m (c.tc.loc main_arg1) : Vec Ideal S2x8192x4x64 .f32) (ix4 b s ⟨n.val / 128, by omega⟩ ⟨n.val % 64, by omega⟩) := by
  simp only [V, hostOps0, hostOps0_1, hostOps0_2, hostOps0_3, hostOps0_4, List.flatten_cons, List.flatten_nil, List.append_nil,
    List.cons_append, List.nil_append]
  after_results
  pointwise
  by_cases h : n.val % 128 < 64
  · rw [dif_pos h]; congr 2; apply Fin.ext; dsimp only; omega
  · rw [dif_neg h]; congr 2; apply Fin.ext; dsimp only; omega

/-- The values, transposed. -/
theorem vl_apply (b : Fin 2) (s : Fin 8192) (n : Fin 512) :
    (V m c main_v13 : Vec Ideal S2x512x8192 .bf16) (ix3 b n s) =
      (m (c.tc.loc main_arg2) : Vec Ideal S2x8192x4x64 .f32) (ix4 b s ⟨n.val / 128, by omega⟩ ⟨n.val % 64, by omega⟩) := by
  simp only [V, hostOps0, hostOps0_1, hostOps0_2, hostOps0_3, hostOps0_4, List.flatten_cons, List.flatten_nil, List.append_nil,
    List.cons_append, List.nil_append]
  after_results
  pointwise
  by_cases h : n.val % 128 < 64
  · rw [dif_pos h]; congr 2; apply Fin.ext; dsimp only; omega
  · rw [dif_neg h]; congr 2; apply Fin.ext; dsimp only; omega

/-- The context keys. -/
theorem kc_apply (b : Fin 2) (s : Fin 256) (n : Fin 512) :
    (V m c main_v16 : Vec Ideal S2x256x512 .bf16) (ix3 b s n) =
      (m (c.tc.loc main_arg3) : Vec Ideal S2x256x4x64 .f32) (ix4 b s ⟨n.val / 128, by omega⟩ ⟨n.val % 64, by omega⟩) := by
  simp only [V, hostOps0, hostOps0_1, hostOps0_2, hostOps0_3, hostOps0_4, List.flatten_cons, List.flatten_nil, List.append_nil,
    List.cons_append, List.nil_append]
  after_results
  pointwise
  by_cases h : n.val % 128 < 64
  · rw [dif_pos h]; congr 2; apply Fin.ext; dsimp only; omega
  · rw [dif_neg h]; congr 2; apply Fin.ext; dsimp only; omega

/-- The context values, transposed. -/
theorem vc_apply (b : Fin 2) (s : Fin 256) (n : Fin 512) :
    (V m c main_v20 : Vec Ideal S2x512x256 .bf16) (ix3 b n s) =
      (m (c.tc.loc main_arg4) : Vec Ideal S2x256x4x64 .f32) (ix4 b s ⟨n.val / 128, by omega⟩ ⟨n.val % 64, by omega⟩) := by
  simp only [V, hostOps0, hostOps0_1, hostOps0_2, hostOps0_3, hostOps0_4, List.flatten_cons, List.flatten_nil, List.append_nil,
    List.cons_append, List.nil_append]
  after_results
  pointwise
  by_cases h : n.val % 128 < 64
  · rw [dif_pos h]; congr 2; apply Fin.ext; dsimp only; omega
  · rw [dif_neg h]; congr 2; apply Fin.ext; dsimp only; omega

end Cert.AttnIdeal.Host

end
-- ==== Proof.AttnResult.lean ====
/-
  The attention claim: on real queries, keys, context keys and sinks the kernel's result array is the reference's.
-/
module

public import proofs.«01_k».proof.Proof.AttnEquation
public import proofs.«01_k».proof.Proof.AttnEntry
public import proofs.«01_k».proof.Proof.AttnWindows
public import proofs.«01_k».proof.Proof.AttnHost

@[expose] public section

set_option maxRecDepth 16384

noncomputable section

namespace Cert.AttnIdeal.Result

open Idealize.ShloMosaic Idealize.ShloMosaic.TcCoe Cert.AttnIdeal Cert.AttnIdeal.Gen Cert.AttnMath

variable (m : (ℓ : Loc nD τ sig) → Buf (Elt Ideal) ℓ) (c : Dev nD)

/-- The arguments, as arrays of extended reals. -/
abbrev q : FVec Ideal S2x8192x32x64 .f32 := m ((c.tc : Thread nD τ).loc main_arg0)
abbrev k : FVec Ideal S2x8192x4x64 .f32 := m ((c.tc : Thread nD τ).loc main_arg1)
abbrev v : FVec Ideal S2x8192x4x64 .f32 := m ((c.tc : Thread nD τ).loc main_arg2)
abbrev kc : FVec Ideal S2x256x4x64 .f32 := m ((c.tc : Thread nD τ).loc main_arg3)
abbrev vc : FVec Ideal S2x256x4x64 .f32 := m ((c.tc : Thread nD τ).loc main_arg4)
abbrev sk : FVec Ideal S32 .f32 := m ((c.tc : Thread nD τ).loc main_arg5)

/-- The reference's result over the kernel's arguments. -/
def plainResult : FVec Ideal S16384x2048 .bf16 :=
  AttnRefIdeal.Plain.out (v m c) (vc m c) (AttnRefIdeal.Plain.probs (AttnRefIdeal.Plain.scores (q m c) (k m c) (kc m c) (sk m c)))

set_option maxHeartbeats 1000000 in
/-- What a point's body leaves at a query and a column. -/
theorem point (hq : ∀ i, ∃ r : ℝ, q m c i = r) (hk : ∀ i, ∃ r : ℝ, k m c i = r) (hkc : ∀ i, ∃ r : ℝ, kc m c i = r)
    (hsk : ∀ i, ∃ r : ℝ, sk m c i = r) (t : Fin grid0.N) (a : Fin 128) (n : Fin 2048) :
    Block.block (iblk m c 0 t) (iblk m c 1 t) (iblk m c 2 t) (iblk m c 3 t) (iblk m c 4 t) (iblk m c 5 t) (iblk m c 6 t)
        (Block.start (grid0.coords t)) (Block.start_le (grid0.coords t)) (ix2 a n)
      = plainResult m c (ix2 ⟨t.val * 128 + a.val, by have := Windows.lt_N t; omega⟩ n) := by
  have ht := Windows.lt_N t
  obtain ⟨r, hr⟩ : ∃ r : Fin 16384, r.val = t.val * 128 + a.val := ⟨⟨t.val * 128 + a.val, by omega⟩, rfl⟩
  obtain ⟨b, hb⟩ : ∃ b : Fin 2, b.val = t.val / 64 := ⟨⟨t.val / 64, by omega⟩, rfl⟩
  obtain ⟨i, hi⟩ : ∃ i : Fin 64, i.val = t.val % 64 := ⟨⟨t.val % 64, by omega⟩, rfl⟩
  obtain ⟨g, hg⟩ : ∃ g : Fin 4, g.val = n.val / 512 := ⟨⟨n.val / 512, by omega⟩, rfl⟩
  obtain ⟨l, hl⟩ : ∃ l : Fin 64, l.val = n.val % 64 := ⟨⟨n.val % 64, by omega⟩, rfl⟩
  obtain ⟨w, hw⟩ : ∃ w : Fin 3, w.val = if t.val % 64 = 0 then 0 else if t.val % 64 = 63 then 2 else 1 :=
    ⟨⟨if t.val % 64 = 0 then 0 else if t.val % 64 = 63 then 2 else 1, by split_ifs <;> omega⟩, rfl⟩
  have hstart : Block.start (grid0.coords t) = AttnRefIdeal.Plain.first i.val := by
    rw [Block.start_eq, (Windows.idx t).2.2.2.2.2.2.2.2, hi]; rfl
  have hf : AttnRefIdeal.Plain.first i.val + 384 ≤ 8192 := hstart ▸ Block.start_le (grid0.coords t)
  have er : (⟨t.val * 128 + a.val, by omega⟩ : Fin 16384) = r := Fin.ext hr.symm
  have hK := AttnRefIdeal.Plain.entry_eq (k m c) (v m c) hk b i g l a.val w.val a.isLt (by rw [hw, hi]) hf
    (fun x => q m c (ix4 ⟨r.val / 8192, by omega⟩ ⟨r.val % 8192, by omega⟩ ⟨n.val / 64, by omega⟩ x)) (fun x => hq _)
    (fun s x => kc m c (ix4 b s g x)) (fun s x => hkc _) (sk m c (ix1 ⟨n.val / 64, by omega⟩)) (hsk _)
    (fun s => vc m c (ix4 b s g l))
  have hb' : (⟨r.val / 8192, by omega⟩ : Fin 2) = b := Fin.ext (by dsimp only; omega)
  have hi' : (⟨r.val / 128 % 64, by omega⟩ : Fin 64) = i := Fin.ext (by dsimp only; omega)
  have hg' : (⟨n.val / 512, by omega⟩ : Fin 4) = g := Fin.ext hg.symm
  have hl' : (⟨n.val % 64, by omega⟩ : Fin 64) = l := Fin.ext hl.symm
  have ha' : r.val % 128 = a.val := by omega
  have hi2 : r.val / 128 % 64 = i.val := by omega
  rw [er]
  refine Eq.trans ?_ (hK.trans ?_)
  · refine (Block.block_apply _ _ _ _ _ _ _ _ _ a n
      (fun x => q m c (ix4 ⟨r.val / 8192, by omega⟩ ⟨r.val % 8192, by omega⟩ ⟨n.val / 64, by omega⟩ x) * (((Real.log 2)⁻¹ / 8 : ℝ) : EReal))
      (fun s x => kc m c (ix4 b s g x)) (fun j x => k m c (ix4 b ⟨AttnRefIdeal.Plain.first i.val + j.val, by omega⟩ g x))
      (fun s => vc m c (ix4 b s g l)) (fun j => v m c (ix4 b ⟨AttnRefIdeal.Plain.first i.val + j.val, by omega⟩ g l))
      (fun j => if a.val + 128 * w.val ≤ j.val + 128 ∧ j.val ≤ a.val + 128 * w.val + 128 then (⊤ : EReal) else ⊥)
      ?_ ?_ ?_ ?_ ?_ ?_).trans ?_
    · intro x
      have e1 : (⟨(n.val / 64 * 64 + x.val) / 64, by omega⟩ : Fin 32) = ⟨n.val / 64, by omega⟩ := Fin.ext (by dsimp only; omega)
      have e2 : (⟨(n.val / 64 * 64 + x.val) % 64, by omega⟩ : Fin 64) = x := Fin.ext (by dsimp only; omega)
      rw [Windows.blk1 m c t a, er, Host.q_apply]
      dsimp only
      rw [e1, e2]
    · intro s x
      have e1 : (⟨(128 * (n.val / 512) + x.val) / 128, by omega⟩ : Fin 4) = g := Fin.ext (by dsimp only; omega)
      have e2 : (⟨(128 * (n.val / 512) + x.val) % 64, by omega⟩ : Fin 64) = ⟨x.val % 64, by omega⟩ := Fin.ext (by dsimp only; omega)
      rw [Windows.blk4 m c t b hb, Host.kc_apply]
      dsimp only
      rw [e1, e2]
    · intro j x
      have e1 : (⟨(128 * (n.val / 512) + x.val) / 128, by omega⟩ : Fin 4) = g := Fin.ext (by dsimp only; omega)
      have e2 : (⟨(128 * (n.val / 512) + x.val) % 64, by omega⟩ : Fin 64) = ⟨x.val % 64, by omega⟩ := Fin.ext (by dsimp only; omega)
      rw [Windows.blk2 m c t b hb, Host.kl_apply]
      dsimp only
      rw [e1, e2]
      simp only [hstart]
    · intro s
      have e1 : (⟨(128 * (n.val / 512) + n.val % 128) / 128, by omega⟩ : Fin 4) = g := Fin.ext (by dsimp only; omega)
      have e2 : (⟨(128 * (n.val / 512) + n.val % 128) % 64, by omega⟩ : Fin 64) = l := Fin.ext (by dsimp only; omega)
      rw [Windows.blk5 m c t b hb, Host.vc_apply]
      dsimp only
      rw [e1, e2]
    · intro j
      have e1 : (⟨(128 * (n.val / 512) + n.val % 128) / 128, by omega⟩ : Fin 4) = g := Fin.ext (by dsimp only; omega)
      have e2 : (⟨(128 * (n.val / 512) + n.val % 128) % 64, by omega⟩ : Fin 64) = l := Fin.ext (by dsimp only; omega)
      rw [Windows.blk3 m c t b hb, Host.vl_apply]
      dsimp only
      rw [e1, e2]
      simp only [hstart]
    · intro j y hy
      rw [Windows.blk6 m c t w hw, Host.cap_apply]
      simp only [hy]
    · rw [Windows.blk0 m c t, V_main_arg5]
  · unfold plainResult
    rw [AttnRefIdeal.Plain.result_apply]
    simp only [hb', hi', hg', hl', ha', hi2]

set_option maxHeartbeats 1000000 in
/-- The kernel's result array. -/
theorem array (hq : ∀ i, ∃ r : ℝ, q m c i = r) (hk : ∀ i, ∃ r : ℝ, k m c i = r) (hkc : ∀ i, ∃ r : ℝ, kc m c i = r)
    (hsk : ∀ i, ∃ r : ℝ, sk m c i = r) :
    (dats m 0 c).arrAt 7 cfg0.N = (plainResult m c : Buf (Elt Ideal) ((c.tc : Thread nD τ).loc main_v47)) := by
  refine Windows.array m c (plainResult m c) fun t a n => ?_
  rw [Block.out_A]
  exact point m c hq hk hkc hsk t a n

end Cert.AttnIdeal.Result

end
-- ==== Proof.AttnClaim.lean ====
/-
  The attention claim: the precondition says the numbers are real, both programs run, and their results are equal.
-/
module

public import proofs.«01_k».proof.Defs
public import proofs.«01_k».proof.Proof.AttnResult
public import proofs.«01_k».proof.Proof.Gen.Pre_attn_finite

@[expose] public section

set_option maxRecDepth 16384

noncomputable section

namespace Cert.Proof

open Idealize.ShloMosaic Idealize.ShloMosaic.TcCoe Idealize.SL.Sem

/-- A number whose size is below infinity is real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  rw [AttnMath.ofBits_top] at h
  induction x with
  | coe r => exact ⟨r, rfl⟩
  | bot => simp [FloatOps.cmpf, FloatOps.hostAbsf, Ideal.cmp] at h
  | top => simp [FloatOps.cmpf, FloatOps.hostAbsf, Ideal.cmp] at h

/-- What the precondition says: queries, keys, context keys and sinks are real. -/
theorem attn_real (m : (ℓ : Loc AttnIdeal.nD AttnIdeal.τ AttnIdeal.sig) → Buf (Elt Ideal) ℓ) (c : Dev AttnIdeal.nD)
    (h : Pre_AttnIdeal_attn_finite (hPre_attn_finite := Pre_attn_finite.Gen.facts) m) :
    (∀ i, ∃ r : ℝ, AttnIdeal.Result.q m c i = r) ∧ (∀ i, ∃ r : ℝ, AttnIdeal.Result.k m c i = r) ∧
      (∀ i, ∃ r : ℝ, AttnIdeal.Result.kc m c i = r) ∧ (∀ i, ∃ r : ℝ, AttnIdeal.Result.sk m c i = r) := by
  obtain ⟨h0, h1, h2, h3⟩ := h c
  exact ⟨fun i => real_of_lt _ (congrFun h0 i), fun i => real_of_lt _ (congrFun h1 i), fun i => real_of_lt _ (congrFun h2 i),
    fun i => real_of_lt _ (congrFun h3 i)⟩

/-- The kernel's result is the reference's. -/
theorem attn_algebraic : algebraic_AttnIdeal_AttnRefIdeal_pre_attn_finite (hAttnIdeal := AttnIdeal.Gen.facts)
    (hAttnRefIdeal := AttnRefIdeal.Gen.facts) (hPre_attn_finite := Pre_attn_finite.Gen.facts) := by
  intro m ρ m' ρ' hpre hag
  refine ⟨fun c => AttnIdeal.Result.plainResult m c, ?_, ?_⟩
  · refine (θ_run _ _ _).mono (fun _ h c => ⟨(h c).1.trans ?_, (h c).2⟩) (AttnIdeal.Value.run_blocks m ρ)
    obtain ⟨h0, h1, h2, h3⟩ := attn_real m c hpre
    exact AttnIdeal.Result.array m c h0 h1 h2 h3
  · refine (θ_run _ _ _).mono (fun _ h c => ⟨(h c).1.trans ?_, (h c).2⟩) (AttnRefIdeal.Value.run m' ρ')
    obtain ⟨e0, e1, e2, e3, e4, e5⟩ := hag c
    rw [AttnRefIdeal.Plain.res_eq, e0, e1, e2, e3, e4, e5]
    rfl

end Cert.Proof

end
-- ==== Proof.FfnMath.lean ====
/-
  The feed-forward sub-layer of one row in numbers: the gated products, their sum over all inner columns or chunk by
  chunk, and the layer norm.
-/
module

public import Idealize.ShloMosaic.Lib.Pointwise
public import Idealize.ShloMosaic.Lib.IdealHost

@[expose] public section

set_option maxRecDepth 16384

noncomputable section

namespace Cert.FfnMath

open Idealize.ShloMosaic

/-- A gate's silu times the other product. -/
def gated (g u : EReal) : EReal := g * Ideal.logistic g * u

/-- What inner column `j` gives to an output: the row's two products with the column, gated, times the last weight. -/
def term {J : Type} (x : Fin 2048 → EReal) (wg wu : Fin 2048 → J → EReal) (wd : J → EReal) (j : J) : EReal :=
  gated (∑ k, x k * wg k j) (∑ k, x k * wu k j) * wd j

/-- A row after scale and shift. -/
def mixed (x sc sh : EReal) : EReal := x * (Ideal.ofBits .f32 0x3F800000#32 + sc) + sh

/-- A row's mean. -/
def mean (z : Fin 2048 → EReal) : EReal := Ideal.div (∑ k, z k) (Ideal.ofBits .f32 0x45000000#32)

/-- The row's layer norm at one column, with that column's factor and offset. -/
def rowNorm (z : Fin 2048 → EReal) (g b : EReal) (n : Fin 2048) : EReal :=
  (z n - mean z) * Ideal.rsqrt (mean (fun k => (z k - mean z) * (z k - mean z)) + Ideal.ofBits .f32 0x3727C5AC#32) * g + b

/-- Inner column `j` of chunk `f`. -/
def col (f : ℕ) (j : Fin 512) : Fin 5632 := ⟨(512 * f + j.val) % 5632, Nat.mod_lt _ (by decide)⟩

/-- Eleven chunks of 512 make the 5632 columns. -/
theorem sum_chunks (T : Fin 5632 → EReal) : ∑ f ∈ Finset.range 11, ∑ j : Fin 512, T (col f j) = ∑ j, T j := by
  rw [Finset.sum_range, ← Fintype.sum_prod_type' (f := fun (f : Fin 11) (j : Fin 512) => T (col f.val j))]
  refine Fintype.sum_equiv (finProdFinEquiv.trans (finCongr (by decide : 11 * 512 = 5632))) _ _ fun p => congrArg T (Fin.ext ?_)
  have h1 := p.1.isLt
  have h2 := p.2.isLt
  show (512 * p.1.val + p.2.val) % 5632 = p.2.val + 512 * p.1.val
  omega

/-- A number that is a real. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.gated {g u : EReal} (hg : IsReal g) (hu : IsReal u) : IsReal (gated g u) := by
  refine (hg.mul ?_).mul hu
  obtain ⟨r, rfl⟩ := hg
  exact ⟨_, Ideal.logistic_coe r⟩

theorem IsReal.term {J : Type} {x : Fin 2048 → EReal} {wg wu : Fin 2048 → J → EReal} {wd : J → EReal} (hx : ∀ k, IsReal (x k))
    (hg : ∀ k j, IsReal (wg k j)) (hu : ∀ k j, IsReal (wu k j)) (hd : ∀ j, IsReal (wd j)) (j : J) : IsReal (term x wg wu wd j) :=
  (IsReal.gated (.sum _ _ fun k => (hx k).mul (hg k j)) (.sum _ _ fun k => (hx k).mul (hu k j))).mul (hd j)

theorem IsReal.mixed {x sc sh : EReal} (hx : IsReal x) (hc : IsReal sc) (hh : IsReal sh) : IsReal (mixed x sc sh) := by
  refine (hx.mul (IsReal.add ⟨1, ?_⟩ hc)).add hh
  rw [Ideal.ofBits_one_f32]; rfl

/-- A real factor goes into a sum of reals. -/
theorem mul_sum_real {ι : Type} (s : Finset ι) (a : EReal) (f : ι → EReal) (ha : IsReal a) (h : ∀ i, IsReal (f i)) :
    a * ∑ i ∈ s, f i = ∑ i ∈ s, a * f i := by
  classical
  induction s using Finset.induction_on with
  | empty => simp
  | insert i s hi ih =>
    rw [Finset.sum_insert hi, Finset.sum_insert hi, ← ih]
    obtain ⟨t, ht⟩ := IsReal.sum s f h
    obtain ⟨r, hr⟩ := h i
    obtain ⟨q, rfl⟩ := ha
    rw [ht, hr, ← EReal.coe_add, ← EReal.coe_mul, ← EReal.coe_mul, ← EReal.coe_mul, ← EReal.coe_add, mul_add]

/-- Half the gate times each chunk's sum, added up, is the gate times half the sum over all columns. -/
theorem chunks_eq (g h : EReal) (T : Fin 5632 → EReal) (hg : IsReal g) (hh : IsReal h) (hT : ∀ j, IsReal (T j)) :
    ∑ f ∈ Finset.range 11, h * g * ∑ j : Fin 512, T (col f j) = g * (h * ∑ j, T j) := by
  rw [← mul_sum_real _ _ _ (hh.mul hg) (fun f => IsReal.sum _ _ fun j => hT (col f j)), sum_chunks, mul_comm h g, mul_assoc]

end Cert.FfnMath

end
-- ==== Proof.FfnChunk.lean ====
/-
  One step of the feed-forward kernel on a tile of rows: the gated products of a chunk of 512 inner columns, their product
  with the chunk's rows of the last weights, and what the step adds to the tile.
-/
module

public import proofs.«01_k».proof.Proof.Gen.FfnIdeal.Frame
public import proofs.«01_k».proof.Proof.FfnMath

@[expose] public section

set_option maxRecDepth 16384

noncomputable section

namespace Cert.FfnIdeal.Chunk

open Idealize.ShloMosaic Idealize.ShloMosaic.TcCoe Cert.FfnIdeal Cert.FfnIdeal.Gen Cert.FfnMath

/-- The chunk's share of a row, before the gate. -/
def share (x : Fin 2048 → EReal) (wg wu : FVec Ideal S2048x512 .bf16) (wd : FVec Ideal S512x2048 .bf16) (n : Fin 2048) : EReal :=
  ∑ j : Fin 512, term x (fun k j => wg (ix2 k j)) (fun k j => wu (ix2 k j)) (fun j => wd (ix2 j n)) j

/-- Half the gate at a column. -/
def half (v : FVec Ideal S1x1x1x1x2048 .f32) (n : Fin 2048) : EReal := Ideal.ofBits .f32 0x3F000000#32 * v (ix5 0 0 0 0 n)

/-- The step on the whole tile. -/
theorem pay4_apply (v0 : FVec Ideal S1x1x1x1x2048 .f32) (o : FVec Ideal S1024x2048 .f32) (xm : FVec Ideal S1024x2048 .bf16)
    (wg wu : FVec Ideal S2048x512 .bf16) (wd : FVec Ideal S512x2048 .bf16) (a : Fin 1024) (n : Fin 2048) :
    k0_pay4 (F := Ideal) v0 o xm wg wu wd (ix2 a n) =
      o (ix2 a n) + half v0 n * share (fun k => xm (ix2 a k)) wg wu wd n := by
  unfold k0_pay4 half share term gated
  pointwise [k0_pay1]

/-- A slab of 256 rows after scale and shift, as the first slab writes it. -/
theorem pay9_apply (sc sh : FVec Ideal S1x1x1x1x2048 .f32) (x : FVec Ideal S256x2048 .f32) (a : Fin 256) (k : Fin 2048) :
    k0_pay9 (F := Ideal) sc sh x (ix2 a k) = mixed (x (ix2 a k)) (sc (ix5 0 0 0 0 k)) (sh (ix5 0 0 0 0 k)) := by
  unfold k0_pay9 mixed
  pointwise [k0_pay6, k0_pay7, k0_pay8]

theorem pay14_eq (sc sh : FVec Ideal S1x1x1x1x2048 .f32) (x : FVec Ideal S256x2048 .f32) :
    k0_pay14 (F := Ideal) (k0_pay6 sc) (k0_pay7 sh) x = k0_pay9 sc sh x := rfl

theorem pay17_eq (sc sh : FVec Ideal S1x1x1x1x2048 .f32) (x : FVec Ideal S256x2048 .f32) :
    k0_pay17 (F := Ideal) (k0_pay6 sc) (k0_pay7 sh) x = k0_pay9 sc sh x := rfl

theorem pay20_eq (sc sh : FVec Ideal S1x1x1x1x2048 .f32) (x : FVec Ideal S256x2048 .f32) :
    k0_pay2 (F := Ideal) (k0_pay20 (k0_pay6 sc) (k0_pay7 sh) x) = k0_pay9 sc sh x := rfl

/-- A slab's share of the chunk. -/
theorem pay11_apply (xm : FVec Ideal S256x2048 .bf16) (wg wu : FVec Ideal S2048x512 .bf16) (wd : FVec Ideal S512x2048 .bf16)
    (a : Fin 256) (n : Fin 2048) : k0_pay11 (F := Ideal) xm wg wu wd (ix2 a n) = share (fun k => xm (ix2 a k)) wg wu wd n := by
  unfold k0_pay11 share term gated
  pointwise

/-- A slab of the first step. -/
def opened (v0 : FVec Ideal S1x1x1x1x2048 .f32) (x : FVec Ideal S256x2048 .f32) (y : FVec Ideal S256x2048 .f32) : FVec Ideal S256x2048 .f32 :=
  k0_pay12 (F := Ideal) (k0_pay1 v0) (k0_pay10 x) y

theorem opened_apply (v0 : FVec Ideal S1x1x1x1x2048 .f32) (x : FVec Ideal S256x2048 .f32) (y : FVec Ideal S256x2048 .f32) (a : Fin 256) (n : Fin 2048) :
    opened v0 x y (ix2 a n) = Ideal.ofBits .f32 0x3FB504F3#32 * x (ix2 a n) + half v0 n * y (ix2 a n) := by
  unfold opened half k0_pay12
  pointwise [k0_pay1, k0_pay10, k0_pay8]

theorem pay15_eq (v0 : FVec Ideal S1x1x1x1x2048 .f32) (x : FVec Ideal S256x2048 .f32) (xm : FVec Ideal S256x2048 .bf16)
    (wg wu : FVec Ideal S2048x512 .bf16) (wd : FVec Ideal S512x2048 .bf16) :
    k0_pay15 (F := Ideal) (k0_pay1 v0) x xm wg wu wd = opened v0 x (k0_pay11 xm wg wu wd) := rfl

theorem pay18_eq (v0 : FVec Ideal S1x1x1x1x2048 .f32) (x : FVec Ideal S256x2048 .f32) (xm : FVec Ideal S256x2048 .bf16)
    (wg wu : FVec Ideal S2048x512 .bf16) (wd : FVec Ideal S512x2048 .bf16) :
    k0_pay18 (F := Ideal) (k0_pay1 v0) x xm wg wu wd = opened v0 x (k0_pay11 xm wg wu wd) := rfl

theorem pay3_eq (v0 : FVec Ideal S1x1x1x1x2048 .f32) (x : FVec Ideal S256x2048 .f32) (xm : FVec Ideal S256x2048 .bf16)
    (wg wu : FVec Ideal S2048x512 .bf16) (wd : FVec Ideal S512x2048 .bf16) :
    k0_pay3 (F := Ideal) v0 (k0_pay19 x) xm wg wu wd = opened v0 x (k0_pay11 xm wg wu wd) := rfl

end Cert.FfnIdeal.Chunk

end
-- ==== Proof.FfnNorm.lean ====
/-
  The feed-forward kernel's last step on a slab of 256 rows: the last chunk added, then the layer norm.
-/
module

public import proofs.«01_k».proof.Proof.FfnChunk

@[expose] public section

set_option maxRecDepth 16384

noncomputable section

namespace Cert.FfnIdeal.Chunk

open Idealize.ShloMosaic Idealize.ShloMosaic.TcCoe Cert.FfnIdeal Cert.FfnIdeal.Gen Cert.FfnMath

/-- The slab with the last chunk added. -/
def added (v0 : FVec Ideal S1x1x1x1x2048 .f32) (o : FVec Ideal S256x2048 .f32) (y : FVec Ideal S256x2048 .f32) : FVec Ideal S256x2048 .f32 :=
  k0_pay12 (F := Ideal) (k0_pay1 v0) (shapeCast S256x2048 o shapeCasts_S256x2048_S256x2048) y

theorem added_apply (v0 : FVec Ideal S1x1x1x1x2048 .f32) (o : FVec Ideal S256x2048 .f32) (y : FVec Ideal S256x2048 .f32) (a : Fin 256) (n : Fin 2048) :
    added v0 o y (ix2 a n) = o (ix2 a n) + half v0 n * y (ix2 a n) := by
  unfold added half k0_pay12
  pointwise [k0_pay1]

/-- Each row's sum. -/
def sums (z : FVec Ideal S256x2048 .f32) : FVec Ideal S256 .f32 :=
  multiReduction .add [1] S256 z 0x00000000#32 reduces_S256x2048_S256 (.inl rfl) rfl

/-- A row with a column's number put back. -/
theorem lift_row (a : Fin 256) (k : Fin 2048) : reduces_S256x2048_S256.lift (ix1 a) k = ix2 a k := by
  funext c; apply Fin.ext
  fin_cases c <;> rfl

theorem sums_apply (z : FVec Ideal S256x2048 .f32) (a : Fin 256) : sums z (ix1 a) = ∑ k : Fin 2048, z (ix2 a k) := by
  unfold sums
  refine (Ideal.multiReduction_add_single z _ reduces_S256x2048_S256 _ _ (ix1 a)).trans ?_
  exact Finset.sum_congr rfl fun k _ => congrArg z (lift_row a k)

/-- Each row's mean. -/
def means (s : FVec Ideal S256 .f32) : FVec Ideal S256x1 .f32 :=
  divf (shapeCast S256x1 s shapeCasts_S256_S256x1) (broadcast S256x1 (Scalar.ofBits (F := Ideal) .f32 0x45000000#32))

theorem means_apply (z : FVec Ideal S256x2048 .f32) (a : Fin 256) : means (sums z) (ix2 a 0) = mean fun k => z (ix2 a k) := by
  unfold mean
  rw [← sums_apply]
  unfold means
  pointwise

/-- Each row less its mean. -/
def centred (z : FVec Ideal S256x2048 .f32) (m : FVec Ideal S256x1 .f32) : FVec Ideal S256x2048 .f32 :=
  subf z (broadcastTo S256x2048 m broadcasts_S256x1_S256x2048)

theorem centred_apply (z : FVec Ideal S256x2048 .f32) (m : FVec Ideal S256x1 .f32) (a : Fin 256) (n : Fin 2048) :
    centred z m (ix2 a n) = z (ix2 a n) - m (ix2 a 0) := by
  unfold centred
  pointwise

/-- The norm from the centred rows and their mean squares. -/
def scaled (g b : FVec Ideal S1x1x1x2048 .f32) (d : FVec Ideal S256x2048 .f32) (v : FVec Ideal S256x1 .f32) : FVec Ideal S256x2048 .f32 :=
  k0_pay25 (F := Ideal) (k0_pay21 g) (k0_pay22 b) d v (FloatOps.ofBits .f32 0x3727C5AC#32)

theorem scaled_apply (g b : FVec Ideal S1x1x1x2048 .f32) (d : FVec Ideal S256x2048 .f32) (v : FVec Ideal S256x1 .f32) (a : Fin 256) (n : Fin 2048) :
    scaled g b d v (ix2 a n) = d (ix2 a n) * Ideal.rsqrt (v (ix2 a 0) + Ideal.ofBits .f32 0x3727C5AC#32) * g (ix4 0 0 0 n) + b (ix4 0 0 0 n) := by
  unfold scaled k0_pay25
  pointwise [k0_pay21, k0_pay22]

/-- The slab as the last step leaves it. -/
def closed (g b : FVec Ideal S1x1x1x2048 .f32) (z : FVec Ideal S256x2048 .f32) : FVec Ideal S256x2048 .f32 :=
  scaled g b (centred z (means (sums z))) (means (sums (mulf (centred z (means (sums z))) (centred z (means (sums z))))))

theorem closed_apply (g b : FVec Ideal S1x1x1x2048 .f32) (z : FVec Ideal S256x2048 .f32) (a : Fin 256) (n : Fin 2048) :
    closed g b z (ix2 a n) = rowNorm (fun k => z (ix2 a k)) (g (ix4 0 0 0 n)) (b (ix4 0 0 0 n)) n := by
  unfold closed rowNorm
  rw [scaled_apply, centred_apply, means_apply, means_apply]
  have h : ∀ k : Fin 2048, (mulf (centred z (means (sums z))) (centred z (means (sums z))) : FVec Ideal S256x2048 .f32) (ix2 a k) =
      (z (ix2 a k) - mean fun k => z (ix2 a k)) * (z (ix2 a k) - mean fun k => z (ix2 a k)) := fun k => by
    rw [← means_apply z a, ← centred_apply]; rfl
  rw [funext h]

variable (g b : FVec Ideal S1x1x1x2048 .f32) (v0 : FVec Ideal S1x1x1x1x2048 .f32) (o : FVec Ideal S256x2048 .f32) (xm : FVec Ideal S256x2048 .bf16)
  (wg wu : FVec Ideal S2048x512 .bf16) (wd : FVec Ideal S512x2048 .bf16)

/-- The four slabs write the same term. -/
theorem slab0_eq : k0_pay25 (F := Ideal) (k0_pay21 g) (k0_pay22 b) (k0_pay23 (k0_pay1 v0) o xm wg wu wd) (k0_pay24 (k0_pay1 v0) o xm wg wu wd)
    (FloatOps.ofBits .f32 0x3727C5AC#32) = closed g b (added v0 o (k0_pay11 xm wg wu wd)) := rfl

theorem slab1_eq : k0_pay28 (F := Ideal) (k0_pay21 g) (k0_pay22 b) (k0_pay26 (k0_pay1 v0) o xm wg wu wd) (k0_pay27 (k0_pay1 v0) o xm wg wu wd)
    = closed g b (added v0 o (k0_pay11 xm wg wu wd)) := rfl

theorem slab2_eq : k0_pay32 (F := Ideal) (k0_pay21 g) (k0_pay22 b) (k0_pay29 (k0_pay1 v0) o xm wg wu wd) (k0_pay30 (k0_pay1 v0) o xm wg wu wd)
    k0_pay31 = closed g b (added v0 o (k0_pay11 xm wg wu wd)) := rfl

theorem slab3_eq : k0_pay5 (F := Ideal) (k0_pay21 g) (k0_pay22 b) (k0_pay33 (k0_pay1 v0) o xm wg wu wd) (k0_pay34 (k0_pay1 v0) o xm wg wu wd)
    (FloatOps.ofBits .f32 0x45000000#32) = closed g b (added v0 o (k0_pay11 xm wg wu wd)) := rfl

end Cert.FfnIdeal.Chunk

end
-- ==== Proof.FfnBody.lean ====
/-
  What the feed-forward kernel's body leaves at a point, by the case of the point: first, inner or last chunk.
-/
module

public import proofs.«01_k».proof.Proof.FfnNorm
public import Idealize.ShloMosaic.Lib.Pipeline.Value
public import Idealize.ShloMosaic.Lib.Tactic

@[expose] public section

set_option maxRecDepth 16384

noncomputable section

namespace Cert.FfnIdeal.Body

open Idealize.ShloMosaic Idealize.ShloMosaic.TcCoe Cert.FfnIdeal Cert.FfnIdeal.Gen Cert.FfnIdeal.Chunk Cert.FfnMath

variable (x0 : Vec Ideal S1024x2048 .f32) (x1 x2 x3 : Vec Ideal S1x1x1x1x2048 .f32) (x4 x5 : Vec Ideal S2048x512 .bf16)
  (x6 : Vec Ideal S512x2048 .bf16) (x7 x8 : Vec Ideal S1x1x1x2048 .f32) (xo9 : Vec Ideal S1024x2048 .f32) (xs0 : Vec Ideal S1024x2048 .bf16)

/-- The tile after scale and shift. -/
def kept : Vec Ideal S1024x2048 .bf16 := fun y => mixed (x0 y) (x2 (ix5 0 0 0 0 (y 1))) (x1 (ix5 0 0 0 0 (y 1)))

/-- A chunk's share of the tile `xs`, times half the gate. -/
def step (xs : Vec Ideal S1024x2048 .bf16) : Vec Ideal S1024x2048 .f32 := fun y =>
  half x3 (y 1) * share (fun k => xs (ix2 (y 0) k)) x4 x5 x6 (y 1)

/-- The tile after the first chunk. -/
def first : Vec Ideal S1024x2048 .f32 := fun y => Ideal.ofBits .f32 0x3FB504F3#32 * x0 y + step x3 x4 x5 x6 (kept x0 x1 x2) y

/-- The tile after an inner chunk. -/
def inner : Vec Ideal S1024x2048 .f32 := fun y => xo9 y + step x3 x4 x5 x6 xs0 y

/-- The tile after the last chunk, normed. -/
def last : Vec Ideal S1024x2048 .f32 := fun y =>
  rowNorm (fun k => xo9 (ix2 (y 0) k) + step x3 x4 x5 x6 xs0 (ix2 (y 0) k)) (x7 (ix4 0 0 0 (y 1))) (x8 (ix4 0 0 0 (y 1))) (y 1)

/-- Row `a` of the slab at `o` is the tile's row `o + a`. -/
theorem emb_slab (o : ℕ) (inb : ∀ a, (![o, 0] : Fin 2 → ℕ) a + S256x2048.size a ≤ S1024x2048.size a) (a : Fin 256) (n : Fin 2048)
    (r : Fin 1024) (hr : r.val = o + a.val) :
    ((Rect.unit (s := S1024x2048) ![o, 0] S256x2048.size inb).emb (ix2 a n) : S1024x2048.Idx) = ix2 r n := by
  funext d
  apply Fin.ext
  match d with
  | ⟨0, _⟩ => show o + 1 * a.val = r.val; omega
  | ⟨1, _⟩ => show 0 + 1 * n.val = n.val; omega

/-- A slab read at a row and a column. -/
theorem ld_slab {e : EltTy} (X : Vec Ideal S1024x2048 e) (o : ℕ) (inb : ∀ a, (![o, 0] : Fin 2 → ℕ) a + S256x2048.size a ≤ S1024x2048.size a)
    (a : Fin 256) (n : Fin 2048) (r : Fin 1024) (hr : r.val = o + a.val) :
    (View.ld X (Rect.unit (s := S1024x2048) ![o, 0] S256x2048.size inb)) (ix2 a n) = X (ix2 r n) :=
  congrArg X (emb_slab o inb a n r hr)

theorem row_lt (o : ℕ) (inb : ∀ a, (![o, 0] : Fin 2 → ℕ) a + S256x2048.size a ≤ S1024x2048.size a) (a : Fin 256) : o + a.val < 1024 := by
  have h : o + 256 ≤ 1024 := inb 0
  omega

/-- The slab at `o` after scale and shift is the kept tile there. -/
theorem kept_slab (o : ℕ) (inb : ∀ a, (![o, 0] : Fin 2 → ℕ) a + S256x2048.size a ≤ S1024x2048.size a) (x : S256x2048.Idx) :
    k0_pay9 (F := Ideal) x2 x1 (View.ld x0 (Rect.unit (s := S1024x2048) ![o, 0] S256x2048.size inb)) x =
      kept x0 x1 x2 ((Rect.unit (s := S1024x2048) ![o, 0] S256x2048.size inb).emb x) := by
  obtain ⟨a, n, rfl⟩ : ∃ (a : Fin 256) (n : Fin 2048), x = ix2 a n := ⟨x 0, x 1, funext fun k => by fin_cases k <;> rfl⟩
  rw [pay9_apply, emb_slab o inb a n ⟨o + a.val, row_lt o inb a⟩ rfl, ld_slab x0 o inb a n ⟨o + a.val, row_lt o inb a⟩ rfl]
  rfl

/-- The slab at `o` of the first step. -/
theorem first_slab (o : ℕ) (inb : ∀ a, (![o, 0] : Fin 2 → ℕ) a + S256x2048.size a ≤ S1024x2048.size a) (x : S256x2048.Idx) :
    opened x3 (View.ld x0 (Rect.unit (s := S1024x2048) ![o, 0] S256x2048.size inb))
        (k0_pay11 (F := Ideal) (k0_pay9 (F := Ideal) x2 x1 (View.ld x0 (Rect.unit (s := S1024x2048) ![o, 0] S256x2048.size inb))) x4 x5 x6) x =
      first x0 x1 x2 x3 x4 x5 x6 ((Rect.unit (s := S1024x2048) ![o, 0] S256x2048.size inb).emb x) := by
  obtain ⟨a, n, rfl⟩ : ∃ (a : Fin 256) (n : Fin 2048), x = ix2 a n := ⟨x 0, x 1, funext fun k => by fin_cases k <;> rfl⟩
  rw [opened_apply, pay11_apply, emb_slab o inb a n ⟨o + a.val, row_lt o inb a⟩ rfl, ld_slab x0 o inb a n ⟨o + a.val, row_lt o inb a⟩ rfl]
  have h : (fun k => k0_pay9 (F := Ideal) x2 x1 (View.ld x0 (Rect.unit (s := S1024x2048) ![o, 0] S256x2048.size inb)) (ix2 a k)) =
      fun k => kept x0 x1 x2 (ix2 (⟨o + a.val, row_lt o inb a⟩ : Fin 1024) k) := funext fun k => by
    rw [kept_slab, emb_slab o inb a k ⟨o + a.val, row_lt o inb a⟩ rfl]
  rw [h]
  rfl

/-- The slab at `o` of the last step. -/
theorem last_slab (o : ℕ) (inb : ∀ a, (![o, 0] : Fin 2 → ℕ) a + S256x2048.size a ≤ S1024x2048.size a) (x : S256x2048.Idx) :
    closed x7 x8 (added x3 (View.ld xo9 (Rect.unit (s := S1024x2048) ![o, 0] S256x2048.size inb))
        (k0_pay11 (F := Ideal) (View.ld xs0 (Rect.unit (s := S1024x2048) ![o, 0] S256x2048.size inb)) x4 x5 x6)) x =
      last x3 x4 x5 x6 x7 x8 xo9 xs0 ((Rect.unit (s := S1024x2048) ![o, 0] S256x2048.size inb).emb x) := by
  obtain ⟨a, n, rfl⟩ : ∃ (a : Fin 256) (n : Fin 2048), x = ix2 a n := ⟨x 0, x 1, funext fun k => by fin_cases k <;> rfl⟩
  rw [closed_apply, emb_slab o inb a n ⟨o + a.val, row_lt o inb a⟩ rfl]
  have h : (fun k => added x3 (View.ld xo9 (Rect.unit (s := S1024x2048) ![o, 0] S256x2048.size inb))
        (k0_pay11 (F := Ideal) (View.ld xs0 (Rect.unit (s := S1024x2048) ![o, 0] S256x2048.size inb)) x4 x5 x6) (ix2 a k)) =
      fun k => xo9 (ix2 (⟨o + a.val, row_lt o inb a⟩ : Fin 1024) k) + step x3 x4 x5 x6 xs0 (ix2 (⟨o + a.val, row_lt o inb a⟩ : Fin 1024) k) :=
    funext fun k => by
      rw [added_apply, pay11_apply, ld_slab xo9 o inb a k ⟨o + a.val, row_lt o inb a⟩ rfl,
        funext fun k => ld_slab xs0 o inb a k ⟨o + a.val, row_lt o inb a⟩ rfl]
      rfl
  rw [h]
  rfl

/-- The inner step over the whole tile. -/
theorem inner_whole (inb : ∀ a, (![0, 0] : Fin 2 → ℕ) a + S1024x2048.size a ≤ S1024x2048.size a) (x : S1024x2048.Idx) :
    k0_pay4 (F := Ideal) x3 xo9 xs0 x4 x5 x6 x = inner x3 x4 x5 x6 xo9 xs0 ((Rect.unit (s := S1024x2048) ![0, 0] S1024x2048.size inb).emb x) := by
  obtain ⟨a, n, rfl⟩ : ∃ (a : Fin 1024) (n : Fin 2048), x = ix2 a n := ⟨x 0, x 1, funext fun k => by fin_cases k <;> rfl⟩
  refine (pay4_apply x3 xo9 xs0 x4 x5 x6 a n).trans ?_
  have e : ((Rect.unit (s := S1024x2048) ![0, 0] S1024x2048.size inb).emb (ix2 a n) : S1024x2048.Idx) = ix2 a n := by
    funext d
    apply Fin.ext
    match d with
    | ⟨0, _⟩ => show 0 + 1 * a.val = a.val; omega
    | ⟨1, _⟩ => show 0 + 1 * n.val = n.val; omega
  rw [e]
  rfl

variable (c : Dev nD) (i : grid0.Coords) (arg2 : Memref sig .tc .vmem S1024x2048 .f32) (harg2 : arg2.IsWhole) (arg3 : Memref sig .tc .vmem S1x1x1x1x2048 .f32)
  (harg3 : arg3.IsWhole) (arg4 : Memref sig .tc .vmem S1x1x1x1x2048 .f32) (harg4 : arg4.IsWhole) (arg5 : Memref sig .tc .vmem S1x1x1x1x2048 .f32)
  (harg5 : arg5.IsWhole) (arg6 : Memref sig .tc .vmem S2048x512 .bf16) (harg6 : arg6.IsWhole) (arg7 : Memref sig .tc .vmem S2048x512 .bf16)
  (harg7 : arg7.IsWhole) (arg8 : Memref sig .tc .vmem S512x2048 .bf16) (harg8 : arg8.IsWhole) (arg9 : Memref sig .tc .vmem S1x1x1x2048 .f32)
  (harg9 : arg9.IsWhole) (arg10 : Memref sig .tc .vmem S1x1x1x2048 .f32) (harg10 : arg10.IsWhole) (arg11 : Memref sig .tc .vmem S1024x2048 .f32)
  (harg11 : arg11.IsWhole) (arg12 : Memref sig .tc .vmem S1024x2048 .bf16) (harg12 : arg12.IsWhole)

theorem hz5 : (![0, 0, 0, 0, 0] : Fin 5 → ℕ) = fun _ => 0 := funext fun a => by fin_cases a <;> rfl

theorem hz4 : (![0, 0, 0, 0] : Fin 4 → ℕ) = fun _ => 0 := funext fun a => by fin_cases a <;> rfl

theorem hz2 : (![0, 0] : Fin 2 → ℕ) = fun _ => 0 := funext fun a => by fin_cases a <;> rfl

set_option maxHeartbeats 4000000 in
/-- After the first chunk. -/
theorem out_A (hc0 : cond0_0 i) (hc1 : ¬cond0_1 i) (hc2 : ¬cond0_2 i) :
    out0_A_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 = first x0 x1 x2 x3 x4 x5 x6 := by
  have hcov := cover0_A_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8
  unfold out0_A_9
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.readCov_cons_toLoadRect, View.ld_unit_zero (S := S1x1x1x1x2048) hz5, View.ld_unit_zero (S := S1x1x1x2048) hz4,
    View.ld_unit_zero (S := S2048x512) hz2, View.ld_unit_zero (S := S512x2048) hz2, View.ld_unit_zero (S := S1024x2048) hz2,
    pay14_eq, pay17_eq, pay20_eq, pay15_eq, pay18_eq, pay3_eq, slab0_eq, slab1_eq, slab2_eq, slab3_eq, List.forall_mem_cons]
  have key := first_slab x0 x1 x2 x3 x4 x5 x6
  exact ⟨key _ _, key _ _, key _ _, key _ _, fun _ h => absurd h List.not_mem_nil⟩

set_option maxHeartbeats 4000000 in
/-- What is kept for the chunks after the first. -/
theorem sout_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 = kept x0 x1 x2 := by
  have hcov := scover0_A_0 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8
  unfold sout0_A_0
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.readCov_cons_toLoadRect, View.ld_unit_zero (S := S1x1x1x1x2048) hz5, View.ld_unit_zero (S := S1x1x1x2048) hz4,
    View.ld_unit_zero (S := S2048x512) hz2, View.ld_unit_zero (S := S512x2048) hz2, View.ld_unit_zero (S := S1024x2048) hz2,
    pay14_eq, pay17_eq, pay20_eq, pay15_eq, pay18_eq, pay3_eq, slab0_eq, slab1_eq, slab2_eq, slab3_eq, List.forall_mem_cons]
  have key := kept_slab x0 x1 x2
  exact ⟨key _ _, key _ _, key _ _, key _ _, fun _ h => absurd h List.not_mem_nil⟩

set_option maxHeartbeats 4000000 in
/-- After an inner chunk. -/
theorem out_B (hc0 : ¬cond0_0 i) (hc1 : cond0_1 i) (hc2 : ¬cond0_2 i) :
    out0_B_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 = inner x3 x4 x5 x6 xo9 xs0 := by
  have hcov := cover0_B_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0
  unfold out0_B_9
  rw [View.read_writes_eq_canon _ _ _ hcov]
  funext y
  refine View.canon_apply_of_pieces _ _ ?_ y (hcov y)
  clear hcov
  unfold kernelRun0_B
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.readCov_cons_toLoadRect, View.ld_unit_zero (S := S1x1x1x1x2048) hz5, View.ld_unit_zero (S := S1x1x1x2048) hz4,
    View.ld_unit_zero (S := S2048x512) hz2, View.ld_unit_zero (S := S512x2048) hz2, View.ld_unit_zero (S := S1024x2048) hz2,
    pay14_eq, pay17_eq, pay20_eq, pay15_eq, pay18_eq, pay3_eq, slab0_eq, slab1_eq, slab2_eq, slab3_eq, List.forall_mem_cons]
  exact ⟨inner_whole x3 x4 x5 x6 xo9 xs0 _, fun _ h => absurd h List.not_mem_nil⟩

set_option maxHeartbeats 4000000 in
/-- After the last chunk. -/
theorem out_C (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0 = last x3 x4 x5 x6 x7 x8 xo9 xs0 := by
  have hcov := cover0_C_9 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 x6 x7 x8 xo9 xs0
  unfold out0_C_9
  rw [View.read_writes_eq_canon _ _ _ hcov]
  funext y
  refine View.canon_apply_of_pieces _ _ ?_ y (hcov y)
  clear hcov
  unfold kernelRun0_C
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.readCov_cons_toLoadRect, View.ld_unit_zero (S := S1x1x1x1x2048) hz5, View.ld_unit_zero (S := S1x1x1x2048) hz4,
    View.ld_unit_zero (S := S2048x512) hz2, View.ld_unit_zero (S := S512x2048) hz2, View.ld_unit_zero (S := S1024x2048) hz2,
    pay14_eq, pay17_eq, pay20_eq, pay15_eq, pay18_eq, pay3_eq, slab0_eq, slab1_eq, slab2_eq, slab3_eq, List.forall_mem_cons]
  have key := last_slab x3 x4 x5 x6 x7 x8 xo9 xs0
  exact ⟨key _ _, key _ _, key _ _, key _ _, fun _ h => absurd h List.not_mem_nil⟩

end Cert.FfnIdeal.Body

end
-- ==== Proof.FfnWindows.lean ====
/-
  The feed-forward kernel's blocks, read from the arrays they are staged from: point `t` is (tile of rows `t / 11`, chunk
  of inner columns `t % 11`), and the tile lies in batch `t / 88`.
-/
module

public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Windows

open Idealize.ShloMosaic Idealize.ShloMosaic.TcCoe Cert.FfnIdeal Cert.FfnIdeal.Gen

variable (m : (ℓ : Loc nD τ sig) → Buf (Elt Ideal) ℓ) (c : Dev nD)

/-- Where each window's block lies, by the point. -/
theorem idx : ∀ t : Fin grid0.N, win0_0.index t = ![t.val / 11, 0] ∧ win0_1.index t = ![1, t.val / 88, 6, 0, 0] ∧
    win0_2.index t = ![1, t.val / 88, 7, 0, 0] ∧ win0_3.index t = ![1, t.val / 88, 8, 0, 0] ∧ win0_4.index t = ![0, t.val % 11] ∧
    win0_5.index t = ![0, t.val % 11] ∧ win0_6.index t = ![t.val % 11, 0] ∧ win0_7.index t = ![1, 2, 0, 0] ∧
    win0_8.index t = ![1, 2, 0, 0] ∧ win0_9.index t = ![t.val / 11, 0] := by decide +kernel

theorem lt_N (t : Fin grid0.N) : t.val < 176 := lt_of_lt_of_eq t.isLt N_0

/-- The input's tile of rows. -/
theorem blk0 (t : Fin grid0.N) (a : Fin 1024) (n : Fin 2048) :
    (iblk m c 0 t : Vec Ideal S1024x2048 .f32) (ix2 a n) =
      (V m c main_v11 : Vec Ideal S16384x2048 .f32) (ix2 ⟨t.val / 11 * 1024 + a.val, by have := lt_N t; omega⟩ n) := by
  have e : win0_0.index t = ![t.val / 11, 0] := by have h := idx t; tauto
  have hi : (((cfg0.win 0).blk t).view.emb (ix2 a n) : S16384x2048.Idx) =
      (ix2 ⟨t.val / 11 * 1024 + a.val, by have := lt_N t; omega⟩ n : S16384x2048.Idx) := by
    funext d
    apply Fin.ext
    match d with
    | ⟨0, _⟩ => show win0_0.index t 0 * 1024 + 1 * a.val = t.val / 11 * 1024 + a.val; rw [e]; simp
    | ⟨1, _⟩ => show win0_0.index t 1 * 2048 + 1 * n.val = n.val; rw [e]; simp
  unfold iblk
  generalize V m c = W
  rw [View.read_apply]
  erw [hi]
  exact cast_eq _ _

/-- The batch's shift. -/
theorem blk1 (t : Fin grid0.N) (b : Fin 8) (hb : b.val = t.val / 88) (n : Fin 2048) :
    (iblk m c 1 t : Vec Ideal S1x1x1x1x2048 .f32) (ix5 0 0 0 0 n) =
      (V m c main_v1 : Vec Ideal S2x8x9x1x2048 .f32) (ix5 1 b 6 0 n) := by
  have e : win0_1.index t = ![1, b.val, 6, 0, 0] := by rw [hb]; have h := idx t; tauto
  have hi : (((cfg0.win 1).blk t).view.emb (ix5 0 0 0 0 n) : S2x8x9x1x2048.Idx) = (ix5 1 b 6 0 n : S2x8x9x1x2048.Idx) := by
    funext d
    apply Fin.ext
    match d with
    | ⟨0, _⟩ => show win0_1.index t 0 * 1 + 1 * 0 = 1; rw [e]; simp
    | ⟨1, _⟩ => show win0_1.index t 1 * 1 + 1 * 0 = b.val; rw [e]; simp
    | ⟨2, _⟩ => show win0_1.index t 2 * 1 + 1 * 0 = 6; rw [e]; simp
    | ⟨3, _⟩ => show win0_1.index t 3 * 1 + 1 * 0 = 0; rw [e]; simp
    | ⟨4, _⟩ => show win0_1.index t 4 * 2048 + 1 * n.val = n.val; rw [e]; simp
  unfold iblk
  generalize V m c = W
  rw [View.read_apply]
  erw [hi]
  exact cast_eq _ _

/-- The batch's scale. -/
theorem blk2 (t : Fin grid0.N) (b : Fin 8) (hb : b.val = t.val / 88) (n : Fin 2048) :
    (iblk m c 2 t : Vec Ideal S1x1x1x1x2048 .f32) (ix5 0 0 0 0 n) =
      (V m c main_v1 : Vec Ideal S2x8x9x1x2048 .f32) (ix5 1 b 7 0 n) := by
  have e : win0_2.index t = ![1, b.val, 7, 0, 0] := by rw [hb]; have h := idx t; tauto
  have hi : (((cfg0.win 2).blk t).view.emb (ix5 0 0 0 0 n) : S2x8x9x1x2048.Idx) = (ix5 1 b 7 0 n : S2x8x9x1x2048.Idx) := by
    funext d
    apply Fin.ext
    match d with
    | ⟨0, _⟩ => show win0_2.index t 0 * 1 + 1 * 0 = 1; rw [e]; simp
    | ⟨1, _⟩ => show win0_2.index t 1 * 1 + 1 * 0 = b.val; rw [e]; simp
    | ⟨2, _⟩ => show win0_2.index t 2 * 1 + 1 * 0 = 7; rw [e]; simp
    | ⟨3, _⟩ => show win0_2.index t 3 * 1 + 1 * 0 = 0; rw [e]; simp
    | ⟨4, _⟩ => show win0_2.index t 4 * 2048 + 1 * n.val = n.val; rw [e]; simp
  unfold iblk
  generalize V m c = W
  rw [View.read_apply]
  erw [hi]
  exact cast_eq _ _

/-- The batch's gate. -/
theorem blk3 (t : Fin grid0.N) (b : Fin 8) (hb : b.val = t.val / 88) (n : Fin 2048) :
    (iblk m c 3 t : Vec Ideal S1x1x1x1x2048 .f32) (ix5 0 0 0 0 n) =
      (V m c main_v1 : Vec Ideal S2x8x9x1x2048 .f32) (ix5 1 b 8 0 n) := by
  have e : win0_3.index t = ![1, b.val, 8, 0, 0] := by rw [hb]; have h := idx t; tauto
  have hi : (((cfg0.win 3).blk t).view.emb (ix5 0 0 0 0 n) : S2x8x9x1x2048.Idx) = (ix5 1 b 8 0 n : S2x8x9x1x2048.Idx) := by
    funext d
    apply Fin.ext
    match d with
    | ⟨0, _⟩ => show win0_3.index t 0 * 1 + 1 * 0 = 1; rw [e]; simp
    | ⟨1, _⟩ => show win0_3.index t 1 * 1 + 1 * 0 = b.val; rw [e]; simp
    | ⟨2, _⟩ => show win0_3.index t 2 * 1 + 1 * 0 = 8; rw [e]; simp
    | ⟨3, _⟩ => show win0_3.index t 3 * 1 + 1 * 0 = 0; rw [e]; simp
    | ⟨4, _⟩ => show win0_3.index t 4 * 2048 + 1 * n.val = n.val; rw [e]; simp
  unfold iblk
  generalize V m c = W
  rw [View.read_apply]
  erw [hi]
  exact cast_eq _ _

/-- The chunk of the gate weights. -/
theorem blk4 (t : Fin grid0.N) (k : Fin 2048) (j : Fin 512) (q : Fin 5632) (hq : q.val = 512 * (t.val % 11) + j.val) :
    (iblk m c 4 t : Vec Ideal S2048x512 .bf16) (ix2 k j) = (V m c main_v4 : Vec Ideal S2048x5632 .bf16) (ix2 k q) := by
  have e : win0_4.index t = ![0, t.val % 11] := by have h := idx t; tauto
  have hi : (((cfg0.win 4).blk t).view.emb (ix2 k j) : S2048x5632.Idx) = (ix2 k q : S2048x5632.Idx) := by
    funext d
    apply Fin.ext
    match d with
    | ⟨0, _⟩ => show win0_4.index t 0 * 2048 + 1 * k.val = k.val; rw [e]; simp
    | ⟨1, _⟩ => show win0_4.index t 1 * 512 + 1 * j.val = q.val; rw [e, hq]; simp [mul_comm]
  unfold iblk
  generalize V m c = W
  rw [View.read_apply]
  erw [hi]
  exact cast_eq _ _

/-- The chunk of the other weights. -/
theorem blk5 (t : Fin grid0.N) (k : Fin 2048) (j : Fin 512) (q : Fin 5632) (hq : q.val = 512 * (t.val % 11) + j.val) :
    (iblk m c 5 t : Vec Ideal S2048x512 .bf16) (ix2 k j) = (V m c main_v7 : Vec Ideal S2048x5632 .bf16) (ix2 k q) := by
  have e : win0_5.index t = ![0, t.val % 11] := by have h := idx t; tauto
  have hi : (((cfg0.win 5).blk t).view.emb (ix2 k j) : S2048x5632.Idx) = (ix2 k q : S2048x5632.Idx) := by
    funext d
    apply Fin.ext
    match d with
    | ⟨0, _⟩ => show win0_5.index t 0 * 2048 + 1 * k.val = k.val; rw [e]; simp
    | ⟨1, _⟩ => show win0_5.index t 1 * 512 + 1 * j.val = q.val; rw [e, hq]; simp [mul_comm]
  unfold iblk
  generalize V m c = W
  rw [View.read_apply]
  erw [hi]
  exact cast_eq _ _

/-- The chunk of the last weights. -/
theorem blk6 (t : Fin grid0.N) (j : Fin 512) (n : Fin 2048) (q : Fin 5632) (hq : q.val = 512 * (t.val % 11) + j.val) :
    (iblk m c 6 t : Vec Ideal S512x2048 .bf16) (ix2 j n) = (V m c main_v10 : Vec Ideal S5632x2048 .bf16) (ix2 q n) := by
  have e : win0_6.index t = ![t.val % 11, 0] := by have h := idx t; tauto
  have hi : (((cfg0.win 6).blk t).view.emb (ix2 j n) : S5632x2048.Idx) = (ix2 q n : S5632x2048.Idx) := by
    funext d
    apply Fin.ext
    match d with
    | ⟨0, _⟩ => show win0_6.index t 0 * 512 + 1 * j.val = q.val; rw [e, hq]; simp [mul_comm]
    | ⟨1, _⟩ => show win0_6.index t 1 * 2048 + 1 * n.val = n.val; rw [e]; simp
  unfold iblk
  generalize V m c = W
  rw [View.read_apply]
  erw [hi]
  exact cast_eq _ _

/-- The norm's factors. -/
theorem blk7 (t : Fin grid0.N) (n : Fin 2048) :
    (iblk m c 7 t : Vec Ideal S1x1x1x2048 .f32) (ix4 0 0 0 n) = (V m c main_v12 : Vec Ideal S2x3x1x2048 .f32) (ix4 1 2 0 n) := by
  have e : win0_7.index t = ![1, 2, 0, 0] := by have h := idx t; tauto
  have hi : (((cfg0.win 7).blk t).view.emb (ix4 0 0 0 n) : S2x3x1x2048.Idx) = (ix4 1 2 0 n : S2x3x1x2048.Idx) := by
    funext d
    apply Fin.ext
    match d with
    | ⟨0, _⟩ => show win0_7.index t 0 * 1 + 1 * 0 = 1; rw [e]; simp
    | ⟨1, _⟩ => show win0_7.index t 1 * 1 + 1 * 0 = 2; rw [e]; simp
    | ⟨2, _⟩ => show win0_7.index t 2 * 1 + 1 * 0 = 0; rw [e]; simp
    | ⟨3, _⟩ => show win0_7.index t 3 * 2048 + 1 * n.val = n.val; rw [e]; simp
  unfold iblk
  generalize V m c = W
  rw [View.read_apply]
  erw [hi]
  exact cast_eq _ _

/-- The norm's offsets. -/
theorem blk8 (t : Fin grid0.N) (n : Fin 2048) :
    (iblk m c 8 t : Vec Ideal S1x1x1x2048 .f32) (ix4 0 0 0 n) = (V m c main_v13 : Vec Ideal S2x3x1x2048 .f32) (ix4 1 2 0 n) := by
  have e : win0_8.index t = ![1, 2, 0, 0] := by have h := idx t; tauto
  have hi : (((cfg0.win 8).blk t).view.emb (ix4 0 0 0 n) : S2x3x1x2048.Idx) = (ix4 1 2 0 n : S2x3x1x2048.Idx) := by
    funext d
    apply Fin.ext
    match d with
    | ⟨0, _⟩ => show win0_8.index t 0 * 1 + 1 * 0 = 1; rw [e]; simp
    | ⟨1, _⟩ => show win0_8.index t 1 * 1 + 1 * 0 = 2; rw [e]; simp
    | ⟨2, _⟩ => show win0_8.index t 2 * 1 + 1 * 0 = 0; rw [e]; simp
    | ⟨3, _⟩ => show win0_8.index t 3 * 2048 + 1 * n.val = n.val; rw [e]; simp
  unfold iblk
  generalize V m c = W
  rw [View.read_apply]
  erw [hi]
  exact cast_eq _ _

end Cert.FfnIdeal.Windows

end
-- ==== Proof.FfnHost.lean ====
/-
  The arrays the feed-forward kernel is handed, at an index of the arguments: the host lines before the launch cut the
  layer's weights out, give the modulation an axis for its nine rows, and join batch and position.
-/
module

public import proofs.«01_k».proof.Proof.Gen.FfnIdeal.Frame
public import Idealize.ShloMosaic.Lib.Pointwise
public import Idealize.ShloMosaic.Lib.StableHlo.Run
public import Idealize.ShloMosaic.Lib.Tactic

@[expose] public section

set_option maxRecDepth 16384

noncomputable section

namespace Cert.FfnIdeal.Host

open Idealize.ShloMosaic Idealize.ShloMosaic.TcCoe Cert.FfnIdeal Cert.FfnIdeal.Gen

variable (m : (ℓ : Loc nD τ sig) → Buf (Elt Ideal) ℓ) (c : Dev nD)

/-- The input's rows are (batch, position). -/
theorem x_apply (r : Fin 16384) (n : Fin 2048) :
    (V m c main_v11 : Vec Ideal S16384x2048 .f32) (ix2 r n) =
      (m (c.tc.loc main_arg0) : Vec Ideal S2x8192x2048 .f32) (ix3 ⟨r.val / 8192, by omega⟩ ⟨r.val % 8192, by omega⟩ n) := by
  simp only [V, hostOps0, hostOps0_1, hostOps0_2, List.flatten_cons, List.flatten_nil, List.append_nil, List.cons_append, List.nil_append]
  after_results
  pointwise

/-- The modulation's row `k` of a batch, found in layer 1. -/
theorem mod_apply (b : Fin 2) (k : Fin 9) (n : Fin 2048) :
    (V m c main_v1 : Vec Ideal S2x8x9x1x2048 .f32) (ix5 1 ⟨b.val, by omega⟩ k 0 n) =
      (m (c.tc.loc main_arg1) : Vec Ideal S2x18432 .f32) (ix2 b ⟨k.val * 2048 + n.val, by omega⟩) := by
  simp only [V, hostOps0, hostOps0_1, hostOps0_2, List.flatten_cons, List.flatten_nil, List.append_nil, List.cons_append, List.nil_append]
  after_results
  simp only [StableHlo.TRef.toBuf, StableHlo.TRef.ofBuf, cast_eq, id]
  pointwise

/-- The gate weights. -/
theorem wg_apply (k : Fin 2048) (n : Fin 5632) :
    (V m c main_v4 : Vec Ideal S2048x5632 .bf16) (ix2 k n) = (m (c.tc.loc main_arg2) : Vec Ideal S2x2x2048x5632 .f32) (ix4 1 1 k n) := by
  simp only [V, hostOps0, hostOps0_1, hostOps0_2, List.flatten_cons, List.flatten_nil, List.append_nil, List.cons_append, List.nil_append]
  after_results
  pointwise

/-- The other weights of the inner columns. -/
theorem wu_apply (k : Fin 2048) (n : Fin 5632) :
    (V m c main_v7 : Vec Ideal S2048x5632 .bf16) (ix2 k n) = (m (c.tc.loc main_arg3) : Vec Ideal S2x2x2048x5632 .f32) (ix4 1 1 k n) := by
  simp only [V, hostOps0, hostOps0_1, hostOps0_2, List.flatten_cons, List.flatten_nil, List.append_nil, List.cons_append, List.nil_append]
  after_results
  pointwise

/-- The last weights. -/
theorem wd_apply (k : Fin 5632) (n : Fin 2048) :
    (V m c main_v10 : Vec Ideal S5632x2048 .bf16) (ix2 k n) = (m (c.tc.loc main_arg4) : Vec Ideal S2x2x5632x2048 .f32) (ix4 1 1 k n) := by
  simp only [V, hostOps0, hostOps0_1, hostOps0_2, List.flatten_cons, List.flatten_nil, List.append_nil, List.cons_append, List.nil_append]
  after_results
  pointwise

/-- The norm's factors. -/
theorem g_apply (l : Fin 2) (s : Fin 3) (n : Fin 2048) :
    (V m c main_v12 : Vec Ideal S2x3x1x2048 .f32) (ix4 l s 0 n) = (m (c.tc.loc main_arg5) : Vec Ideal S2x3x2048 .f32) (ix3 l s n) := by
  simp only [V, hostOps0, hostOps0_1, hostOps0_2, List.flatten_cons, List.flatten_nil, List.append_nil, List.cons_append, List.nil_append]
  after_results
  pointwise

/-- The norm's offsets. -/
theorem b_apply (l : Fin 2) (s : Fin 3) (n : Fin 2048) :
    (V m c main_v13 : Vec Ideal S2x3x1x2048 .f32) (ix4 l s 0 n) = (m (c.tc.loc main_arg6) : Vec Ideal S2x3x2048 .f32) (ix3 l s n) := by
  simp only [V, hostOps0, hostOps0_1, hostOps0_2, List.flatten_cons, List.flatten_nil, List.append_nil, List.cons_append, List.nil_append]
  after_results
  pointwise

end Cert.FfnIdeal.Host

end
-- ==== Proof.FfnState.lean ====
/-
  What the feed-forward kernel holds after each point: the tile of hidden rows it keeps, and the sum over the chunks so far.
-/
module

public import proofs.«01_k».proof.Proof.FfnBody
public import proofs.«01_k».proof.Proof.FfnWindows
public import proofs.«01_k».proof.Proof.FfnHost

@[expose] public section

set_option maxRecDepth 16384

noncomputable section

namespace Cert.FfnIdeal.Result

open Idealize.ShloMosaic Idealize.ShloMosaic.TcCoe Cert.FfnIdeal Cert.FfnIdeal.Gen Cert.FfnMath

variable (m : (ℓ : Loc nD τ sig) → Buf (Elt Ideal) ℓ) (c : Dev nD)

/-- The arguments, as arrays of extended reals. -/
abbrev x : FVec Ideal S2x8192x2048 .f32 := m ((c.tc : Thread nD τ).loc main_arg0)
abbrev md : FVec Ideal S2x18432 .f32 := m ((c.tc : Thread nD τ).loc main_arg1)
abbrev wg : FVec Ideal S2x2x2048x5632 .f32 := m ((c.tc : Thread nD τ).loc main_arg2)
abbrev wu : FVec Ideal S2x2x2048x5632 .f32 := m ((c.tc : Thread nD τ).loc main_arg3)
abbrev wd : FVec Ideal S2x2x5632x2048 .f32 := m ((c.tc : Thread nD τ).loc main_arg4)
abbrev lg : FVec Ideal S2x3x2048 .f32 := m ((c.tc : Thread nD τ).loc main_arg5)
abbrev lb : FVec Ideal S2x3x2048 .f32 := m ((c.tc : Thread nD τ).loc main_arg6)

/-- The input at position `p` of batch `b` after scale and shift. -/
def hrow (b : Fin 2) (p : Fin 8192) (k : Fin 2048) : EReal :=
  mixed (x m c (ix3 b p k)) (md m c (ix2 b ⟨14336 + k.val, by omega⟩)) (md m c (ix2 b ⟨12288 + k.val, by omega⟩))

/-- What inner column `j` gives to output `n` of that position. -/
def part (b : Fin 2) (p : Fin 8192) (n : Fin 2048) (j : Fin 5632) : EReal :=
  term (hrow m c b p) (fun k j => wg m c (ix4 1 1 k j)) (fun k j => wu m c (ix4 1 1 k j)) (fun j => wd m c (ix4 1 1 j n)) j

/-- The residual with the first `f` chunks added. -/
def upto (f : ℕ) (b : Fin 2) (p : Fin 8192) (n : Fin 2048) : EReal :=
  Ideal.ofBits .f32 0x3FB504F3#32 * x m c (ix3 b p n) + ∑ i ∈ Finset.range f,
    Ideal.ofBits .f32 0x3F000000#32 * md m c (ix2 b ⟨16384 + n.val, by omega⟩) * ∑ j : Fin 512, part m c b p n (col i j)

/-- The tile's shift, scale and gate. -/
theorem shift_apply (t : Fin grid0.N) (b : Fin 2) (hb : b.val = t.val / 88) (n : Fin 2048) :
    (iblk m c 1 t : Vec Ideal S1x1x1x1x2048 .f32) (ix5 0 0 0 0 n) = md m c (ix2 b ⟨12288 + n.val, by omega⟩) := by
  rw [Windows.blk1 m c t ⟨b.val, by omega⟩ hb, Host.mod_apply m c b 6 n]
  rfl

theorem scale_apply (t : Fin grid0.N) (b : Fin 2) (hb : b.val = t.val / 88) (n : Fin 2048) :
    (iblk m c 2 t : Vec Ideal S1x1x1x1x2048 .f32) (ix5 0 0 0 0 n) = md m c (ix2 b ⟨14336 + n.val, by omega⟩) := by
  rw [Windows.blk2 m c t ⟨b.val, by omega⟩ hb, Host.mod_apply m c b 7 n]
  rfl

theorem gate_apply (t : Fin grid0.N) (b : Fin 2) (hb : b.val = t.val / 88) (n : Fin 2048) :
    (iblk m c 3 t : Vec Ideal S1x1x1x1x2048 .f32) (ix5 0 0 0 0 n) = md m c (ix2 b ⟨16384 + n.val, by omega⟩) := by
  rw [Windows.blk3 m c t ⟨b.val, by omega⟩ hb, Host.mod_apply m c b 8 n]
  rfl

/-- The tile's row `a` is position `p` of batch `b`. -/
theorem x_apply (t : Fin grid0.N) (a : Fin 1024) (b : Fin 2) (p : Fin 8192) (hr : 8192 * b.val + p.val = t.val / 11 * 1024 + a.val) (n : Fin 2048) :
    (iblk m c 0 t : Vec Ideal S1024x2048 .f32) (ix2 a n) = x m c (ix3 b p n) := by
  rw [Windows.blk0, Host.x_apply]
  refine congrArg (x m c) ?_
  congr 1
  · apply Fin.ext; dsimp only; omega
  · apply Fin.ext; dsimp only; omega

/-- The kept tile's rows. -/
theorem kept_apply (t : Fin grid0.N) (a : Fin 1024) (b : Fin 2) (p : Fin 8192) (hr : 8192 * b.val + p.val = t.val / 11 * 1024 + a.val) (k : Fin 2048) :
    Body.kept (iblk m c 0 t) (iblk m c 1 t) (iblk m c 2 t) (ix2 a k) = hrow m c b p k := by
  have hb : b.val = t.val / 88 := by omega
  show mixed ((iblk m c 0 t : Vec Ideal S1024x2048 .f32) (ix2 a k)) ((iblk m c 2 t : Vec Ideal S1x1x1x1x2048 .f32) (ix5 0 0 0 0 k))
    ((iblk m c 1 t : Vec Ideal S1x1x1x1x2048 .f32) (ix5 0 0 0 0 k)) = _
  rw [x_apply m c t a b p hr, scale_apply m c t b hb, shift_apply m c t b hb]
  rfl

/-- A point's step on a tile that holds the hidden rows. -/
theorem step_apply (t : Fin grid0.N) (a : Fin 1024) (b : Fin 2) (p : Fin 8192) (hr : 8192 * b.val + p.val = t.val / 11 * 1024 + a.val)
    (xs : Vec Ideal S1024x2048 .bf16) (hx : ∀ k, xs (ix2 a k) = hrow m c b p k) (n : Fin 2048) :
    Body.step (iblk m c 3 t) (iblk m c 4 t) (iblk m c 5 t) (iblk m c 6 t) xs (ix2 a n) =
      Ideal.ofBits .f32 0x3F000000#32 * md m c (ix2 b ⟨16384 + n.val, by omega⟩) * ∑ j : Fin 512, part m c b p n (col (t.val % 11) j) := by
  have hb : b.val = t.val / 88 := by omega
  have ht := Windows.lt_N t
  show Chunk.half (iblk m c 3 t) n * Chunk.share (fun k => xs (ix2 a k)) (iblk m c 4 t) (iblk m c 5 t) (iblk m c 6 t) n = _
  unfold Chunk.half Chunk.share part term
  rw [gate_apply m c t b hb, funext hx]
  have hq : ∀ j : Fin 512, (col (t.val % 11) j).val = 512 * (t.val % 11) + j.val := fun j => by
    show (512 * (t.val % 11) + j.val) % 5632 = _; omega
  congr 1
  refine Finset.sum_congr rfl fun j _ => ?_
  congr 1
  · congr 1
    · refine Finset.sum_congr rfl fun k _ => ?_
      dsimp only
      rw [Windows.blk4 m c t k j _ (hq j), Host.wg_apply]
    · refine Finset.sum_congr rfl fun k _ => ?_
      dsimp only
      rw [Windows.blk5 m c t k j _ (hq j), Host.wu_apply]
  · dsimp only
    rw [Windows.blk6 m c t j n _ (hq j), Host.wd_apply]

/-- After every point the kept tile holds the hidden rows. -/
theorem kept_state (s : ℕ) (hs : s < cfg0.N) (a : Fin 1024) (b : Fin 2) (p : Fin 8192) (hr : 8192 * b.val + p.val = s / 11 * 1024 + a.val) (k : Fin 2048) :
    (outsAt0 m c s hs).2 (ix2 a k) = hrow m c b p k := by
  induction s with
  | zero =>
    rw [outsAt0_A m c ⟨0, hs⟩ (by simp) (by simp) (by simp)]
    dsimp only
    rw [Body.sout_A]
    exact kept_apply m c ⟨0, hs⟩ a b p hr k
  | succ s ih =>
    by_cases h0 : (s + 1) % 11 = 0
    · rw [outsAt0_A m c ⟨s + 1, hs⟩ h0 (by dsimp only; omega) (by dsimp only; omega)]
      dsimp only
      rw [Body.sout_A]
      exact kept_apply m c ⟨s + 1, hs⟩ a b p hr k
    · have hp := ih (Nat.lt_of_succ_lt hs) (by omega)
      by_cases h2 : (s + 1) % 11 = 10
      · rw [outsAt0_C m c ⟨s + 1, hs⟩ h0 (by dsimp only; omega) h2]
        exact hp
      · rw [outsAt0_B m c ⟨s + 1, hs⟩ h0 (by dsimp only; omega) h2]
        exact hp

/-- After a point that is not a tile's last, the tile holds the residual with the chunks so far. -/
theorem sum_state (s : ℕ) (hs : s < cfg0.N) (hl : s % 11 ≠ 10) (a : Fin 1024) (b : Fin 2) (p : Fin 8192)
    (hr : 8192 * b.val + p.val = s / 11 * 1024 + a.val) (n : Fin 2048) :
    (outsAt0 m c s hs).1 (ix2 a n) = upto m c (s % 11 + 1) b p n := by
  have first : ∀ t : Fin grid0.N, t.val % 11 = 0 → 8192 * b.val + p.val = t.val / 11 * 1024 + a.val →
      Body.first (iblk m c 0 t) (iblk m c 1 t) (iblk m c 2 t) (iblk m c 3 t) (iblk m c 4 t) (iblk m c 5 t) (iblk m c 6 t) (ix2 a n) =
        upto m c (t.val % 11 + 1) b p n := fun t h0 hr => by
    unfold Body.first upto
    rw [x_apply m c t a b p hr, step_apply m c t a b p hr _ (kept_apply m c t a b p hr), h0, Finset.sum_range_one]
  induction s with
  | zero =>
    rw [outsAt0_A m c ⟨0, hs⟩ (by simp) (by simp) (by simp)]
    dsimp only
    rw [Body.out_A]
    exact first ⟨0, hs⟩ rfl hr
  | succ s ih =>
    by_cases h0 : (s + 1) % 11 = 0
    · rw [outsAt0_A m c ⟨s + 1, hs⟩ h0 (by dsimp only; omega) (by dsimp only; omega)]
      dsimp only
      rw [Body.out_A]
      exact first ⟨s + 1, hs⟩ h0 hr
    · have hp := ih (Nat.lt_of_succ_lt hs) (by omega) (by omega)
      have hk := kept_state m c s (Nat.lt_of_succ_lt hs) a b p (by omega)
      rw [outsAt0_B m c ⟨s + 1, hs⟩ h0 (by dsimp only; omega) hl]
      dsimp only
      rw [Body.out_B]
      show (outsAt0 m c s (Nat.lt_of_succ_lt hs)).1 (ix2 a n) + Body.step _ _ _ _ (outsAt0 m c s (Nat.lt_of_succ_lt hs)).2 (ix2 a n) = _
      rw [hp, step_apply m c ⟨s + 1, hs⟩ a b p hr _ hk]
      unfold upto
      rw [show (s + 1) % 11 = s % 11 + 1 by omega, Finset.sum_range_succ _ (s % 11 + 1), add_assoc]

/-- After a tile's last point, the tile holds the layer norm of the residual with all eleven chunks. -/
theorem last_state (t : Fin grid0.N) (h2 : t.val % 11 = 10) (a : Fin 1024) (b : Fin 2) (p : Fin 8192)
    (hr : 8192 * b.val + p.val = t.val / 11 * 1024 + a.val) (n : Fin 2048) :
    (outsAt0 m c t.val t.isLt).1 (ix2 a n) =
      rowNorm (upto m c 11 b p) (lg m c (ix3 1 2 n)) (lb m c (ix3 1 2 n)) n := by
  have ht := Windows.lt_N t
  have hs : t.val - 1 < cfg0.N := lt_of_le_of_lt (Nat.sub_le _ _) t.isLt
  rw [outsAt0_C m c t (by omega) (by omega) h2]
  dsimp only
  rw [Body.out_C]
  show rowNorm (fun k => (outsAt0 m c (t.val - 1) hs).1 (ix2 a k) + Body.step (iblk m c 3 t) (iblk m c 4 t) (iblk m c 5 t) (iblk m c 6 t)
      (outsAt0 m c (t.val - 1) hs).2 (ix2 a k)) ((iblk m c 7 t : Vec Ideal S1x1x1x2048 .f32) (ix4 0 0 0 n))
      ((iblk m c 8 t : Vec Ideal S1x1x1x2048 .f32) (ix4 0 0 0 n)) n = _
  rw [Windows.blk7, Windows.blk8, Host.g_apply, Host.b_apply]
  congr 1
  funext k
  rw [sum_state m c (t.val - 1) hs (by omega) a b p (by omega), step_apply m c t a b p hr _ (kept_state m c (t.val - 1) hs a b p (by omega))]
  unfold upto
  rw [h2, show (t.val - 1) % 11 + 1 = 10 by omega, Finset.sum_range_succ _ 10, add_assoc]

end Cert.FfnIdeal.Result

end
-- ==== Proof.FfnRef.lean ====
/-
  The feed-forward reference, step by step, and its result at a row and a column.
-/
module

public import proofs.«01_k».proof.Proof.Gen.FfnRefIdeal.Run
public import proofs.«01_k».proof.Proof.FfnMath

@[expose] public section

set_option maxRecDepth 16384

noncomputable section

namespace Cert.FfnRefIdeal.Plain

open Idealize.ShloMosaic Idealize.ShloMosaic.TcCoe Cert.FfnRefIdeal Cert.FfnRefIdeal.Gen Cert.FfnMath

/-- The modulation, with an axis of one row. -/
def mods (m : FVec Ideal S2x18432 .f32) : FVec Ideal S2x1x18432 .f32 := broadcastInDim S2x1x18432 ![0, 2] bcast_S2x18432_S2x1x18432_0_2 m

/-- The input after scale and shift. -/
def hid (x : FVec Ideal S2x8192x2048 .f32) (m : FVec Ideal S2x18432 .f32) : FVec Ideal S2x8192x2048 .f32 :=
  addf (mulf x (broadcastInDim S2x8192x2048 ![0, 1, 2] bcast_S2x1x2048_S2x8192x2048_0_1_2
      (addf (broadcastInDim S2x1x2048 ![] bcast_S_S2x1x2048 (constant (F := Ideal) S_ .f32 0x3F800000#32))
        (extractStridedSlice S2x1x2048 ![0, 0, 14336] (mods m) slices_S2x1x18432_S2x1x2048_0_0_14336))))
    (broadcastInDim S2x8192x2048 ![0, 1, 2] bcast_S2x1x2048_S2x8192x2048_0_1_2
      (extractStridedSlice S2x1x2048 ![0, 0, 12288] (mods m) slices_S2x1x18432_S2x1x2048_0_0_12288))

theorem hid_apply (x : FVec Ideal S2x8192x2048 .f32) (m : FVec Ideal S2x18432 .f32) (b : Fin 2) (p : Fin 8192) (k : Fin 2048) :
    hid x m (ix3 b p k) = mixed (x (ix3 b p k)) (m (ix2 b ⟨14336 + k.val, by omega⟩)) (m (ix2 b ⟨12288 + k.val, by omega⟩)) := by
  unfold hid mixed
  pointwise [mods]

/-- The hidden rows' products with weights of 5632 inner columns. -/
def prod (h : FVec Ideal S2x8192x2048 .f32) (w : FVec Ideal S2x2x2048x5632 .f32) : FVec Ideal S2x8192x5632 .f32 :=
  Host.dotGeneral dot_S2x8192x2048_S2048x5632_S2x8192x5632_2_0_01_1_n_n none h
    (shapeCast S2048x5632 (extractStridedSlice S1x1x2048x5632 ![1, 1, 0, 0] w slices_S2x2x2048x5632_S1x1x2048x5632_1_1_0_0) shapeCasts_S1x1x2048x5632_S2048x5632)

theorem prod_apply (h : FVec Ideal S2x8192x2048 .f32) (w : FVec Ideal S2x2x2048x5632 .f32) (b : Fin 2) (p : Fin 8192) (j : Fin 5632) :
    prod h w (ix3 b p j) = ∑ k : Fin 2048, h (ix3 b p k) * w (ix4 1 1 k j) := by
  unfold prod
  pointwise

/-- The gate's silu times the other product. -/
def act (g u : FVec Ideal S2x8192x5632 .f32) : FVec Ideal S2x8192x5632 .f32 :=
  mulf (mulf g (Host.divf (broadcastInDim S2x8192x5632 ![] bcast_S_S2x8192x5632 (constant (F := Ideal) S_ .f32 0x3F800000#32))
    (addf (broadcastInDim S2x8192x5632 ![] bcast_S_S2x8192x5632 (constant (F := Ideal) S_ .f32 0x3F800000#32)) (Host.exp (Host.negf g))))) u

theorem act_apply (g u : FVec Ideal S2x8192x5632 .f32) (b : Fin 2) (p : Fin 8192) (j : Fin 5632) :
    act g u (ix3 b p j) = gated (g (ix3 b p j)) (u (ix3 b p j)) := by
  unfold act gated Ideal.logistic
  rw [← Ideal.ofBits_one_f32]
  pointwise

/-- The last product. -/
def down (a : FVec Ideal S2x8192x5632 .f32) (w : FVec Ideal S2x2x5632x2048 .f32) : FVec Ideal S2x8192x2048 .f32 :=
  Host.dotGeneral dot_S2x8192x5632_S5632x2048_S2x8192x2048_2_0_01_1_n_n none a
    (shapeCast S5632x2048 (extractStridedSlice S1x1x5632x2048 ![1, 1, 0, 0] w slices_S2x2x5632x2048_S1x1x5632x2048_1_1_0_0) shapeCasts_S1x1x5632x2048_S5632x2048)

theorem down_apply (a : FVec Ideal S2x8192x5632 .f32) (w : FVec Ideal S2x2x5632x2048 .f32) (b : Fin 2) (p : Fin 8192) (n : Fin 2048) :
    down a w (ix3 b p n) = ∑ j : Fin 5632, a (ix3 b p j) * w (ix4 1 1 j n) := by
  unfold down
  pointwise

/-- The residual sum before the norm. -/
def resid (x : FVec Ideal S2x8192x2048 .f32) (m : FVec Ideal S2x18432 .f32) (y : FVec Ideal S2x8192x2048 .f32) : FVec Ideal S2x8192x2048 .f32 :=
  addf (mulf (broadcastInDim S2x8192x2048 ![] bcast_S_S2x8192x2048 (constant (F := Ideal) S_ .f32 0x3FB504F3#32)) x)
    (mulf (broadcastInDim S2x8192x2048 ![0, 1, 2] bcast_S2x1x2048_S2x8192x2048_0_1_2
        (extractStridedSlice S2x1x2048 ![0, 0, 16384] (mods m) slices_S2x1x18432_S2x1x2048_0_0_16384))
      (mulf (broadcastInDim S2x8192x2048 ![] bcast_S_S2x8192x2048 (constant (F := Ideal) S_ .f32 0x3F000000#32)) y))

theorem resid_apply (x : FVec Ideal S2x8192x2048 .f32) (m : FVec Ideal S2x18432 .f32) (y : FVec Ideal S2x8192x2048 .f32)
    (b : Fin 2) (p : Fin 8192) (n : Fin 2048) :
    resid x m y (ix3 b p n) = Ideal.ofBits .f32 0x3FB504F3#32 * x (ix3 b p n) +
      m (ix2 b ⟨16384 + n.val, by omega⟩) * (Ideal.ofBits .f32 0x3F000000#32 * y (ix3 b p n)) := by
  unfold resid
  pointwise [mods]

theorem reduces : Shape.Reduces S2x8192x2048 [2] S2x8192 := by decide

/-- A row with a column's number put back. -/
theorem lift_row (b : Fin 2) (p : Fin 8192) (k : Fin 2048) : reduces.lift (ix2 b p) k = ix3 b p k := by
  funext c; apply Fin.ext
  fin_cases c <;> rfl

/-- Each row's sum. -/
def sums (z : FVec Ideal S2x8192x2048 .f32) : FVec Ideal S2x8192 .f32 :=
  Host.reduceAdd z (constant (F := Ideal) S_ .f32 0x00000000#32) reducesTo_S2x8192x2048_S2x8192_d2 h_S_

theorem sums_apply (z : FVec Ideal S2x8192x2048 .f32) (b : Fin 2) (p : Fin 8192) : sums z (ix2 b p) = ∑ k : Fin 2048, z (ix3 b p k) := by
  unfold sums
  refine (Ideal.hostReduceAdd_single reducesTo_S2x8192x2048_S2x8192_d2 reduces z _ (ix2 b p)).trans ?_
  have h0 : (constant (F := Ideal) S_ .f32 0x00000000#32) (Shape.Idx.first h_S_) = (0 : EReal) := by
    show Ideal.ofBits .f32 0x00000000#32 = 0; simp [Ideal.ofBits, Ideal.ieee]
  rw [h0, zero_add]
  exact Finset.sum_congr rfl fun k _ => congrArg z (lift_row b p k)

/-- Each row's mean. -/
def means (s : FVec Ideal S2x8192 .f32) : FVec Ideal S2x8192x1 .f32 :=
  Host.divf (broadcastInDim S2x8192x1 ![0, 1] bcast_S2x8192_S2x8192x1_0_1 s)
    (broadcastInDim S2x8192x1 ![] bcast_S_S2x8192x1 (constant (F := Ideal) S_ .f32 0x45000000#32))

theorem means_apply (z : FVec Ideal S2x8192x2048 .f32) (b : Fin 2) (p : Fin 8192) :
    means (sums z) (ix3 b p 0) = mean fun k => z (ix3 b p k) := by
  unfold mean
  rw [← sums_apply]
  unfold means
  pointwise

/-- Each row less its mean. -/
def centred (z : FVec Ideal S2x8192x2048 .f32) (m : FVec Ideal S2x8192x1 .f32) : FVec Ideal S2x8192x2048 .f32 :=
  subf z (broadcastInDim S2x8192x2048 ![0, 1, 2] bcast_S2x8192x1_S2x8192x2048_0_1_2 m)

theorem centred_apply (z : FVec Ideal S2x8192x2048 .f32) (m : FVec Ideal S2x8192x1 .f32) (b : Fin 2) (p : Fin 8192) (n : Fin 2048) :
    centred z m (ix3 b p n) = z (ix3 b p n) - m (ix3 b p 0) := by
  unfold centred
  pointwise

/-- The norm from the centred rows and their mean squares. -/
def scaled (g b : FVec Ideal S2x3x2048 .f32) (d : FVec Ideal S2x8192x2048 .f32) (v : FVec Ideal S2x8192x1 .f32) : FVec Ideal S16384x2048 .f32 :=
  shapeCast S16384x2048 (addf (mulf (mulf d (broadcastInDim S2x8192x2048 ![0, 1, 2] bcast_S2x8192x1_S2x8192x2048_0_1_2
      (Host.rsqrt (addf v (broadcastInDim S2x8192x1 ![] bcast_S_S2x8192x1 (constant (F := Ideal) S_ .f32 0x3727C5AC#32))))))
    (broadcastInDim S2x8192x2048 ![0, 1, 2] bcast_S1x1x2048_S2x8192x2048_0_1_2 (broadcastInDim S1x1x2048 ![2] bcast_S2048_S1x1x2048_2
      (shapeCast S2048 (extractStridedSlice S1x1x2048 ![1, 2, 0] g slices_S2x3x2048_S1x1x2048_1_2_0) shapeCasts_S1x1x2048_S2048))))
    (broadcastInDim S2x8192x2048 ![0, 1, 2] bcast_S1x1x2048_S2x8192x2048_0_1_2 (broadcastInDim S1x1x2048 ![2] bcast_S2048_S1x1x2048_2
      (shapeCast S2048 (extractStridedSlice S1x1x2048 ![1, 2, 0] b slices_S2x3x2048_S1x1x2048_1_2_0) shapeCasts_S1x1x2048_S2048))))
    shapeCasts_S2x8192x2048_S16384x2048

theorem scaled_apply (g c : FVec Ideal S2x3x2048 .f32) (d : FVec Ideal S2x8192x2048 .f32) (v : FVec Ideal S2x8192x1 .f32) (r : Fin 16384) (n : Fin 2048) :
    scaled g c d v (ix2 r n) = d (ix3 ⟨r.val / 8192, by omega⟩ ⟨r.val % 8192, by omega⟩ n) *
      Ideal.rsqrt (v (ix3 ⟨r.val / 8192, by omega⟩ ⟨r.val % 8192, by omega⟩ 0) + Ideal.ofBits .f32 0x3727C5AC#32) * g (ix3 1 2 n) + c (ix3 1 2 n) := by
  unfold scaled
  pointwise

/-- The result from the residual sum. -/
def out (g b : FVec Ideal S2x3x2048 .f32) (z : FVec Ideal S2x8192x2048 .f32) : FVec Ideal S16384x2048 .f32 :=
  scaled g b (centred z (means (sums z))) (means (sums (mulf (centred z (means (sums z))) (centred z (means (sums z))))))

theorem out_apply (g c : FVec Ideal S2x3x2048 .f32) (z : FVec Ideal S2x8192x2048 .f32) (r : Fin 16384) (n : Fin 2048) :
    out g c z (ix2 r n) = rowNorm (fun k => z (ix3 ⟨r.val / 8192, by omega⟩ ⟨r.val % 8192, by omega⟩ k)) (g (ix3 1 2 n)) (c (ix3 1 2 n)) n := by
  unfold out rowNorm
  generalize hb : (⟨r.val / 8192, by omega⟩ : Fin 2) = b
  generalize hp : (⟨r.val % 8192, by omega⟩ : Fin 8192) = p
  rw [scaled_apply, hb, hp, centred_apply, means_apply, means_apply]
  have h : ∀ k : Fin 2048, (mulf (centred z (means (sums z))) (centred z (means (sums z))) : FVec Ideal S2x8192x2048 .f32) (ix3 b p k) =
      (z (ix3 b p k) - mean fun k => z (ix3 b p k)) * (z (ix3 b p k) - mean fun k => z (ix3 b p k)) := fun k => by
    rw [← means_apply z b p, ← centred_apply]; rfl
  rw [funext h]

/-- The result in the steps above. -/
theorem res_eq (m : (ℓ : Loc nD τ sig) → Buf (Elt Ideal) ℓ) (c : Dev nD) (x : FVec Ideal S2x8192x2048 .f32) (md : FVec Ideal S2x18432 .f32)
    (wg wu : FVec Ideal S2x2x2048x5632 .f32) (wd : FVec Ideal S2x2x5632x2048 .f32) (g b : FVec Ideal S2x3x2048 .f32)
    (h0 : m ((c.tc : Thread nD τ).loc main_arg0) = x) (h1 : m ((c.tc : Thread nD τ).loc main_arg1) = md)
    (h2 : m ((c.tc : Thread nD τ).loc main_arg2) = wg) (h3 : m ((c.tc : Thread nD τ).loc main_arg3) = wu)
    (h4 : m ((c.tc : Thread nD τ).loc main_arg4) = wd) (h5 : m ((c.tc : Thread nD τ).loc main_arg5) = g)
    (h6 : m ((c.tc : Thread nD τ).loc main_arg6) = b) :
    Value.res_main_v62 m c = out g b (resid x md (down (act (prod (hid x md) wg) (prod (hid x md) wu)) wd)) := by
  subst h0 h1 h2 h3 h4 h5 h6
  unfold Value.res_main_v62
  rfl

/-- One entry of the reference: the norm of the row's residual sum, over all the inner columns. -/
theorem entry (x : FVec Ideal S2x8192x2048 .f32) (md : FVec Ideal S2x18432 .f32) (wg wu : FVec Ideal S2x2x2048x5632 .f32)
    (wd : FVec Ideal S2x2x5632x2048 .f32) (g c : FVec Ideal S2x3x2048 .f32) (r : Fin 16384) (n : Fin 2048)
    (b : Fin 2) (p : Fin 8192) (hb : b.val = r.val / 8192) (hp : p.val = r.val % 8192) :
    out g c (resid x md (down (act (prod (hid x md) wg) (prod (hid x md) wu)) wd)) (ix2 r n) =
      rowNorm (fun k => Ideal.ofBits .f32 0x3FB504F3#32 * x (ix3 b p k) + md (ix2 b ⟨16384 + k.val, by omega⟩) * (Ideal.ofBits .f32 0x3F000000#32 *
        ∑ j : Fin 5632, term (fun i => mixed (x (ix3 b p i)) (md (ix2 b ⟨14336 + i.val, by omega⟩)) (md (ix2 b ⟨12288 + i.val, by omega⟩)))
          (fun i j => wg (ix4 1 1 i j)) (fun i j => wu (ix4 1 1 i j)) (fun j => wd (ix4 1 1 j k)) j))
        (g (ix3 1 2 n)) (c (ix3 1 2 n)) n := by
  rw [out_apply, show (⟨r.val / 8192, by omega⟩ : Fin 2) = b from Fin.ext hb.symm,
    show (⟨r.val % 8192, by omega⟩ : Fin 8192) = p from Fin.ext hp.symm]
  congr 1
  funext k
  rw [resid_apply, down_apply]
  unfold term
  simp only [act_apply, prod_apply, hid_apply]

end Cert.FfnRefIdeal.Plain

end
-- ==== Proof.FfnResult.lean ====
/-
  The feed-forward claim: on real inputs, modulation and weights the kernel's result array is the reference's.
-/
module

public import proofs.«01_k».proof.Proof.FfnState
public import proofs.«01_k».proof.Proof.FfnRef

@[expose] public section

set_option maxRecDepth 16384

noncomputable section

namespace Cert.FfnIdeal.Result

open Idealize.ShloMosaic Idealize.ShloMosaic.TcCoe Cert.FfnIdeal Cert.FfnIdeal.Gen Cert.FfnMath

variable (m : (ℓ : Loc nD τ sig) → Buf (Elt Ideal) ℓ) (c : Dev nD)

/-- The reference's result over the kernel's arguments. -/
def plainResult : FVec Ideal S16384x2048 .f32 :=
  FfnRefIdeal.Plain.out (lg m c) (lb m c) (FfnRefIdeal.Plain.resid (x m c) (md m c) (FfnRefIdeal.Plain.down
    (FfnRefIdeal.Plain.act (FfnRefIdeal.Plain.prod (FfnRefIdeal.Plain.hid (x m c) (md m c)) (wg m c))
      (FfnRefIdeal.Plain.prod (FfnRefIdeal.Plain.hid (x m c) (md m c)) (wu m c))) (wd m c)))

/-- Half is real. -/
theorem half_real : IsReal (Ideal.ofBits .f32 0x3F000000#32) := by
  refine ⟨1 / 2, ?_⟩
  simp [Ideal.ofBits, Ideal.ieee, -EReal.coe_mul]; norm_num

/-- The residual with all chunks is the reference's residual sum. -/
theorem upto_eq (hx : ∀ i, IsReal (x m c i)) (hm : ∀ i, IsReal (md m c i)) (hg : ∀ i, IsReal (wg m c i)) (hu : ∀ i, IsReal (wu m c i))
    (hd : ∀ i, IsReal (wd m c i)) (b : Fin 2) (p : Fin 8192) (n : Fin 2048) :
    upto m c 11 b p n = Ideal.ofBits .f32 0x3FB504F3#32 * x m c (ix3 b p n) +
      md m c (ix2 b ⟨16384 + n.val, by omega⟩) * (Ideal.ofBits .f32 0x3F000000#32 * ∑ j : Fin 5632, part m c b p n j) := by
  unfold upto
  rw [chunks_eq _ _ (part m c b p n) (hm _) half_real fun j =>
    IsReal.term (fun k => IsReal.mixed (hx _) (hm _) (hm _)) (fun _ _ => hg _) (fun _ _ => hu _) (fun _ => hd _) j]

/-- A tile's last point leaves the reference's rows. -/
theorem point (hx : ∀ i, IsReal (x m c i)) (hm : ∀ i, IsReal (md m c i)) (hg : ∀ i, IsReal (wg m c i)) (hu : ∀ i, IsReal (wu m c i))
    (hd : ∀ i, IsReal (wd m c i)) (t : Fin grid0.N) (h2 : t.val % 11 = 10) (a : Fin 1024) (n : Fin 2048) :
    (outsAt0 m c t.val t.isLt).1 (ix2 a n) = plainResult m c (ix2 ⟨t.val / 11 * 1024 + a.val, by have := Windows.lt_N t; omega⟩ n) := by
  have ht := Windows.lt_N t
  obtain ⟨b, hb⟩ : ∃ b : Fin 2, b.val = (t.val / 11 * 1024 + a.val) / 8192 := ⟨⟨(t.val / 11 * 1024 + a.val) / 8192, by omega⟩, rfl⟩
  obtain ⟨p, hp⟩ : ∃ p : Fin 8192, p.val = (t.val / 11 * 1024 + a.val) % 8192 := ⟨⟨(t.val / 11 * 1024 + a.val) % 8192, by omega⟩, rfl⟩
  rw [last_state m c t h2 a b p (by omega)]
  unfold plainResult
  rw [FfnRefIdeal.Plain.entry _ _ _ _ _ _ _ _ n b p hb hp, funext (upto_eq m c hx hm hg hu hd b p)]
  rfl

/-- The result array. -/
theorem array (hx : ∀ i, IsReal (x m c i)) (hm : ∀ i, IsReal (md m c i)) (hg : ∀ i, IsReal (wg m c i)) (hu : ∀ i, IsReal (wu m c i))
    (hd : ∀ i, IsReal (wd m c i)) :
    (dats m 0 c).arrAt 9 cfg0.N = (plainResult m c : Buf (Elt Ideal) ((c.tc : Thread nD τ).loc main_v14)) := by
  have hcov : (cfg0.win 9).Covers := by decide +kernel
  refine (dats m 0 c).arrAt_eq_of_cover 9 _ (fun t hf => ?_) (Pipeline.Window.Covers.cover _ hcov (Memref.isWhole_whole _))
  have h2 : t.val % 11 = 10 := (flush0_9 t).mp hf
  rw [Value.flushed9]
  have e : win0_9.index t = ![t.val / 11, 0] := (Windows.idx t).2.2.2.2.2.2.2.2.2
  funext y
  have h0 : (y 0).val < 1024 := (y 0).isLt
  have h1 : (y 1).val < 2048 := (y 1).isLt
  refine Eq.trans (congrArg _ (funext fun a => Fin.ext ?_)) ((point m c hx hm hg hu hd t h2 ⟨(y 0).val, h0⟩ ⟨(y 1).val, h1⟩).trans
    (congrArg (plainResult m c) (funext fun a => Fin.ext ?_)))
  · fin_cases a <;> rfl
  · fin_cases a
    · show t.val / 11 * 1024 + (y 0).val = win0_9.index t 0 * 1024 + 1 * (y 0).val; rw [e]; simp
    · show (y 1).val = win0_9.index t 1 * 2048 + 1 * (y 1).val; rw [e]; simp

end Cert.FfnIdeal.Result

end
-- ==== Proof.FfnClaim.lean ====
/-
  The feed-forward claim: the precondition says the numbers are real, both programs run, and their results are equal.
-/
module

public import proofs.«01_k».proof.Proof.AttnClaim
public import proofs.«01_k».proof.Proof.FfnResult
public import proofs.«01_k».proof.Proof.Gen.Pre_ffn_finite

@[expose] public section

set_option maxRecDepth 16384

noncomputable section

namespace Cert.Proof

open Idealize.ShloMosaic Idealize.ShloMosaic.TcCoe Idealize.SL.Sem

/-- What the precondition says: input, modulation and weights are real. -/
theorem ffn_real (m : (ℓ : Loc FfnIdeal.nD FfnIdeal.τ FfnIdeal.sig) → Buf (Elt Ideal) ℓ) (c : Dev FfnIdeal.nD)
    (h : Pre_FfnIdeal_ffn_finite (hPre_ffn_finite := Pre_ffn_finite.Gen.facts) m) :
    (∀ i, FfnMath.IsReal (FfnIdeal.Result.x m c i)) ∧ (∀ i, FfnMath.IsReal (FfnIdeal.Result.md m c i)) ∧
      (∀ i, FfnMath.IsReal (FfnIdeal.Result.wg m c i)) ∧ (∀ i, FfnMath.IsReal (FfnIdeal.Result.wu m c i)) ∧
      (∀ i, FfnMath.IsReal (FfnIdeal.Result.wd m c i)) := by
  obtain ⟨h0, h1, h2, h3, h4⟩ := h c
  exact ⟨fun i => real_of_lt _ (congrFun h0 i), fun i => real_of_lt _ (congrFun h1 i), fun i => real_of_lt _ (congrFun h2 i),
    fun i => real_of_lt _ (congrFun h3 i), fun i => real_of_lt _ (congrFun h4 i)⟩

/-- The kernel's result is the reference's. -/
theorem ffn_algebraic : algebraic_FfnIdeal_FfnRefIdeal_pre_ffn_finite (hFfnIdeal := FfnIdeal.Gen.facts)
    (hFfnRefIdeal := FfnRefIdeal.Gen.facts) (hPre_ffn_finite := Pre_ffn_finite.Gen.facts) := by
  intro m ρ m' ρ' hpre hag
  refine ⟨fun c => FfnIdeal.Result.plainResult m c, ?_, ?_⟩
  · refine (θ_run _ _ _).mono (fun _ h c => ⟨(h c).1.trans ?_, (h c).2⟩) (FfnIdeal.Value.run_blocks m ρ)
    obtain ⟨h0, h1, h2, h3, h4⟩ := ffn_real m c hpre
    exact FfnIdeal.Result.array m c h0 h1 h2 h3 h4
  · refine (θ_run _ _ _).mono (fun _ h c => ⟨(h c).1.trans ?_, (h c).2⟩) (FfnRefIdeal.Value.run m' ρ')
    obtain ⟨e0, e1, e2, e3, e4, e5, e6⟩ := hag c
    rw [FfnRefIdeal.Plain.res_eq m' c _ _ _ _ _ _ _ e0 e1 e2 e3 e4 e5 e6]
    rfl

end Cert.Proof

end
-- ==== Proof.FfnCBody.lean ====
/-
  What the body of the feed-forward kernel of layer 1, sub-layer 0 leaves of its rows at a point, by the case of the point: the
  same tiles as without the copies.
-/
module

public import proofs.«01_k».proof.Proof.FfnBody
public import proofs.«01_k».proof.Proof.Gen.FfnCIdeal.Frame

@[expose] public section

set_option maxRecDepth 16384

noncomputable section

namespace Cert.FfnCIdeal.Body

open Idealize.ShloMosaic Idealize.ShloMosaic.TcCoe Cert.FfnCIdeal Cert.FfnCIdeal.Gen Cert.FfnMath
open Cert.FfnIdeal.Body (kept step first inner last first_slab kept_slab last_slab hz5 hz4 hz2)

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (xo12 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1024x2048 .f32) (harg14 : arg14.IsWhole) (arg15 : Memref sig .tc .vmem S16x5632 .bf16) (harg15 : arg15.IsWhole) (arg16 : Memref sig .tc .vmem S16x5632 .bf16) (harg16 : arg16.IsWhole) (arg17 : Memref sig .tc .vmem S32x2048 .bf16) (harg17 : arg17.IsWhole) (arg18 : Memref sig .tc .vmem S1024x2048 .bf16) (harg18 : arg18.IsWhole)

set_option maxHeartbeats 4000000 in
/-- After the first chunk. -/
theorem out_A (hc0 : cond0_0 i) (hc1 : ¬cond0_1 i) (hc2 : ¬cond0_2 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = first x0 x1 x2 x3 x4 x5 x6 := by
  have hcov := cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold out0_A_12
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := first_slab x0 x1 x2 x3 x4 x5 x6
  exact ⟨key 768 _, key 512 _, key 256 _, key 0 _, fun _ h => absurd h List.not_mem_nil⟩

set_option maxHeartbeats 4000000 in
/-- What is kept for the chunks after the first. -/
theorem sout_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = kept x0 x1 x2 := by
  have hcov := scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold sout0_A_0
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := kept_slab x0 x1 x2
  exact ⟨key 768 _, key 512 _, key 256 _, key 0 _, fun _ h => absurd h List.not_mem_nil⟩

set_option maxHeartbeats 4000000 in
/-- After an inner chunk. -/
theorem out_B (hc0 : ¬cond0_0 i) (hc1 : cond0_1 i) (hc2 : ¬cond0_2 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = inner x3 x4 x5 x6 xo12 xs0 := by
  have hcov := cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_B_12
  rw [View.read_writes_eq_canon _ _ _ hcov]
  funext y
  refine View.canon_apply_of_pieces _ _ ?_ y (hcov y)
  clear hcov
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  exact ⟨FfnIdeal.Body.inner_whole x3 x4 x5 x6 xo12 xs0 _, fun _ h => absurd h List.not_mem_nil⟩

set_option maxHeartbeats 4000000 in
/-- After the last chunk. -/
theorem out_C (hc0 : ¬cond0_0 i) (hc1 : ¬cond0_1 i) (hc2 : cond0_2 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = last x3 x4 x5 x6 x7 x8 xo12 xs0 := by
  have hcov := cover0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_C_12
  rw [View.read_writes_eq_canon _ _ _ hcov]
  funext y
  refine View.canon_apply_of_pieces _ _ ?_ y (hcov y)
  clear hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := last_slab x3 x4 x5 x6 x7 x8 xo12 xs0
  exact ⟨key 768 _, key 512 _, key 256 _, key 0 _, fun _ h => absurd h List.not_mem_nil⟩

end Cert.FfnCIdeal.Body

end
-- ==== Proof.FfnCopy.lean ====
/-
  A block of rows of a weight array, its leading unit axes dropped and its numbers rounded: what a feed-forward kernel copies at a point.
-/
module

public import proofs.«01_k».proof.Proof.Gen.FfnCIdeal
public import Idealize.ShloMosaic.Lib.Pipeline.ValueKit
public import Idealize.ShloMosaic.Lib.Pointwise

@[expose] public section

set_option maxRecDepth 16384

noncomputable section

namespace Cert.FfnCopy

open Idealize.ShloMosaic Cert.FfnCIdeal Cert.FfnCIdeal.Gen

/-- A rectangle of the whole shape has each index at its place. -/
theorem whole_emb {S : Shape} {o : Fin S.rank → ℕ} (h : o = fun _ => 0) (inb : ∀ a, o a + S.size a ≤ S.size a) (y : S.Idx) :
    (Rect.unit (s := S) o S.size inb).emb y = y := by
  subst h
  funext d
  apply Fin.ext
  show 0 + 1 * (y d).val = (y d).val
  omega

/-- A block of 16 rows of 5632 numbers. -/
def tile16x5632 (x : FVec Ideal S1x1x16x5632 .f32) : FVec Ideal S16x5632 .bf16 := truncf .bf16 (shapeCast S16x5632 x shapeCasts_S1x1x16x5632_S16x5632) bitsLt_bf16_f32

theorem tile16x5632_apply (x : FVec Ideal S1x1x16x5632 .f32) (a : Fin 16) (n : Fin 5632) : tile16x5632 x (ix2 a n) = x (ix4 0 0 a n) := by
  unfold tile16x5632
  pointwise

/-- A block of 32 rows of 2048 numbers. -/
def tile32x2048 (x : FVec Ideal S1x1x32x2048 .f32) : FVec Ideal S32x2048 .bf16 := truncf .bf16 (shapeCast S32x2048 x shapeCasts_S1x1x32x2048_S32x2048) bitsLt_bf16_f32

theorem tile32x2048_apply (x : FVec Ideal S1x1x32x2048 .f32) (a : Fin 32) (n : Fin 2048) : tile32x2048 x (ix2 a n) = x (ix4 0 0 a n) := by
  unfold tile32x2048
  pointwise

end Cert.FfnCopy

end
-- ==== Proof.FfnCCopies.lean ====
/-
  What the body of the feed-forward kernel of layer 1, sub-layer 0 leaves of its copies at a point, in every case: the block it was handed, rounded.
-/
module

public import proofs.«01_k».proof.Proof.FfnCBody
public import proofs.«01_k».proof.Proof.FfnCopy

@[expose] public section

set_option maxRecDepth 16384

noncomputable section

namespace Cert.FfnCIdeal.Body

open Idealize.ShloMosaic Idealize.ShloMosaic.TcCoe Cert.FfnCIdeal Cert.FfnCIdeal.Gen
open Cert.FfnIdeal.Body (hz5 hz4 hz2)
open Cert.FfnCopy

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (xo12 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1024x2048 .f32) (harg14 : arg14.IsWhole) (arg15 : Memref sig .tc .vmem S16x5632 .bf16) (harg15 : arg15.IsWhole) (arg16 : Memref sig .tc .vmem S16x5632 .bf16) (harg16 : arg16.IsWhole) (arg17 : Memref sig .tc .vmem S32x2048 .bf16) (harg17 : arg17.IsWhole) (arg18 : Memref sig .tc .vmem S1024x2048 .bf16) (harg18 : arg18.IsWhole)

set_option maxHeartbeats 4000000 in
/-- The copies at a first chunk. -/
theorem copies_A (hc0 : cond0_0 i) (hc1 : ¬cond0_1 i) (hc2 : ¬cond0_2 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile16x5632 x9 ∧
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile16x5632 x10 ∧
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile32x2048 x11 := by
  have h13 := cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  have h14 := cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  have h15 := cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold out0_A_13 out0_A_14 out0_A_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_A
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

set_option maxHeartbeats 4000000 in
/-- The copies at an inner chunk. -/
theorem copies_B (hc0 : ¬cond0_0 i) (hc1 : cond0_1 i) (hc2 : ¬cond0_2 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x9 ∧
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x10 ∧
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile32x2048 x11 := by
  have h13 := cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h14 := cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h15 := cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_B_13 out0_B_14 out0_B_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

set_option maxHeartbeats 4000000 in
/-- The copies at a last chunk. -/
theorem copies_C (hc0 : ¬cond0_0 i) (hc1 : ¬cond0_1 i) (hc2 : cond0_2 i) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x9 ∧
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x10 ∧
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile32x2048 x11 := by
  have h13 := cover0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h14 := cover0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h15 := cover0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_C_13 out0_C_14 out0_C_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_C
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

end Cert.FfnCIdeal.Body

end
-- ==== Proof.FfnCWindows.lean ====
/-
  The blocks of the feed-forward kernel of layer 1, sub-layer 0, read from the arrays they are staged from: point `t` is (tile of rows `t / 11`, chunk of
  inner columns `t % 11`), the tile lies in batch `t / 88`, and each point copies one block of rows of the other weights.
-/
module

public import proofs.«01_k».proof.Proof.Gen.FfnCIdeal.Value
public import Idealize.ShloMosaic.Lib.Pipeline.ValueKit
public import Idealize.ShloMosaic.Lib.Pointwise

@[expose] public section

set_option maxRecDepth 16384

noncomputable section

namespace Cert.FfnCIdeal.Windows

open Idealize.ShloMosaic Idealize.ShloMosaic.TcCoe Cert.FfnCIdeal Cert.FfnCIdeal.Gen

variable (m : (ℓ : Loc nD τ sig) → Buf (Elt Ideal) ℓ) (c : Dev nD)

/-- Where each window's block lies, by the point. -/
theorem idx : ∀ t : Fin grid0.N, win0_0.index t = ![t.val / 11, 0] ∧ win0_1.index t = ![1, t.val / 88, 0, 0, 0] ∧
    win0_2.index t = ![1, t.val / 88, 1, 0, 0] ∧ win0_3.index t = ![1, t.val / 88, 2, 0, 0] ∧ win0_4.index t = ![0, t.val % 11] ∧
    win0_5.index t = ![0, t.val % 11] ∧ win0_6.index t = ![t.val % 11, 0] ∧ win0_7.index t = ![1, 0, 0, 0] ∧
    win0_8.index t = ![1, 0, 0, 0] ∧ win0_12.index t = ![t.val / 11, 0] := by decide +kernel

/-- Where the copies' blocks lie. -/
theorem idx_in : ∀ t : Fin grid0.N, win0_9.index t = ![1, 1, min t.val 127, 0] ∧
    win0_10.index t = ![1, 1, min t.val 127, 0] ∧
    win0_11.index t = ![1, 1, t.val, 0] := by decide +kernel

theorem idx_out : ∀ t : Fin grid0.N, win0_13.index t = ![min t.val 127, 0] ∧
    win0_14.index t = ![min t.val 127, 0] ∧
    win0_15.index t = ![t.val, 0] := by decide +kernel

theorem lt_N (t : Fin grid0.N) : t.val < 176 := lt_of_lt_of_eq t.isLt N_0

/-- The input's tile of rows. -/
theorem blk0 (t : Fin grid0.N) (a : Fin 1024) (n : Fin 2048) :
    (iblk m c 0 t : Vec Ideal S1024x2048 .f32) (ix2 a n) =
      (V m c main_v11 : Vec Ideal S16384x2048 .f32) (ix2 ⟨t.val / 11 * 1024 + a.val, by have := lt_N t; omega⟩ n) := by
  have e : win0_0.index t = ![t.val / 11, 0] := by have h := idx t; tauto
  have hi : (((cfg0.win 0).blk t).view.emb (ix2 a n) : S16384x2048.Idx) = (ix2 ⟨t.val / 11 * 1024 + a.val, by have := lt_N t; omega⟩ n : S16384x2048.Idx) := by
    funext d
    apply Fin.ext
    match d with
    | ⟨0, _⟩ => show win0_0.index t 0 * 1024 + 1 * a.val = t.val / 11 * 1024 + a.val; rw [e]; simp
    | ⟨1, _⟩ => show win0_0.index t 1 * 2048 + 1 * n.val = n.val; rw [e]; simp
  unfold iblk
  generalize V m c = W
  rw [View.read_apply]
  erw [hi]
  exact cast_eq _ _

/-- The batch's shift. -/
theorem blk1 (t : Fin grid0.N) (b : Fin 8) (hb : b.val = t.val / 88) (n : Fin 2048) :
    (iblk m c 1 t : Vec Ideal S1x1x1x1x2048 .f32) (ix5 0 0 0 0 n) =
      (V m c main_v1 : Vec Ideal S2x8x9x1x2048 .f32) (ix5 1 b 0 0 n) := by
  have e : win0_1.index t = ![1, b.val, 0, 0, 0] := by rw [hb]; have h := idx t; tauto
  have hi : (((cfg0.win 1).blk t).view.emb (ix5 0 0 0 0 n) : S2x8x9x1x2048.Idx) = (ix5 1 b 0 0 n : S2x8x9x1x2048.Idx) := by
    funext d
    apply Fin.ext
    match d with
    | ⟨0, _⟩ => show win0_1.index t 0 * 1 + 1 * 0 = 1; rw [e]; simp
    | ⟨1, _⟩ => show win0_1.index t 1 * 1 + 1 * 0 = b.val; rw [e]; simp
    | ⟨2, _⟩ => show win0_1.index t 2 * 1 + 1 * 0 = 0; rw [e]; simp
    | ⟨3, _⟩ => show win0_1.index t 3 * 1 + 1 * 0 = 0; rw [e]; simp
    | ⟨4, _⟩ => show win0_1.index t 4 * 2048 + 1 * n.val = n.val; rw [e]; simp
  unfold iblk
  generalize V m c = W
  rw [View.read_apply]
  erw [hi]
  exact cast_eq _ _

/-- The batch's scale. -/
theorem blk2 (t : Fin grid0.N) (b : Fin 8) (hb : b.val = t.val / 88) (n : Fin 2048) :
    (iblk m c 2 t : Vec Ideal S1x1x1x1x2048 .f32) (ix5 0 0 0 0 n) =
      (V m c main_v1 : Vec Ideal S2x8x9x1x2048 .f32) (ix5 1 b 1 0 n) := by
  have e : win0_2.index t = ![1, b.val, 1, 0, 0] := by rw [hb]; have h := idx t; tauto
  have hi : (((cfg0.win 2).blk t).view.emb (ix5 0 0 0 0 n) : S2x8x9x1x2048.Idx) = (ix5 1 b 1 0 n : S2x8x9x1x2048.Idx) := by
    funext d
    apply Fin.ext
    match d with
    | ⟨0, _⟩ => show win0_2.index t 0 * 1 + 1 * 0 = 1; rw [e]; simp
    | ⟨1, _⟩ => show win0_2.index t 1 * 1 + 1 * 0 = b.val; rw [e]; simp
    | ⟨2, _⟩ => show win0_2.index t 2 * 1 + 1 * 0 = 1; rw [e]; simp
    | ⟨3, _⟩ => show win0_2.index t 3 * 1 + 1 * 0 = 0; rw [e]; simp
    | ⟨4, _⟩ => show win0_2.index t 4 * 2048 + 1 * n.val = n.val; rw [e]; simp
  unfold iblk
  generalize V m c = W
  rw [View.read_apply]
  erw [hi]
  exact cast_eq _ _

/-- The batch's gate. -/
theorem blk3 (t : Fin grid0.N) (b : Fin 8) (hb : b.val = t.val / 88) (n : Fin 2048) :
    (iblk m c 3 t : Vec Ideal S1x1x1x1x2048 .f32) (ix5 0 0 0 0 n) =
      (V m c main_v1 : Vec Ideal S2x8x9x1x2048 .f32) (ix5 1 b 2 0 n) := by
  have e : win0_3.index t = ![1, b.val, 2, 0, 0] := by rw [hb]; have h := idx t; tauto
  have hi : (((cfg0.win 3).blk t).view.emb (ix5 0 0 0 0 n) : S2x8x9x1x2048.Idx) = (ix5 1 b 2 0 n : S2x8x9x1x2048.Idx) := by
    funext d
    apply Fin.ext
    match d with
    | ⟨0, _⟩ => show win0_3.index t 0 * 1 + 1 * 0 = 1; rw [e]; simp
    | ⟨1, _⟩ => show win0_3.index t 1 * 1 + 1 * 0 = b.val; rw [e]; simp
    | ⟨2, _⟩ => show win0_3.index t 2 * 1 + 1 * 0 = 2; rw [e]; simp
    | ⟨3, _⟩ => show win0_3.index t 3 * 1 + 1 * 0 = 0; rw [e]; simp
    | ⟨4, _⟩ => show win0_3.index t 4 * 2048 + 1 * n.val = n.val; rw [e]; simp
  unfold iblk
  generalize V m c = W
  rw [View.read_apply]
  erw [hi]
  exact cast_eq _ _

/-- The chunk of the gate weights. -/
theorem blk4 (t : Fin grid0.N) (k : Fin 2048) (j : Fin 512) (q : Fin 5632) (hq : q.val = 512 * (t.val % 11) + j.val) :
    (iblk m c 4 t : Vec Ideal S2048x512 .bf16) (ix2 k j) =
      (V m c main_v4 : Vec Ideal S2048x5632 .bf16) (ix2 k q) := by
  have e : win0_4.index t = ![0, t.val % 11] := by have h := idx t; tauto
  have hi : (((cfg0.win 4).blk t).view.emb (ix2 k j) : S2048x5632.Idx) = (ix2 k q : S2048x5632.Idx) := by
    funext d
    apply Fin.ext
    match d with
    | ⟨0, _⟩ => show win0_4.index t 0 * 2048 + 1 * k.val = k.val; rw [e]; simp
    | ⟨1, _⟩ => show win0_4.index t 1 * 512 + 1 * j.val = q.val; rw [e, hq]; simp [mul_comm]
  unfold iblk
  generalize V m c = W
  rw [View.read_apply]
  erw [hi]
  exact cast_eq _ _

/-- The chunk of the other weights. -/
theorem blk5 (t : Fin grid0.N) (k : Fin 2048) (j : Fin 512) (q : Fin 5632) (hq : q.val = 512 * (t.val % 11) + j.val) :
    (iblk m c 5 t : Vec Ideal S2048x512 .bf16) (ix2 k j) =
      (V m c main_v7 : Vec Ideal S2048x5632 .bf16) (ix2 k q) := by
  have e : win0_5.index t = ![0, t.val % 11] := by have h := idx t; tauto
  have hi : (((cfg0.win 5).blk t).view.emb (ix2 k j) : S2048x5632.Idx) = (ix2 k q : S2048x5632.Idx) := by
    funext d
    apply Fin.ext
    match d with
    | ⟨0, _⟩ => show win0_5.index t 0 * 2048 + 1 * k.val = k.val; rw [e]; simp
    | ⟨1, _⟩ => show win0_5.index t 1 * 512 + 1 * j.val = q.val; rw [e, hq]; simp [mul_comm]
  unfold iblk
  generalize V m c = W
  rw [View.read_apply]
  erw [hi]
  exact cast_eq _ _

/-- The chunk of the last weights. -/
theorem blk6 (t : Fin grid0.N) (j : Fin 512) (n : Fin 2048) (q : Fin 5632) (hq : q.val = 512 * (t.val % 11) + j.val) :
    (iblk m c 6 t : Vec Ideal S512x2048 .bf16) (ix2 j n) =
      (V m c main_v10 : Vec Ideal S5632x2048 .bf16) (ix2 q n) := by
  have e : win0_6.index t = ![t.val % 11, 0] := by have h := idx t; tauto
  have hi : (((cfg0.win 6).blk t).view.emb (ix2 j n) : S5632x2048.Idx) = (ix2 q n : S5632x2048.Idx) := by
    funext d
    apply Fin.ext
    match d with
    | ⟨0, _⟩ => show win0_6.index t 0 * 512 + 1 * j.val = q.val; rw [e, hq]; simp [mul_comm]
    | ⟨1, _⟩ => show win0_6.index t 1 * 2048 + 1 * n.val = n.val; rw [e]; simp
  unfold iblk
  generalize V m c = W
  rw [View.read_apply]
  erw [hi]
  exact cast_eq _ _

/-- The norm's factors. -/
theorem blk7 (t : Fin grid0.N) (n : Fin 2048) :
    (iblk m c 7 t : Vec Ideal S1x1x1x2048 .f32) (ix4 0 0 0 n) =
      (V m c main_v12 : Vec Ideal S2x3x1x2048 .f32) (ix4 1 0 0 n) := by
  have e : win0_7.index t = ![1, 0, 0, 0] := by have h := idx t; tauto
  have hi : (((cfg0.win 7).blk t).view.emb (ix4 0 0 0 n) : S2x3x1x2048.Idx) = (ix4 1 0 0 n : S2x3x1x2048.Idx) := by
    funext d
    apply Fin.ext
    match d with
    | ⟨0, _⟩ => show win0_7.index t 0 * 1 + 1 * 0 = 1; rw [e]; simp
    | ⟨1, _⟩ => show win0_7.index t 1 * 1 + 1 * 0 = 0; rw [e]; simp
    | ⟨2, _⟩ => show win0_7.index t 2 * 1 + 1 * 0 = 0; rw [e]; simp
    | ⟨3, _⟩ => show win0_7.index t 3 * 2048 + 1 * n.val = n.val; rw [e]; simp
  unfold iblk
  generalize V m c = W
  rw [View.read_apply]
  erw [hi]
  exact cast_eq _ _

/-- The norm's offsets. -/
theorem blk8 (t : Fin grid0.N) (n : Fin 2048) :
    (iblk m c 8 t : Vec Ideal S1x1x1x2048 .f32) (ix4 0 0 0 n) =
      (V m c main_v13 : Vec Ideal S2x3x1x2048 .f32) (ix4 1 0 0 n) := by
  have e : win0_8.index t = ![1, 0, 0, 0] := by have h := idx t; tauto
  have hi : (((cfg0.win 8).blk t).view.emb (ix4 0 0 0 n) : S2x3x1x2048.Idx) = (ix4 1 0 0 n : S2x3x1x2048.Idx) := by
    funext d
    apply Fin.ext
    match d with
    | ⟨0, _⟩ => show win0_8.index t 0 * 1 + 1 * 0 = 1; rw [e]; simp
    | ⟨1, _⟩ => show win0_8.index t 1 * 1 + 1 * 0 = 0; rw [e]; simp
    | ⟨2, _⟩ => show win0_8.index t 2 * 1 + 1 * 0 = 0; rw [e]; simp
    | ⟨3, _⟩ => show win0_8.index t 3 * 2048 + 1 * n.val = n.val; rw [e]; simp
  unfold iblk
  generalize V m c = W
  rw [View.read_apply]
  erw [hi]
  exact cast_eq _ _

/-- The block of rows to copy from argument 2. -/
theorem blk9 (t : Fin grid0.N) (a : Fin 16) (n : Fin 5632) :
    (iblk m c 9 t : Vec Ideal S1x1x16x5632 .f32) (ix4 0 0 a n) =
      (V m c main_arg2 : Vec Ideal S2x2x2048x5632 .f32) (ix4 1 1 ⟨(min t.val 127) * 16 + a.val, by have := lt_N t; omega⟩ n) := by
  have e : win0_9.index t = ![1, 1, min t.val 127, 0] := by have h := idx_in t; tauto
  have hi : (((cfg0.win 9).blk t).view.emb (ix4 0 0 a n) : S2x2x2048x5632.Idx) = (ix4 1 1 ⟨(min t.val 127) * 16 + a.val, by have := lt_N t; omega⟩ n : S2x2x2048x5632.Idx) := by
    funext d
    apply Fin.ext
    match d with
    | ⟨0, _⟩ => show win0_9.index t 0 * 1 + 1 * 0 = 1; rw [e]; simp
    | ⟨1, _⟩ => show win0_9.index t 1 * 1 + 1 * 0 = 1; rw [e]; simp
    | ⟨2, _⟩ => show win0_9.index t 2 * 16 + 1 * a.val = (min t.val 127) * 16 + a.val; rw [e]; simp
    | ⟨3, _⟩ => show win0_9.index t 3 * 5632 + 1 * n.val = n.val; rw [e]; simp
  unfold iblk
  generalize V m c = W
  rw [View.read_apply]
  erw [hi]
  exact cast_eq _ _

/-- The block of rows to copy from argument 3. -/
theorem blk10 (t : Fin grid0.N) (a : Fin 16) (n : Fin 5632) :
    (iblk m c 10 t : Vec Ideal S1x1x16x5632 .f32) (ix4 0 0 a n) =
      (V m c main_arg3 : Vec Ideal S2x2x2048x5632 .f32) (ix4 1 1 ⟨(min t.val 127) * 16 + a.val, by have := lt_N t; omega⟩ n) := by
  have e : win0_10.index t = ![1, 1, min t.val 127, 0] := by have h := idx_in t; tauto
  have hi : (((cfg0.win 10).blk t).view.emb (ix4 0 0 a n) : S2x2x2048x5632.Idx) = (ix4 1 1 ⟨(min t.val 127) * 16 + a.val, by have := lt_N t; omega⟩ n : S2x2x2048x5632.Idx) := by
    funext d
    apply Fin.ext
    match d with
    | ⟨0, _⟩ => show win0_10.index t 0 * 1 + 1 * 0 = 1; rw [e]; simp
    | ⟨1, _⟩ => show win0_10.index t 1 * 1 + 1 * 0 = 1; rw [e]; simp
    | ⟨2, _⟩ => show win0_10.index t 2 * 16 + 1 * a.val = (min t.val 127) * 16 + a.val; rw [e]; simp
    | ⟨3, _⟩ => show win0_10.index t 3 * 5632 + 1 * n.val = n.val; rw [e]; simp
  unfold iblk
  generalize V m c = W
  rw [View.read_apply]
  erw [hi]
  exact cast_eq _ _

/-- The block of rows to copy from argument 4. -/
theorem blk11 (t : Fin grid0.N) (a : Fin 32) (n : Fin 2048) :
    (iblk m c 11 t : Vec Ideal S1x1x32x2048 .f32) (ix4 0 0 a n) =
      (V m c main_arg4 : Vec Ideal S2x2x5632x2048 .f32) (ix4 1 1 ⟨(t.val) * 32 + a.val, by have := lt_N t; omega⟩ n) := by
  have e : win0_11.index t = ![1, 1, t.val, 0] := by have h := idx_in t; tauto
  have hi : (((cfg0.win 11).blk t).view.emb (ix4 0 0 a n) : S2x2x5632x2048.Idx) = (ix4 1 1 ⟨(t.val) * 32 + a.val, by have := lt_N t; omega⟩ n : S2x2x5632x2048.Idx) := by
    funext d
    apply Fin.ext
    match d with
    | ⟨0, _⟩ => show win0_11.index t 0 * 1 + 1 * 0 = 1; rw [e]; simp
    | ⟨1, _⟩ => show win0_11.index t 1 * 1 + 1 * 0 = 1; rw [e]; simp
    | ⟨2, _⟩ => show win0_11.index t 2 * 32 + 1 * a.val = (t.val) * 32 + a.val; rw [e]; simp
    | ⟨3, _⟩ => show win0_11.index t 3 * 2048 + 1 * n.val = n.val; rw [e]; simp
  unfold iblk
  generalize V m c = W
  rw [View.read_apply]
  erw [hi]
  exact cast_eq _ _

end Cert.FfnCIdeal.Windows

end
-- ==== Proof.FfnCHost.lean ====
/-
  The arrays the feed-forward kernel of layer 1, sub-layer 0 is handed, at an index of the arguments: the host lines before the launch cut the
  layer's weights out, give the modulation an axis for its nine rows, and join batch and position.
-/
module

public import proofs.«01_k».proof.Proof.Gen.FfnCIdeal.Frame
public import Idealize.ShloMosaic.Lib.Pointwise
public import Idealize.ShloMosaic.Lib.StableHlo.Run
public import Idealize.ShloMosaic.Lib.Tactic

@[expose] public section

set_option maxRecDepth 16384

noncomputable section

namespace Cert.FfnCIdeal.Host

open Idealize.ShloMosaic Idealize.ShloMosaic.TcCoe Cert.FfnCIdeal Cert.FfnCIdeal.Gen

variable (m : (ℓ : Loc nD τ sig) → Buf (Elt Ideal) ℓ) (c : Dev nD)

/-- The input's rows are (batch, position). -/
theorem x_apply (r : Fin 16384) (n : Fin 2048) :
    (V m c main_v11 : Vec Ideal S16384x2048 .f32) (ix2 r n) =
      (m (c.tc.loc main_arg0) : Vec Ideal S2x8192x2048 .f32) (ix3 ⟨r.val / 8192, by omega⟩ ⟨r.val % 8192, by omega⟩ n) := by
  simp only [V, hostOps0, hostOps0_1, hostOps0_2, List.flatten_cons, List.flatten_nil, List.append_nil, List.cons_append, List.nil_append]
  after_results
  pointwise

/-- The modulation's row `k` of a batch, found in layer 1. -/
theorem mod_apply (b : Fin 2) (k : Fin 9) (n : Fin 2048) :
    (V m c main_v1 : Vec Ideal S2x8x9x1x2048 .f32) (ix5 1 ⟨b.val, by omega⟩ k 0 n) =
      (m (c.tc.loc main_arg1) : Vec Ideal S2x18432 .f32) (ix2 b ⟨k.val * 2048 + n.val, by omega⟩) := by
  simp only [V, hostOps0, hostOps0_1, hostOps0_2, List.flatten_cons, List.flatten_nil, List.append_nil, List.cons_append, List.nil_append]
  after_results
  simp only [StableHlo.TRef.toBuf, StableHlo.TRef.ofBuf, cast_eq, id]
  pointwise

/-- The gate weights. -/
theorem wg_apply (k : Fin 2048) (n : Fin 5632) :
    (V m c main_v4 : Vec Ideal S2048x5632 .bf16) (ix2 k n) = (m (c.tc.loc main_arg2) : Vec Ideal S2x2x2048x5632 .f32) (ix4 1 0 k n) := by
  simp only [V, hostOps0, hostOps0_1, hostOps0_2, List.flatten_cons, List.flatten_nil, List.append_nil, List.cons_append, List.nil_append]
  after_results
  pointwise

/-- The other weights of the inner columns. -/
theorem wu_apply (k : Fin 2048) (n : Fin 5632) :
    (V m c main_v7 : Vec Ideal S2048x5632 .bf16) (ix2 k n) = (m (c.tc.loc main_arg3) : Vec Ideal S2x2x2048x5632 .f32) (ix4 1 0 k n) := by
  simp only [V, hostOps0, hostOps0_1, hostOps0_2, List.flatten_cons, List.flatten_nil, List.append_nil, List.cons_append, List.nil_append]
  after_results
  pointwise

/-- The last weights. -/
theorem wd_apply (k : Fin 5632) (n : Fin 2048) :
    (V m c main_v10 : Vec Ideal S5632x2048 .bf16) (ix2 k n) = (m (c.tc.loc main_arg4) : Vec Ideal S2x2x5632x2048 .f32) (ix4 1 0 k n) := by
  simp only [V, hostOps0, hostOps0_1, hostOps0_2, List.flatten_cons, List.flatten_nil, List.append_nil, List.cons_append, List.nil_append]
  after_results
  pointwise

/-- The norm's factors. -/
theorem g_apply (l : Fin 2) (s : Fin 3) (n : Fin 2048) :
    (V m c main_v12 : Vec Ideal S2x3x1x2048 .f32) (ix4 l s 0 n) = (m (c.tc.loc main_arg5) : Vec Ideal S2x3x2048 .f32) (ix3 l s n) := by
  simp only [V, hostOps0, hostOps0_1, hostOps0_2, List.flatten_cons, List.flatten_nil, List.append_nil, List.cons_append, List.nil_append]
  after_results
  pointwise

/-- The norm's offsets. -/
theorem b_apply (l : Fin 2) (s : Fin 3) (n : Fin 2048) :
    (V m c main_v13 : Vec Ideal S2x3x1x2048 .f32) (ix4 l s 0 n) = (m (c.tc.loc main_arg6) : Vec Ideal S2x3x2048 .f32) (ix3 l s n) := by
  simp only [V, hostOps0, hostOps0_1, hostOps0_2, List.flatten_cons, List.flatten_nil, List.append_nil, List.cons_append, List.nil_append]
  after_results
  pointwise

/-- The arguments that are handed over as they are. -/
theorem args_eq : (V m c main_arg2 : Vec Ideal S2x2x2048x5632 .f32) = m (c.tc.loc main_arg2) ∧
    (V m c main_arg3 : Vec Ideal S2x2x2048x5632 .f32) = m (c.tc.loc main_arg3) ∧
    (V m c main_arg4 : Vec Ideal S2x2x5632x2048 .f32) = m (c.tc.loc main_arg4) := by
  refine ⟨?_, ?_, ?_⟩
  all_goals
    simp only [V, hostOps0, hostOps0_1, hostOps0_2, List.flatten_cons, List.flatten_nil, List.append_nil, List.cons_append, List.nil_append]
    after_results

end Cert.FfnCIdeal.Host

end
-- ==== Proof.FfnSweep.lean ====
/-
  The grid's sweep of a feed-forward kernel, over any blocks that are cut from the sub-layer's arrays: from what a point leaves, by
  the case of the point, to the rows at the end of a tile. Every feed-forward call that copies weights beside its rows is an instance.
-/
module

public import proofs.«01_k».proof.Proof.FfnBody

@[expose] public section

set_option maxRecDepth 16384

noncomputable section

namespace Cert.FfnSweep

open Idealize.ShloMosaic Cert.FfnIdeal Cert.FfnIdeal.Body Cert.FfnMath

/-- A sub-layer's arrays: the input by batch and position, shift, scale and gate by batch, the weights, and the norm's factors and offsets. -/
structure Arrays where
  x : Fin 2 → Fin 8192 → Fin 2048 → EReal
  sh : Fin 2 → Fin 2048 → EReal
  sc : Fin 2 → Fin 2048 → EReal
  gt : Fin 2 → Fin 2048 → EReal
  wg : Fin 2048 → Fin 5632 → EReal
  wu : Fin 2048 → Fin 5632 → EReal
  wd : Fin 5632 → Fin 2048 → EReal
  lg : Fin 2048 → EReal
  lb : Fin 2048 → EReal

/-- Input, modulation and weights are real. -/
structure Arrays.Real (A : Arrays) : Prop where
  x : ∀ b p n, IsReal (A.x b p n)
  sh : ∀ b n, IsReal (A.sh b n)
  sc : ∀ b n, IsReal (A.sc b n)
  gt : ∀ b n, IsReal (A.gt b n)
  wg : ∀ k j, IsReal (A.wg k j)
  wu : ∀ k j, IsReal (A.wu k j)
  wd : ∀ j n, IsReal (A.wd j n)

/-- A position's input after scale and shift. -/
def Arrays.hrow (A : Arrays) (b : Fin 2) (p : Fin 8192) (k : Fin 2048) : EReal := mixed (A.x b p k) (A.sc b k) (A.sh b k)

/-- What inner column `j` gives to output `n`. -/
def Arrays.part (A : Arrays) (b : Fin 2) (p : Fin 8192) (n : Fin 2048) (j : Fin 5632) : EReal :=
  term (A.hrow b p) A.wg A.wu (fun j => A.wd j n) j

/-- The residual with the first `f` chunks added. -/
def Arrays.upto (A : Arrays) (f : ℕ) (b : Fin 2) (p : Fin 8192) (n : Fin 2048) : EReal :=
  Ideal.ofBits .f32 0x3FB504F3#32 * A.x b p n + ∑ i ∈ Finset.range f,
    Ideal.ofBits .f32 0x3F000000#32 * A.gt b n * ∑ j : Fin 512, A.part b p n (col i j)

/-- One entry of the sub-layer's result: the norm of the residual sum over all the inner columns. -/
def Arrays.entry (A : Arrays) (b : Fin 2) (p : Fin 8192) (n : Fin 2048) : EReal :=
  rowNorm (fun k => Ideal.ofBits .f32 0x3FB504F3#32 * A.x b p k + A.gt b k * (Ideal.ofBits .f32 0x3F000000#32 * ∑ j : Fin 5632, A.part b p k j))
    (A.lg n) (A.lb n) n

/-- The blocks a kernel is handed at each point. -/
structure Blocks (N : ℕ) where
  b0 : Fin N → FVec Ideal S1024x2048 .f32
  b1 : Fin N → FVec Ideal S1x1x1x1x2048 .f32
  b2 : Fin N → FVec Ideal S1x1x1x1x2048 .f32
  b3 : Fin N → FVec Ideal S1x1x1x1x2048 .f32
  b4 : Fin N → FVec Ideal S2048x512 .bf16
  b5 : Fin N → FVec Ideal S2048x512 .bf16
  b6 : Fin N → FVec Ideal S512x2048 .bf16
  b7 : Fin N → FVec Ideal S1x1x1x2048 .f32
  b8 : Fin N → FVec Ideal S1x1x1x2048 .f32

/-- The blocks are cut from the arrays: point `t` is (tile of rows `t / 11`, chunk of inner columns `t % 11`). -/
structure Cut {N : ℕ} (A : Arrays) (K : Blocks N) : Prop where
  lt : ∀ t : Fin N, t.val < 176
  c0 : ∀ (t : Fin N) (a : Fin 1024) (b : Fin 2) (p : Fin 8192) (n : Fin 2048), 8192 * b.val + p.val = t.val / 11 * 1024 + a.val →
    K.b0 t (ix2 a n) = A.x b p n
  c1 : ∀ (t : Fin N) (b : Fin 2) (n : Fin 2048), b.val = t.val / 88 → K.b1 t (ix5 0 0 0 0 n) = A.sh b n
  c2 : ∀ (t : Fin N) (b : Fin 2) (n : Fin 2048), b.val = t.val / 88 → K.b2 t (ix5 0 0 0 0 n) = A.sc b n
  c3 : ∀ (t : Fin N) (b : Fin 2) (n : Fin 2048), b.val = t.val / 88 → K.b3 t (ix5 0 0 0 0 n) = A.gt b n
  c4 : ∀ (t : Fin N) (k : Fin 2048) (j : Fin 512) (q : Fin 5632), q.val = 512 * (t.val % 11) + j.val → K.b4 t (ix2 k j) = A.wg k q
  c5 : ∀ (t : Fin N) (k : Fin 2048) (j : Fin 512) (q : Fin 5632), q.val = 512 * (t.val % 11) + j.val → K.b5 t (ix2 k j) = A.wu k q
  c6 : ∀ (t : Fin N) (j : Fin 512) (n : Fin 2048) (q : Fin 5632), q.val = 512 * (t.val % 11) + j.val → K.b6 t (ix2 j n) = A.wd q n
  c7 : ∀ (t : Fin N) (n : Fin 2048), K.b7 t (ix4 0 0 0 n) = A.lg n
  c8 : ∀ (t : Fin N) (n : Fin 2048), K.b8 t (ix4 0 0 0 n) = A.lb n

/-- What the points leave, by the case of the point: `o` in the tile of rows, `k` in the kept tile. -/
structure Runs {N : ℕ} (K : Blocks N) (o : (s : ℕ) → s < N → FVec Ideal S1024x2048 .f32) (k : (s : ℕ) → s < N → FVec Ideal S1024x2048 .bf16) : Prop where
  open_o : ∀ t : Fin N, t.val % 11 = 0 → o t.val t.isLt = first (K.b0 t) (K.b1 t) (K.b2 t) (K.b3 t) (K.b4 t) (K.b5 t) (K.b6 t)
  open_k : ∀ t : Fin N, t.val % 11 = 0 → k t.val t.isLt = kept (K.b0 t) (K.b1 t) (K.b2 t)
  mid_o : ∀ (s : ℕ) (h : s + 1 < N), (s + 1) % 11 ≠ 0 → (s + 1) % 11 ≠ 10 → o (s + 1) h =
    inner (K.b3 ⟨s + 1, h⟩) (K.b4 ⟨s + 1, h⟩) (K.b5 ⟨s + 1, h⟩) (K.b6 ⟨s + 1, h⟩) (o s (Nat.lt_of_succ_lt h)) (k s (Nat.lt_of_succ_lt h))
  last_o : ∀ (s : ℕ) (h : s + 1 < N), (s + 1) % 11 = 10 → o (s + 1) h =
    last (K.b3 ⟨s + 1, h⟩) (K.b4 ⟨s + 1, h⟩) (K.b5 ⟨s + 1, h⟩) (K.b6 ⟨s + 1, h⟩) (K.b7 ⟨s + 1, h⟩) (K.b8 ⟨s + 1, h⟩)
      (o s (Nat.lt_of_succ_lt h)) (k s (Nat.lt_of_succ_lt h))
  mid_k : ∀ (s : ℕ) (h : s + 1 < N), (s + 1) % 11 ≠ 0 → k (s + 1) h = k s (Nat.lt_of_succ_lt h)

variable {N : ℕ} {A : Arrays} {K : Blocks N} {o : (s : ℕ) → s < N → FVec Ideal S1024x2048 .f32} {k : (s : ℕ) → s < N → FVec Ideal S1024x2048 .bf16}

/-- The kept tile's rows. -/
theorem kept_apply (C : Cut A K) (t : Fin N) (a : Fin 1024) (b : Fin 2) (p : Fin 8192) (hr : 8192 * b.val + p.val = t.val / 11 * 1024 + a.val)
    (n : Fin 2048) : kept (K.b0 t) (K.b1 t) (K.b2 t) (ix2 a n) = A.hrow b p n := by
  have hb : b.val = t.val / 88 := by omega
  show mixed (K.b0 t (ix2 a n)) (K.b2 t (ix5 0 0 0 0 n)) (K.b1 t (ix5 0 0 0 0 n)) = _
  rw [C.c0 t a b p n hr, C.c1 t b n hb, C.c2 t b n hb]
  rfl

/-- A point's step on a tile that holds the hidden rows. -/
theorem step_apply (C : Cut A K) (t : Fin N) (a : Fin 1024) (b : Fin 2) (p : Fin 8192) (hr : 8192 * b.val + p.val = t.val / 11 * 1024 + a.val)
    (xs : FVec Ideal S1024x2048 .bf16) (hx : ∀ i, xs (ix2 a i) = A.hrow b p i) (n : Fin 2048) :
    step (K.b3 t) (K.b4 t) (K.b5 t) (K.b6 t) xs (ix2 a n) =
      Ideal.ofBits .f32 0x3F000000#32 * A.gt b n * ∑ j : Fin 512, A.part b p n (col (t.val % 11) j) := by
  have hb : b.val = t.val / 88 := by omega
  have ht := C.lt t
  show Chunk.half (K.b3 t) n * Chunk.share (fun i => xs (ix2 a i)) (K.b4 t) (K.b5 t) (K.b6 t) n = _
  unfold Chunk.half Chunk.share Arrays.part term
  rw [C.c3 t b n hb, funext hx]
  have hq : ∀ j : Fin 512, (col (t.val % 11) j).val = 512 * (t.val % 11) + j.val := fun j => by
    show (512 * (t.val % 11) + j.val) % 5632 = _; omega
  congr 1
  refine Finset.sum_congr rfl fun j _ => ?_
  dsimp only
  rw [C.c6 t j n _ (hq j)]
  simp only [fun i => C.c4 t i j _ (hq j), fun i => C.c5 t i j _ (hq j)]

/-- After every point the kept tile holds the hidden rows. -/
theorem kept_state (C : Cut A K) (R : Runs K o k) (s : ℕ) (hs : s < N) (a : Fin 1024) (b : Fin 2) (p : Fin 8192)
    (hr : 8192 * b.val + p.val = s / 11 * 1024 + a.val) (n : Fin 2048) : k s hs (ix2 a n) = A.hrow b p n := by
  induction s with
  | zero => rw [R.open_k ⟨0, hs⟩ rfl]; exact kept_apply C ⟨0, hs⟩ a b p hr n
  | succ s ih =>
    by_cases h0 : (s + 1) % 11 = 0
    · rw [R.open_k ⟨s + 1, hs⟩ h0]; exact kept_apply C ⟨s + 1, hs⟩ a b p hr n
    · rw [R.mid_k s hs h0]; exact ih (Nat.lt_of_succ_lt hs) (by omega)

/-- After a point that is not a tile's last, the tile holds the residual with the chunks so far. -/
theorem sum_state (C : Cut A K) (R : Runs K o k) (s : ℕ) (hs : s < N) (hl : s % 11 ≠ 10) (a : Fin 1024) (b : Fin 2) (p : Fin 8192)
    (hr : 8192 * b.val + p.val = s / 11 * 1024 + a.val) (n : Fin 2048) : o s hs (ix2 a n) = A.upto (s % 11 + 1) b p n := by
  have first : ∀ t : Fin N, t.val % 11 = 0 → 8192 * b.val + p.val = t.val / 11 * 1024 + a.val →
      o t.val t.isLt (ix2 a n) = A.upto (t.val % 11 + 1) b p n := fun t h0 hr => by
    rw [R.open_o t h0]
    unfold Body.first Arrays.upto
    rw [C.c0 t a b p n hr, step_apply C t a b p hr _ (kept_apply C t a b p hr), h0, Finset.sum_range_one]
  induction s with
  | zero => exact first ⟨0, hs⟩ rfl hr
  | succ s ih =>
    by_cases h0 : (s + 1) % 11 = 0
    · exact first ⟨s + 1, hs⟩ h0 hr
    · rw [R.mid_o s hs h0 hl]
      show o s _ (ix2 a n) + step _ _ _ _ _ (ix2 a n) = _
      rw [ih (Nat.lt_of_succ_lt hs) (by omega) (by omega), step_apply C ⟨s + 1, hs⟩ a b p hr _
        (kept_state C R s (Nat.lt_of_succ_lt hs) a b p (by omega))]
      unfold Arrays.upto
      dsimp only
      rw [show (s + 1) % 11 = s % 11 + 1 by omega, Finset.sum_range_succ _ (s % 11 + 1), add_assoc]

/-- After a tile's last point, the tile holds the layer norm of the residual with all eleven chunks. -/
theorem last_state (C : Cut A K) (R : Runs K o k) (t : Fin N) (h2 : t.val % 11 = 10) (a : Fin 1024) (b : Fin 2) (p : Fin 8192)
    (hr : 8192 * b.val + p.val = t.val / 11 * 1024 + a.val) (n : Fin 2048) :
    o t.val t.isLt (ix2 a n) = rowNorm (A.upto 11 b p) (A.lg n) (A.lb n) n := by
  obtain ⟨s, hs⟩ := t
  cases s with
  | zero => exact absurd h2 (by simp)
  | succ s =>
    dsimp only at h2 hr ⊢
    rw [R.last_o s hs h2]
    show rowNorm (fun i => o s _ (ix2 a i) + step _ _ _ _ _ (ix2 a i)) (K.b7 ⟨s + 1, hs⟩ (ix4 0 0 0 n)) (K.b8 ⟨s + 1, hs⟩ (ix4 0 0 0 n)) n = _
    rw [C.c7, C.c8]
    congr 1
    funext i
    rw [sum_state C R s (Nat.lt_of_succ_lt hs) (by omega) a b p (by omega), step_apply C ⟨s + 1, hs⟩ a b p hr _
      (kept_state C R s (Nat.lt_of_succ_lt hs) a b p (by omega))]
    unfold Arrays.upto
    dsimp only
    rw [h2, show s % 11 + 1 = 10 by omega, Finset.sum_range_succ _ 10, add_assoc]

/-- Half is real. -/
theorem half_real : IsReal (Ideal.ofBits .f32 0x3F000000#32) := by
  refine ⟨1 / 2, ?_⟩
  simp [Ideal.ofBits, Ideal.ieee, -EReal.coe_mul]; norm_num

/-- On real arrays the tile's rows are the sub-layer's. -/
theorem rows (C : Cut A K) (R : Runs K o k) (H : A.Real) (t : Fin N) (h2 : t.val % 11 = 10) (a : Fin 1024) (b : Fin 2) (p : Fin 8192)
    (hr : 8192 * b.val + p.val = t.val / 11 * 1024 + a.val) (n : Fin 2048) : o t.val t.isLt (ix2 a n) = A.entry b p n := by
  rw [last_state C R t h2 a b p hr]
  unfold Arrays.entry
  congr 1
  funext i
  unfold Arrays.upto
  rw [chunks_eq _ _ (A.part b p i) (H.gt _ _) half_real fun j =>
    IsReal.term (fun _ => IsReal.mixed (H.x _ _ _) (H.sc _ _) (H.sh _ _)) (fun _ _ => H.wg _ _) (fun _ _ => H.wu _ _) (fun _ => H.wd _ _) j]

end Cert.FfnSweep

end
-- ==== Proof.FfnPlain.lean ====
/-
  The feed-forward sub-layer of reference.py from its slices: shift, scale and gate with an axis of one row, the three matrices and the
  norm's factors and offsets. Each reference of a feed-forward call that copies weights is this at its own slices.
-/
module

public import proofs.«01_k».proof.Proof.FfnRef
public import proofs.«01_k».proof.Proof.FfnSweep

@[expose] public section

set_option maxRecDepth 16384

noncomputable section

namespace Cert.FfnPlain

open Idealize.ShloMosaic Cert.FfnRefIdeal Cert.FfnRefIdeal.Gen Cert.FfnRefIdeal.Plain Cert.FfnMath Cert.FfnSweep

/-- The input after scale and shift. -/
def hidden (x : FVec Ideal S2x8192x2048 .f32) (sh sc : FVec Ideal S2x1x2048 .f32) : FVec Ideal S2x8192x2048 .f32 :=
  addf (mulf x (broadcastInDim S2x8192x2048 ![0, 1, 2] bcast_S2x1x2048_S2x8192x2048_0_1_2
      (addf (broadcastInDim S2x1x2048 ![] bcast_S_S2x1x2048 (constant (F := Ideal) S_ .f32 0x3F800000#32)) sc)))
    (broadcastInDim S2x8192x2048 ![0, 1, 2] bcast_S2x1x2048_S2x8192x2048_0_1_2 sh)

theorem hidden_apply (x : FVec Ideal S2x8192x2048 .f32) (sh sc : FVec Ideal S2x1x2048 .f32) (b : Fin 2) (p : Fin 8192) (k : Fin 2048) :
    hidden x sh sc (ix3 b p k) = mixed (x (ix3 b p k)) (sc (ix3 b 0 k)) (sh (ix3 b 0 k)) := by
  unfold hidden mixed
  pointwise

/-- The hidden rows' products with a matrix of 5632 columns. -/
def into (h : FVec Ideal S2x8192x2048 .f32) (w : FVec Ideal S2048x5632 .f32) : FVec Ideal S2x8192x5632 .f32 :=
  Host.dotGeneral dot_S2x8192x2048_S2048x5632_S2x8192x5632_2_0_01_1_n_n none h w

theorem into_apply (h : FVec Ideal S2x8192x2048 .f32) (w : FVec Ideal S2048x5632 .f32) (b : Fin 2) (p : Fin 8192) (j : Fin 5632) :
    into h w (ix3 b p j) = ∑ k : Fin 2048, h (ix3 b p k) * w (ix2 k j) := by
  unfold into
  pointwise

/-- The last product. -/
def back (a : FVec Ideal S2x8192x5632 .f32) (w : FVec Ideal S5632x2048 .f32) : FVec Ideal S2x8192x2048 .f32 :=
  Host.dotGeneral dot_S2x8192x5632_S5632x2048_S2x8192x2048_2_0_01_1_n_n none a w

theorem back_apply (a : FVec Ideal S2x8192x5632 .f32) (w : FVec Ideal S5632x2048 .f32) (b : Fin 2) (p : Fin 8192) (n : Fin 2048) :
    back a w (ix3 b p n) = ∑ j : Fin 5632, a (ix3 b p j) * w (ix2 j n) := by
  unfold back
  pointwise

/-- The residual sum before the norm. -/
def summed (x : FVec Ideal S2x8192x2048 .f32) (gt : FVec Ideal S2x1x2048 .f32) (y : FVec Ideal S2x8192x2048 .f32) : FVec Ideal S2x8192x2048 .f32 :=
  addf (mulf (broadcastInDim S2x8192x2048 ![] bcast_S_S2x8192x2048 (constant (F := Ideal) S_ .f32 0x3FB504F3#32)) x)
    (mulf (broadcastInDim S2x8192x2048 ![0, 1, 2] bcast_S2x1x2048_S2x8192x2048_0_1_2 gt)
      (mulf (broadcastInDim S2x8192x2048 ![] bcast_S_S2x8192x2048 (constant (F := Ideal) S_ .f32 0x3F000000#32)) y))

theorem summed_apply (x : FVec Ideal S2x8192x2048 .f32) (gt : FVec Ideal S2x1x2048 .f32) (y : FVec Ideal S2x8192x2048 .f32)
    (b : Fin 2) (p : Fin 8192) (n : Fin 2048) :
    summed x gt y (ix3 b p n) = Ideal.ofBits .f32 0x3FB504F3#32 * x (ix3 b p n) + gt (ix3 b 0 n) * (Ideal.ofBits .f32 0x3F000000#32 * y (ix3 b p n)) := by
  unfold summed
  pointwise

/-- The norm from the centred rows and their mean squares. -/
def normed (g b : FVec Ideal S2048 .f32) (d : FVec Ideal S2x8192x2048 .f32) (v : FVec Ideal S2x8192x1 .f32) : FVec Ideal S16384x2048 .f32 :=
  shapeCast S16384x2048 (addf (mulf (mulf d (broadcastInDim S2x8192x2048 ![0, 1, 2] bcast_S2x8192x1_S2x8192x2048_0_1_2
      (Host.rsqrt (addf v (broadcastInDim S2x8192x1 ![] bcast_S_S2x8192x1 (constant (F := Ideal) S_ .f32 0x3727C5AC#32))))))
    (broadcastInDim S2x8192x2048 ![0, 1, 2] bcast_S1x1x2048_S2x8192x2048_0_1_2 (broadcastInDim S1x1x2048 ![2] bcast_S2048_S1x1x2048_2 g)))
    (broadcastInDim S2x8192x2048 ![0, 1, 2] bcast_S1x1x2048_S2x8192x2048_0_1_2 (broadcastInDim S1x1x2048 ![2] bcast_S2048_S1x1x2048_2 b)))
    shapeCasts_S2x8192x2048_S16384x2048

theorem normed_apply (g c : FVec Ideal S2048 .f32) (d : FVec Ideal S2x8192x2048 .f32) (v : FVec Ideal S2x8192x1 .f32) (r : Fin 16384) (n : Fin 2048) :
    normed g c d v (ix2 r n) = d (ix3 ⟨r.val / 8192, by omega⟩ ⟨r.val % 8192, by omega⟩ n) *
      Ideal.rsqrt (v (ix3 ⟨r.val / 8192, by omega⟩ ⟨r.val % 8192, by omega⟩ 0) + Ideal.ofBits .f32 0x3727C5AC#32) * g (ix1 n) + c (ix1 n) := by
  unfold normed
  pointwise

/-- The sub-layer. -/
def layer (x : FVec Ideal S2x8192x2048 .f32) (sh sc gt : FVec Ideal S2x1x2048 .f32) (wg wu : FVec Ideal S2048x5632 .f32) (wd : FVec Ideal S5632x2048 .f32)
    (g b : FVec Ideal S2048 .f32) : FVec Ideal S16384x2048 .f32 :=
  have z := summed x gt (back (act (into (hidden x sh sc) wg) (into (hidden x sh sc) wu)) wd)
  normed g b (centred z (means (sums z))) (means (sums (mulf (centred z (means (sums z))) (centred z (means (sums z))))))

/-- The sub-layer's arrays at an index. -/
def arrays (x : FVec Ideal S2x8192x2048 .f32) (sh sc gt : FVec Ideal S2x1x2048 .f32) (wg wu : FVec Ideal S2048x5632 .f32) (wd : FVec Ideal S5632x2048 .f32)
    (g b : FVec Ideal S2048 .f32) : Arrays where
  x := fun b p n => x (ix3 b p n)
  sh := fun b n => sh (ix3 b 0 n)
  sc := fun b n => sc (ix3 b 0 n)
  gt := fun b n => gt (ix3 b 0 n)
  wg := fun k j => wg (ix2 k j)
  wu := fun k j => wu (ix2 k j)
  wd := fun j n => wd (ix2 j n)
  lg := fun n => g (ix1 n)
  lb := fun n => b (ix1 n)

/-- One entry of the sub-layer. -/
theorem layer_apply (x : FVec Ideal S2x8192x2048 .f32) (sh sc gt : FVec Ideal S2x1x2048 .f32) (wg wu : FVec Ideal S2048x5632 .f32)
    (wd : FVec Ideal S5632x2048 .f32) (g c : FVec Ideal S2048 .f32) (r : Fin 16384) (n : Fin 2048) (b : Fin 2) (p : Fin 8192)
    (hr : 8192 * b.val + p.val = r.val) :
    layer x sh sc gt wg wu wd g c (ix2 r n) = (arrays x sh sc gt wg wu wd g c).entry b p n := by
  unfold layer Arrays.entry rowNorm
  have hz : ∀ k : Fin 2048, summed x gt (back (act (into (hidden x sh sc) wg) (into (hidden x sh sc) wu)) wd) (ix3 b p k) =
      Ideal.ofBits .f32 0x3FB504F3#32 * (arrays x sh sc gt wg wu wd g c).x b p k + (arrays x sh sc gt wg wu wd g c).gt b k *
        (Ideal.ofBits .f32 0x3F000000#32 * ∑ j : Fin 5632, (arrays x sh sc gt wg wu wd g c).part b p k j) := fun k => by
    rw [summed_apply, back_apply]
    simp only [act_apply, into_apply, hidden_apply]
    rfl
  generalize summed x gt (back (act (into (hidden x sh sc) wg) (into (hidden x sh sc) wu)) wd) = z at hz ⊢
  dsimp only
  rw [normed_apply, show (⟨r.val / 8192, by omega⟩ : Fin 2) = b from Fin.ext (by dsimp only; omega),
    show (⟨r.val % 8192, by omega⟩ : Fin 8192) = p from Fin.ext (by dsimp only; omega), centred_apply, means_apply, means_apply]
  have h : ∀ k : Fin 2048, (mulf (centred z (means (sums z))) (centred z (means (sums z))) : FVec Ideal S2x8192x2048 .f32) (ix3 b p k) =
      (z (ix3 b p k) - mean fun k => z (ix3 b p k)) * (z (ix3 b p k) - mean fun k => z (ix3 b p k)) := fun k => by
    rw [← means_apply z b p, ← centred_apply]; rfl
  rw [funext h]
  simp only [hz]
  rfl

end Cert.FfnPlain

end
-- ==== Proof.FfnCRef.lean ====
/-
  The reference of the feed-forward call of layer 1, sub-layer 0: the sub-layer at its slices, and the copies of the other weights.
-/
module

public import proofs.«01_k».proof.Proof.Gen.FfnCRefIdeal.Run
public import proofs.«01_k».proof.Proof.FfnPlain

@[expose] public section

set_option maxRecDepth 16384

noncomputable section

namespace Cert.FfnCRefIdeal.Plain

open Idealize.ShloMosaic Idealize.ShloMosaic.TcCoe Cert.FfnCRefIdeal Cert.FfnCRefIdeal.Gen

/-- The modulation, with an axis of one row. -/
def mods (m : FVec Ideal S2x18432 .f32) : FVec Ideal S2x1x18432 .f32 := broadcastInDim S2x1x18432 ![0, 2] bcast_S2x18432_S2x1x18432_0_2 m

/-- The shift. -/
def shift (m : FVec Ideal S2x18432 .f32) : FVec Ideal S2x1x2048 .f32 :=
  extractStridedSlice S2x1x2048 ![0, 0, 0] (mods m) slices_S2x1x18432_S2x1x2048_0_0_0

theorem shift_apply (m : FVec Ideal S2x18432 .f32) (b : Fin 2) (n : Fin 2048) : shift m (ix3 b 0 n) = m (ix2 b ⟨0 + n.val, by omega⟩) := by
  unfold shift
  pointwise [mods]

/-- The scale. -/
def scale (m : FVec Ideal S2x18432 .f32) : FVec Ideal S2x1x2048 .f32 :=
  extractStridedSlice S2x1x2048 ![0, 0, 2048] (mods m) slices_S2x1x18432_S2x1x2048_0_0_2048

theorem scale_apply (m : FVec Ideal S2x18432 .f32) (b : Fin 2) (n : Fin 2048) : scale m (ix3 b 0 n) = m (ix2 b ⟨2048 + n.val, by omega⟩) := by
  unfold scale
  pointwise [mods]

/-- The gate. -/
def gate (m : FVec Ideal S2x18432 .f32) : FVec Ideal S2x1x2048 .f32 :=
  extractStridedSlice S2x1x2048 ![0, 0, 4096] (mods m) slices_S2x1x18432_S2x1x2048_0_0_4096

theorem gate_apply (m : FVec Ideal S2x18432 .f32) (b : Fin 2) (n : Fin 2048) : gate m (ix3 b 0 n) = m (ix2 b ⟨4096 + n.val, by omega⟩) := by
  unfold gate
  pointwise [mods]

/-- The layer's matrix of 5632 columns. -/
def into (w : FVec Ideal S2x2x2048x5632 .f32) : FVec Ideal S2048x5632 .f32 :=
  shapeCast S2048x5632 (extractStridedSlice S1x1x2048x5632 ![1, 0, 0, 0] w slices_S2x2x2048x5632_S1x1x2048x5632_1_0_0_0) shapeCasts_S1x1x2048x5632_S2048x5632

theorem into_apply (w : FVec Ideal S2x2x2048x5632 .f32) (k : Fin 2048) (n : Fin 5632) : into w (ix2 k n) = w (ix4 1 0 k n) := by
  unfold into
  pointwise

/-- The layer's last matrix. -/
def back (w : FVec Ideal S2x2x5632x2048 .f32) : FVec Ideal S5632x2048 .f32 :=
  shapeCast S5632x2048 (extractStridedSlice S1x1x5632x2048 ![1, 0, 0, 0] w slices_S2x2x5632x2048_S1x1x5632x2048_1_0_0_0) shapeCasts_S1x1x5632x2048_S5632x2048

theorem back_apply (w : FVec Ideal S2x2x5632x2048 .f32) (k : Fin 5632) (n : Fin 2048) : back w (ix2 k n) = w (ix4 1 0 k n) := by
  unfold back
  pointwise

/-- The norm's row. -/
def row (g : FVec Ideal S2x3x2048 .f32) : FVec Ideal S2048 .f32 :=
  shapeCast S2048 (extractStridedSlice S1x1x2048 ![1, 0, 0] g slices_S2x3x2048_S1x1x2048_1_0_0) shapeCasts_S1x1x2048_S2048

theorem row_apply (g : FVec Ideal S2x3x2048 .f32) (n : Fin 2048) : row g (ix1 n) = g (ix3 1 0 n) := by
  unfold row
  pointwise

/-- The next sub-layer's matrix of 5632 columns, rounded. -/
def next2048x5632 (w : FVec Ideal S2x2x2048x5632 .f32) : FVec Ideal S2048x5632 .bf16 :=
  truncf .bf16 (shapeCast S2048x5632 (extractStridedSlice S1x1x2048x5632 ![1, 1, 0, 0] w slices_S2x2x2048x5632_S1x1x2048x5632_1_1_0_0) shapeCasts_S1x1x2048x5632_S2048x5632) bitsLt_bf16_f32

theorem next2048x5632_apply (w : FVec Ideal S2x2x2048x5632 .f32) (k : Fin 2048) (n : Fin 5632) : next2048x5632 w (ix2 k n) = w (ix4 1 1 k n) := by
  unfold next2048x5632
  pointwise

/-- The next sub-layer's last matrix, rounded. -/
def next5632x2048 (w : FVec Ideal S2x2x5632x2048 .f32) : FVec Ideal S5632x2048 .bf16 :=
  truncf .bf16 (shapeCast S5632x2048 (extractStridedSlice S1x1x5632x2048 ![1, 1, 0, 0] w slices_S2x2x5632x2048_S1x1x5632x2048_1_1_0_0) shapeCasts_S1x1x5632x2048_S5632x2048) bitsLt_bf16_f32

theorem next5632x2048_apply (w : FVec Ideal S2x2x5632x2048 .f32) (k : Fin 5632) (n : Fin 2048) : next5632x2048 w (ix2 k n) = w (ix4 1 1 k n) := by
  unfold next5632x2048
  pointwise

/-- The rows of the result from the arguments. -/
def result (x : FVec Ideal S2x8192x2048 .f32) (md : FVec Ideal S2x18432 .f32) (wg wu : FVec Ideal S2x2x2048x5632 .f32)
    (wd : FVec Ideal S2x2x5632x2048 .f32) (g b : FVec Ideal S2x3x2048 .f32) : FVec Ideal S16384x2048 .f32 :=
  FfnPlain.layer x (shift md) (scale md) (gate md) (into wg) (into wu) (back wd) (row g) (row b)

/-- The result in the steps above. -/
theorem res_eq (m : (ℓ : Loc nD τ sig) → Buf (Elt Ideal) ℓ) (c : Dev nD) (x : FVec Ideal S2x8192x2048 .f32) (md : FVec Ideal S2x18432 .f32)
    (wg wu : FVec Ideal S2x2x2048x5632 .f32) (wd : FVec Ideal S2x2x5632x2048 .f32) (g b : FVec Ideal S2x3x2048 .f32)
    (h0 : m ((c.tc : Thread nD τ).loc main_arg0) = x) (h1 : m ((c.tc : Thread nD τ).loc main_arg1) = md)
    (h2 : m ((c.tc : Thread nD τ).loc main_arg2) = wg) (h3 : m ((c.tc : Thread nD τ).loc main_arg3) = wu)
    (h4 : m ((c.tc : Thread nD τ).loc main_arg4) = wd) (h5 : m ((c.tc : Thread nD τ).loc main_arg5) = g)
    (h6 : m ((c.tc : Thread nD τ).loc main_arg6) = b) :
    Value.res_main_v62 m c = result x md wg wu wd g b := by
  subst h0 h1 h2 h3 h4 h5 h6
  unfold Value.res_main_v62
  rfl

end Cert.FfnCRefIdeal.Plain

end
-- ==== Proof.FfnCResult.lean ====
/-
  What the feed-forward kernel of layer 1, sub-layer 0 leaves in its result arrays: the reference's rows, and the copies of the other weights.
-/
module

public import proofs.«01_k».proof.Proof.FfnCCopies
public import proofs.«01_k».proof.Proof.FfnCWindows
public import proofs.«01_k».proof.Proof.FfnCHost
public import proofs.«01_k».proof.Proof.FfnCRef

@[expose] public section

set_option maxRecDepth 16384

noncomputable section

namespace Cert.FfnCIdeal.Result

open Idealize.ShloMosaic Idealize.ShloMosaic.TcCoe Cert.FfnCIdeal Cert.FfnCIdeal.Gen Cert.FfnMath Cert.FfnSweep Cert.FfnCopy

variable (m : (ℓ : Loc nD τ sig) → Buf (Elt Ideal) ℓ) (c : Dev nD)

/-- The arguments, as arrays of extended reals. -/
abbrev x : FVec Ideal S2x8192x2048 .f32 := m ((c.tc : Thread nD τ).loc main_arg0)
abbrev md : FVec Ideal S2x18432 .f32 := m ((c.tc : Thread nD τ).loc main_arg1)
abbrev wg : FVec Ideal S2x2x2048x5632 .f32 := m ((c.tc : Thread nD τ).loc main_arg2)
abbrev wu : FVec Ideal S2x2x2048x5632 .f32 := m ((c.tc : Thread nD τ).loc main_arg3)
abbrev wd : FVec Ideal S2x2x5632x2048 .f32 := m ((c.tc : Thread nD τ).loc main_arg4)
abbrev lg : FVec Ideal S2x3x2048 .f32 := m ((c.tc : Thread nD τ).loc main_arg5)
abbrev lb : FVec Ideal S2x3x2048 .f32 := m ((c.tc : Thread nD τ).loc main_arg6)

/-- The sub-layer's arrays: the reference's slices of the arguments. -/
def arrays : Arrays :=
  FfnPlain.arrays (x m c) (FfnCRefIdeal.Plain.shift (md m c)) (FfnCRefIdeal.Plain.scale (md m c)) (FfnCRefIdeal.Plain.gate (md m c)) (FfnCRefIdeal.Plain.into (wg m c))
    (FfnCRefIdeal.Plain.into (wu m c)) (FfnCRefIdeal.Plain.back (wd m c)) (FfnCRefIdeal.Plain.row (lg m c)) (FfnCRefIdeal.Plain.row (lb m c))

/-- The reference's rows over the kernel's arguments. -/
def plainResult : FVec Ideal S16384x2048 .f32 := FfnCRefIdeal.Plain.result (x m c) (md m c) (wg m c) (wu m c) (wd m c) (lg m c) (lb m c)

/-- The blocks at each point. -/
def blocks : Blocks cfg0.N where
  b0 := fun t => iblk m c 0 t
  b1 := fun t => iblk m c 1 t
  b2 := fun t => iblk m c 2 t
  b3 := fun t => iblk m c 3 t
  b4 := fun t => iblk m c 4 t
  b5 := fun t => iblk m c 5 t
  b6 := fun t => iblk m c 6 t
  b7 := fun t => iblk m c 7 t
  b8 := fun t => iblk m c 8 t

/-- They are cut from the sub-layer's arrays. -/
theorem cut : Cut (arrays m c) (blocks m c) where
  lt := Windows.lt_N
  c0 := fun t a b p n hr => by
    show (iblk m c 0 t : Vec Ideal S1024x2048 .f32) (ix2 a n) = x m c (ix3 b p n)
    refine (Windows.blk0 m c t a n).trans ((Host.x_apply m c _ n).trans ?_)
    refine congrArg (x m c) ?_
    congr 1
    · apply Fin.ext; dsimp only; omega
    · apply Fin.ext; dsimp only; omega
  c1 := fun t b n hb => by
    show (iblk m c 1 t : Vec Ideal S1x1x1x1x2048 .f32) (ix5 0 0 0 0 n) = FfnCRefIdeal.Plain.shift (md m c) (ix3 b 0 n)
    rw [FfnCRefIdeal.Plain.shift_apply, Windows.blk1 m c t ⟨b.val, by omega⟩ hb]
    exact Host.mod_apply m c b 0 n
  c2 := fun t b n hb => by
    show (iblk m c 2 t : Vec Ideal S1x1x1x1x2048 .f32) (ix5 0 0 0 0 n) = FfnCRefIdeal.Plain.scale (md m c) (ix3 b 0 n)
    rw [FfnCRefIdeal.Plain.scale_apply, Windows.blk2 m c t ⟨b.val, by omega⟩ hb]
    exact Host.mod_apply m c b 1 n
  c3 := fun t b n hb => by
    show (iblk m c 3 t : Vec Ideal S1x1x1x1x2048 .f32) (ix5 0 0 0 0 n) = FfnCRefIdeal.Plain.gate (md m c) (ix3 b 0 n)
    rw [FfnCRefIdeal.Plain.gate_apply, Windows.blk3 m c t ⟨b.val, by omega⟩ hb]
    exact Host.mod_apply m c b 2 n
  c4 := fun t k j q hq => by
    show (iblk m c 4 t : Vec Ideal S2048x512 .bf16) (ix2 k j) = FfnCRefIdeal.Plain.into (wg m c) (ix2 k q)
    rw [FfnCRefIdeal.Plain.into_apply, Windows.blk4 m c t k j q hq]
    exact Host.wg_apply m c k q
  c5 := fun t k j q hq => by
    show (iblk m c 5 t : Vec Ideal S2048x512 .bf16) (ix2 k j) = FfnCRefIdeal.Plain.into (wu m c) (ix2 k q)
    rw [FfnCRefIdeal.Plain.into_apply, Windows.blk5 m c t k j q hq]
    exact Host.wu_apply m c k q
  c6 := fun t j n q hq => by
    show (iblk m c 6 t : Vec Ideal S512x2048 .bf16) (ix2 j n) = FfnCRefIdeal.Plain.back (wd m c) (ix2 q n)
    rw [FfnCRefIdeal.Plain.back_apply, Windows.blk6 m c t j n q hq]
    exact Host.wd_apply m c q n
  c7 := fun t n => by
    show (iblk m c 7 t : Vec Ideal S1x1x1x2048 .f32) (ix4 0 0 0 n) = FfnCRefIdeal.Plain.row (lg m c) (ix1 n)
    rw [FfnCRefIdeal.Plain.row_apply, Windows.blk7]
    exact Host.g_apply m c 1 0 n
  c8 := fun t n => by
    show (iblk m c 8 t : Vec Ideal S1x1x1x2048 .f32) (ix4 0 0 0 n) = FfnCRefIdeal.Plain.row (lb m c) (ix1 n)
    rw [FfnCRefIdeal.Plain.row_apply, Windows.blk8]
    exact Host.b_apply m c 1 0 n

/-- What the points leave in the tile of rows and in the kept tile. -/
theorem runs : Runs (blocks m c) (fun s hs => (outsAt0 m c s hs).1) (fun s hs => (outsAt0 m c s hs).2.2.2.2) where
  open_o := fun t h => by
    rw [outsAt0_A m c t h (by omega) (by omega)]
    dsimp only
    rw [Body.out_A]
    rfl
  open_k := fun t h => by
    rw [outsAt0_A m c t h (by omega) (by omega)]
    dsimp only
    rw [Body.sout_A]
    rfl
  mid_o := fun s h h0 h2 => by
    rw [outsAt0_B m c ⟨s + 1, h⟩ h0 (by dsimp only; omega) h2]
    dsimp only
    rw [Body.out_B]
    rfl
  last_o := fun s h h2 => by
    rw [outsAt0_C m c ⟨s + 1, h⟩ (by dsimp only; omega) (by dsimp only; omega) h2]
    dsimp only
    rw [Body.out_C]
    rfl
  mid_k := fun s h h0 => by
    by_cases h2 : (s + 1) % 11 = 10
    · rw [outsAt0_C m c ⟨s + 1, h⟩ h0 (by dsimp only; omega) h2]
      rfl
    · rw [outsAt0_B m c ⟨s + 1, h⟩ h0 (by dsimp only; omega) h2]
      rfl

/-- What every point leaves of the copies. -/
theorem copies (t : Fin cfg0.N) :
    (outsAt0 m c t.val t.isLt).2.1 = tile16x5632 (iblk m c 9 t) ∧
    (outsAt0 m c t.val t.isLt).2.2.1 = tile16x5632 (iblk m c 10 t) ∧
    (outsAt0 m c t.val t.isLt).2.2.2.1 = tile32x2048 (iblk m c 11 t) := by
  by_cases h0 : t.val % 11 = 0
  · rw [outsAt0_A m c t h0 (by omega) (by omega)]
    dsimp only
    exact ⟨(Body.copies_A ..).1, (Body.copies_A ..).2.1, (Body.copies_A ..).2.2⟩
  · by_cases h2 : t.val % 11 = 10
    · rw [outsAt0_C m c t h0 (by omega) h2]
      dsimp only
      exact ⟨(Body.copies_C ..).1, (Body.copies_C ..).2.1, (Body.copies_C ..).2.2⟩
    · rw [outsAt0_B m c t h0 (by omega) h2]
      dsimp only
      exact ⟨(Body.copies_B ..).1, (Body.copies_B ..).2.1, (Body.copies_B ..).2.2⟩

/-- On real arguments the sub-layer's arrays are real. -/
theorem arrays_real (hx : ∀ i, IsReal (x m c i)) (hm : ∀ i, IsReal (md m c i)) (hg : ∀ i, IsReal (wg m c i)) (hu : ∀ i, IsReal (wu m c i))
    (hd : ∀ i, IsReal (wd m c i)) : (arrays m c).Real where
  x := fun _ _ _ => hx _
  sh := fun b n => (congrArg IsReal (FfnCRefIdeal.Plain.shift_apply (md m c) b n)).mpr (hm _)
  sc := fun b n => (congrArg IsReal (FfnCRefIdeal.Plain.scale_apply (md m c) b n)).mpr (hm _)
  gt := fun b n => (congrArg IsReal (FfnCRefIdeal.Plain.gate_apply (md m c) b n)).mpr (hm _)
  wg := fun k j => (congrArg IsReal (FfnCRefIdeal.Plain.into_apply (wg m c) k j)).mpr (hg _)
  wu := fun k j => (congrArg IsReal (FfnCRefIdeal.Plain.into_apply (wu m c) k j)).mpr (hu _)
  wd := fun j n => (congrArg IsReal (FfnCRefIdeal.Plain.back_apply (wd m c) j n)).mpr (hd _)

/-- A tile's last point leaves the reference's rows. -/
theorem point (H : (arrays m c).Real) (t : Fin grid0.N) (h2 : t.val % 11 = 10) (a : Fin 1024) (n : Fin 2048) :
    (outsAt0 m c t.val t.isLt).1 (ix2 a n) = plainResult m c (ix2 ⟨t.val / 11 * 1024 + a.val, by have := Windows.lt_N t; omega⟩ n) := by
  have ht := Windows.lt_N t
  obtain ⟨b, hb⟩ : ∃ b : Fin 2, b.val = (t.val / 11 * 1024 + a.val) / 8192 := ⟨⟨(t.val / 11 * 1024 + a.val) / 8192, by omega⟩, rfl⟩
  obtain ⟨p, hp⟩ : ∃ p : Fin 8192, p.val = (t.val / 11 * 1024 + a.val) % 8192 := ⟨⟨(t.val / 11 * 1024 + a.val) % 8192, by omega⟩, rfl⟩
  refine (rows (cut m c) (runs m c) H t h2 a b p (by omega) n).trans ?_
  exact (FfnPlain.layer_apply _ _ _ _ _ _ _ _ _ ⟨t.val / 11 * 1024 + a.val, by omega⟩ n b p (by dsimp only; omega)).symm

/-- The array of rows. -/
theorem array (H : (arrays m c).Real) :
    (dats m 0 c).arrAt 12 cfg0.N = (plainResult m c : Buf (Elt Ideal) ((c.tc : Thread nD τ).loc main_v14_0)) := by
  have hcov : (cfg0.win 12).Covers := by decide +kernel
  refine (dats m 0 c).arrAt_eq_of_cover 12 _ (fun t hf => ?_) (Pipeline.Window.Covers.cover _ hcov (Memref.isWhole_whole _))
  have h2 : t.val % 11 = 10 := (flush0_12 t).mp hf
  rw [Value.flushed12]
  have e : win0_12.index t = ![t.val / 11, 0] := (Windows.idx t).2.2.2.2.2.2.2.2.2
  funext y
  have h0 : (y 0).val < 1024 := (y 0).isLt
  have h1 : (y 1).val < 2048 := (y 1).isLt
  refine Eq.trans (congrArg _ (funext fun a => Fin.ext ?_)) ((point m c H t h2 ⟨(y 0).val, h0⟩ ⟨(y 1).val, h1⟩).trans
    (congrArg (plainResult m c) (funext fun a => Fin.ext ?_)))
  · fin_cases a <;> rfl
  · fin_cases a
    · show t.val / 11 * 1024 + (y 0).val = win0_12.index t 0 * 1024 + 1 * (y 0).val; rw [e]; simp
    · show (y 1).val = win0_12.index t 1 * 2048 + 1 * (y 1).val; rw [e]; simp

/-- The copy of argument 2. -/
theorem copy1 :
    (dats m 0 c).arrAt 13 cfg0.N = (FfnCRefIdeal.Plain.next2048x5632 (wg m c) : Buf (Elt Ideal) ((c.tc : Thread nD τ).loc main_v14_1)) := by
  have hcov : (cfg0.win 13).Covers := by decide +kernel
  refine (dats m 0 c).arrAt_eq_of_cover 13 _ (fun t hf => ?_) (Pipeline.Window.Covers.cover _ hcov (Memref.isWhole_whole _))
  have ht := Windows.lt_N t
  rw [Value.flushed13, (copies m c t).1]
  have e : win0_13.index t = ![min t.val 127, 0] := (Windows.idx_out t).1
  funext y
  have h0 : (y 0).val < 16 := (y 0).isLt
  have h1 : (y 1).val < 5632 := (y 1).isLt
  have hp : tile16x5632 (iblk m c 9 t) (ix2 ⟨(y 0).val, h0⟩ ⟨(y 1).val, h1⟩) =
      FfnCRefIdeal.Plain.next2048x5632 (wg m c) (ix2 ⟨(min t.val 127) * 16 + (y 0).val, by omega⟩ ⟨(y 1).val, h1⟩) :=
    (tile16x5632_apply _ _ _).trans ((Windows.blk9 m c t ⟨(y 0).val, h0⟩ ⟨(y 1).val, h1⟩).trans
      ((congrFun (Host.args_eq m c).1 _).trans (FfnCRefIdeal.Plain.next2048x5632_apply (wg m c) _ _).symm))
  refine Eq.trans (congrArg _ (funext fun a => Fin.ext ?_)) (hp.trans (congrArg (FfnCRefIdeal.Plain.next2048x5632 (wg m c)) (funext fun a => Fin.ext ?_)))
  · fin_cases a <;> rfl
  · fin_cases a
    · show (min t.val 127) * 16 + (y 0).val = win0_13.index t 0 * 16 + 1 * (y 0).val; rw [e]; simp
    · show (y 1).val = win0_13.index t 1 * 5632 + 1 * (y 1).val; rw [e]; simp

/-- The copy of argument 3. -/
theorem copy2 :
    (dats m 0 c).arrAt 14 cfg0.N = (FfnCRefIdeal.Plain.next2048x5632 (wu m c) : Buf (Elt Ideal) ((c.tc : Thread nD τ).loc main_v14_2)) := by
  have hcov : (cfg0.win 14).Covers := by decide +kernel
  refine (dats m 0 c).arrAt_eq_of_cover 14 _ (fun t hf => ?_) (Pipeline.Window.Covers.cover _ hcov (Memref.isWhole_whole _))
  have ht := Windows.lt_N t
  rw [Value.flushed14, (copies m c t).2.1]
  have e : win0_14.index t = ![min t.val 127, 0] := (Windows.idx_out t).2.1
  funext y
  have h0 : (y 0).val < 16 := (y 0).isLt
  have h1 : (y 1).val < 5632 := (y 1).isLt
  have hp : tile16x5632 (iblk m c 10 t) (ix2 ⟨(y 0).val, h0⟩ ⟨(y 1).val, h1⟩) =
      FfnCRefIdeal.Plain.next2048x5632 (wu m c) (ix2 ⟨(min t.val 127) * 16 + (y 0).val, by omega⟩ ⟨(y 1).val, h1⟩) :=
    (tile16x5632_apply _ _ _).trans ((Windows.blk10 m c t ⟨(y 0).val, h0⟩ ⟨(y 1).val, h1⟩).trans
      ((congrFun (Host.args_eq m c).2.1 _).trans (FfnCRefIdeal.Plain.next2048x5632_apply (wu m c) _ _).symm))
  refine Eq.trans (congrArg _ (funext fun a => Fin.ext ?_)) (hp.trans (congrArg (FfnCRefIdeal.Plain.next2048x5632 (wu m c)) (funext fun a => Fin.ext ?_)))
  · fin_cases a <;> rfl
  · fin_cases a
    · show (min t.val 127) * 16 + (y 0).val = win0_14.index t 0 * 16 + 1 * (y 0).val; rw [e]; simp
    · show (y 1).val = win0_14.index t 1 * 5632 + 1 * (y 1).val; rw [e]; simp

/-- The copy of argument 4. -/
theorem copy3 :
    (dats m 0 c).arrAt 15 cfg0.N = (FfnCRefIdeal.Plain.next5632x2048 (wd m c) : Buf (Elt Ideal) ((c.tc : Thread nD τ).loc main_v14_3)) := by
  have hcov : (cfg0.win 15).Covers := by decide +kernel
  refine (dats m 0 c).arrAt_eq_of_cover 15 _ (fun t hf => ?_) (Pipeline.Window.Covers.cover _ hcov (Memref.isWhole_whole _))
  have ht := Windows.lt_N t
  rw [Value.flushed15, (copies m c t).2.2]
  have e : win0_15.index t = ![t.val, 0] := (Windows.idx_out t).2.2
  funext y
  have h0 : (y 0).val < 32 := (y 0).isLt
  have h1 : (y 1).val < 2048 := (y 1).isLt
  have hp : tile32x2048 (iblk m c 11 t) (ix2 ⟨(y 0).val, h0⟩ ⟨(y 1).val, h1⟩) =
      FfnCRefIdeal.Plain.next5632x2048 (wd m c) (ix2 ⟨(t.val) * 32 + (y 0).val, by omega⟩ ⟨(y 1).val, h1⟩) :=
    (tile32x2048_apply _ _ _).trans ((Windows.blk11 m c t ⟨(y 0).val, h0⟩ ⟨(y 1).val, h1⟩).trans
      ((congrFun (Host.args_eq m c).2.2 _).trans (FfnCRefIdeal.Plain.next5632x2048_apply (wd m c) _ _).symm))
  refine Eq.trans (congrArg _ (funext fun a => Fin.ext ?_)) (hp.trans (congrArg (FfnCRefIdeal.Plain.next5632x2048 (wd m c)) (funext fun a => Fin.ext ?_)))
  · fin_cases a <;> rfl
  · fin_cases a
    · show (t.val) * 32 + (y 0).val = win0_15.index t 0 * 32 + 1 * (y 0).val; rw [e]; simp
    · show (y 1).val = win0_15.index t 1 * 2048 + 1 * (y 1).val; rw [e]; simp

end Cert.FfnCIdeal.Result

end
-- ==== Proof.FfnCClaim.lean ====
/-
  The claim of the feed-forward call of layer 1, sub-layer 0: the precondition says the numbers are real, both programs run, and their results are equal.
-/
module

public import proofs.«01_k».proof.Proof.AttnClaim
public import proofs.«01_k».proof.Proof.FfnCResult
public import proofs.«01_k».proof.Proof.Gen.Pre_ffn_finite

@[expose] public section

set_option maxRecDepth 16384

noncomputable section

namespace Cert.Proof

open Idealize.ShloMosaic Idealize.ShloMosaic.TcCoe Idealize.SL.Sem

/-- What the precondition says: the sub-layer's arrays are real. -/
theorem ffn_c_real (m : (ℓ : Loc FfnCIdeal.nD FfnCIdeal.τ FfnCIdeal.sig) → Buf (Elt Ideal) ℓ) (c : Dev FfnCIdeal.nD)
    (h : Pre_FfnCIdeal_ffn_finite (hPre_ffn_finite := Pre_ffn_finite.Gen.facts) m) : (FfnCIdeal.Result.arrays m c).Real := by
  obtain ⟨h0, h1, h2, h3, h4⟩ := h c
  exact FfnCIdeal.Result.arrays_real m c (fun i => real_of_lt _ (congrFun h0 i)) (fun i => real_of_lt _ (congrFun h1 i))
    (fun i => real_of_lt _ (congrFun h2 i)) (fun i => real_of_lt _ (congrFun h3 i)) (fun i => real_of_lt _ (congrFun h4 i))

/-- The kernel's results are the reference's. -/
theorem ffn_c_algebraic : algebraic_FfnCIdeal_FfnCRefIdeal_pre_ffn_finite (hFfnCIdeal := FfnCIdeal.Gen.facts)
    (hFfnCRefIdeal := FfnCRefIdeal.Gen.facts) (hPre_ffn_finite := Pre_ffn_finite.Gen.facts) := by
  intro m ρ m' ρ' hpre hag
  refine ⟨fun c => FfnCIdeal.Result.plainResult m c, fun c => FfnCRefIdeal.Plain.next2048x5632 (FfnCIdeal.Result.wg m c), fun c => FfnCRefIdeal.Plain.next2048x5632 (FfnCIdeal.Result.wu m c), fun c => FfnCRefIdeal.Plain.next5632x2048 (FfnCIdeal.Result.wd m c), ?_, ?_⟩
  · refine (θ_run _ _ _).mono (fun _ h c => ⟨(h c).1.trans ?_, (h c).2.1.trans (FfnCIdeal.Result.copy1 m c), (h c).2.2.1.trans (FfnCIdeal.Result.copy2 m c), (h c).2.2.2.1.trans (FfnCIdeal.Result.copy3 m c), (h c).2.2.2.2⟩) (FfnCIdeal.Value.run_blocks m ρ)
    exact FfnCIdeal.Result.array m c (ffn_c_real m c hpre)
  · refine (θ_run _ _ _).mono (fun _ h c => ⟨(h c).1.trans ?_, (h c).2.1.trans ?_, (h c).2.2.1.trans ?_, (h c).2.2.2.1.trans ?_, (h c).2.2.2.2⟩) (FfnCRefIdeal.Value.run m' ρ')
    all_goals obtain ⟨e0, e1, e2, e3, e4, e5, e6⟩ := hag c
    · rw [FfnCRefIdeal.Plain.res_eq m' c _ _ _ _ _ _ _ e0 e1 e2 e3 e4 e5 e6]
      rfl
    · exact congrArg FfnCRefIdeal.Plain.next2048x5632 e2
    · exact congrArg FfnCRefIdeal.Plain.next2048x5632 e3
    · exact congrArg FfnCRefIdeal.Plain.next5632x2048 e4

end Cert.Proof

end
-- ==== Proof.FfnBBody.lean ====
/-
  What the body of the feed-forward kernel of layer 0, sub-layer 1 leaves of its rows at a point, by the case of the point: the
  same tiles as without the copies.
-/
module

public import proofs.«01_k».proof.Proof.FfnBody
public import proofs.«01_k».proof.Proof.Gen.FfnBIdeal.Frame

@[expose] public section

set_option maxRecDepth 16384

noncomputable section

namespace Cert.FfnBIdeal.Body

open Idealize.ShloMosaic Idealize.ShloMosaic.TcCoe Cert.FfnBIdeal Cert.FfnBIdeal.Gen Cert.FfnMath
open Cert.FfnIdeal.Body (kept step first inner last first_slab kept_slab last_slab hz5 hz4 hz2)

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (xo12 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1024x2048 .f32) (harg14 : arg14.IsWhole) (arg15 : Memref sig .tc .vmem S16x5632 .bf16) (harg15 : arg15.IsWhole) (arg16 : Memref sig .tc .vmem S16x5632 .bf16) (harg16 : arg16.IsWhole) (arg17 : Memref sig .tc .vmem S32x2048 .bf16) (harg17 : arg17.IsWhole) (arg18 : Memref sig .tc .vmem S1024x2048 .bf16) (harg18 : arg18.IsWhole)

set_option maxHeartbeats 4000000 in
/-- After the first chunk. -/
theorem out_A (hc0 : cond0_0 i) (hc1 : ¬cond0_1 i) (hc2 : ¬cond0_2 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = first x0 x1 x2 x3 x4 x5 x6 := by
  have hcov := cover0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold out0_A_12
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := first_slab x0 x1 x2 x3 x4 x5 x6
  exact ⟨key 768 _, key 512 _, key 256 _, key 0 _, fun _ h => absurd h List.not_mem_nil⟩

set_option maxHeartbeats 4000000 in
/-- What is kept for the chunks after the first. -/
theorem sout_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = kept x0 x1 x2 := by
  have hcov := scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold sout0_A_0
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := kept_slab x0 x1 x2
  exact ⟨key 768 _, key 512 _, key 256 _, key 0 _, fun _ h => absurd h List.not_mem_nil⟩

set_option maxHeartbeats 4000000 in
/-- After an inner chunk. -/
theorem out_B (hc0 : ¬cond0_0 i) (hc1 : cond0_1 i) (hc2 : ¬cond0_2 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = inner x3 x4 x5 x6 xo12 xs0 := by
  have hcov := cover0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_B_12
  rw [View.read_writes_eq_canon _ _ _ hcov]
  funext y
  refine View.canon_apply_of_pieces _ _ ?_ y (hcov y)
  clear hcov
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  exact ⟨FfnIdeal.Body.inner_whole x3 x4 x5 x6 xo12 xs0 _, fun _ h => absurd h List.not_mem_nil⟩

set_option maxHeartbeats 4000000 in
/-- After the last chunk. -/
theorem out_C (hc0 : ¬cond0_0 i) (hc1 : ¬cond0_1 i) (hc2 : cond0_2 i) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = last x3 x4 x5 x6 x7 x8 xo12 xs0 := by
  have hcov := cover0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_C_12
  rw [View.read_writes_eq_canon _ _ _ hcov]
  funext y
  refine View.canon_apply_of_pieces _ _ ?_ y (hcov y)
  clear hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  have key := last_slab x3 x4 x5 x6 x7 x8 xo12 xs0
  exact ⟨key 768 _, key 512 _, key 256 _, key 0 _, fun _ h => absurd h List.not_mem_nil⟩

end Cert.FfnBIdeal.Body

end
-- ==== Proof.FfnBCopies.lean ====
/-
  What the body of the feed-forward kernel of layer 0, sub-layer 1 leaves of its copies at a point, in every case: the block it was handed, rounded.
-/
module

public import proofs.«01_k».proof.Proof.FfnBBody
public import proofs.«01_k».proof.Proof.FfnCopy

@[expose] public section

set_option maxRecDepth 16384

noncomputable section

namespace Cert.FfnBIdeal.Body

open Idealize.ShloMosaic Idealize.ShloMosaic.TcCoe Cert.FfnBIdeal Cert.FfnBIdeal.Gen
open Cert.FfnIdeal.Body (hz5 hz4 hz2)
open Cert.FfnCopy

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (xo12 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1024x2048 .f32) (harg14 : arg14.IsWhole) (arg15 : Memref sig .tc .vmem S16x5632 .bf16) (harg15 : arg15.IsWhole) (arg16 : Memref sig .tc .vmem S16x5632 .bf16) (harg16 : arg16.IsWhole) (arg17 : Memref sig .tc .vmem S32x2048 .bf16) (harg17 : arg17.IsWhole) (arg18 : Memref sig .tc .vmem S1024x2048 .bf16) (harg18 : arg18.IsWhole)

set_option maxHeartbeats 4000000 in
/-- The copies at a first chunk. -/
theorem copies_A (hc0 : cond0_0 i) (hc1 : ¬cond0_1 i) (hc2 : ¬cond0_2 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile16x5632 x9 ∧
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile16x5632 x10 ∧
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 = tile32x2048 x11 := by
  have h13 := cover0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  have h14 := cover0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  have h15 := cover0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11
  unfold out0_A_13 out0_A_14 out0_A_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_A
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

set_option maxHeartbeats 4000000 in
/-- The copies at an inner chunk. -/
theorem copies_B (hc0 : ¬cond0_0 i) (hc1 : cond0_1 i) (hc2 : ¬cond0_2 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x9 ∧
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x10 ∧
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile32x2048 x11 := by
  have h13 := cover0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h14 := cover0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h15 := cover0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_B_13 out0_B_14 out0_B_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

set_option maxHeartbeats 4000000 in
/-- The copies at a last chunk. -/
theorem copies_C (hc0 : ¬cond0_0 i) (hc1 : ¬cond0_1 i) (hc2 : cond0_2 i) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x9 ∧
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile16x5632 x10 ∧
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0 = tile32x2048 x11 := by
  have h13 := cover0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h14 := cover0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  have h15 := cover0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xo12 xs0
  unfold out0_C_13 out0_C_14 out0_C_15
  rw [View.read_writes_eq_canon _ _ _ h13, View.read_writes_eq_canon _ _ _ h14, View.read_writes_eq_canon _ _ _ h15]
  refine ⟨funext fun y => View.canon_apply_of_pieces _ _ ?_ y (h13 y), funext fun y => View.canon_apply_of_pieces _ _ ?_ y (h14 y), funext fun y => View.canon_apply_of_pieces _ _ ?_ y (h15 y)⟩
  all_goals
    clear h13 h14 h15
    unfold kernelRun0_C
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩

end Cert.FfnBIdeal.Body

end
-- ==== Proof.FfnBWindows.lean ====
/-
  The blocks of the feed-forward kernel of layer 0, sub-layer 1, read from the arrays they are staged from: point `t` is (tile of rows `t / 11`, chunk of
  inner columns `t % 11`), the tile lies in batch `t / 88`, and each point copies one block of rows of the other weights.
-/
module

public import proofs.«01_k».proof.Proof.Gen.FfnBIdeal.Value
public import Idealize.ShloMosaic.Lib.Pipeline.ValueKit
public import Idealize.ShloMosaic.Lib.Pointwise

@[expose] public section

set_option maxRecDepth 16384

noncomputable section

namespace Cert.FfnBIdeal.Windows

open Idealize.ShloMosaic Idealize.ShloMosaic.TcCoe Cert.FfnBIdeal Cert.FfnBIdeal.Gen

variable (m : (ℓ : Loc nD τ sig) → Buf (Elt Ideal) ℓ) (c : Dev nD)

/-- Where each window's block lies, by the point. -/
theorem idx : ∀ t : Fin grid0.N, win0_0.index t = ![t.val / 11, 0] ∧ win0_1.index t = ![0, t.val / 88, 6, 0, 0] ∧
    win0_2.index t = ![0, t.val / 88, 7, 0, 0] ∧ win0_3.index t = ![0, t.val / 88, 8, 0, 0] ∧ win0_4.index t = ![0, t.val % 11] ∧
    win0_5.index t = ![0, t.val % 11] ∧ win0_6.index t = ![t.val % 11, 0] ∧ win0_7.index t = ![0, 2, 0, 0] ∧
    win0_8.index t = ![0, 2, 0, 0] ∧ win0_12.index t = ![t.val / 11, 0] := by decide +kernel

/-- Where the copies' blocks lie. -/
theorem idx_in : ∀ t : Fin grid0.N, win0_9.index t = ![1, 0, min t.val 127, 0] ∧
    win0_10.index t = ![1, 0, min t.val 127, 0] ∧
    win0_11.index t = ![1, 0, t.val, 0] := by decide +kernel

theorem idx_out : ∀ t : Fin grid0.N, win0_13.index t = ![min t.val 127, 0] ∧
    win0_14.index t = ![min t.val 127, 0] ∧
    win0_15.index t = ![t.val, 0] := by decide +kernel

theorem lt_N (t : Fin grid0.N) : t.val < 176 := lt_of_lt_of_eq t.isLt N_0

/-- The input's tile of rows. -/
theorem blk0 (t : Fin grid0.N) (a : Fin 1024) (n : Fin 2048) :
    (iblk m c 0 t : Vec Ideal S1024x2048 .f32) (ix2 a n) =
      (V m c main_v11 : Vec Ideal S16384x2048 .f32) (ix2 ⟨t.val / 11 * 1024 + a.val, by have := lt_N t; omega⟩ n) := by
  have e : win0_0.index t = ![t.val / 11, 0] := by have h := idx t; tauto
  have hi : (((cfg0.win 0).blk t).view.emb (ix2 a n) : S16384x2048.Idx) = (ix2 ⟨t.val / 11 * 1024 + a.val, by have := lt_N t; omega⟩ n : S16384x2048.Idx) := by
    funext d
    apply Fin.ext
    match d with
    | ⟨0, _⟩ => show win0_0.index t 0 * 1024 + 1 * a.val = t.val / 11 * 1024 + a.val; rw [e]; simp
    | ⟨1, _⟩ => show win0_0.index t 1 * 2048 + 1 * n.val = n.val; rw [e]; simp
  unfold iblk
  generalize V m c = W
  rw [View.read_apply]
  erw [hi]
  exact cast_eq _ _

/-- The batch's shift. -/
theorem blk1 (t : Fin grid0.N) (b : Fin 8) (hb : b.val = t.val / 88) (n : Fin 2048) :
    (iblk m c 1 t : Vec Ideal S1x1x1x1x2048 .f32) (ix5 0 0 0 0 n) =
      (V m c main_v1 : Vec Ideal S2x8x9x1x2048 .f32) (ix5 0 b 6 0 n) := by
  have e : win0_1.index t = ![0, b.val, 6, 0, 0] := by rw [hb]; have h := idx t; tauto
  have hi : (((cfg0.win 1).blk t).view.emb (ix5 0 0 0 0 n) : S2x8x9x1x2048.Idx) = (ix5 0 b 6 0 n : S2x8x9x1x2048.Idx) := by
    funext d
    apply Fin.ext
    match d with
    | ⟨0, _⟩ => show win0_1.index t 0 * 1 + 1 * 0 = 0; rw [e]; simp
    | ⟨1, _⟩ => show win0_1.index t 1 * 1 + 1 * 0 = b.val; rw [e]; simp
    | ⟨2, _⟩ => show win0_1.index t 2 * 1 + 1 * 0 = 6; rw [e]; simp
    | ⟨3, _⟩ => show win0_1.index t 3 * 1 + 1 * 0 = 0; rw [e]; simp
    | ⟨4, _⟩ => show win0_1.index t 4 * 2048 + 1 * n.val = n.val; rw [e]; simp
  unfold iblk
  generalize V m c = W
  rw [View.read_apply]
  erw [hi]
  exact cast_eq _ _

/-- The batch's scale. -/
theorem blk2 (t : Fin grid0.N) (b : Fin 8) (hb : b.val = t.val / 88) (n : Fin 2048) :
    (iblk m c 2 t : Vec Ideal S1x1x1x1x2048 .f32) (ix5 0 0 0 0 n) =
      (V m c main_v1 : Vec Ideal S2x8x9x1x2048 .f32) (ix5 0 b 7 0 n) := by
  have e : win0_2.index t = ![0, b.val, 7, 0, 0] := by rw [hb]; have h := idx t; tauto
  have hi : (((cfg0.win 2).blk t).view.emb (ix5 0 0 0 0 n) : S2x8x9x1x2048.Idx) = (ix5 0 b 7 0 n : S2x8x9x1x2048.Idx) := by
    funext d
    apply Fin.ext
    match d with
    | ⟨0, _⟩ => show win0_2.index t 0 * 1 + 1 * 0 = 0; rw [e]; simp
    | ⟨1, _⟩ => show win0_2.index t 1 * 1 + 1 * 0 = b.val; rw [e]; simp
    | ⟨2, _⟩ => show win0_2.index t 2 * 1 + 1 * 0 = 7; rw [e]; simp
    | ⟨3, _⟩ => show win0_2.index t 3 * 1 + 1 * 0 = 0; rw [e]; simp
    | ⟨4, _⟩ => show win0_2.index t 4 * 2048 + 1 * n.val = n.val; rw [e]; simp
  unfold iblk
  generalize V m c = W
  rw [View.read_apply]
  erw [hi]
  exact cast_eq _ _

/-- The batch's gate. -/
theorem blk3 (t : Fin grid0.N) (b : Fin 8) (hb : b.val = t.val / 88) (n : Fin 2048) :
    (iblk m c 3 t : Vec Ideal S1x1x1x1x2048 .f32) (ix5 0 0 0 0 n) =
      (V m c main_v1 : Vec Ideal S2x8x9x1x2048 .f32) (ix5 0 b 8 0 n) := by
  have e : win0_3.index t = ![0, b.val, 8, 0, 0] := by rw [hb]; have h := idx t; tauto
  have hi : (((cfg0.win 3).blk t).view.emb (ix5 0 0 0 0 n) : S2x8x9x1x2048.Idx) = (ix5 0 b 8 0 n : S2x8x9x1x2048.Idx) := by
    funext d
    apply Fin.ext
    match d with
    | ⟨0, _⟩ => show win0_3.index t 0 * 1 + 1 * 0 = 0; rw [e]; simp
    | ⟨1, _⟩ => show win0_3.index t 1 * 1 + 1 * 0 = b.val; rw [e]; simp
    | ⟨2, _⟩ => show win0_3.index t 2 * 1 + 1 * 0 = 8; rw [e]; simp
    | ⟨3, _⟩ => show win0_3.index t 3 * 1 + 1 * 0 = 0; rw [e]; simp
    | ⟨4, _⟩ => show win0_3.index t 4 * 2048 + 1 * n.val = n.val; rw [e]; simp
  unfold iblk
  generalize V m c = W
  rw [View.read_apply]
  erw [hi]
  exact cast_eq _ _

/-- The chunk of the gate weights. -/
theorem blk4 (t : Fin grid0.N) (k : Fin 2048) (j : Fin 512) (q : Fin 5632) (hq : q.val = 512 * (t.val % 11) + j.val) :
    (iblk m c 4 t : Vec Ideal S2048x512 .bf16) (ix2 k j) =
      (V m c main_v4 : Vec Ideal S2048x5632 .bf16) (ix2 k q) := by
  have e : win0_4.index t = ![0, t.val % 11] := by have h := idx t; tauto
  have hi : (((cfg0.win 4).blk t).view.emb (ix2 k j) : S2048x5632.Idx) = (ix2 k q : S2048x5632.Idx) := by
    funext d
    apply Fin.ext
    match d with
    | ⟨0, _⟩ => show win0_4.index t 0 * 2048 + 1 * k.val = k.val; rw [e]; simp
    | ⟨1, _⟩ => show win0_4.index t 1 * 512 + 1 * j.val = q.val; rw [e, hq]; simp [mul_comm]
  unfold iblk
  generalize V m c = W
  rw [View.read_apply]
  erw [hi]
  exact cast_eq _ _

/-- The chunk of the other weights. -/
theorem blk5 (t : Fin grid0.N) (k : Fin 2048) (j : Fin 512) (q : Fin 5632) (hq : q.val = 512 * (t.val % 11) + j.val) :
    (iblk m c 5 t : Vec Ideal S2048x512 .bf16) (ix2 k j) =
      (V m c main_v7 : Vec Ideal S2048x5632 .bf16) (ix2 k q) := by
  have e : win0_5.index t = ![0, t.val % 11] := by have h := idx t; tauto
  have hi : (((cfg0.win 5).blk t).view.emb (ix2 k j) : S2048x5632.Idx) = (ix2 k q : S2048x5632.Idx) := by
    funext d
    apply Fin.ext
    match d with
    | ⟨0, _⟩ => show win0_5.index t 0 * 2048 + 1 * k.val = k.val; rw [e]; simp
    | ⟨1, _⟩ => show win0_5.index t 1 * 512 + 1 * j.val = q.val; rw [e, hq]; simp [mul_comm]
  unfold iblk
  generalize V m c = W
  rw [View.read_apply]
  erw [hi]
  exact cast_eq _ _

/-- The chunk of the last weights. -/
theorem blk6 (t : Fin grid0.N) (j : Fin 512) (n : Fin 2048) (q : Fin 5632) (hq : q.val = 512 * (t.val % 11) + j.val) :
    (iblk m c 6 t : Vec Ideal S512x2048 .bf16) (ix2 j n) =
      (V m c main_v10 : Vec Ideal S5632x2048 .bf16) (ix2 q n) := by
  have e : win0_6.index t = ![t.val % 11, 0] := by have h := idx t; tauto
  have hi : (((cfg0.win 6).blk t).view.emb (ix2 j n) : S5632x2048.Idx) = (ix2 q n : S5632x2048.Idx) := by
    funext d
    apply Fin.ext
    match d with
    | ⟨0, _⟩ => show win0_6.index t 0 * 512 + 1 * j.val = q.val; rw [e, hq]; simp [mul_comm]
    | ⟨1, _⟩ => show win0_6.index t 1 * 2048 + 1 * n.val = n.val; rw [e]; simp
  unfold iblk
  generalize V m c = W
  rw [View.read_apply]
  erw [hi]
  exact cast_eq _ _

/-- The norm's factors. -/
theorem blk7 (t : Fin grid0.N) (n : Fin 2048) :
    (iblk m c 7 t : Vec Ideal S1x1x1x2048 .f32) (ix4 0 0 0 n) =
      (V m c main_v12 : Vec Ideal S2x3x1x2048 .f32) (ix4 0 2 0 n) := by
  have e : win0_7.index t = ![0, 2, 0, 0] := by have h := idx t; tauto
  have hi : (((cfg0.win 7).blk t).view.emb (ix4 0 0 0 n) : S2x3x1x2048.Idx) = (ix4 0 2 0 n : S2x3x1x2048.Idx) := by
    funext d
    apply Fin.ext
    match d with
    | ⟨0, _⟩ => show win0_7.index t 0 * 1 + 1 * 0 = 0; rw [e]; simp
    | ⟨1, _⟩ => show win0_7.index t 1 * 1 + 1 * 0 = 2; rw [e]; simp
    | ⟨2, _⟩ => show win0_7.index t 2 * 1 + 1 * 0 = 0; rw [e]; simp
    | ⟨3, _⟩ => show win0_7.index t 3 * 2048 + 1 * n.val = n.val; rw [e]; simp
  unfold iblk
  generalize V m c = W
  rw [View.read_apply]
  erw [hi]
  exact cast_eq _ _

/-- The norm's offsets. -/
theorem blk8 (t : Fin grid0.N) (n : Fin 2048) :
    (iblk m c 8 t : Vec Ideal S1x1x1x2048 .f32) (ix4 0 0 0 n) =
      (V m c main_v13 : Vec Ideal S2x3x1x2048 .f32) (ix4 0 2 0 n) := by
  have e : win0_8.index t = ![0, 2, 0, 0] := by have h := idx t; tauto
  have hi : (((cfg0.win 8).blk t).view.emb (ix4 0 0 0 n) : S2x3x1x2048.Idx) = (ix4 0 2 0 n : S2x3x1x2048.Idx) := by
    funext d
    apply Fin.ext
    match d with
    | ⟨0, _⟩ => show win0_8.index t 0 * 1 + 1 * 0 = 0; rw [e]; simp
    | ⟨1, _⟩ => show win0_8.index t 1 * 1 + 1 * 0 = 2; rw [e]; simp
    | ⟨2, _⟩ => show win0_8.index t 2 * 1 + 1 * 0 = 0; rw [e]; simp
    | ⟨3, _⟩ => show win0_8.index t 3 * 2048 + 1 * n.val = n.val; rw [e]; simp
  unfold iblk
  generalize V m c = W
  rw [View.read_apply]
  erw [hi]
  exact cast_eq _ _

/-- The block of rows to copy from argument 2. -/
theorem blk9 (t : Fin grid0.N) (a : Fin 16) (n : Fin 5632) :
    (iblk m c 9 t : Vec Ideal S1x1x16x5632 .f32) (ix4 0 0 a n) =
      (V m c main_arg2 : Vec Ideal S2x2x2048x5632 .f32) (ix4 1 0 ⟨(min t.val 127) * 16 + a.val, by have := lt_N t; omega⟩ n) := by
  have e : win0_9.index t = ![1, 0, min t.val 127, 0] := by have h := idx_in t; tauto
  have hi : (((cfg0.win 9).blk t).view.emb (ix4 0 0 a n) : S2x2x2048x5632.Idx) = (ix4 1 0 ⟨(min t.val 127) * 16 + a.val, by have := lt_N t; omega⟩ n : S2x2x2048x5632.Idx) := by
    funext d
    apply Fin.ext
    match d with
    | ⟨0, _⟩ => show win0_9.index t 0 * 1 + 1 * 0 = 1; rw [e]; simp
    | ⟨1, _⟩ => show win0_9.index t 1 * 1 + 1 * 0 = 0; rw [e]; simp
    | ⟨2, _⟩ => show win0_9.index t 2 * 16 + 1 * a.val = (min t.val 127) * 16 + a.val; rw [e]; simp
    | ⟨3, _⟩ => show win0_9.index t 3 * 5632 + 1 * n.val = n.val; rw [e]; simp
  unfold iblk
  generalize V m c = W
  rw [View.read_apply]
  erw [hi]
  exact cast_eq _ _

/-- The block of rows to copy from argument 3. -/
theorem blk10 (t : Fin grid0.N) (a : Fin 16) (n : Fin 5632) :
    (iblk m c 10 t : Vec Ideal S1x1x16x5632 .f32) (ix4 0 0 a n) =
      (V m c main_arg3 : Vec Ideal S2x2x2048x5632 .f32) (ix4 1 0 ⟨(min t.val 127) * 16 + a.val, by have := lt_N t; omega⟩ n) := by
  have e : win0_10.index t = ![1, 0, min t.val 127, 0] := by have h := idx_in t; tauto
  have hi : (((cfg0.win 10).blk t).view.emb (ix4 0 0 a n) : S2x2x2048x5632.Idx) = (ix4 1 0 ⟨(min t.val 127) * 16 + a.val, by have := lt_N t; omega⟩ n : S2x2x2048x5632.Idx) := by
    funext d
    apply Fin.ext
    match d with
    | ⟨0, _⟩ => show win0_10.index t 0 * 1 + 1 * 0 = 1; rw [e]; simp
    | ⟨1, _⟩ => show win0_10.index t 1 * 1 + 1 * 0 = 0; rw [e]; simp
    | ⟨2, _⟩ => show win0_10.index t 2 * 16 + 1 * a.val = (min t.val 127) * 16 + a.val; rw [e]; simp
    | ⟨3, _⟩ => show win0_10.index t 3 * 5632 + 1 * n.val = n.val; rw [e]; simp
  unfold iblk
  generalize V m c = W
  rw [View.read_apply]
  erw [hi]
  exact cast_eq _ _

/-- The block of rows to copy from argument 4. -/
theorem blk11 (t : Fin grid0.N) (a : Fin 32) (n : Fin 2048) :
    (iblk m c 11 t : Vec Ideal S1x1x32x2048 .f32) (ix4 0 0 a n) =
      (V m c main_arg4 : Vec Ideal S2x2x5632x2048 .f32) (ix4 1 0 ⟨(t.val) * 32 + a.val, by have := lt_N t; omega⟩ n) := by
  have e : win0_11.index t = ![1, 0, t.val, 0] := by have h := idx_in t; tauto
  have hi : (((cfg0.win 11).blk t).view.emb (ix4 0 0 a n) : S2x2x5632x2048.Idx) = (ix4 1 0 ⟨(t.val) * 32 + a.val, by have := lt_N t; omega⟩ n : S2x2x5632x2048.Idx) := by
    funext d
    apply Fin.ext
    match d with
    | ⟨0, _⟩ => show win0_11.index t 0 * 1 + 1 * 0 = 1; rw [e]; simp
    | ⟨1, _⟩ => show win0_11.index t 1 * 1 + 1 * 0 = 0; rw [e]; simp
    | ⟨2, _⟩ => show win0_11.index t 2 * 32 + 1 * a.val = (t.val) * 32 + a.val; rw [e]; simp
    | ⟨3, _⟩ => show win0_11.index t 3 * 2048 + 1 * n.val = n.val; rw [e]; simp
  unfold iblk
  generalize V m c = W
  rw [View.read_apply]
  erw [hi]
  exact cast_eq _ _

end Cert.FfnBIdeal.Windows

end
-- ==== Proof.FfnBHost.lean ====
/-
  The arrays the feed-forward kernel of layer 0, sub-layer 1 is handed, at an index of the arguments: the host lines before the launch cut the
  layer's weights out, give the modulation an axis for its nine rows, and join batch and position.
-/
module

public import proofs.«01_k».proof.Proof.Gen.FfnBIdeal.Frame
public import Idealize.ShloMosaic.Lib.Pointwise
public import Idealize.ShloMosaic.Lib.StableHlo.Run
public import Idealize.ShloMosaic.Lib.Tactic

@[expose] public section

set_option maxRecDepth 16384

noncomputable section

namespace Cert.FfnBIdeal.Host

open Idealize.ShloMosaic Idealize.ShloMosaic.TcCoe Cert.FfnBIdeal Cert.FfnBIdeal.Gen

variable (m : (ℓ : Loc nD τ sig) → Buf (Elt Ideal) ℓ) (c : Dev nD)

/-- The input's rows are (batch, position). -/
theorem x_apply (r : Fin 16384) (n : Fin 2048) :
    (V m c main_v11 : Vec Ideal S16384x2048 .f32) (ix2 r n) =
      (m (c.tc.loc main_arg0) : Vec Ideal S2x8192x2048 .f32) (ix3 ⟨r.val / 8192, by omega⟩ ⟨r.val % 8192, by omega⟩ n) := by
  simp only [V, hostOps0, hostOps0_1, hostOps0_2, List.flatten_cons, List.flatten_nil, List.append_nil, List.cons_append, List.nil_append]
  after_results
  pointwise

/-- The modulation's row `k` of a batch, found in layer 0. -/
theorem mod_apply (b : Fin 2) (k : Fin 9) (n : Fin 2048) :
    (V m c main_v1 : Vec Ideal S2x8x9x1x2048 .f32) (ix5 0 ⟨b.val, by omega⟩ k 0 n) =
      (m (c.tc.loc main_arg1) : Vec Ideal S2x18432 .f32) (ix2 b ⟨k.val * 2048 + n.val, by omega⟩) := by
  simp only [V, hostOps0, hostOps0_1, hostOps0_2, List.flatten_cons, List.flatten_nil, List.append_nil, List.cons_append, List.nil_append]
  after_results
  simp only [StableHlo.TRef.toBuf, StableHlo.TRef.ofBuf, cast_eq, id]
  pointwise

/-- The gate weights. -/
theorem wg_apply (k : Fin 2048) (n : Fin 5632) :
    (V m c main_v4 : Vec Ideal S2048x5632 .bf16) (ix2 k n) = (m (c.tc.loc main_arg2) : Vec Ideal S2x2x2048x5632 .f32) (ix4 0 1 k n) := by
  simp only [V, hostOps0, hostOps0_1, hostOps0_2, List.flatten_cons, List.flatten_nil, List.append_nil, List.cons_append, List.nil_append]
  after_results
  pointwise

/-- The other weights of the inner columns. -/
theorem wu_apply (k : Fin 2048) (n : Fin 5632) :
    (V m c main_v7 : Vec Ideal S2048x5632 .bf16) (ix2 k n) = (m (c.tc.loc main_arg3) : Vec Ideal S2x2x2048x5632 .f32) (ix4 0 1 k n) := by
  simp only [V, hostOps0, hostOps0_1, hostOps0_2, List.flatten_cons, List.flatten_nil, List.append_nil, List.cons_append, List.nil_append]
  after_results
  pointwise

/-- The last weights. -/
theorem wd_apply (k : Fin 5632) (n : Fin 2048) :
    (V m c main_v10 : Vec Ideal S5632x2048 .bf16) (ix2 k n) = (m (c.tc.loc main_arg4) : Vec Ideal S2x2x5632x2048 .f32) (ix4 0 1 k n) := by
  simp only [V, hostOps0, hostOps0_1, hostOps0_2, List.flatten_cons, List.flatten_nil, List.append_nil, List.cons_append, List.nil_append]
  after_results
  pointwise

/-- The norm's factors. -/
theorem g_apply (l : Fin 2) (s : Fin 3) (n : Fin 2048) :
    (V m c main_v12 : Vec Ideal S2x3x1x2048 .f32) (ix4 l s 0 n) = (m (c.tc.loc main_arg5) : Vec Ideal S2x3x2048 .f32) (ix3 l s n) := by
  simp only [V, hostOps0, hostOps0_1, hostOps0_2, List.flatten_cons, List.flatten_nil, List.append_nil, List.cons_append, List.nil_append]
  after_results
  pointwise

/-- The norm's offsets. -/
theorem b_apply (l : Fin 2) (s : Fin 3) (n : Fin 2048) :
    (V m c main_v13 : Vec Ideal S2x3x1x2048 .f32) (ix4 l s 0 n) = (m (c.tc.loc main_arg6) : Vec Ideal S2x3x2048 .f32) (ix3 l s n) := by
  simp only [V, hostOps0, hostOps0_1, hostOps0_2, List.flatten_cons, List.flatten_nil, List.append_nil, List.cons_append, List.nil_append]
  after_results
  pointwise

/-- The arguments that are handed over as they are. -/
theorem args_eq : (V m c main_arg2 : Vec Ideal S2x2x2048x5632 .f32) = m (c.tc.loc main_arg2) ∧
    (V m c main_arg3 : Vec Ideal S2x2x2048x5632 .f32) = m (c.tc.loc main_arg3) ∧
    (V m c main_arg4 : Vec Ideal S2x2x5632x2048 .f32) = m (c.tc.loc main_arg4) := by
  refine ⟨?_, ?_, ?_⟩
  all_goals
    simp only [V, hostOps0, hostOps0_1, hostOps0_2, List.flatten_cons, List.flatten_nil, List.append_nil, List.cons_append, List.nil_append]
    after_results

end Cert.FfnBIdeal.Host

end
-- ==== Proof.FfnBRef.lean ====
/-
  The reference of the feed-forward call of layer 0, sub-layer 1: the sub-layer at its slices, and the copies of the other weights.
-/
module

public import proofs.«01_k».proof.Proof.Gen.FfnBRefIdeal.Run
public import proofs.«01_k».proof.Proof.FfnPlain

@[expose] public section

set_option maxRecDepth 16384

noncomputable section

namespace Cert.FfnBRefIdeal.Plain

open Idealize.ShloMosaic Idealize.ShloMosaic.TcCoe Cert.FfnBRefIdeal Cert.FfnBRefIdeal.Gen

/-- The modulation, with an axis of one row. -/
def mods (m : FVec Ideal S2x18432 .f32) : FVec Ideal S2x1x18432 .f32 := broadcastInDim S2x1x18432 ![0, 2] bcast_S2x18432_S2x1x18432_0_2 m

/-- The shift. -/
def shift (m : FVec Ideal S2x18432 .f32) : FVec Ideal S2x1x2048 .f32 :=
  extractStridedSlice S2x1x2048 ![0, 0, 12288] (mods m) slices_S2x1x18432_S2x1x2048_0_0_12288

theorem shift_apply (m : FVec Ideal S2x18432 .f32) (b : Fin 2) (n : Fin 2048) : shift m (ix3 b 0 n) = m (ix2 b ⟨12288 + n.val, by omega⟩) := by
  unfold shift
  pointwise [mods]

/-- The scale. -/
def scale (m : FVec Ideal S2x18432 .f32) : FVec Ideal S2x1x2048 .f32 :=
  extractStridedSlice S2x1x2048 ![0, 0, 14336] (mods m) slices_S2x1x18432_S2x1x2048_0_0_14336

theorem scale_apply (m : FVec Ideal S2x18432 .f32) (b : Fin 2) (n : Fin 2048) : scale m (ix3 b 0 n) = m (ix2 b ⟨14336 + n.val, by omega⟩) := by
  unfold scale
  pointwise [mods]

/-- The gate. -/
def gate (m : FVec Ideal S2x18432 .f32) : FVec Ideal S2x1x2048 .f32 :=
  extractStridedSlice S2x1x2048 ![0, 0, 16384] (mods m) slices_S2x1x18432_S2x1x2048_0_0_16384

theorem gate_apply (m : FVec Ideal S2x18432 .f32) (b : Fin 2) (n : Fin 2048) : gate m (ix3 b 0 n) = m (ix2 b ⟨16384 + n.val, by omega⟩) := by
  unfold gate
  pointwise [mods]

/-- The layer's matrix of 5632 columns. -/
def into (w : FVec Ideal S2x2x2048x5632 .f32) : FVec Ideal S2048x5632 .f32 :=
  shapeCast S2048x5632 (extractStridedSlice S1x1x2048x5632 ![0, 1, 0, 0] w slices_S2x2x2048x5632_S1x1x2048x5632_0_1_0_0) shapeCasts_S1x1x2048x5632_S2048x5632

theorem into_apply (w : FVec Ideal S2x2x2048x5632 .f32) (k : Fin 2048) (n : Fin 5632) : into w (ix2 k n) = w (ix4 0 1 k n) := by
  unfold into
  pointwise

/-- The layer's last matrix. -/
def back (w : FVec Ideal S2x2x5632x2048 .f32) : FVec Ideal S5632x2048 .f32 :=
  shapeCast S5632x2048 (extractStridedSlice S1x1x5632x2048 ![0, 1, 0, 0] w slices_S2x2x5632x2048_S1x1x5632x2048_0_1_0_0) shapeCasts_S1x1x5632x2048_S5632x2048

theorem back_apply (w : FVec Ideal S2x2x5632x2048 .f32) (k : Fin 5632) (n : Fin 2048) : back w (ix2 k n) = w (ix4 0 1 k n) := by
  unfold back
  pointwise

/-- The norm's row. -/
def row (g : FVec Ideal S2x3x2048 .f32) : FVec Ideal S2048 .f32 :=
  shapeCast S2048 (extractStridedSlice S1x1x2048 ![0, 2, 0] g slices_S2x3x2048_S1x1x2048_0_2_0) shapeCasts_S1x1x2048_S2048

theorem row_apply (g : FVec Ideal S2x3x2048 .f32) (n : Fin 2048) : row g (ix1 n) = g (ix3 0 2 n) := by
  unfold row
  pointwise

/-- The next sub-layer's matrix of 5632 columns, rounded. -/
def next2048x5632 (w : FVec Ideal S2x2x2048x5632 .f32) : FVec Ideal S2048x5632 .bf16 :=
  truncf .bf16 (shapeCast S2048x5632 (extractStridedSlice S1x1x2048x5632 ![1, 0, 0, 0] w slices_S2x2x2048x5632_S1x1x2048x5632_1_0_0_0) shapeCasts_S1x1x2048x5632_S2048x5632) bitsLt_bf16_f32

theorem next2048x5632_apply (w : FVec Ideal S2x2x2048x5632 .f32) (k : Fin 2048) (n : Fin 5632) : next2048x5632 w (ix2 k n) = w (ix4 1 0 k n) := by
  unfold next2048x5632
  pointwise

/-- The next sub-layer's last matrix, rounded. -/
def next5632x2048 (w : FVec Ideal S2x2x5632x2048 .f32) : FVec Ideal S5632x2048 .bf16 :=
  truncf .bf16 (shapeCast S5632x2048 (extractStridedSlice S1x1x5632x2048 ![1, 0, 0, 0] w slices_S2x2x5632x2048_S1x1x5632x2048_1_0_0_0) shapeCasts_S1x1x5632x2048_S5632x2048) bitsLt_bf16_f32

theorem next5632x2048_apply (w : FVec Ideal S2x2x5632x2048 .f32) (k : Fin 5632) (n : Fin 2048) : next5632x2048 w (ix2 k n) = w (ix4 1 0 k n) := by
  unfold next5632x2048
  pointwise

/-- The rows of the result from the arguments. -/
def result (x : FVec Ideal S2x8192x2048 .f32) (md : FVec Ideal S2x18432 .f32) (wg wu : FVec Ideal S2x2x2048x5632 .f32)
    (wd : FVec Ideal S2x2x5632x2048 .f32) (g b : FVec Ideal S2x3x2048 .f32) : FVec Ideal S16384x2048 .f32 :=
  FfnPlain.layer x (shift md) (scale md) (gate md) (into wg) (into wu) (back wd) (row g) (row b)

/-- The result in the steps above. -/
theorem res_eq (m : (ℓ : Loc nD τ sig) → Buf (Elt Ideal) ℓ) (c : Dev nD) (x : FVec Ideal S2x8192x2048 .f32) (md : FVec Ideal S2x18432 .f32)
    (wg wu : FVec Ideal S2x2x2048x5632 .f32) (wd : FVec Ideal S2x2x5632x2048 .f32) (g b : FVec Ideal S2x3x2048 .f32)
    (h0 : m ((c.tc : Thread nD τ).loc main_arg0) = x) (h1 : m ((c.tc : Thread nD τ).loc main_arg1) = md)
    (h2 : m ((c.tc : Thread nD τ).loc main_arg2) = wg) (h3 : m ((c.tc : Thread nD τ).loc main_arg3) = wu)
    (h4 : m ((c.tc : Thread nD τ).loc main_arg4) = wd) (h5 : m ((c.tc : Thread nD τ).loc main_arg5) = g)
    (h6 : m ((c.tc : Thread nD τ).loc main_arg6) = b) :
    Value.res_main_v62 m c = result x md wg wu wd g b := by
  subst h0 h1 h2 h3 h4 h5 h6
  unfold Value.res_main_v62
  rfl

end Cert.FfnBRefIdeal.Plain

end
-- ==== Proof.FfnBResult.lean ====
/-
  What the feed-forward kernel of layer 0, sub-layer 1 leaves in its result arrays: the reference's rows, and the copies of the other weights.
-/
module

public import proofs.«01_k».proof.Proof.FfnBCopies
public import proofs.«01_k».proof.Proof.FfnBWindows
public import proofs.«01_k».proof.Proof.FfnBHost
public import proofs.«01_k».proof.Proof.FfnBRef

@[expose] public section

set_option maxRecDepth 16384

noncomputable section

namespace Cert.FfnBIdeal.Result

open Idealize.ShloMosaic Idealize.ShloMosaic.TcCoe Cert.FfnBIdeal Cert.FfnBIdeal.Gen Cert.FfnMath Cert.FfnSweep Cert.FfnCopy

variable (m : (ℓ : Loc nD τ sig) → Buf (Elt Ideal) ℓ) (c : Dev nD)

/-- The arguments, as arrays of extended reals. -/
abbrev x : FVec Ideal S2x8192x2048 .f32 := m ((c.tc : Thread nD τ).loc main_arg0)
abbrev md : FVec Ideal S2x18432 .f32 := m ((c.tc : Thread nD τ).loc main_arg1)
abbrev wg : FVec Ideal S2x2x2048x5632 .f32 := m ((c.tc : Thread nD τ).loc main_arg2)
abbrev wu : FVec Ideal S2x2x2048x5632 .f32 := m ((c.tc : Thread nD τ).loc main_arg3)
abbrev wd : FVec Ideal S2x2x5632x2048 .f32 := m ((c.tc : Thread nD τ).loc main_arg4)
abbrev lg : FVec Ideal S2x3x2048 .f32 := m ((c.tc : Thread nD τ).loc main_arg5)
abbrev lb : FVec Ideal S2x3x2048 .f32 := m ((c.tc : Thread nD τ).loc main_arg6)

/-- The sub-layer's arrays: the reference's slices of the arguments. -/
def arrays : Arrays :=
  FfnPlain.arrays (x m c) (FfnBRefIdeal.Plain.shift (md m c)) (FfnBRefIdeal.Plain.scale (md m c)) (FfnBRefIdeal.Plain.gate (md m c)) (FfnBRefIdeal.Plain.into (wg m c))
    (FfnBRefIdeal.Plain.into (wu m c)) (FfnBRefIdeal.Plain.back (wd m c)) (FfnBRefIdeal.Plain.row (lg m c)) (FfnBRefIdeal.Plain.row (lb m c))

/-- The reference's rows over the kernel's arguments. -/
def plainResult : FVec Ideal S16384x2048 .f32 := FfnBRefIdeal.Plain.result (x m c) (md m c) (wg m c) (wu m c) (wd m c) (lg m c) (lb m c)

/-- The blocks at each point. -/
def blocks : Blocks cfg0.N where
  b0 := fun t => iblk m c 0 t
  b1 := fun t => iblk m c 1 t
  b2 := fun t => iblk m c 2 t
  b3 := fun t => iblk m c 3 t
  b4 := fun t => iblk m c 4 t
  b5 := fun t => iblk m c 5 t
  b6 := fun t => iblk m c 6 t
  b7 := fun t => iblk m c 7 t
  b8 := fun t => iblk m c 8 t

/-- They are cut from the sub-layer's arrays. -/
theorem cut : Cut (arrays m c) (blocks m c) where
  lt := Windows.lt_N
  c0 := fun t a b p n hr => by
    show (iblk m c 0 t : Vec Ideal S1024x2048 .f32) (ix2 a n) = x m c (ix3 b p n)
    refine (Windows.blk0 m c t a n).trans ((Host.x_apply m c _ n).trans ?_)
    refine congrArg (x m c) ?_
    congr 1
    · apply Fin.ext; dsimp only; omega
    · apply Fin.ext; dsimp only; omega
  c1 := fun t b n hb => by
    show (iblk m c 1 t : Vec Ideal S1x1x1x1x2048 .f32) (ix5 0 0 0 0 n) = FfnBRefIdeal.Plain.shift (md m c) (ix3 b 0 n)
    rw [FfnBRefIdeal.Plain.shift_apply, Windows.blk1 m c t ⟨b.val, by omega⟩ hb]
    exact Host.mod_apply m c b 6 n
  c2 := fun t b n hb => by
    show (iblk m c 2 t : Vec Ideal S1x1x1x1x2048 .f32) (ix5 0 0 0 0 n) = FfnBRefIdeal.Plain.scale (md m c) (ix3 b 0 n)
    rw [FfnBRefIdeal.Plain.scale_apply, Windows.blk2 m c t ⟨b.val, by omega⟩ hb]
    exact Host.mod_apply m c b 7 n
  c3 := fun t b n hb => by
    show (iblk m c 3 t : Vec Ideal S1x1x1x1x2048 .f32) (ix5 0 0 0 0 n) = FfnBRefIdeal.Plain.gate (md m c) (ix3 b 0 n)
    rw [FfnBRefIdeal.Plain.gate_apply, Windows.blk3 m c t ⟨b.val, by omega⟩ hb]
    exact Host.mod_apply m c b 8 n
  c4 := fun t k j q hq => by
    show (iblk m c 4 t : Vec Ideal S2048x512 .bf16) (ix2 k j) = FfnBRefIdeal.Plain.into (wg m c) (ix2 k q)
    rw [FfnBRefIdeal.Plain.into_apply, Windows.blk4 m c t k j q hq]
    exact Host.wg_apply m c k q
  c5 := fun t k j q hq => by
    show (iblk m c 5 t : Vec Ideal S2048x512 .bf16) (ix2 k j) = FfnBRefIdeal.Plain.into (wu m c) (ix2 k q)
    rw [FfnBRefIdeal.Plain.into_apply, Windows.blk5 m c t k j q hq]
    exact Host.wu_apply m c k q
  c6 := fun t j n q hq => by
    show (iblk m c 6 t : Vec Ideal S512x2048 .bf16) (ix2 j n) = FfnBRefIdeal.Plain.back (wd m c) (ix2 q n)
    rw [FfnBRefIdeal.Plain.back_apply, Windows.blk6 m c t j n q hq]
    exact Host.wd_apply m c q n
  c7 := fun t n => by
    show (iblk m c 7 t : Vec Ideal S1x1x1x2048 .f32) (ix4 0 0 0 n) = FfnBRefIdeal.Plain.row (lg m c) (ix1 n)
    rw [FfnBRefIdeal.Plain.row_apply, Windows.blk7]
    exact Host.g_apply m c 0 2 n
  c8 := fun t n => by
    show (iblk m c 8 t : Vec Ideal S1x1x1x2048 .f32) (ix4 0 0 0 n) = FfnBRefIdeal.Plain.row (lb m c) (ix1 n)
    rw [FfnBRefIdeal.Plain.row_apply, Windows.blk8]
    exact Host.b_apply m c 0 2 n

/-- What the points leave in the tile of rows and in the kept tile. -/
theorem runs : Runs (blocks m c) (fun s hs => (outsAt0 m c s hs).1) (fun s hs => (outsAt0 m c s hs).2.2.2.2) where
  open_o := fun t h => by
    rw [outsAt0_A m c t h (by omega) (by omega)]
    dsimp only
    rw [Body.out_A]
    rfl
  open_k := fun t h => by
    rw [outsAt0_A m c t h (by omega) (by omega)]
    dsimp only
    rw [Body.sout_A]
    rfl
  mid_o := fun s h h0 h2 => by
    rw [outsAt0_B m c ⟨s + 1, h⟩ h0 (by dsimp only; omega) h2]
    dsimp only
    rw [Body.out_B]
    rfl
  last_o := fun s h h2 => by
    rw [outsAt0_C m c ⟨s + 1, h⟩ (by dsimp only; omega) (by dsimp only; omega) h2]
    dsimp only
    rw [Body.out_C]
    rfl
  mid_k := fun s h h0 => by
    by_cases h2 : (s + 1) % 11 = 10
    · rw [outsAt0_C m c ⟨s + 1, h⟩ h0 (by dsimp only; omega) h2]
      rfl
    · rw [outsAt0_B m c ⟨s + 1, h⟩ h0 (by dsimp only; omega) h2]
      rfl

/-- What every point leaves of the copies. -/
theorem copies (t : Fin cfg0.N) :
    (outsAt0 m c t.val t.isLt).2.1 = tile16x5632 (iblk m c 9 t) ∧
    (outsAt0 m c t.val t.isLt).2.2.1 = tile16x5632 (iblk m c 10 t) ∧
    (outsAt0 m c t.val t.isLt).2.2.2.1 = tile32x2048 (iblk m c 11 t) := by
  by_cases h0 : t.val % 11 = 0
  · rw [outsAt0_A m c t h0 (by omega) (by omega)]
    dsimp only
    exact ⟨(Body.copies_A ..).1, (Body.copies_A ..).2.1, (Body.copies_A ..).2.2⟩
  · by_cases h2 : t.val % 11 = 10
    · rw [outsAt0_C m c t h0 (by omega) h2]
      dsimp only
      exact ⟨(Body.copies_C ..).1, (Body.copies_C ..).2.1, (Body.copies_C ..).2.2⟩
    · rw [outsAt0_B m c t h0 (by omega) h2]
      dsimp only
      exact ⟨(Body.copies_B ..).1, (Body.copies_B ..).2.1, (Body.copies_B ..).2.2⟩

/-- On real arguments the sub-layer's arrays are real. -/
theorem arrays_real (hx : ∀ i, IsReal (x m c i)) (hm : ∀ i, IsReal (md m c i)) (hg : ∀ i, IsReal (wg m c i)) (hu : ∀ i, IsReal (wu m c i))
    (hd : ∀ i, IsReal (wd m c i)) : (arrays m c).Real where
  x := fun _ _ _ => hx _
  sh := fun b n => (congrArg IsReal (FfnBRefIdeal.Plain.shift_apply (md m c) b n)).mpr (hm _)
  sc := fun b n => (congrArg IsReal (FfnBRefIdeal.Plain.scale_apply (md m c) b n)).mpr (hm _)
  gt := fun b n => (congrArg IsReal (FfnBRefIdeal.Plain.gate_apply (md m c) b n)).mpr (hm _)
  wg := fun k j => (congrArg IsReal (FfnBRefIdeal.Plain.into_apply (wg m c) k j)).mpr (hg _)
  wu := fun k j => (congrArg IsReal (FfnBRefIdeal.Plain.into_apply (wu m c) k j)).mpr (hu _)
  wd := fun j n => (congrArg IsReal (FfnBRefIdeal.Plain.back_apply (wd m c) j n)).mpr (hd _)

/-- A tile's last point leaves the reference's rows. -/
theorem point (H : (arrays m c).Real) (t : Fin grid0.N) (h2 : t.val % 11 = 10) (a : Fin 1024) (n : Fin 2048) :
    (outsAt0 m c t.val t.isLt).1 (ix2 a n) = plainResult m c (ix2 ⟨t.val / 11 * 1024 + a.val, by have := Windows.lt_N t; omega⟩ n) := by
  have ht := Windows.lt_N t
  obtain ⟨b, hb⟩ : ∃ b : Fin 2, b.val = (t.val / 11 * 1024 + a.val) / 8192 := ⟨⟨(t.val / 11 * 1024 + a.val) / 8192, by omega⟩, rfl⟩
  obtain ⟨p, hp⟩ : ∃ p : Fin 8192, p.val = (t.val / 11 * 1024 + a.val) % 8192 := ⟨⟨(t.val / 11 * 1024 + a.val) % 8192, by omega⟩, rfl⟩
  refine (rows (cut m c) (runs m c) H t h2 a b p (by omega) n).trans ?_
  exact (FfnPlain.layer_apply _ _ _ _ _ _ _ _ _ ⟨t.val / 11 * 1024 + a.val, by omega⟩ n b p (by dsimp only; omega)).symm

/-- The array of rows. -/
theorem array (H : (arrays m c).Real) :
    (dats m 0 c).arrAt 12 cfg0.N = (plainResult m c : Buf (Elt Ideal) ((c.tc : Thread nD τ).loc main_v14_0)) := by
  have hcov : (cfg0.win 12).Covers := by decide +kernel
  refine (dats m 0 c).arrAt_eq_of_cover 12 _ (fun t hf => ?_) (Pipeline.Window.Covers.cover _ hcov (Memref.isWhole_whole _))
  have h2 : t.val % 11 = 10 := (flush0_12 t).mp hf
  rw [Value.flushed12]
  have e : win0_12.index t = ![t.val / 11, 0] := (Windows.idx t).2.2.2.2.2.2.2.2.2
  funext y
  have h0 : (y 0).val < 1024 := (y 0).isLt
  have h1 : (y 1).val < 2048 := (y 1).isLt
  refine Eq.trans (congrArg _ (funext fun a => Fin.ext ?_)) ((point m c H t h2 ⟨(y 0).val, h0⟩ ⟨(y 1).val, h1⟩).trans
    (congrArg (plainResult m c) (funext fun a => Fin.ext ?_)))
  · fin_cases a <;> rfl
  · fin_cases a
    · show t.val / 11 * 1024 + (y 0).val = win0_12.index t 0 * 1024 + 1 * (y 0).val; rw [e]; simp
    · show (y 1).val = win0_12.index t 1 * 2048 + 1 * (y 1).val; rw [e]; simp

/-- The copy of argument 2. -/
theorem copy1 :
    (dats m 0 c).arrAt 13 cfg0.N = (FfnBRefIdeal.Plain.next2048x5632 (wg m c) : Buf (Elt Ideal) ((c.tc : Thread nD τ).loc main_v14_1)) := by
  have hcov : (cfg0.win 13).Covers := by decide +kernel
  refine (dats m 0 c).arrAt_eq_of_cover 13 _ (fun t hf => ?_) (Pipeline.Window.Covers.cover _ hcov (Memref.isWhole_whole _))
  have ht := Windows.lt_N t
  rw [Value.flushed13, (copies m c t).1]
  have e : win0_13.index t = ![min t.val 127, 0] := (Windows.idx_out t).1
  funext y
  have h0 : (y 0).val < 16 := (y 0).isLt
  have h1 : (y 1).val < 5632 := (y 1).isLt
  have hp : tile16x5632 (iblk m c 9 t) (ix2 ⟨(y 0).val, h0⟩ ⟨(y 1).val, h1⟩) =
      FfnBRefIdeal.Plain.next2048x5632 (wg m c) (ix2 ⟨(min t.val 127) * 16 + (y 0).val, by omega⟩ ⟨(y 1).val, h1⟩) :=
    (tile16x5632_apply _ _ _).trans ((Windows.blk9 m c t ⟨(y 0).val, h0⟩ ⟨(y 1).val, h1⟩).trans
      ((congrFun (Host.args_eq m c).1 _).trans (FfnBRefIdeal.Plain.next2048x5632_apply (wg m c) _ _).symm))
  refine Eq.trans (congrArg _ (funext fun a => Fin.ext ?_)) (hp.trans (congrArg (FfnBRefIdeal.Plain.next2048x5632 (wg m c)) (funext fun a => Fin.ext ?_)))
  · fin_cases a <;> rfl
  · fin_cases a
    · show (min t.val 127) * 16 + (y 0).val = win0_13.index t 0 * 16 + 1 * (y 0).val; rw [e]; simp
    · show (y 1).val = win0_13.index t 1 * 5632 + 1 * (y 1).val; rw [e]; simp

/-- The copy of argument 3. -/
theorem copy2 :
    (dats m 0 c).arrAt 14 cfg0.N = (FfnBRefIdeal.Plain.next2048x5632 (wu m c) : Buf (Elt Ideal) ((c.tc : Thread nD τ).loc main_v14_2)) := by
  have hcov : (cfg0.win 14).Covers := by decide +kernel
  refine (dats m 0 c).arrAt_eq_of_cover 14 _ (fun t hf => ?_) (Pipeline.Window.Covers.cover _ hcov (Memref.isWhole_whole _))
  have ht := Windows.lt_N t
  rw [Value.flushed14, (copies m c t).2.1]
  have e : win0_14.index t = ![min t.val 127, 0] := (Windows.idx_out t).2.1
  funext y
  have h0 : (y 0).val < 16 := (y 0).isLt
  have h1 : (y 1).val < 5632 := (y 1).isLt
  have hp : tile16x5632 (iblk m c 10 t) (ix2 ⟨(y 0).val, h0⟩ ⟨(y 1).val, h1⟩) =
      FfnBRefIdeal.Plain.next2048x5632 (wu m c) (ix2 ⟨(min t.val 127) * 16 + (y 0).val, by omega⟩ ⟨(y 1).val, h1⟩) :=
    (tile16x5632_apply _ _ _).trans ((Windows.blk10 m c t ⟨(y 0).val, h0⟩ ⟨(y 1).val, h1⟩).trans
      ((congrFun (Host.args_eq m c).2.1 _).trans (FfnBRefIdeal.Plain.next2048x5632_apply (wu m c) _ _).symm))
  refine Eq.trans (congrArg _ (funext fun a => Fin.ext ?_)) (hp.trans (congrArg (FfnBRefIdeal.Plain.next2048x5632 (wu m c)) (funext fun a => Fin.ext ?_)))
  · fin_cases a <;> rfl
  · fin_cases a
    · show (min t.val 127) * 16 + (y 0).val = win0_14.index t 0 * 16 + 1 * (y 0).val; rw [e]; simp
    · show (y 1).val = win0_14.index t 1 * 5632 + 1 * (y 1).val; rw [e]; simp

/-- The copy of argument 4. -/
theorem copy3 :
    (dats m 0 c).arrAt 15 cfg0.N = (FfnBRefIdeal.Plain.next5632x2048 (wd m c) : Buf (Elt Ideal) ((c.tc : Thread nD τ).loc main_v14_3)) := by
  have hcov : (cfg0.win 15).Covers := by decide +kernel
  refine (dats m 0 c).arrAt_eq_of_cover 15 _ (fun t hf => ?_) (Pipeline.Window.Covers.cover _ hcov (Memref.isWhole_whole _))
  have ht := Windows.lt_N t
  rw [Value.flushed15, (copies m c t).2.2]
  have e : win0_15.index t = ![t.val, 0] := (Windows.idx_out t).2.2
  funext y
  have h0 : (y 0).val < 32 := (y 0).isLt
  have h1 : (y 1).val < 2048 := (y 1).isLt
  have hp : tile32x2048 (iblk m c 11 t) (ix2 ⟨(y 0).val, h0⟩ ⟨(y 1).val, h1⟩) =
      FfnBRefIdeal.Plain.next5632x2048 (wd m c) (ix2 ⟨(t.val) * 32 + (y 0).val, by omega⟩ ⟨(y 1).val, h1⟩) :=
    (tile32x2048_apply _ _ _).trans ((Windows.blk11 m c t ⟨(y 0).val, h0⟩ ⟨(y 1).val, h1⟩).trans
      ((congrFun (Host.args_eq m c).2.2 _).trans (FfnBRefIdeal.Plain.next5632x2048_apply (wd m c) _ _).symm))
  refine Eq.trans (congrArg _ (funext fun a => Fin.ext ?_)) (hp.trans (congrArg (FfnBRefIdeal.Plain.next5632x2048 (wd m c)) (funext fun a => Fin.ext ?_)))
  · fin_cases a <;> rfl
  · fin_cases a
    · show (t.val) * 32 + (y 0).val = win0_15.index t 0 * 32 + 1 * (y 0).val; rw [e]; simp
    · show (y 1).val = win0_15.index t 1 * 2048 + 1 * (y 1).val; rw [e]; simp

end Cert.FfnBIdeal.Result

end
-- ==== Proof.FfnBClaim.lean ====
/-
  The claim of the feed-forward call of layer 0, sub-layer 1: the precondition says the numbers are real, both programs run, and their results are equal.
-/
module

public import proofs.«01_k».proof.Proof.AttnClaim
public import proofs.«01_k».proof.Proof.FfnBResult
public import proofs.«01_k».proof.Proof.Gen.Pre_ffn_finite

@[expose] public section

set_option maxRecDepth 16384

noncomputable section

namespace Cert.Proof

open Idealize.ShloMosaic Idealize.ShloMosaic.TcCoe Idealize.SL.Sem

/-- What the precondition says: the sub-layer's arrays are real. -/
theorem ffn_b_real (m : (ℓ : Loc FfnBIdeal.nD FfnBIdeal.τ FfnBIdeal.sig) → Buf (Elt Ideal) ℓ) (c : Dev FfnBIdeal.nD)
    (h : Pre_FfnBIdeal_ffn_finite (hPre_ffn_finite := Pre_ffn_finite.Gen.facts) m) : (FfnBIdeal.Result.arrays m c).Real := by
  obtain ⟨h0, h1, h2, h3, h4⟩ := h c
  exact FfnBIdeal.Result.arrays_real m c (fun i => real_of_lt _ (congrFun h0 i)) (fun i => real_of_lt _ (congrFun h1 i))
    (fun i => real_of_lt _ (congrFun h2 i)) (fun i => real_of_lt _ (congrFun h3 i)) (fun i => real_of_lt _ (congrFun h4 i))

/-- The kernel's results are the reference's. -/
theorem ffn_b_algebraic : algebraic_FfnBIdeal_FfnBRefIdeal_pre_ffn_finite (hFfnBIdeal := FfnBIdeal.Gen.facts)
    (hFfnBRefIdeal := FfnBRefIdeal.Gen.facts) (hPre_ffn_finite := Pre_ffn_finite.Gen.facts) := by
  intro m ρ m' ρ' hpre hag
  refine ⟨fun c => FfnBIdeal.Result.plainResult m c, fun c => FfnBRefIdeal.Plain.next2048x5632 (FfnBIdeal.Result.wg m c), fun c => FfnBRefIdeal.Plain.next2048x5632 (FfnBIdeal.Result.wu m c), fun c => FfnBRefIdeal.Plain.next5632x2048 (FfnBIdeal.Result.wd m c), ?_, ?_⟩
  · refine (θ_run _ _ _).mono (fun _ h c => ⟨(h c).1.trans ?_, (h c).2.1.trans (FfnBIdeal.Result.copy1 m c), (h c).2.2.1.trans (FfnBIdeal.Result.copy2 m c), (h c).2.2.2.1.trans (FfnBIdeal.Result.copy3 m c), (h c).2.2.2.2⟩) (FfnBIdeal.Value.run_blocks m ρ)
    exact FfnBIdeal.Result.array m c (ffn_b_real m c hpre)
  · refine (θ_run _ _ _).mono (fun _ h c => ⟨(h c).1.trans ?_, (h c).2.1.trans ?_, (h c).2.2.1.trans ?_, (h c).2.2.2.1.trans ?_, (h c).2.2.2.2⟩) (FfnBRefIdeal.Value.run m' ρ')
    all_goals obtain ⟨e0, e1, e2, e3, e4, e5, e6⟩ := hag c
    · rw [FfnBRefIdeal.Plain.res_eq m' c _ _ _ _ _ _ _ e0 e1 e2 e3 e4 e5 e6]
      rfl
    · exact congrArg FfnBRefIdeal.Plain.next2048x5632 e2
    · exact congrArg FfnBRefIdeal.Plain.next2048x5632 e3
    · exact congrArg FfnBRefIdeal.Plain.next5632x2048 e4

end Cert.Proof

end
-- ==== Proof.FfnARunBase.lean ====
/-
  The congruences of the parts of the kernel of layer 0, sub-layer 0, by name, for the three runs of its body.
-/
module

public import proofs.«01_k».proof.Proof.Gen.FfnAIdeal.Frame.Runs

@[expose] public section

namespace Cert.FfnAIdeal.Gen

theorem part1_congr : True := have := @k0_part1_skel.congr_simp; trivial
theorem part2_congr : True := have := @k0_part2_skel.congr_simp; trivial
theorem part3_congr : True := have := @k0_part3_skel.congr_simp; trivial
theorem part4_congr : True := have := @k0_part4_skel.congr_simp; trivial

end Cert.FfnAIdeal.Gen

end
-- ==== Proof.FfnARunA.lean ====
/-
  The run of the body of the feed-forward kernel of layer 0, sub-layer 0 at a first chunk.
-/
module

public import proofs.«01_k».proof.Proof.FfnARunBase

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body at a first chunk: what its stores leave in each buffer, found by the run, and that the buffers end so. -/
noncomputable def kernelRun0_A (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : cond0_0 i) (hc1 : ¬cond0_1 i) (hc2 : ¬cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) :
    Σ' (L16 : List (View.Piece (Elt F) S1024x2048 .f32)), Σ' (L17 : List (View.Piece (Elt F) S16x5632 .bf16)), Σ' (L18 : List (View.Piece (Elt F) S16x5632 .bf16)), Σ' (L19 : List (View.Piece (Elt F) S32x2048 .bf16)), Σ' (L20 : List (View.Piece (Elt F) S16x4096 .bf16)), Σ' (L21 : List (View.Piece (Elt F) S16x2048 .bf16)), Σ' (L22 : List (View.Piece (Elt F) S16x2560 .bf16)), Σ' (L23 : List (View.Piece (Elt F) S16x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0)) -∗ K ⟨⟩))
          ⊢ wp frame (wpE (defs₀ (F := F)) Variants.none c none) E (cc0_ffn_l0_s0_16384 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, fun E K => ?run⟩
  case run =>
    simp only [cc0_ffn_l0_s0_16384_eq_skeleton]; unfold cc0_ffn_l0_s0_16384_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact HS0

end Cert.FfnAIdeal.Gen

end
-- ==== Proof.FfnARunB.lean ====
/-
  The run of the body of the feed-forward kernel of layer 0, sub-layer 0 at an inner chunk.
-/
module

public import proofs.«01_k».proof.Proof.FfnARunBase

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body at an inner chunk: what its stores leave in each buffer, found by the run, and that the buffers end so. -/
noncomputable def kernelRun0_B (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : cond0_1 i) (hc2 : ¬cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16) :
    Σ' (L16 : List (View.Piece (Elt F) S1024x2048 .f32)), Σ' (L17 : List (View.Piece (Elt F) S16x5632 .bf16)), Σ' (L18 : List (View.Piece (Elt F) S16x5632 .bf16)), Σ' (L19 : List (View.Piece (Elt F) S32x2048 .bf16)), Σ' (L20 : List (View.Piece (Elt F) S16x4096 .bf16)), Σ' (L21 : List (View.Piece (Elt F) S16x2048 .bf16)), Σ' (L22 : List (View.Piece (Elt F) S16x2560 .bf16)), Σ' (L23 : List (View.Piece (Elt F) S16x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xo16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ owns (c : Thread nD τ) arg26 fullShare xs0) -∗ K ⟨⟩))
          ⊢ wp frame (wpE (defs₀ (F := F)) Variants.none c none) E (cc0_ffn_l0_s0_16384 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, [], fun E K => ?run⟩
  case run =>
    simp only [cc0_ffn_l0_s0_16384_eq_skeleton]; unfold cc0_ffn_l0_s0_16384_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg26.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; isplitr; · ipureintro; exact harg26.read_unread _
    iexact HS0

end Cert.FfnAIdeal.Gen

end
-- ==== Proof.FfnARunC.lean ====
/-
  The run of the body of the feed-forward kernel of layer 0, sub-layer 0 at a last chunk.
-/
module

public import proofs.«01_k».proof.Proof.FfnARunBase

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body at a last chunk: what its stores leave in each buffer, found by the run, and that the buffers end so. -/
noncomputable def kernelRun0_C (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : ¬cond0_1 i) (hc2 : cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16) :
    Σ' (L16 : List (View.Piece (Elt F) S1024x2048 .f32)), Σ' (L17 : List (View.Piece (Elt F) S16x5632 .bf16)), Σ' (L18 : List (View.Piece (Elt F) S16x5632 .bf16)), Σ' (L19 : List (View.Piece (Elt F) S32x2048 .bf16)), Σ' (L20 : List (View.Piece (Elt F) S16x4096 .bf16)), Σ' (L21 : List (View.Piece (Elt F) S16x2048 .bf16)), Σ' (L22 : List (View.Piece (Elt F) S16x2560 .bf16)), Σ' (L23 : List (View.Piece (Elt F) S16x2048 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xo16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ owns (c : Thread nD τ) arg26 fullShare xs0) -∗ K ⟨⟩))
          ⊢ wp frame (wpE (defs₀ (F := F)) Variants.none c none) E (cc0_ffn_l0_s0_16384 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, [], fun E K => ?run⟩
  case run =>
    simp only [cc0_ffn_l0_s0_16384_eq_skeleton]; unfold cc0_ffn_l0_s0_16384_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg26.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; isplitr; · ipureintro; exact harg26.read_unread _
    iexact HS0

end Cert.FfnAIdeal.Gen

end
-- ==== Proof.FfnATiles.lean ====
/-
  What the body of the feed-forward kernel of layer 0, sub-layer 0 leaves in each buffer, by the case of the point, read off its runs.
-/
module

public import proofs.«01_k».proof.Proof.FfnARunA
public import proofs.«01_k».proof.Proof.FfnARunB
public import proofs.«01_k».proof.Proof.FfnARunC
public import Idealize.ShloMosaic.Lib.Claim

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : cond0_0 i) (hc1 : ¬cond0_1 i) (hc2 : ¬cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32)

/-- The stores of a first chunk cover output 16. -/
theorem cover0_A_16 (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).1 S256x2048.size (by sl_kernel_rfl) y

/-- What a first chunk leaves in output 16. -/
def out0_A_16 : Vec F S1024x2048 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).1)

/-- The stores of a first chunk cover output 17. -/
theorem cover0_A_17 (y : S16x5632.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.1 S16x5632.size (by sl_kernel_rfl) y

/-- What a first chunk leaves in output 17. -/
def out0_A_17 : Vec F S16x5632 .bf16 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.1)

/-- The stores of a first chunk cover output 18. -/
theorem cover0_A_18 (y : S16x5632.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.1 S16x5632.size (by sl_kernel_rfl) y

/-- What a first chunk leaves in output 18. -/
def out0_A_18 : Vec F S16x5632 .bf16 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.1)

/-- The stores of a first chunk cover output 19. -/
theorem cover0_A_19 (y : S32x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.1 S32x2048.size (by sl_kernel_rfl) y

/-- What a first chunk leaves in output 19. -/
def out0_A_19 : Vec F S32x2048 .bf16 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.1)

/-- The stores of a first chunk cover output 20. -/
theorem cover0_A_20 (y : S16x4096.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.1 S16x4096.size (by sl_kernel_rfl) y

/-- What a first chunk leaves in output 20. -/
def out0_A_20 : Vec F S16x4096 .bf16 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.1)

/-- The stores of a first chunk cover output 21. -/
theorem cover0_A_21 (y : S16x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.1 S16x2048.size (by sl_kernel_rfl) y

/-- What a first chunk leaves in output 21. -/
def out0_A_21 : Vec F S16x2048 .bf16 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.1)

/-- The stores of a first chunk cover output 22. -/
theorem cover0_A_22 (y : S16x2560.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.1 S16x2560.size (by sl_kernel_rfl) y

/-- What a first chunk leaves in output 22. -/
def out0_A_22 : Vec F S16x2560 .bf16 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.1)

/-- The stores of a first chunk cover output 23. -/
theorem cover0_A_23 (y : S16x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.1 S16x2048.size (by sl_kernel_rfl) y

/-- What a first chunk leaves in output 23. -/
def out0_A_23 : Vec F S16x2048 .bf16 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.1)

/-- The stores of a first chunk cover the kept tile. -/
theorem scover0_A_0 (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.2.1 S256x2048.size (by sl_kernel_rfl) y

/-- What a first chunk leaves in the kept tile. -/
def sout0_A_0 : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15).2.2.2.2.2.2.2.2.1)

end CaseA

section CaseB

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : cond0_1 i) (hc2 : ¬cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16)

/-- The stores of an inner chunk cover output 16. -/
theorem cover0_B_16 (y : S1024x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1 S1024x2048.size (by sl_kernel_rfl) y

/-- What an inner chunk leaves in output 16. -/
def out0_B_16 : Vec F S1024x2048 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1)

/-- The stores of an inner chunk cover output 17. -/
theorem cover0_B_17 (y : S16x5632.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1 S16x5632.size (by sl_kernel_rfl) y

/-- What an inner chunk leaves in output 17. -/
def out0_B_17 : Vec F S16x5632 .bf16 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1)

/-- The stores of an inner chunk cover output 18. -/
theorem cover0_B_18 (y : S16x5632.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1 S16x5632.size (by sl_kernel_rfl) y

/-- What an inner chunk leaves in output 18. -/
def out0_B_18 : Vec F S16x5632 .bf16 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1)

/-- The stores of an inner chunk cover output 19. -/
theorem cover0_B_19 (y : S32x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1 S32x2048.size (by sl_kernel_rfl) y

/-- What an inner chunk leaves in output 19. -/
def out0_B_19 : Vec F S32x2048 .bf16 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1)

/-- The stores of an inner chunk cover output 20. -/
theorem cover0_B_20 (y : S16x4096.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1 S16x4096.size (by sl_kernel_rfl) y

/-- What an inner chunk leaves in output 20. -/
def out0_B_20 : Vec F S16x4096 .bf16 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1)

/-- The stores of an inner chunk cover output 21. -/
theorem cover0_B_21 (y : S16x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1 S16x2048.size (by sl_kernel_rfl) y

/-- What an inner chunk leaves in output 21. -/
def out0_B_21 : Vec F S16x2048 .bf16 :=
  VO0_21.read (Elt F) (VO0_21.writes (Elt F) VO0_21.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1)

/-- The stores of an inner chunk cover output 22. -/
theorem cover0_B_22 (y : S16x2560.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1 S16x2560.size (by sl_kernel_rfl) y

/-- What an inner chunk leaves in output 22. -/
def out0_B_22 : Vec F S16x2560 .bf16 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1)

/-- The stores of an inner chunk cover output 23. -/
theorem cover0_B_23 (y : S16x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1 S16x2048.size (by sl_kernel_rfl) y

/-- What an inner chunk leaves in output 23. -/
def out0_B_23 : Vec F S16x2048 .bf16 :=
  VO0_23.read (Elt F) (VO0_23.writes (Elt F) VO0_23.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1)

end CaseB

/-- What an inner chunk leaves in the kept tile. -/
def sout0_B_0 (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : cond0_1 i) (hc2 : ¬cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16) : Vec F S1024x2048 .bf16 := xs0

section CaseC

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : ¬cond0_1 i) (hc2 : cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16)

/-- The stores of a last chunk cover output 16. -/
theorem cover0_C_16 (y : S1024x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1 S256x2048.size (by sl_kernel_rfl) y

/-- What a last chunk leaves in output 16. -/
def out0_C_16 : Vec F S1024x2048 .f32 :=
  VO0_16.read (Elt F) (VO0_16.writes (Elt F) VO0_16.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).1)

/-- The stores of a last chunk cover output 17. -/
theorem cover0_C_17 (y : S16x5632.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1 S16x5632.size (by sl_kernel_rfl) y

/-- What a last chunk leaves in output 17. -/
def out0_C_17 : Vec F S16x5632 .bf16 :=
  VO0_17.read (Elt F) (VO0_17.writes (Elt F) VO0_17.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.1)

/-- The stores of a last chunk cover output 18. -/
theorem cover0_C_18 (y : S16x5632.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1 S16x5632.size (by sl_kernel_rfl) y

/-- What a last chunk leaves in output 18. -/
def out0_C_18 : Vec F S16x5632 .bf16 :=
  VO0_18.read (Elt F) (VO0_18.writes (Elt F) VO0_18.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.1)

/-- The stores of a last chunk cover output 19. -/
theorem cover0_C_19 (y : S32x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1 S32x2048.size (by sl_kernel_rfl) y

/-- What a last chunk leaves in output 19. -/
def out0_C_19 : Vec F S32x2048 .bf16 :=
  VO0_19.read (Elt F) (VO0_19.writes (Elt F) VO0_19.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.1)

/-- The stores of a last chunk cover output 20. -/
theorem cover0_C_20 (y : S16x4096.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1 S16x4096.size (by sl_kernel_rfl) y

/-- What a last chunk leaves in output 20. -/
def out0_C_20 : Vec F S16x4096 .bf16 :=
  VO0_20.read (Elt F) (VO0_20.writes (Elt F) VO0_20.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.1)

/-- The stores of a last chunk cover output 21. -/
theorem cover0_C_21 (y : S16x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1 S16x2048.size (by sl_kernel_rfl) y

/-- What a last chunk leaves in output 21. -/
def out0_C_21 : Vec F S16x2048 .bf16 :=
  VO0_21.read (Elt F) (VO0_21.writes (Elt F) VO0_21.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.1)

/-- The stores of a last chunk cover output 22. -/
theorem cover0_C_22 (y : S16x2560.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1 S16x2560.size (by sl_kernel_rfl) y

/-- What a last chunk leaves in output 22. -/
def out0_C_22 : Vec F S16x2560 .bf16 :=
  VO0_22.read (Elt F) (VO0_22.writes (Elt F) VO0_22.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.1)

/-- The stores of a last chunk cover output 23. -/
theorem cover0_C_23 (y : S16x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1 S16x2048.size (by sl_kernel_rfl) y

/-- What a last chunk leaves in output 23. -/
def out0_C_23 : Vec F S16x2048 .bf16 :=
  VO0_23.read (Elt F) (VO0_23.writes (Elt F) VO0_23.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0).2.2.2.2.2.2.2.1)

end CaseC

/-- What a last chunk leaves in the kept tile. -/
def sout0_C_0 (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole) (hc0 : ¬cond0_0 i) (hc1 : ¬cond0_1 i) (hc2 : cond0_2 i)
    (x0 : Vec F S1024x2048 .f32) (x1 : Vec F S1x1x1x1x2048 .f32) (x2 : Vec F S1x1x1x1x2048 .f32) (x3 : Vec F S1x1x1x1x2048 .f32) (x4 : Vec F S2048x512 .bf16) (x5 : Vec F S2048x512 .bf16) (x6 : Vec F S512x2048 .bf16) (x7 : Vec F S1x1x1x2048 .f32) (x8 : Vec F S1x1x1x2048 .f32) (x9 : Vec F S1x1x16x5632 .f32) (x10 : Vec F S1x1x16x5632 .f32) (x11 : Vec F S1x1x32x2048 .f32) (x12 : Vec F S1x16x4096 .f32) (x13 : Vec F S1x16x2048 .f32) (x14 : Vec F S1x16x2560 .f32) (x15 : Vec F S1x16x2048 .f32) (xo16 : Vec F S1024x2048 .f32) (xs0 : Vec F S1024x2048 .bf16) : Vec F S1024x2048 .bf16 := xs0

end Cert.FfnAIdeal.Gen

end
-- ==== Proof.FfnABody.lean ====
/-
  What the body of the feed-forward kernel of layer 0, sub-layer 0 leaves of its rows at a point, by the case of the point: the
  same tiles as without the copies.
-/
module

public import proofs.«01_k».proof.Proof.FfnBody
public import proofs.«01_k».proof.Proof.FfnATiles

@[expose] public section

set_option maxRecDepth 16384

noncomputable section

namespace Cert.FfnAIdeal.Body

open Idealize.ShloMosaic Idealize.ShloMosaic.TcCoe Cert.FfnAIdeal Cert.FfnAIdeal.Gen Cert.FfnMath
open Cert.FfnIdeal.Body (kept step first inner last first_slab kept_slab last_slab hz5 hz4 hz2)

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (x12 : Vec Ideal S1x16x4096 .f32) (x13 : Vec Ideal S1x16x2048 .f32) (x14 : Vec Ideal S1x16x2560 .f32) (x15 : Vec Ideal S1x16x2048 .f32) (xo16 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole)

theorem hz3 : (![0, 0, 0] : Fin 3 → ℕ) = fun _ => 0 := funext fun a => by fin_cases a <;> rfl

set_option maxHeartbeats 4000000 in
/-- After the first chunk. -/
theorem out_A (hc0 : cond0_0 i) (hc1 : ¬cond0_1 i) (hc2 : ¬cond0_2 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = first x0 x1 x2 x3 x4 x5 x6 := by
  have hcov := cover0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  unfold out0_A_16
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  have key := first_slab x0 x1 x2 x3 x4 x5 x6
  exact ⟨key 768 _, key 512 _, key 256 _, key 0 _, fun _ h => absurd h List.not_mem_nil⟩

set_option maxHeartbeats 4000000 in
/-- What is kept for the chunks after the first. -/
theorem sout_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = kept x0 x1 x2 := by
  have hcov := scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  unfold sout0_A_0
  rw [View.read_writes_eq_canon _ _ _ hcov]
  funext y
  refine View.canon_apply_of_pieces _ _ ?_ y (hcov y)
  clear hcov
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  have key := kept_slab x0 x1 x2
  exact ⟨key 768 _, key 512 _, key 256 _, key 0 _, fun _ h => absurd h List.not_mem_nil⟩

set_option maxHeartbeats 4000000 in
/-- After an inner chunk. -/
theorem out_B (hc0 : ¬cond0_0 i) (hc1 : cond0_1 i) (hc2 : ¬cond0_2 i) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = inner x3 x4 x5 x6 xo16 xs0 := by
  have hcov := cover0_B_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  unfold out0_B_16
  rw [View.read_writes_eq_canon _ _ _ hcov]
  funext y
  refine View.canon_apply_of_pieces _ _ ?_ y (hcov y)
  clear hcov
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  exact ⟨FfnIdeal.Body.inner_whole x3 x4 x5 x6 xo16 xs0 _, fun _ h => absurd h List.not_mem_nil⟩

set_option maxHeartbeats 4000000 in
/-- After the last chunk. -/
theorem out_C (hc0 : ¬cond0_0 i) (hc1 : ¬cond0_1 i) (hc2 : cond0_2 i) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = last x3 x4 x5 x6 x7 x8 xo16 xs0 := by
  have hcov := cover0_C_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  unfold out0_C_16
  rw [View.read_writes_eq_canon _ _ _ hcov]
  funext y
  refine View.canon_apply_of_pieces _ _ ?_ y (hcov y)
  clear hcov
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  have key := last_slab x3 x4 x5 x6 x7 x8 xo16 xs0
  exact ⟨key 768 _, key 512 _, key 256 _, key 0 _, fun _ h => absurd h List.not_mem_nil⟩

end Cert.FfnAIdeal.Body

end
-- ==== Proof.FfnATile.lean ====
/-
  A block of rows of a mixer's weight array, its leading unit axis dropped and its numbers rounded: what a feed-forward kernel copies at a point.
-/
module

public import proofs.«01_k».proof.Proof.FfnCopy
public import proofs.«01_k».proof.Proof.Gen.FfnAIdeal
public import Idealize.ShloMosaic.Lib.Pipeline.ValueKit
public import Idealize.ShloMosaic.Lib.Pointwise

@[expose] public section

set_option maxRecDepth 16384

noncomputable section

namespace Cert.FfnCopy

open Idealize.ShloMosaic Cert.FfnAIdeal Cert.FfnAIdeal.Gen

/-- A block of 16 rows of 4096 numbers. -/
def tile16x4096 (x : FVec Ideal S1x16x4096 .f32) : FVec Ideal S16x4096 .bf16 := truncf .bf16 (shapeCast S16x4096 x shapeCasts_S1x16x4096_S16x4096) bitsLt_bf16_f32

theorem tile16x4096_apply (x : FVec Ideal S1x16x4096 .f32) (a : Fin 16) (n : Fin 4096) : tile16x4096 x (ix2 a n) = x (ix3 0 a n) := by
  unfold tile16x4096
  pointwise

/-- A block of 16 rows of 2048 numbers. -/
def tile16x2048 (x : FVec Ideal S1x16x2048 .f32) : FVec Ideal S16x2048 .bf16 := truncf .bf16 (shapeCast S16x2048 x shapeCasts_S1x16x2048_S16x2048) bitsLt_bf16_f32

theorem tile16x2048_apply (x : FVec Ideal S1x16x2048 .f32) (a : Fin 16) (n : Fin 2048) : tile16x2048 x (ix2 a n) = x (ix3 0 a n) := by
  unfold tile16x2048
  pointwise

/-- A block of 16 rows of 2560 numbers. -/
def tile16x2560 (x : FVec Ideal S1x16x2560 .f32) : FVec Ideal S16x2560 .bf16 := truncf .bf16 (shapeCast S16x2560 x shapeCasts_S1x16x2560_S16x2560) bitsLt_bf16_f32

theorem tile16x2560_apply (x : FVec Ideal S1x16x2560 .f32) (a : Fin 16) (n : Fin 2560) : tile16x2560 x (ix2 a n) = x (ix3 0 a n) := by
  unfold tile16x2560
  pointwise

end Cert.FfnCopy

end
-- ==== Proof.FfnACopies.lean ====
/-
  What the body of the feed-forward kernel of layer 0, sub-layer 0 leaves of its copies at a point, in every case: the block it was handed, rounded.
-/
module

public import proofs.«01_k».proof.Proof.FfnABody
public import proofs.«01_k».proof.Proof.FfnATile

@[expose] public section

set_option maxRecDepth 16384

noncomputable section

namespace Cert.FfnAIdeal.Body

open Idealize.ShloMosaic Idealize.ShloMosaic.TcCoe Cert.FfnAIdeal Cert.FfnAIdeal.Gen
open Cert.FfnIdeal.Body (hz5 hz4 hz2)
open Cert.FfnCopy

variable (x0 : Vec Ideal S1024x2048 .f32) (x1 : Vec Ideal S1x1x1x1x2048 .f32) (x2 : Vec Ideal S1x1x1x1x2048 .f32) (x3 : Vec Ideal S1x1x1x1x2048 .f32) (x4 : Vec Ideal S2048x512 .bf16) (x5 : Vec Ideal S2048x512 .bf16) (x6 : Vec Ideal S512x2048 .bf16) (x7 : Vec Ideal S1x1x1x2048 .f32) (x8 : Vec Ideal S1x1x1x2048 .f32) (x9 : Vec Ideal S1x1x16x5632 .f32) (x10 : Vec Ideal S1x1x16x5632 .f32) (x11 : Vec Ideal S1x1x32x2048 .f32) (x12 : Vec Ideal S1x16x4096 .f32) (x13 : Vec Ideal S1x16x2048 .f32) (x14 : Vec Ideal S1x16x2560 .f32) (x15 : Vec Ideal S1x16x2048 .f32) (xo16 : Vec Ideal S1024x2048 .f32) (xs0 : Vec Ideal S1024x2048 .bf16)

variable (c : Dev nD) (i : grid0.Coords) (arg2 : Memref sig .tc .vmem S1024x2048 .f32) (harg2 : arg2.IsWhole) (arg3 : Memref sig .tc .vmem S1x1x1x1x2048 .f32) (harg3 : arg3.IsWhole) (arg4 : Memref sig .tc .vmem S1x1x1x1x2048 .f32) (harg4 : arg4.IsWhole) (arg5 : Memref sig .tc .vmem S1x1x1x1x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x1x1x2048 .f32) (harg9 : arg9.IsWhole) (arg10 : Memref sig .tc .vmem S1x1x1x2048 .f32) (harg10 : arg10.IsWhole) (arg11 : Memref sig .tc .vmem S1x1x16x5632 .f32) (harg11 : arg11.IsWhole) (arg12 : Memref sig .tc .vmem S1x1x16x5632 .f32) (harg12 : arg12.IsWhole) (arg13 : Memref sig .tc .vmem S1x1x32x2048 .f32) (harg13 : arg13.IsWhole) (arg14 : Memref sig .tc .vmem S1x16x4096 .f32) (harg14 : arg14.IsWhole) (arg15 : Memref sig .tc .vmem S1x16x2048 .f32) (harg15 : arg15.IsWhole) (arg16 : Memref sig .tc .vmem S1x16x2560 .f32) (harg16 : arg16.IsWhole) (arg17 : Memref sig .tc .vmem S1x16x2048 .f32) (harg17 : arg17.IsWhole) (arg18 : Memref sig .tc .vmem S1024x2048 .f32) (harg18 : arg18.IsWhole) (arg19 : Memref sig .tc .vmem S16x5632 .bf16) (harg19 : arg19.IsWhole) (arg20 : Memref sig .tc .vmem S16x5632 .bf16) (harg20 : arg20.IsWhole) (arg21 : Memref sig .tc .vmem S32x2048 .bf16) (harg21 : arg21.IsWhole) (arg22 : Memref sig .tc .vmem S16x4096 .bf16) (harg22 : arg22.IsWhole) (arg23 : Memref sig .tc .vmem S16x2048 .bf16) (harg23 : arg23.IsWhole) (arg24 : Memref sig .tc .vmem S16x2560 .bf16) (harg24 : arg24.IsWhole) (arg25 : Memref sig .tc .vmem S16x2048 .bf16) (harg25 : arg25.IsWhole) (arg26 : Memref sig .tc .vmem S1024x2048 .bf16) (harg26 : arg26.IsWhole)

set_option maxHeartbeats 4000000 in
/-- The copies at a first chunk. -/
theorem copies_A (hc0 : cond0_0 i) (hc1 : ¬cond0_1 i) (hc2 : ¬cond0_2 i) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x5632 x9 ∧
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x5632 x10 ∧
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile32x2048 x11 ∧
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x4096 x12 ∧
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x2048 x13 ∧
    out0_A_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x2560 x14 ∧
    out0_A_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 = tile16x2048 x15 := by
  have h17 := cover0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h18 := cover0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h19 := cover0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h20 := cover0_A_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h21 := cover0_A_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h22 := cover0_A_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  have h23 := cover0_A_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15
  refine ⟨?w17, ?w18, ?w19, ?w20, ?w21, ?w22, ?w23⟩
  case' w23 =>
    unfold out0_A_23
    rw [View.read_writes_eq_canon _ _ _ h23]
    refine funext fun y => View.canon_apply_of_pieces _ _ ?_ y (h23 y)
  case' w22 =>
    unfold out0_A_22
    rw [View.read_writes_eq_canon _ _ _ h22]
    refine funext fun y => View.canon_apply_of_pieces _ _ ?_ y (h22 y)
  case' w21 =>
    unfold out0_A_21
    rw [View.read_writes_eq_canon _ _ _ h21]
    refine funext fun y => View.canon_apply_of_pieces _ _ ?_ y (h21 y)
  case' w20 =>
    unfold out0_A_20
    rw [View.read_writes_eq_canon _ _ _ h20]
    refine funext fun y => View.canon_apply_of_pieces _ _ ?_ y (h20 y)
  case' w19 =>
    unfold out0_A_19
    rw [View.read_writes_eq_canon _ _ _ h19]
    refine funext fun y => View.canon_apply_of_pieces _ _ ?_ y (h19 y)
  case' w18 =>
    unfold out0_A_18
    rw [View.read_writes_eq_canon _ _ _ h18]
    refine funext fun y => View.canon_apply_of_pieces _ _ ?_ y (h18 y)
  case' w17 =>
    unfold out0_A_17
    rw [View.read_writes_eq_canon _ _ _ h17]
    refine funext fun y => View.canon_apply_of_pieces _ _ ?_ y (h17 y)
  all_goals
    clear h17 h18 h19 h20 h21 h22 h23
    unfold kernelRun0_A
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩
  · exact ⟨fun x => congrArg (tile16x4096 x12) (whole_emb hz2 _ x).symm, fun _ h => absurd h List.not_mem_nil⟩
  · exact ⟨fun x => congrArg (tile16x2048 x13) (whole_emb hz2 _ x).symm, fun _ h => absurd h List.not_mem_nil⟩
  · exact ⟨fun x => congrArg (tile16x2560 x14) (whole_emb hz2 _ x).symm, fun _ h => absurd h List.not_mem_nil⟩
  · exact ⟨fun x => congrArg (tile16x2048 x15) (whole_emb hz2 _ x).symm, fun _ h => absurd h List.not_mem_nil⟩

set_option maxHeartbeats 4000000 in
/-- The copies at an inner chunk. -/
theorem copies_B (hc0 : ¬cond0_0 i) (hc1 : cond0_1 i) (hc2 : ¬cond0_2 i) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x5632 x9 ∧
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x5632 x10 ∧
    out0_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile32x2048 x11 ∧
    out0_B_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x4096 x12 ∧
    out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2048 x13 ∧
    out0_B_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2560 x14 ∧
    out0_B_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2048 x15 := by
  have h17 := cover0_B_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h18 := cover0_B_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h19 := cover0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h20 := cover0_B_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h21 := cover0_B_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h22 := cover0_B_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h23 := cover0_B_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  refine ⟨?w17, ?w18, ?w19, ?w20, ?w21, ?w22, ?w23⟩
  case' w23 =>
    unfold out0_B_23
    rw [View.read_writes_eq_canon _ _ _ h23]
    refine funext fun y => View.canon_apply_of_pieces _ _ ?_ y (h23 y)
  case' w22 =>
    unfold out0_B_22
    rw [View.read_writes_eq_canon _ _ _ h22]
    refine funext fun y => View.canon_apply_of_pieces _ _ ?_ y (h22 y)
  case' w21 =>
    unfold out0_B_21
    rw [View.read_writes_eq_canon _ _ _ h21]
    refine funext fun y => View.canon_apply_of_pieces _ _ ?_ y (h21 y)
  case' w20 =>
    unfold out0_B_20
    rw [View.read_writes_eq_canon _ _ _ h20]
    refine funext fun y => View.canon_apply_of_pieces _ _ ?_ y (h20 y)
  case' w19 =>
    unfold out0_B_19
    rw [View.read_writes_eq_canon _ _ _ h19]
    refine funext fun y => View.canon_apply_of_pieces _ _ ?_ y (h19 y)
  case' w18 =>
    unfold out0_B_18
    rw [View.read_writes_eq_canon _ _ _ h18]
    refine funext fun y => View.canon_apply_of_pieces _ _ ?_ y (h18 y)
  case' w17 =>
    unfold out0_B_17
    rw [View.read_writes_eq_canon _ _ _ h17]
    refine funext fun y => View.canon_apply_of_pieces _ _ ?_ y (h17 y)
  all_goals
    clear h17 h18 h19 h20 h21 h22 h23
    unfold kernelRun0_B
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩
  · exact ⟨fun x => congrArg (tile16x4096 x12) (whole_emb hz2 _ x).symm, fun _ h => absurd h List.not_mem_nil⟩
  · exact ⟨fun x => congrArg (tile16x2048 x13) (whole_emb hz2 _ x).symm, fun _ h => absurd h List.not_mem_nil⟩
  · exact ⟨fun x => congrArg (tile16x2560 x14) (whole_emb hz2 _ x).symm, fun _ h => absurd h List.not_mem_nil⟩
  · exact ⟨fun x => congrArg (tile16x2048 x15) (whole_emb hz2 _ x).symm, fun _ h => absurd h List.not_mem_nil⟩

set_option maxHeartbeats 4000000 in
/-- The copies at a last chunk. -/
theorem copies_C (hc0 : ¬cond0_0 i) (hc1 : ¬cond0_1 i) (hc2 : cond0_2 i) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x5632 x9 ∧
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x5632 x10 ∧
    out0_C_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile32x2048 x11 ∧
    out0_C_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x4096 x12 ∧
    out0_C_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2048 x13 ∧
    out0_C_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2560 x14 ∧
    out0_C_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0 = tile16x2048 x15 := by
  have h17 := cover0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h18 := cover0_C_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h19 := cover0_C_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h20 := cover0_C_20 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h21 := cover0_C_21 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h22 := cover0_C_22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  have h23 := cover0_C_23 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 x0 x1 x2 x3 x4 x5 x6 x7 x8 x9 x10 x11 x12 x13 x14 x15 xo16 xs0
  refine ⟨?w17, ?w18, ?w19, ?w20, ?w21, ?w22, ?w23⟩
  case' w23 =>
    unfold out0_C_23
    rw [View.read_writes_eq_canon _ _ _ h23]
    refine funext fun y => View.canon_apply_of_pieces _ _ ?_ y (h23 y)
  case' w22 =>
    unfold out0_C_22
    rw [View.read_writes_eq_canon _ _ _ h22]
    refine funext fun y => View.canon_apply_of_pieces _ _ ?_ y (h22 y)
  case' w21 =>
    unfold out0_C_21
    rw [View.read_writes_eq_canon _ _ _ h21]
    refine funext fun y => View.canon_apply_of_pieces _ _ ?_ y (h21 y)
  case' w20 =>
    unfold out0_C_20
    rw [View.read_writes_eq_canon _ _ _ h20]
    refine funext fun y => View.canon_apply_of_pieces _ _ ?_ y (h20 y)
  case' w19 =>
    unfold out0_C_19
    rw [View.read_writes_eq_canon _ _ _ h19]
    refine funext fun y => View.canon_apply_of_pieces _ _ ?_ y (h19 y)
  case' w18 =>
    unfold out0_C_18
    rw [View.read_writes_eq_canon _ _ _ h18]
    refine funext fun y => View.canon_apply_of_pieces _ _ ?_ y (h18 y)
  case' w17 =>
    unfold out0_C_17
    rw [View.read_writes_eq_canon _ _ _ h17]
    refine funext fun y => View.canon_apply_of_pieces _ _ ?_ y (h17 y)
  all_goals
    clear h17 h18 h19 h20 h21 h22 h23
    unfold kernelRun0_C
    dsimp only
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread,
    View.readCov_cons_toLoadRect, View.ld_unit_zero (S := S1x1x1x1x2048) hz5, View.ld_unit_zero (S := S1x1x16x5632) hz4, View.ld_unit_zero (S := S1x1x1x2048) hz4, View.ld_unit_zero (S := S1x1x32x2048) hz4, View.ld_unit_zero (S := S1024x2048) hz2, View.ld_unit_zero (S := S2048x512) hz2, View.ld_unit_zero (S := S512x2048) hz2, View.ld_unit_zero (S := S1x16x2048) hz3, View.ld_unit_zero (S := S1x16x2560) hz3, View.ld_unit_zero (S := S1x16x4096) hz3,
    List.forall_mem_cons]
  · exact ⟨fun x => congrArg (tile16x5632 x9) (whole_emb hz2 _ x).symm, fun _ h => absurd h List.not_mem_nil⟩
  · exact ⟨fun x => congrArg (tile16x5632 x10) (whole_emb hz2 _ x).symm, fun _ h => absurd h List.not_mem_nil⟩
  · exact ⟨fun x => congrArg (tile32x2048 x11) (whole_emb hz2 _ x).symm, fun _ h => absurd h List.not_mem_nil⟩
  · exact ⟨fun x => congrArg (tile16x4096 x12) (whole_emb hz2 _ x).symm, fun _ h => absurd h List.not_mem_nil⟩
  · exact ⟨fun x => congrArg (tile16x2048 x13) (whole_emb hz2 _ x).symm, fun _ h => absurd h List.not_mem_nil⟩
  · exact ⟨fun x => congrArg (tile16x2560 x14) (whole_emb hz2 _ x).symm, fun _ h => absurd h List.not_mem_nil⟩
  · exact ⟨fun x => congrArg (tile16x2048 x15) (whole_emb hz2 _ x).symm, fun _ h => absurd h List.not_mem_nil⟩

end Cert.FfnAIdeal.Body

end
-- ==== Proof.FfnAWindows.lean ====
/-
  The blocks of the feed-forward kernel of layer 0, sub-layer 0, read from the arrays they are staged from: point `t` is (tile of rows `t / 11`, chunk of
  inner columns `t % 11`), the tile lies in batch `t / 88`, and each point copies one block of rows of the other weights.
-/
module

public import proofs.«01_k».proof.Proof.FfnARunBase
public import Idealize.ShloMosaic.Lib.Pipeline.ValueKit
public import Idealize.ShloMosaic.Lib.Pointwise

@[expose] public section

set_option maxRecDepth 16384

noncomputable section

namespace Cert.FfnAIdeal.Windows

open Idealize.ShloMosaic Idealize.ShloMosaic.TcCoe Cert.FfnAIdeal Cert.FfnAIdeal.Gen

variable (m : (ℓ : Loc nD τ sig) → Buf (Elt Ideal) ℓ) (c : Dev nD)

/-- Where each window's block lies, by the point. -/
theorem idx : ∀ t : Fin grid0.N, win0_0.index t = ![t.val / 11, 0] ∧ win0_1.index t = ![0, t.val / 88, 0, 0, 0] ∧
    win0_2.index t = ![0, t.val / 88, 1, 0, 0] ∧ win0_3.index t = ![0, t.val / 88, 2, 0, 0] ∧ win0_4.index t = ![0, t.val % 11] ∧
    win0_5.index t = ![0, t.val % 11] ∧ win0_6.index t = ![t.val % 11, 0] ∧ win0_7.index t = ![0, 0, 0, 0] ∧
    win0_8.index t = ![0, 0, 0, 0] ∧ win0_16.index t = ![t.val / 11, 0] := by decide +kernel

/-- Where the copies' blocks lie. -/
theorem idx_in : ∀ t : Fin grid0.N, win0_9.index t = ![0, 1, min t.val 127, 0] ∧
    win0_10.index t = ![0, 1, min t.val 127, 0] ∧
    win0_11.index t = ![0, 1, t.val, 0] ∧
    win0_12.index t = ![0, min t.val 127, 0] ∧
    win0_13.index t = ![0, min t.val 127, 0] ∧
    win0_14.index t = ![0, min t.val 127, 0] ∧
    win0_15.index t = ![0, min t.val 127, 0] := by decide +kernel

theorem idx_out : ∀ t : Fin grid0.N, win0_17.index t = ![min t.val 127, 0] ∧
    win0_18.index t = ![min t.val 127, 0] ∧
    win0_19.index t = ![t.val, 0] ∧
    win0_20.index t = ![min t.val 127, 0] ∧
    win0_21.index t = ![min t.val 127, 0] ∧
    win0_22.index t = ![min t.val 127, 0] ∧
    win0_23.index t = ![min t.val 127, 0] := by decide +kernel

theorem lt_N (t : Fin grid0.N) : t.val < 176 := lt_of_lt_of_eq t.isLt N_0

/-- The input's tile of rows. -/
theorem blk0 (t : Fin grid0.N) (a : Fin 1024) (n : Fin 2048) :
    (iblk m c 0 t : Vec Ideal S1024x2048 .f32) (ix2 a n) =
      (V m c main_v11 : Vec Ideal S16384x2048 .f32) (ix2 ⟨t.val / 11 * 1024 + a.val, by have := lt_N t; omega⟩ n) := by
  have e : win0_0.index t = ![t.val / 11, 0] := by have h := idx t; tauto
  have hi : (((cfg0.win 0).blk t).view.emb (ix2 a n) : S16384x2048.Idx) = (ix2 ⟨t.val / 11 * 1024 + a.val, by have := lt_N t; omega⟩ n : S16384x2048.Idx) := by
    funext d
    apply Fin.ext
    match d with
    | ⟨0, _⟩ => show win0_0.index t 0 * 1024 + 1 * a.val = t.val / 11 * 1024 + a.val; rw [e]; simp
    | ⟨1, _⟩ => show win0_0.index t 1 * 2048 + 1 * n.val = n.val; rw [e]; simp
  unfold iblk
  generalize V m c = W
  rw [View.read_apply]
  erw [hi]
  exact cast_eq _ _

/-- The batch's shift. -/
theorem blk1 (t : Fin grid0.N) (b : Fin 8) (hb : b.val = t.val / 88) (n : Fin 2048) :
    (iblk m c 1 t : Vec Ideal S1x1x1x1x2048 .f32) (ix5 0 0 0 0 n) =
      (V m c main_v1 : Vec Ideal S2x8x9x1x2048 .f32) (ix5 0 b 0 0 n) := by
  have e : win0_1.index t = ![0, b.val, 0, 0, 0] := by rw [hb]; have h := idx t; tauto
  have hi : (((cfg0.win 1).blk t).view.emb (ix5 0 0 0 0 n) : S2x8x9x1x2048.Idx) = (ix5 0 b 0 0 n : S2x8x9x1x2048.Idx) := by
    funext d
    apply Fin.ext
    match d with
    | ⟨0, _⟩ => show win0_1.index t 0 * 1 + 1 * 0 = 0; rw [e]; simp
    | ⟨1, _⟩ => show win0_1.index t 1 * 1 + 1 * 0 = b.val; rw [e]; simp
    | ⟨2, _⟩ => show win0_1.index t 2 * 1 + 1 * 0 = 0; rw [e]; simp
    | ⟨3, _⟩ => show win0_1.index t 3 * 1 + 1 * 0 = 0; rw [e]; simp
    | ⟨4, _⟩ => show win0_1.index t 4 * 2048 + 1 * n.val = n.val; rw [e]; simp
  unfold iblk
  generalize V m c = W
  rw [View.read_apply]
  erw [hi]
  exact cast_eq _ _

/-- The batch's scale. -/
theorem blk2 (t : Fin grid0.N) (b : Fin 8) (hb : b.val = t.val / 88) (n : Fin 2048) :
    (iblk m c 2 t : Vec Ideal S1x1x1x1x2048 .f32) (ix5 0 0 0 0 n) =
      (V m c main_v1 : Vec Ideal S2x8x9x1x2048 .f32) (ix5 0 b 1 0 n) := by
  have e : win0_2.index t = ![0, b.val, 1, 0, 0] := by rw [hb]; have h := idx t; tauto
  have hi : (((cfg0.win 2).blk t).view.emb (ix5 0 0 0 0 n) : S2x8x9x1x2048.Idx) = (ix5 0 b 1 0 n : S2x8x9x1x2048.Idx) := by
    funext d
    apply Fin.ext
    match d with
    | ⟨0, _⟩ => show win0_2.index t 0 * 1 + 1 * 0 = 0; rw [e]; simp
    | ⟨1, _⟩ => show win0_2.index t 1 * 1 + 1 * 0 = b.val; rw [e]; simp
    | ⟨2, _⟩ => show win0_2.index t 2 * 1 + 1 * 0 = 1; rw [e]; simp
    | ⟨3, _⟩ => show win0_2.index t 3 * 1 + 1 * 0 = 0; rw [e]; simp
    | ⟨4, _⟩ => show win0_2.index t 4 * 2048 + 1 * n.val = n.val; rw [e]; simp
  unfold iblk
  generalize V m c = W
  rw [View.read_apply]
  erw [hi]
  exact cast_eq _ _

/-- The batch's gate. -/
theorem blk3 (t : Fin grid0.N) (b : Fin 8) (hb : b.val = t.val / 88) (n : Fin 2048) :
    (iblk m c 3 t : Vec Ideal S1x1x1x1x2048 .f32) (ix5 0 0 0 0 n) =
      (V m c main_v1 : Vec Ideal S2x8x9x1x2048 .f32) (ix5 0 b 2 0 n) := by
  have e : win0_3.index t = ![0, b.val, 2, 0, 0] := by rw [hb]; have h := idx t; tauto
  have hi : (((cfg0.win 3).blk t).view.emb (ix5 0 0 0 0 n) : S2x8x9x1x2048.Idx) = (ix5 0 b 2 0 n : S2x8x9x1x2048.Idx) := by
    funext d
    apply Fin.ext
    match d with
    | ⟨0, _⟩ => show win0_3.index t 0 * 1 + 1 * 0 = 0; rw [e]; simp
    | ⟨1, _⟩ => show win0_3.index t 1 * 1 + 1 * 0 = b.val; rw [e]; simp
    | ⟨2, _⟩ => show win0_3.index t 2 * 1 + 1 * 0 = 2; rw [e]; simp
    | ⟨3, _⟩ => show win0_3.index t 3 * 1 + 1 * 0 = 0; rw [e]; simp
    | ⟨4, _⟩ => show win0_3.index t 4 * 2048 + 1 * n.val = n.val; rw [e]; simp
  unfold iblk
  generalize V m c = W
  rw [View.read_apply]
  erw [hi]
  exact cast_eq _ _

/-- The chunk of the gate weights. -/
theorem blk4 (t : Fin grid0.N) (k : Fin 2048) (j : Fin 512) (q : Fin 5632) (hq : q.val = 512 * (t.val % 11) + j.val) :
    (iblk m c 4 t : Vec Ideal S2048x512 .bf16) (ix2 k j) =
      (V m c main_v4 : Vec Ideal S2048x5632 .bf16) (ix2 k q) := by
  have e : win0_4.index t = ![0, t.val % 11] := by have h := idx t; tauto
  have hi : (((cfg0.win 4).blk t).view.emb (ix2 k j) : S2048x5632.Idx) = (ix2 k q : S2048x5632.Idx) := by
    funext d
    apply Fin.ext
    match d with
    | ⟨0, _⟩ => show win0_4.index t 0 * 2048 + 1 * k.val = k.val; rw [e]; simp
    | ⟨1, _⟩ => show win0_4.index t 1 * 512 + 1 * j.val = q.val; rw [e, hq]; simp [mul_comm]
  unfold iblk
  generalize V m c = W
  rw [View.read_apply]
  erw [hi]
  exact cast_eq _ _

/-- The chunk of the other weights. -/
theorem blk5 (t : Fin grid0.N) (k : Fin 2048) (j : Fin 512) (q : Fin 5632) (hq : q.val = 512 * (t.val % 11) + j.val) :
    (iblk m c 5 t : Vec Ideal S2048x512 .bf16) (ix2 k j) =
      (V m c main_v7 : Vec Ideal S2048x5632 .bf16) (ix2 k q) := by
  have e : win0_5.index t = ![0, t.val % 11] := by have h := idx t; tauto
  have hi : (((cfg0.win 5).blk t).view.emb (ix2 k j) : S2048x5632.Idx) = (ix2 k q : S2048x5632.Idx) := by
    funext d
    apply Fin.ext
    match d with
    | ⟨0, _⟩ => show win0_5.index t 0 * 2048 + 1 * k.val = k.val; rw [e]; simp
    | ⟨1, _⟩ => show win0_5.index t 1 * 512 + 1 * j.val = q.val; rw [e, hq]; simp [mul_comm]
  unfold iblk
  generalize V m c = W
  rw [View.read_apply]
  erw [hi]
  exact cast_eq _ _

/-- The chunk of the last weights. -/
theorem blk6 (t : Fin grid0.N) (j : Fin 512) (n : Fin 2048) (q : Fin 5632) (hq : q.val = 512 * (t.val % 11) + j.val) :
    (iblk m c 6 t : Vec Ideal S512x2048 .bf16) (ix2 j n) =
      (V m c main_v10 : Vec Ideal S5632x2048 .bf16) (ix2 q n) := by
  have e : win0_6.index t = ![t.val % 11, 0] := by have h := idx t; tauto
  have hi : (((cfg0.win 6).blk t).view.emb (ix2 j n) : S5632x2048.Idx) = (ix2 q n : S5632x2048.Idx) := by
    funext d
    apply Fin.ext
    match d with
    | ⟨0, _⟩ => show win0_6.index t 0 * 512 + 1 * j.val = q.val; rw [e, hq]; simp [mul_comm]
    | ⟨1, _⟩ => show win0_6.index t 1 * 2048 + 1 * n.val = n.val; rw [e]; simp
  unfold iblk
  generalize V m c = W
  rw [View.read_apply]
  erw [hi]
  exact cast_eq _ _

/-- The norm's factors. -/
theorem blk7 (t : Fin grid0.N) (n : Fin 2048) :
    (iblk m c 7 t : Vec Ideal S1x1x1x2048 .f32) (ix4 0 0 0 n) =
      (V m c main_v12 : Vec Ideal S2x3x1x2048 .f32) (ix4 0 0 0 n) := by
  have e : win0_7.index t = ![0, 0, 0, 0] := by have h := idx t; tauto
  have hi : (((cfg0.win 7).blk t).view.emb (ix4 0 0 0 n) : S2x3x1x2048.Idx) = (ix4 0 0 0 n : S2x3x1x2048.Idx) := by
    funext d
    apply Fin.ext
    match d with
    | ⟨0, _⟩ => show win0_7.index t 0 * 1 + 1 * 0 = 0; rw [e]; simp
    | ⟨1, _⟩ => show win0_7.index t 1 * 1 + 1 * 0 = 0; rw [e]; simp
    | ⟨2, _⟩ => show win0_7.index t 2 * 1 + 1 * 0 = 0; rw [e]; simp
    | ⟨3, _⟩ => show win0_7.index t 3 * 2048 + 1 * n.val = n.val; rw [e]; simp
  unfold iblk
  generalize V m c = W
  rw [View.read_apply]
  erw [hi]
  exact cast_eq _ _

/-- The norm's offsets. -/
theorem blk8 (t : Fin grid0.N) (n : Fin 2048) :
    (iblk m c 8 t : Vec Ideal S1x1x1x2048 .f32) (ix4 0 0 0 n) =
      (V m c main_v13 : Vec Ideal S2x3x1x2048 .f32) (ix4 0 0 0 n) := by
  have e : win0_8.index t = ![0, 0, 0, 0] := by have h := idx t; tauto
  have hi : (((cfg0.win 8).blk t).view.emb (ix4 0 0 0 n) : S2x3x1x2048.Idx) = (ix4 0 0 0 n : S2x3x1x2048.Idx) := by
    funext d
    apply Fin.ext
    match d with
    | ⟨0, _⟩ => show win0_8.index t 0 * 1 + 1 * 0 = 0; rw [e]; simp
    | ⟨1, _⟩ => show win0_8.index t 1 * 1 + 1 * 0 = 0; rw [e]; simp
    | ⟨2, _⟩ => show win0_8.index t 2 * 1 + 1 * 0 = 0; rw [e]; simp
    | ⟨3, _⟩ => show win0_8.index t 3 * 2048 + 1 * n.val = n.val; rw [e]; simp
  unfold iblk
  generalize V m c = W
  rw [View.read_apply]
  erw [hi]
  exact cast_eq _ _

/-- The block of rows to copy from argument 2. -/
theorem blk9 (t : Fin grid0.N) (a : Fin 16) (n : Fin 5632) :
    (iblk m c 9 t : Vec Ideal S1x1x16x5632 .f32) (ix4 0 0 a n) =
      (V m c main_arg2 : Vec Ideal S2x2x2048x5632 .f32) (ix4 0 1 ⟨(min t.val 127) * 16 + a.val, by have := lt_N t; omega⟩ n) := by
  have e : win0_9.index t = ![0, 1, min t.val 127, 0] := by have h := idx_in t; tauto
  have hi : (((cfg0.win 9).blk t).view.emb (ix4 0 0 a n) : S2x2x2048x5632.Idx) = (ix4 0 1 ⟨(min t.val 127) * 16 + a.val, by have := lt_N t; omega⟩ n : S2x2x2048x5632.Idx) := by
    funext d
    apply Fin.ext
    match d with
    | ⟨0, _⟩ => show win0_9.index t 0 * 1 + 1 * 0 = 0; rw [e]; simp
    | ⟨1, _⟩ => show win0_9.index t 1 * 1 + 1 * 0 = 1; rw [e]; simp
    | ⟨2, _⟩ => show win0_9.index t 2 * 16 + 1 * a.val = (min t.val 127) * 16 + a.val; rw [e]; simp
    | ⟨3, _⟩ => show win0_9.index t 3 * 5632 + 1 * n.val = n.val; rw [e]; simp
  unfold iblk
  generalize V m c = W
  rw [View.read_apply]
  erw [hi]
  exact cast_eq _ _

/-- The block of rows to copy from argument 3. -/
theorem blk10 (t : Fin grid0.N) (a : Fin 16) (n : Fin 5632) :
    (iblk m c 10 t : Vec Ideal S1x1x16x5632 .f32) (ix4 0 0 a n) =
      (V m c main_arg3 : Vec Ideal S2x2x2048x5632 .f32) (ix4 0 1 ⟨(min t.val 127) * 16 + a.val, by have := lt_N t; omega⟩ n) := by
  have e : win0_10.index t = ![0, 1, min t.val 127, 0] := by have h := idx_in t; tauto
  have hi : (((cfg0.win 10).blk t).view.emb (ix4 0 0 a n) : S2x2x2048x5632.Idx) = (ix4 0 1 ⟨(min t.val 127) * 16 + a.val, by have := lt_N t; omega⟩ n : S2x2x2048x5632.Idx) := by
    funext d
    apply Fin.ext
    match d with
    | ⟨0, _⟩ => show win0_10.index t 0 * 1 + 1 * 0 = 0; rw [e]; simp
    | ⟨1, _⟩ => show win0_10.index t 1 * 1 + 1 * 0 = 1; rw [e]; simp
    | ⟨2, _⟩ => show win0_10.index t 2 * 16 + 1 * a.val = (min t.val 127) * 16 + a.val; rw [e]; simp
    | ⟨3, _⟩ => show win0_10.index t 3 * 5632 + 1 * n.val = n.val; rw [e]; simp
  unfold iblk
  generalize V m c = W
  rw [View.read_apply]
  erw [hi]
  exact cast_eq _ _

/-- The block of rows to copy from argument 4. -/
theorem blk11 (t : Fin grid0.N) (a : Fin 32) (n : Fin 2048) :
    (iblk m c 11 t : Vec Ideal S1x1x32x2048 .f32) (ix4 0 0 a n) =
      (V m c main_arg4 : Vec Ideal S2x2x5632x2048 .f32) (ix4 0 1 ⟨(t.val) * 32 + a.val, by have := lt_N t; omega⟩ n) := by
  have e : win0_11.index t = ![0, 1, t.val, 0] := by have h := idx_in t; tauto
  have hi : (((cfg0.win 11).blk t).view.emb (ix4 0 0 a n) : S2x2x5632x2048.Idx) = (ix4 0 1 ⟨(t.val) * 32 + a.val, by have := lt_N t; omega⟩ n : S2x2x5632x2048.Idx) := by
    funext d
    apply Fin.ext
    match d with
    | ⟨0, _⟩ => show win0_11.index t 0 * 1 + 1 * 0 = 0; rw [e]; simp
    | ⟨1, _⟩ => show win0_11.index t 1 * 1 + 1 * 0 = 1; rw [e]; simp
    | ⟨2, _⟩ => show win0_11.index t 2 * 32 + 1 * a.val = (t.val) * 32 + a.val; rw [e]; simp
    | ⟨3, _⟩ => show win0_11.index t 3 * 2048 + 1 * n.val = n.val; rw [e]; simp
  unfold iblk
  generalize V m c = W
  rw [View.read_apply]
  erw [hi]
  exact cast_eq _ _

/-- The block of rows to copy from argument 7. -/
theorem blk12 (t : Fin grid0.N) (a : Fin 16) (n : Fin 4096) :
    (iblk m c 12 t : Vec Ideal S1x16x4096 .f32) (ix3 0 a n) =
      (V m c main_arg7 : Vec Ideal S1x2048x4096 .f32) (ix3 0 ⟨(min t.val 127) * 16 + a.val, by have := lt_N t; omega⟩ n) := by
  have e : win0_12.index t = ![0, min t.val 127, 0] := by have h := idx_in t; tauto
  have hi : (((cfg0.win 12).blk t).view.emb (ix3 0 a n) : S1x2048x4096.Idx) = (ix3 0 ⟨(min t.val 127) * 16 + a.val, by have := lt_N t; omega⟩ n : S1x2048x4096.Idx) := by
    funext d
    apply Fin.ext
    match d with
    | ⟨0, _⟩ => show win0_12.index t 0 * 1 + 1 * 0 = 0; rw [e]; simp
    | ⟨1, _⟩ => show win0_12.index t 1 * 16 + 1 * a.val = (min t.val 127) * 16 + a.val; rw [e]; simp
    | ⟨2, _⟩ => show win0_12.index t 2 * 4096 + 1 * n.val = n.val; rw [e]; simp
  unfold iblk
  generalize V m c = W
  rw [View.read_apply]
  erw [hi]
  exact cast_eq _ _

/-- The block of rows to copy from argument 8. -/
theorem blk13 (t : Fin grid0.N) (a : Fin 16) (n : Fin 2048) :
    (iblk m c 13 t : Vec Ideal S1x16x2048 .f32) (ix3 0 a n) =
      (V m c main_arg8 : Vec Ideal S1x2048x2048 .f32) (ix3 0 ⟨(min t.val 127) * 16 + a.val, by have := lt_N t; omega⟩ n) := by
  have e : win0_13.index t = ![0, min t.val 127, 0] := by have h := idx_in t; tauto
  have hi : (((cfg0.win 13).blk t).view.emb (ix3 0 a n) : S1x2048x2048.Idx) = (ix3 0 ⟨(min t.val 127) * 16 + a.val, by have := lt_N t; omega⟩ n : S1x2048x2048.Idx) := by
    funext d
    apply Fin.ext
    match d with
    | ⟨0, _⟩ => show win0_13.index t 0 * 1 + 1 * 0 = 0; rw [e]; simp
    | ⟨1, _⟩ => show win0_13.index t 1 * 16 + 1 * a.val = (min t.val 127) * 16 + a.val; rw [e]; simp
    | ⟨2, _⟩ => show win0_13.index t 2 * 2048 + 1 * n.val = n.val; rw [e]; simp
  unfold iblk
  generalize V m c = W
  rw [View.read_apply]
  erw [hi]
  exact cast_eq _ _

/-- The block of rows to copy from argument 9. -/
theorem blk14 (t : Fin grid0.N) (a : Fin 16) (n : Fin 2560) :
    (iblk m c 14 t : Vec Ideal S1x16x2560 .f32) (ix3 0 a n) =
      (V m c main_arg9 : Vec Ideal S1x2048x2560 .f32) (ix3 0 ⟨(min t.val 127) * 16 + a.val, by have := lt_N t; omega⟩ n) := by
  have e : win0_14.index t = ![0, min t.val 127, 0] := by have h := idx_in t; tauto
  have hi : (((cfg0.win 14).blk t).view.emb (ix3 0 a n) : S1x2048x2560.Idx) = (ix3 0 ⟨(min t.val 127) * 16 + a.val, by have := lt_N t; omega⟩ n : S1x2048x2560.Idx) := by
    funext d
    apply Fin.ext
    match d with
    | ⟨0, _⟩ => show win0_14.index t 0 * 1 + 1 * 0 = 0; rw [e]; simp
    | ⟨1, _⟩ => show win0_14.index t 1 * 16 + 1 * a.val = (min t.val 127) * 16 + a.val; rw [e]; simp
    | ⟨2, _⟩ => show win0_14.index t 2 * 2560 + 1 * n.val = n.val; rw [e]; simp
  unfold iblk
  generalize V m c = W
  rw [View.read_apply]
  erw [hi]
  exact cast_eq _ _

/-- The block of rows to copy from argument 10. -/
theorem blk15 (t : Fin grid0.N) (a : Fin 16) (n : Fin 2048) :
    (iblk m c 15 t : Vec Ideal S1x16x2048 .f32) (ix3 0 a n) =
      (V m c main_arg10 : Vec Ideal S1x2048x2048 .f32) (ix3 0 ⟨(min t.val 127) * 16 + a.val, by have := lt_N t; omega⟩ n) := by
  have e : win0_15.index t = ![0, min t.val 127, 0] := by have h := idx_in t; tauto
  have hi : (((cfg0.win 15).blk t).view.emb (ix3 0 a n) : S1x2048x2048.Idx) = (ix3 0 ⟨(min t.val 127) * 16 + a.val, by have := lt_N t; omega⟩ n : S1x2048x2048.Idx) := by
    funext d
    apply Fin.ext
    match d with
    | ⟨0, _⟩ => show win0_15.index t 0 * 1 + 1 * 0 = 0; rw [e]; simp
    | ⟨1, _⟩ => show win0_15.index t 1 * 16 + 1 * a.val = (min t.val 127) * 16 + a.val; rw [e]; simp
    | ⟨2, _⟩ => show win0_15.index t 2 * 2048 + 1 * n.val = n.val; rw [e]; simp
  unfold iblk
  generalize V m c = W
  rw [View.read_apply]
  erw [hi]
  exact cast_eq _ _

end Cert.FfnAIdeal.Windows

end
-- ==== Proof.FfnAPoints.lean ====
/-
  What each point of the feed-forward kernel of layer 0, sub-layer 0 leaves, and what it finds.
-/
module

public import proofs.«01_k».proof.Proof.FfnATiles

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a first chunk leaves. -/
def pointA (c : Dev nD) (t : Fin cfg0.N) (h0 : t.val % 11 = 0) (h1 : ¬(1 ≤ t.val % 11 ∧ t.val % 11 ≤ 9)) (h2 : ¬t.val % 11 = 10) : Vec F S1024x2048 .f32 × Vec F S16x5632 .bf16 × Vec F S16x5632 .bf16 × Vec F S32x2048 .bf16 × Vec F S16x4096 .bf16 × Vec F S16x2048 .bf16 × Vec F S16x2560 .bf16 × Vec F S16x2048 .bf16 × Vec F S1024x2048 .bf16 :=
  (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))

/-- What an inner chunk leaves, from the rows and the kept tile before it. -/
def pointB (c : Dev nD) (t : Fin cfg0.N) (h0 : ¬t.val % 11 = 0) (h1 : (1 ≤ t.val % 11 ∧ t.val % 11 ≤ 9)) (h2 : ¬t.val % 11 = 10) (o : Vec F S1024x2048 .f32) (κ : Vec F S1024x2048 .bf16) : Vec F S1024x2048 .f32 × Vec F S16x5632 .bf16 × Vec F S16x5632 .bf16 × Vec F S32x2048 .bf16 × Vec F S16x4096 .bf16 × Vec F S16x2048 .bf16 × Vec F S16x2560 .bf16 × Vec F S16x2048 .bf16 × Vec F S1024x2048 .bf16 :=
  (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ)

/-- What a last chunk leaves, from the rows and the kept tile before it. -/
def pointC (c : Dev nD) (t : Fin cfg0.N) (h0 : ¬t.val % 11 = 0) (h1 : ¬(1 ≤ t.val % 11 ∧ t.val % 11 ≤ 9)) (h2 : t.val % 11 = 10) (o : Vec F S1024x2048 .f32) (κ : Vec F S1024x2048 .bf16) : Vec F S1024x2048 .f32 × Vec F S16x5632 .bf16 × Vec F S16x5632 .bf16 × Vec F S32x2048 .bf16 × Vec F S16x4096 .bf16 × Vec F S16x2048 .bf16 × Vec F S16x2560 .bf16 × Vec F S16x2048 .bf16 × Vec F S1024x2048 .bf16 :=
  (out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, out0_C_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) o κ)

/-- What the outputs and the kept tile hold after each point. -/
def outsAt0 (c : Dev nD) : (n : ℕ) → n < cfg0.N → Vec F S1024x2048 .f32 × Vec F S16x5632 .bf16 × Vec F S16x5632 .bf16 × Vec F S32x2048 .bf16 × Vec F S16x4096 .bf16 × Vec F S16x2048 .bf16 × Vec F S16x2560 .bf16 × Vec F S16x2048 .bf16 × Vec F S1024x2048 .bf16
  | 0, hn => pointA m c ⟨0, hn⟩ (Nat.zero_mod _) (fun h => by (try dsimp only at h); omega) (fun h => by (try dsimp only at h); omega)
  | n + 1, hn =>
    if h0 : (n + 1) % 11 = 0 then
      if h1 : (1 ≤ (n + 1) % 11 ∧ (n + 1) % 11 ≤ 9) then
        False.elim (by have hN : n + 1 < 176 := lt_of_lt_of_eq hn (show cfg0.N = 176 from N_0); omega)
      else
        if h2 : (n + 1) % 11 = 10 then
          False.elim (by have hN : n + 1 < 176 := lt_of_lt_of_eq hn (show cfg0.N = 176 from N_0); omega)
        else
          pointA m c ⟨n + 1, hn⟩ h0 h1 h2
    else
      if h1 : (1 ≤ (n + 1) % 11 ∧ (n + 1) % 11 ≤ 9) then
        if h2 : (n + 1) % 11 = 10 then
          False.elim (by have hN : n + 1 < 176 := lt_of_lt_of_eq hn (show cfg0.N = 176 from N_0); omega)
        else
          pointB m c ⟨n + 1, hn⟩ h0 h1 h2 (outsAt0 c n (Nat.lt_of_succ_lt hn)).1 (outsAt0 c n (Nat.lt_of_succ_lt hn)).2.2.2.2.2.2.2.2
      else
        if h2 : (n + 1) % 11 = 10 then
          pointC m c ⟨n + 1, hn⟩ h0 h1 h2 (outsAt0 c n (Nat.lt_of_succ_lt hn)).1 (outsAt0 c n (Nat.lt_of_succ_lt hn)).2.2.2.2.2.2.2.2
        else
          False.elim (by have hN : n + 1 < 176 := lt_of_lt_of_eq hn (show cfg0.N = 176 from N_0); omega)

/-- After a first chunk. -/
theorem outsAt0_A (c : Dev nD) (t : Fin cfg0.N) (h0 : t.val % 11 = 0) (h1 : ¬(1 ≤ t.val % 11 ∧ t.val % 11 ≤ 9)) (h2 : ¬t.val % 11 = 10) :
    outsAt0 m c t.val t.isLt = pointA m c t h0 h1 h2 := by
  obtain ⟨n, hn⟩ := t
  cases n with
  | zero => exact rfl
  | succ n => exact (dif_pos h0).trans ((dif_neg h1).trans ((dif_neg h2).trans rfl))

/-- After an inner chunk. -/
theorem outsAt0_B (c : Dev nD) (t : Fin cfg0.N) (h0 : ¬t.val % 11 = 0) (h1 : (1 ≤ t.val % 11 ∧ t.val % 11 ≤ 9)) (h2 : ¬t.val % 11 = 10) :
    outsAt0 m c t.val t.isLt = pointB m c t h0 h1 h2 (outsAt0 m c (t.val - 1) (Nat.lt_of_le_of_lt (Nat.sub_le _ _) t.isLt)).1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- After a last chunk. -/
theorem outsAt0_C (c : Dev nD) (t : Fin cfg0.N) (h0 : ¬t.val % 11 = 0) (h1 : ¬(1 ≤ t.val % 11 ∧ t.val % 11 ≤ 9)) (h2 : t.val % 11 = 10) :
    outsAt0 m c t.val t.isLt = pointC m c t h0 h1 h2 (outsAt0 m c (t.val - 1) (Nat.lt_of_le_of_lt (Nat.sub_le _ _) t.isLt)).1 (outsAt0 m c (t.val - 1) (Nat.lt_of_le_of_lt (Nat.sub_le _ _) t.isLt)).2.2.2.2.2.2.2.2 := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What holds between the points: the kept tile as the point before left it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2)) ∗ (∃ r, prngReg c r)) := by
  cases n with
  | zero => exact absurd rfl hz
  | succ n => rfl

/-- The pipeline's data: the blocks of the inputs, and what each point leaves in the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨_ + 24, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- A point that leaves the rows alone keeps them. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 176 := lt_of_lt_of_eq t.isLt (show cfg0.N = 176 from N_0)
  rw [after0_16, after0_16]
  by_cases h0 : t.val % 11 = 0
  · by_cases h1 : (1 ≤ t.val % 11 ∧ t.val % 11 ≤ 9)
    · exfalso; omega
    · by_cases h2 : t.val % 11 = 10
      · exfalso; omega
      · rw [liveAt0_16_A t ((hcond0_0 t).mpr h0) (fun h => h1 ((hcond0_1 t).mp h)) (fun h => h2 ((hcond0_2 t).mp h))] at hi
        exact absurd hi Bool.false_ne_true
  · by_cases h1 : (1 ≤ t.val % 11 ∧ t.val % 11 ≤ 9)
    · by_cases h2 : t.val % 11 = 10
      · exfalso; omega
      · rw [liveAt0_16_B t (fun h => h0 ((hcond0_0 t).mp h)) ((hcond0_1 t).mpr h1) (fun h => h2 ((hcond0_2 t).mp h))] at hi
        exact absurd hi Bool.false_ne_true
    · by_cases h2 : t.val % 11 = 10
      · rw [liveAt0_16_C t (fun h => h0 ((hcond0_0 t).mp h)) (fun h => h1 ((hcond0_1 t).mp h)) ((hcond0_2 t).mpr h2)] at hi
        exact absurd hi Bool.false_ne_true
      · exfalso; omega
theorem before0_16_B (c : Dev nD) (t : Fin cfg0.N) (h0 : ¬t.val % 11 = 0) (h1 : (1 ≤ t.val % 11 ∧ t.val % 11 ≤ 9)) (h2 : ¬t.val % 11 = 10) (d) :
    (dats m 0 c).before 16 t d = (outsAt0 m c (t.val - 1) (Nat.lt_of_le_of_lt (Nat.sub_le _ _) t.isLt)).1 := by
  rw [Dat.before_out_traj _ 16 rfl (fun _ _ => rfl) (hcarry0_16 m c) t.val t rfl d,
    if_neg (by rw [notFresh0_16_B t (fun h => h0 ((hcond0_0 t).mp h)) ((hcond0_1 t).mpr h1) (fun h => h2 ((hcond0_2 t).mp h))]; exact Bool.false_ne_true)]
  dsimp only [dats]
theorem before0_16_C (c : Dev nD) (t : Fin cfg0.N) (h0 : ¬t.val % 11 = 0) (h1 : ¬(1 ≤ t.val % 11 ∧ t.val % 11 ≤ 9)) (h2 : t.val % 11 = 10) (d) :
    (dats m 0 c).before 16 t d = (outsAt0 m c (t.val - 1) (Nat.lt_of_le_of_lt (Nat.sub_le _ _) t.isLt)).1 := by
  rw [Dat.before_out_traj _ 16 rfl (fun _ _ => rfl) (hcarry0_16 m c) t.val t rfl d,
    if_neg (by rw [notFresh0_16_C t (fun h => h0 ((hcond0_0 t).mp h)) (fun h => h1 ((hcond0_1 t).mp h)) ((hcond0_2 t).mpr h2)]; exact Bool.false_ne_true)]
  dsimp only [dats]

end Cert.FfnAIdeal.Gen

end
-- ==== Proof.FfnAFrame.lean ====
/-
  The frame of the feed-forward kernel of layer 0, sub-layer 0, the call with seven copies: the body at each point, and the run.
-/
module

public import proofs.«01_k».proof.Proof.FfnAPoints

@[expose] public section

set_option maxRecDepth 16384

noncomputable section

namespace Cert.FfnAIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 28800000 in
/-- The body is correct at each point, by its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 176 := lt_of_lt_of_eq t.isLt (show cfg0.N = 176 from N_0)
  by_cases h0 : t.val % 11 = 0
  · by_cases h1 : (1 ≤ t.val % 11 ∧ t.val % 11 ≤ 9)
    · exfalso; omega
    · by_cases h2 : t.val % 11 = 10
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16_A t ((hcond0_0 t).mpr h0) (fun h => h1 ((hcond0_1 t).mp h)) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_A t ((hcond0_0 t).mpr h0) (fun h => h1 ((hcond0_1 t).mp h)) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_A t ((hcond0_0 t).mpr h0) (fun h => h1 ((hcond0_1 t).mp h)) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_A t ((hcond0_0 t).mpr h0) (fun h => h1 ((hcond0_1 t).mp h)) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_A t ((hcond0_0 t).mpr h0) (fun h => h1 ((hcond0_1 t).mp h)) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_A t ((hcond0_0 t).mpr h0) (fun h => h1 ((hcond0_1 t).mp h)) (fun h => h2 ((hcond0_2 t).mp h))], after0_21]
        rw [show (dats m 0 c).leavesExact 22 t = owns (c : Thread nD τ) (ms0_22 t) fullShare ((dats m 0 c).after 22 t) from by
      unfold Dat.leavesExact; rw [liveAt0_22_A t ((hcond0_0 t).mpr h0) (fun h => h1 ((hcond0_1 t).mp h)) (fun h => h2 ((hcond0_2 t).mp h))], after0_22]
        rw [show (dats m 0 c).leavesExact 23 t = owns (c : Thread nD τ) (ms0_23 t) fullShare ((dats m 0 c).after 23 t) from by
      unfold Dat.leavesExact; rw [liveAt0_23_A t ((hcond0_0 t).mpr h0) (fun h => h1 ((hcond0_1 t).mp h)) (fun h => h2 ((hcond0_2 t).mp h))], after0_23]
        by_cases hz : t.val = 0
        · rw [PhiS_castSucc m c t, PhiS_zero m c _ _ hz, PhiA0_eq]
          rw [outsAt0_A m c t h0 h1 h2, pointA]
          unfold out0_A_16 out0_A_17 out0_A_18 out0_A_19 out0_A_20 out0_A_21 out0_A_22 out0_A_23 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          isplitl [HS0]; · iexact HS0
          iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H23
          ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · rw [PhiS_castSucc m c t, PhiS_pos m c _ _ hz]
          rw [outsAt0_A m c t h0 h1 h2, pointA]
          unfold out0_A_16 out0_A_17 out0_A_18 out0_A_19 out0_A_20 out0_A_21 out0_A_22 out0_A_23 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexists _; iexact H16
          isplitl [H17]; · iexists _; iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          isplitl [HS0]; · iexists _; iexact HS0
          iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H23
          ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : (1 ≤ t.val % 11 ∧ t.val % 11 ≤ 9)
    · by_cases h2 : t.val % 11 = 10
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1) (fun h => h2 ((hcond0_2 t).mp h))], after0_16]
        rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1) (fun h => h2 ((hcond0_2 t).mp h))], after0_17]
        rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1) (fun h => h2 ((hcond0_2 t).mp h))], after0_18]
        rw [show (dats m 0 c).leavesExact 19 t = owns (c : Thread nD τ) (ms0_19 t) fullShare ((dats m 0 c).after 19 t) from by
      unfold Dat.leavesExact; rw [liveAt0_19_B t (fun h => h0 ((hcond0_0 t).mp h)) ((hcond0_1 t).mpr h1) (fun h => h2 ((hcond0_2 t).mp h))], after0_19]
        rw [show (dats m 0 c).leavesExact 20 t = owns (c : Thread nD τ) (ms0_20 t) fullShare ((dats m 0 c).after 20 t) from by
      unfold Dat.leavesExact; rw [liveAt0_20_B t (fun h => h0 ((hcond0_0 t).mp h)) ((hcond0_1 t).mpr h1) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_B t (fun h => h0 ((hcond0_0 t).mp h)) ((hcond0_1 t).mpr h1) (fun h => h2 ((hcond0_2 t).mp h))], after0_21]
        rw [show (dats m 0 c).leavesExact 22 t = owns (c : Thread nD τ) (ms0_22 t) fullShare ((dats m 0 c).after 22 t) from by
      unfold Dat.leavesExact; rw [liveAt0_22_B t (fun h => h0 ((hcond0_0 t).mp h)) ((hcond0_1 t).mpr h1) (fun h => h2 ((hcond0_2 t).mp h))], after0_22]
        rw [show (dats m 0 c).leavesExact 23 t = owns (c : Thread nD τ) (ms0_23 t) fullShare ((dats m 0 c).after 23 t) from by
      unfold Dat.leavesExact; rw [liveAt0_23_B t (fun h => h0 ((hcond0_0 t).mp h)) ((hcond0_1 t).mpr h1) (fun h => h2 ((hcond0_2 t).mp h))], after0_23]
        by_cases hz : t.val = 0
        · exfalso; have hN : t.val < 176 := lt_of_lt_of_eq t.isLt (show cfg0.N = 176 from N_0); omega
        · rw [PhiS_castSucc m c t, PhiS_pos m c _ _ hz]
          rw [outsAt0_B m c t h0 h1 h2, pointB]
          simp only [before0_16_B m c t h0 h1 h2]
          unfold out0_B_16 out0_B_17 out0_B_18 out0_B_19 out0_B_20 out0_B_21 out0_B_22 out0_B_23 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexists _; iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          isplitl [HS0]; · iexact HS0
          iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H23
          ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 11 = 10
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16_C t (fun h => h0 ((hcond0_0 t).mp h)) (fun h => h1 ((hcond0_1 t).mp h)) ((hcond0_2 t).mpr h2)], after0_16]
        rw [show (dats m 0 c).leavesExact 17 t = owns (c : Thread nD τ) (ms0_17 t) fullShare ((dats m 0 c).after 17 t) from by
      unfold Dat.leavesExact; rw [liveAt0_17_C t (fun h => h0 ((hcond0_0 t).mp h)) (fun h => h1 ((hcond0_1 t).mp h)) ((hcond0_2 t).mpr h2)], after0_17]
        rw [show (dats m 0 c).leavesExact 18 t = owns (c : Thread nD τ) (ms0_18 t) fullShare ((dats m 0 c).after 18 t) from by
      unfold Dat.leavesExact; rw [liveAt0_18_C t (fun h => h0 ((hcond0_0 t).mp h)) (fun h => h1 ((hcond0_1 t).mp h)) ((hcond0_2 t).mpr h2)], after0_18]
        rw [show (dats m 0 c).leavesExact 19 t = owns (c : Thread nD τ) (ms0_19 t) fullShare ((dats m 0 c).after 19 t) from by
      unfold Dat.leavesExact; rw [liveAt0_19_C t (fun h => h0 ((hcond0_0 t).mp h)) (fun h => h1 ((hcond0_1 t).mp h)) ((hcond0_2 t).mpr h2)], after0_19]
        rw [show (dats m 0 c).leavesExact 20 t = owns (c : Thread nD τ) (ms0_20 t) fullShare ((dats m 0 c).after 20 t) from by
      unfold Dat.leavesExact; rw [liveAt0_20_C t (fun h => h0 ((hcond0_0 t).mp h)) (fun h => h1 ((hcond0_1 t).mp h)) ((hcond0_2 t).mpr h2)], after0_20]
        rw [show (dats m 0 c).leavesExact 21 t = owns (c : Thread nD τ) (ms0_21 t) fullShare ((dats m 0 c).after 21 t) from by
      unfold Dat.leavesExact; rw [liveAt0_21_C t (fun h => h0 ((hcond0_0 t).mp h)) (fun h => h1 ((hcond0_1 t).mp h)) ((hcond0_2 t).mpr h2)], after0_21]
        rw [show (dats m 0 c).leavesExact 22 t = owns (c : Thread nD τ) (ms0_22 t) fullShare ((dats m 0 c).after 22 t) from by
      unfold Dat.leavesExact; rw [liveAt0_22_C t (fun h => h0 ((hcond0_0 t).mp h)) (fun h => h1 ((hcond0_1 t).mp h)) ((hcond0_2 t).mpr h2)], after0_22]
        rw [show (dats m 0 c).leavesExact 23 t = owns (c : Thread nD τ) (ms0_23 t) fullShare ((dats m 0 c).after 23 t) from by
      unfold Dat.leavesExact; rw [liveAt0_23_C t (fun h => h0 ((hcond0_0 t).mp h)) (fun h => h1 ((hcond0_1 t).mp h)) ((hcond0_2 t).mpr h2)], after0_23]
        by_cases hz : t.val = 0
        · exfalso; have hN : t.val < 176 := lt_of_lt_of_eq t.isLt (show cfg0.N = 176 from N_0); omega
        · rw [PhiS_castSucc m c t, PhiS_pos m c _ _ hz]
          rw [outsAt0_C m c t h0 h1 h2, pointC]
          simp only [before0_16_C m c t h0 h1 h2]
          unfold out0_C_16 out0_C_17 out0_C_18 out0_C_19 out0_C_20 out0_C_21 out0_C_22 out0_C_23 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _ _).2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexists _; iexact H17
          isplitl [H18]; · iexists _; iexact H18
          isplitl [H19]; · iexists _; iexact H19
          isplitl [H20]; · iexists _; iexact H20
          isplitl [H21]; · iexists _; iexact H21
          isplitl [H22]; · iexists _; iexact H22
          isplitl [H23]; · iexists _; iexact H23
          isplitl [HS0]; · iexact HS0
          iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]
          · unfold owns; iexists _; isplitr
            swap; · iexact H16
            ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H17]
          · unfold owns; iexists _; isplitr
            swap; · iexact H17
            ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H18]
          · unfold owns; iexists _; isplitr
            swap; · iexact H18
            ipureintro; exact View.read_writes_of_cover _ _ _ _ _ (cover0_C_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H19]
          · unfold owns; iexists _; isplitr
            swap; · iexact H19
            ipureintro; exact View.read_writes_of_cover _ _ _ _ _ (cover0_C_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H20]
          · unfold owns; iexists _; isplitr
            swap; · iexact H20
            ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H23
          ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

/-- The body, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 176 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run of the program. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame of the program. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FfnAIdeal.Gen

end
-- ==== Proof.FfnAValue.lean ====
/-
  What the feed-forward kernel of layer 0, sub-layer 0 leaves in its arrays, from its frame: each result is the sweep of its blocks.
-/
module

public import proofs.«01_k».proof.Proof.FfnAFrame
public import Idealize.ShloMosaic.Lib.Pipeline.Value

@[expose] public section

noncomputable section

namespace Cert.FfnAIdeal.Value

open Cert.FfnAIdeal Cert.FfnAIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What a point writes back to the rows, and below to each copy. -/
theorem flushed16 (c : Dev nD) (t : Fin cfg0.N) :
    (dats m 0 c).flushed 16 t = (cfg0.win 16).cut (grid0.coords t) ((outsAt0 m c t.val t.isLt).1) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) ((outsAt0 m c t.val t.isLt).2.1) := by
  show (cfg0.win 17).cut (grid0.coords t) ((dats m 0 c).after 17 t) = _
  rw [after0_17]

theorem flushed18 (c : Dev nD) (t : Fin cfg0.N) :
    (dats m 0 c).flushed 18 t = (cfg0.win 18).cut (grid0.coords t) ((outsAt0 m c t.val t.isLt).2.2.1) := by
  show (cfg0.win 18).cut (grid0.coords t) ((dats m 0 c).after 18 t) = _
  rw [after0_18]

theorem flushed19 (c : Dev nD) (t : Fin cfg0.N) :
    (dats m 0 c).flushed 19 t = (cfg0.win 19).cut (grid0.coords t) ((outsAt0 m c t.val t.isLt).2.2.2.1) := by
  show (cfg0.win 19).cut (grid0.coords t) ((dats m 0 c).after 19 t) = _
  rw [after0_19]

theorem flushed20 (c : Dev nD) (t : Fin cfg0.N) :
    (dats m 0 c).flushed 20 t = (cfg0.win 20).cut (grid0.coords t) ((outsAt0 m c t.val t.isLt).2.2.2.2.1) := by
  show (cfg0.win 20).cut (grid0.coords t) ((dats m 0 c).after 20 t) = _
  rw [after0_20]

theorem flushed21 (c : Dev nD) (t : Fin cfg0.N) :
    (dats m 0 c).flushed 21 t = (cfg0.win 21).cut (grid0.coords t) ((outsAt0 m c t.val t.isLt).2.2.2.2.2.1) := by
  show (cfg0.win 21).cut (grid0.coords t) ((dats m 0 c).after 21 t) = _
  rw [after0_21]

theorem flushed22 (c : Dev nD) (t : Fin cfg0.N) :
    (dats m 0 c).flushed 22 t = (cfg0.win 22).cut (grid0.coords t) ((outsAt0 m c t.val t.isLt).2.2.2.2.2.2.1) := by
  show (cfg0.win 22).cut (grid0.coords t) ((dats m 0 c).after 22 t) = _
  rw [after0_22]

theorem flushed23 (c : Dev nD) (t : Fin cfg0.N) :
    (dats m 0 c).flushed 23 t = (cfg0.win 23).cut (grid0.coords t) ((outsAt0 m c t.val t.isLt).2.2.2.2.2.2.2.1) := by
  show (cfg0.win 23).cut (grid0.coords t) ((dats m 0 c).after 23 t) = _
  rw [after0_23]

/-- What each result holds at the end. -/
theorem post16 (r : PUnit × MemSt nD τ sig (Elt F)) (h : Pipeline.FramePost cfgs (dats m) 0 (V m) r) (c : Dev nD) :
    r.2.mem ((c : Thread nD τ).loc main_v14_0) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v14_1) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v14_2) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v14_3) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v14_4) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v14_5) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v14_6) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v14_7) = (dats m 0 c).arrAt 23 cfg0.N :=
  (h c).1 23

/-- Each argument is kept. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 9).trans (((dats m 0 c).arrAt_in 9 rfl _).trans ((A_eq m c 9).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 10).trans (((dats m 0 c).arrAt_in 10 rfl _).trans ((A_eq m c 10).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 11).trans (((dats m 0 c).arrAt_in 11 rfl _).trans ((A_eq m c 11).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 12).trans (((dats m 0 c).arrAt_in 12 rfl _).trans ((A_eq m c 12).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 13).trans (((dats m 0 c).arrAt_in 13 rfl _).trans ((A_eq m c 13).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 14).trans (((dats m 0 c).arrAt_in 14 rfl _).trans ((A_eq m c 14).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 15).trans (((dats m 0 c).arrAt_in 15 rfl _).trans ((A_eq m c 15).trans (V_main_arg10 m c)))

/-- The run: every result at its swept array, every argument kept. -/
theorem run_blocks : θ_run defs (onTc (τ := τ) (main (F := F))) ⟨m, fun _ => 0, ρ⟩ fun r => ∀ c : Dev nD,
      r.2.mem ((c : Thread nD τ).loc main_v14_0) = (dats m 0 c).arrAt 16 cfg0.N
      ∧ r.2.mem ((c : Thread nD τ).loc main_v14_1) = (dats m 0 c).arrAt 17 cfg0.N
      ∧ r.2.mem ((c : Thread nD τ).loc main_v14_2) = (dats m 0 c).arrAt 18 cfg0.N
      ∧ r.2.mem ((c : Thread nD τ).loc main_v14_3) = (dats m 0 c).arrAt 19 cfg0.N
      ∧ r.2.mem ((c : Thread nD τ).loc main_v14_4) = (dats m 0 c).arrAt 20 cfg0.N
      ∧ r.2.mem ((c : Thread nD τ).loc main_v14_5) = (dats m 0 c).arrAt 21 cfg0.N
      ∧ r.2.mem ((c : Thread nD τ).loc main_v14_6) = (dats m 0 c).arrAt 22 cfg0.N
      ∧ r.2.mem ((c : Thread nD τ).loc main_v14_7) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.FfnAIdeal.Value

end
-- ==== Proof.FfnAHost.lean ====
/-
  The arrays the feed-forward kernel of layer 0, sub-layer 0 is handed, at an index of the arguments: the host lines before the launch cut the
  layer's weights out, give the modulation an axis for its nine rows, and join batch and position.
-/
module

public import proofs.«01_k».proof.Proof.FfnARunBase
public import Idealize.ShloMosaic.Lib.Pointwise
public import Idealize.ShloMosaic.Lib.StableHlo.Run
public import Idealize.ShloMosaic.Lib.Tactic

@[expose] public section

set_option maxRecDepth 16384

noncomputable section

namespace Cert.FfnAIdeal.Host

open Idealize.ShloMosaic Idealize.ShloMosaic.TcCoe Cert.FfnAIdeal Cert.FfnAIdeal.Gen

variable (m : (ℓ : Loc nD τ sig) → Buf (Elt Ideal) ℓ) (c : Dev nD)

/-- The input's rows are (batch, position). -/
theorem x_apply (r : Fin 16384) (n : Fin 2048) :
    (V m c main_v11 : Vec Ideal S16384x2048 .f32) (ix2 r n) =
      (m (c.tc.loc main_arg0) : Vec Ideal S2x8192x2048 .f32) (ix3 ⟨r.val / 8192, by omega⟩ ⟨r.val % 8192, by omega⟩ n) := by
  simp only [V, hostOps0, hostOps0_1, hostOps0_2, List.flatten_cons, List.flatten_nil, List.append_nil, List.cons_append, List.nil_append]
  after_results
  pointwise

/-- The modulation's row `k` of a batch, found in layer 0. -/
theorem mod_apply (b : Fin 2) (k : Fin 9) (n : Fin 2048) :
    (V m c main_v1 : Vec Ideal S2x8x9x1x2048 .f32) (ix5 0 ⟨b.val, by omega⟩ k 0 n) =
      (m (c.tc.loc main_arg1) : Vec Ideal S2x18432 .f32) (ix2 b ⟨k.val * 2048 + n.val, by omega⟩) := by
  simp only [V, hostOps0, hostOps0_1, hostOps0_2, List.flatten_cons, List.flatten_nil, List.append_nil, List.cons_append, List.nil_append]
  after_results
  simp only [StableHlo.TRef.toBuf, StableHlo.TRef.ofBuf, cast_eq, id]
  pointwise

/-- The gate weights. -/
theorem wg_apply (k : Fin 2048) (n : Fin 5632) :
    (V m c main_v4 : Vec Ideal S2048x5632 .bf16) (ix2 k n) = (m (c.tc.loc main_arg2) : Vec Ideal S2x2x2048x5632 .f32) (ix4 0 0 k n) := by
  simp only [V, hostOps0, hostOps0_1, hostOps0_2, List.flatten_cons, List.flatten_nil, List.append_nil, List.cons_append, List.nil_append]
  after_results
  pointwise

/-- The other weights of the inner columns. -/
theorem wu_apply (k : Fin 2048) (n : Fin 5632) :
    (V m c main_v7 : Vec Ideal S2048x5632 .bf16) (ix2 k n) = (m (c.tc.loc main_arg3) : Vec Ideal S2x2x2048x5632 .f32) (ix4 0 0 k n) := by
  simp only [V, hostOps0, hostOps0_1, hostOps0_2, List.flatten_cons, List.flatten_nil, List.append_nil, List.cons_append, List.nil_append]
  after_results
  pointwise

/-- The last weights. -/
theorem wd_apply (k : Fin 5632) (n : Fin 2048) :
    (V m c main_v10 : Vec Ideal S5632x2048 .bf16) (ix2 k n) = (m (c.tc.loc main_arg4) : Vec Ideal S2x2x5632x2048 .f32) (ix4 0 0 k n) := by
  simp only [V, hostOps0, hostOps0_1, hostOps0_2, List.flatten_cons, List.flatten_nil, List.append_nil, List.cons_append, List.nil_append]
  after_results
  pointwise

/-- The norm's factors. -/
theorem g_apply (l : Fin 2) (s : Fin 3) (n : Fin 2048) :
    (V m c main_v12 : Vec Ideal S2x3x1x2048 .f32) (ix4 l s 0 n) = (m (c.tc.loc main_arg5) : Vec Ideal S2x3x2048 .f32) (ix3 l s n) := by
  simp only [V, hostOps0, hostOps0_1, hostOps0_2, List.flatten_cons, List.flatten_nil, List.append_nil, List.cons_append, List.nil_append]
  after_results
  pointwise

/-- The norm's offsets. -/
theorem b_apply (l : Fin 2) (s : Fin 3) (n : Fin 2048) :
    (V m c main_v13 : Vec Ideal S2x3x1x2048 .f32) (ix4 l s 0 n) = (m (c.tc.loc main_arg6) : Vec Ideal S2x3x2048 .f32) (ix3 l s n) := by
  simp only [V, hostOps0, hostOps0_1, hostOps0_2, List.flatten_cons, List.flatten_nil, List.append_nil, List.cons_append, List.nil_append]
  after_results
  pointwise

/-- The arguments that are handed over as they are. -/
theorem args_eq : (V m c main_arg2 : Vec Ideal S2x2x2048x5632 .f32) = m (c.tc.loc main_arg2) ∧
    (V m c main_arg3 : Vec Ideal S2x2x2048x5632 .f32) = m (c.tc.loc main_arg3) ∧
    (V m c main_arg4 : Vec Ideal S2x2x5632x2048 .f32) = m (c.tc.loc main_arg4) ∧
    (V m c main_arg7 : Vec Ideal S1x2048x4096 .f32) = m (c.tc.loc main_arg7) ∧
    (V m c main_arg8 : Vec Ideal S1x2048x2048 .f32) = m (c.tc.loc main_arg8) ∧
    (V m c main_arg9 : Vec Ideal S1x2048x2560 .f32) = m (c.tc.loc main_arg9) ∧
    (V m c main_arg10 : Vec Ideal S1x2048x2048 .f32) = m (c.tc.loc main_arg10) := by
  refine ⟨?_, ?_, ?_, ?_, ?_, ?_, ?_⟩
  all_goals
    simp only [V, hostOps0, hostOps0_1, hostOps0_2, List.flatten_cons, List.flatten_nil, List.append_nil, List.cons_append, List.nil_append]
    after_results

end Cert.FfnAIdeal.Host

end
-- ==== Proof.FfnARef.lean ====
/-
  The reference of the feed-forward call of layer 0, sub-layer 0: the sub-layer at its slices, and the copies of the other weights.
-/
module

public import proofs.«01_k».proof.Proof.Gen.FfnARefIdeal.Run
public import proofs.«01_k».proof.Proof.FfnPlain

@[expose] public section

set_option maxRecDepth 16384

noncomputable section

namespace Cert.FfnARefIdeal.Plain

open Idealize.ShloMosaic Idealize.ShloMosaic.TcCoe Cert.FfnARefIdeal Cert.FfnARefIdeal.Gen

/-- The modulation, with an axis of one row. -/
def mods (m : FVec Ideal S2x18432 .f32) : FVec Ideal S2x1x18432 .f32 := broadcastInDim S2x1x18432 ![0, 2] bcast_S2x18432_S2x1x18432_0_2 m

/-- The shift. -/
def shift (m : FVec Ideal S2x18432 .f32) : FVec Ideal S2x1x2048 .f32 :=
  extractStridedSlice S2x1x2048 ![0, 0, 0] (mods m) slices_S2x1x18432_S2x1x2048_0_0_0

theorem shift_apply (m : FVec Ideal S2x18432 .f32) (b : Fin 2) (n : Fin 2048) : shift m (ix3 b 0 n) = m (ix2 b ⟨0 + n.val, by omega⟩) := by
  unfold shift
  pointwise [mods]

/-- The scale. -/
def scale (m : FVec Ideal S2x18432 .f32) : FVec Ideal S2x1x2048 .f32 :=
  extractStridedSlice S2x1x2048 ![0, 0, 2048] (mods m) slices_S2x1x18432_S2x1x2048_0_0_2048

theorem scale_apply (m : FVec Ideal S2x18432 .f32) (b : Fin 2) (n : Fin 2048) : scale m (ix3 b 0 n) = m (ix2 b ⟨2048 + n.val, by omega⟩) := by
  unfold scale
  pointwise [mods]

/-- The gate. -/
def gate (m : FVec Ideal S2x18432 .f32) : FVec Ideal S2x1x2048 .f32 :=
  extractStridedSlice S2x1x2048 ![0, 0, 4096] (mods m) slices_S2x1x18432_S2x1x2048_0_0_4096

theorem gate_apply (m : FVec Ideal S2x18432 .f32) (b : Fin 2) (n : Fin 2048) : gate m (ix3 b 0 n) = m (ix2 b ⟨4096 + n.val, by omega⟩) := by
  unfold gate
  pointwise [mods]

/-- The layer's matrix of 5632 columns. -/
def into (w : FVec Ideal S2x2x2048x5632 .f32) : FVec Ideal S2048x5632 .f32 :=
  shapeCast S2048x5632 (extractStridedSlice S1x1x2048x5632 ![0, 0, 0, 0] w slices_S2x2x2048x5632_S1x1x2048x5632_0_0_0_0) shapeCasts_S1x1x2048x5632_S2048x5632

theorem into_apply (w : FVec Ideal S2x2x2048x5632 .f32) (k : Fin 2048) (n : Fin 5632) : into w (ix2 k n) = w (ix4 0 0 k n) := by
  unfold into
  pointwise

/-- The layer's last matrix. -/
def back (w : FVec Ideal S2x2x5632x2048 .f32) : FVec Ideal S5632x2048 .f32 :=
  shapeCast S5632x2048 (extractStridedSlice S1x1x5632x2048 ![0, 0, 0, 0] w slices_S2x2x5632x2048_S1x1x5632x2048_0_0_0_0) shapeCasts_S1x1x5632x2048_S5632x2048

theorem back_apply (w : FVec Ideal S2x2x5632x2048 .f32) (k : Fin 5632) (n : Fin 2048) : back w (ix2 k n) = w (ix4 0 0 k n) := by
  unfold back
  pointwise

/-- The norm's row. -/
def row (g : FVec Ideal S2x3x2048 .f32) : FVec Ideal S2048 .f32 :=
  shapeCast S2048 (extractStridedSlice S1x1x2048 ![0, 0, 0] g slices_S2x3x2048_S1x1x2048_0_0_0) shapeCasts_S1x1x2048_S2048

theorem row_apply (g : FVec Ideal S2x3x2048 .f32) (n : Fin 2048) : row g (ix1 n) = g (ix3 0 0 n) := by
  unfold row
  pointwise

/-- The next sub-layer's matrix of 5632 columns, rounded. -/
def next2048x5632 (w : FVec Ideal S2x2x2048x5632 .f32) : FVec Ideal S2048x5632 .bf16 :=
  truncf .bf16 (shapeCast S2048x5632 (extractStridedSlice S1x1x2048x5632 ![0, 1, 0, 0] w slices_S2x2x2048x5632_S1x1x2048x5632_0_1_0_0) shapeCasts_S1x1x2048x5632_S2048x5632) bitsLt_bf16_f32

theorem next2048x5632_apply (w : FVec Ideal S2x2x2048x5632 .f32) (k : Fin 2048) (n : Fin 5632) : next2048x5632 w (ix2 k n) = w (ix4 0 1 k n) := by
  unfold next2048x5632
  pointwise

/-- The next sub-layer's last matrix, rounded. -/
def next5632x2048 (w : FVec Ideal S2x2x5632x2048 .f32) : FVec Ideal S5632x2048 .bf16 :=
  truncf .bf16 (shapeCast S5632x2048 (extractStridedSlice S1x1x5632x2048 ![0, 1, 0, 0] w slices_S2x2x5632x2048_S1x1x5632x2048_0_1_0_0) shapeCasts_S1x1x5632x2048_S5632x2048) bitsLt_bf16_f32

theorem next5632x2048_apply (w : FVec Ideal S2x2x5632x2048 .f32) (k : Fin 5632) (n : Fin 2048) : next5632x2048 w (ix2 k n) = w (ix4 0 1 k n) := by
  unfold next5632x2048
  pointwise

/-- A mixer's matrix of 4096 columns, rounded. -/
def next2048x4096 (w : FVec Ideal S1x2048x4096 .f32) : FVec Ideal S2048x4096 .bf16 :=
  truncf .bf16 (shapeCast S2048x4096 w shapeCasts_S1x2048x4096_S2048x4096) bitsLt_bf16_f32

theorem next2048x4096_apply (w : FVec Ideal S1x2048x4096 .f32) (k : Fin 2048) (n : Fin 4096) : next2048x4096 w (ix2 k n) = w (ix3 0 k n) := by
  unfold next2048x4096
  pointwise

/-- A mixer's matrix of 2048 columns, rounded. -/
def next2048x2048 (w : FVec Ideal S1x2048x2048 .f32) : FVec Ideal S2048x2048 .bf16 :=
  truncf .bf16 (shapeCast S2048x2048 w shapeCasts_S1x2048x2048_S2048x2048) bitsLt_bf16_f32

theorem next2048x2048_apply (w : FVec Ideal S1x2048x2048 .f32) (k : Fin 2048) (n : Fin 2048) : next2048x2048 w (ix2 k n) = w (ix3 0 k n) := by
  unfold next2048x2048
  pointwise

/-- A mixer's matrix of 2560 columns, rounded. -/
def next2048x2560 (w : FVec Ideal S1x2048x2560 .f32) : FVec Ideal S2048x2560 .bf16 :=
  truncf .bf16 (shapeCast S2048x2560 w shapeCasts_S1x2048x2560_S2048x2560) bitsLt_bf16_f32

theorem next2048x2560_apply (w : FVec Ideal S1x2048x2560 .f32) (k : Fin 2048) (n : Fin 2560) : next2048x2560 w (ix2 k n) = w (ix3 0 k n) := by
  unfold next2048x2560
  pointwise

/-- The rows of the result from the arguments. -/
def result (x : FVec Ideal S2x8192x2048 .f32) (md : FVec Ideal S2x18432 .f32) (wg wu : FVec Ideal S2x2x2048x5632 .f32)
    (wd : FVec Ideal S2x2x5632x2048 .f32) (g b : FVec Ideal S2x3x2048 .f32) : FVec Ideal S16384x2048 .f32 :=
  FfnPlain.layer x (shift md) (scale md) (gate md) (into wg) (into wu) (back wd) (row g) (row b)

/-- The result in the steps above. -/
theorem res_eq (m : (ℓ : Loc nD τ sig) → Buf (Elt Ideal) ℓ) (c : Dev nD) (x : FVec Ideal S2x8192x2048 .f32) (md : FVec Ideal S2x18432 .f32)
    (wg wu : FVec Ideal S2x2x2048x5632 .f32) (wd : FVec Ideal S2x2x5632x2048 .f32) (g b : FVec Ideal S2x3x2048 .f32)
    (h0 : m ((c.tc : Thread nD τ).loc main_arg0) = x) (h1 : m ((c.tc : Thread nD τ).loc main_arg1) = md)
    (h2 : m ((c.tc : Thread nD τ).loc main_arg2) = wg) (h3 : m ((c.tc : Thread nD τ).loc main_arg3) = wu)
    (h4 : m ((c.tc : Thread nD τ).loc main_arg4) = wd) (h5 : m ((c.tc : Thread nD τ).loc main_arg5) = g)
    (h6 : m ((c.tc : Thread nD τ).loc main_arg6) = b) :
    Value.res_main_v62 m c = result x md wg wu wd g b := by
  subst h0 h1 h2 h3 h4 h5 h6
  unfold Value.res_main_v62
  rfl

end Cert.FfnARefIdeal.Plain

end
-- ==== Proof.FfnAResult.lean ====
/-
  What the feed-forward kernel of layer 0, sub-layer 0 leaves in its result arrays: the reference's rows, and the copies of the other weights.
-/
module

public import proofs.«01_k».proof.Proof.FfnACopies
public import proofs.«01_k».proof.Proof.FfnAWindows
public import proofs.«01_k».proof.Proof.FfnAValue
public import proofs.«01_k».proof.Proof.FfnAHost
public import proofs.«01_k».proof.Proof.FfnARef

@[expose] public section

set_option maxRecDepth 16384
set_option maxHeartbeats 4000000

noncomputable section

namespace Cert.FfnAIdeal.Result

open Idealize.ShloMosaic Idealize.ShloMosaic.TcCoe Cert.FfnAIdeal Cert.FfnAIdeal.Gen Cert.FfnMath Cert.FfnSweep Cert.FfnCopy

variable (m : (ℓ : Loc nD τ sig) → Buf (Elt Ideal) ℓ) (c : Dev nD)

/-- The arguments, as arrays of extended reals. -/
abbrev x : FVec Ideal S2x8192x2048 .f32 := m ((c.tc : Thread nD τ).loc main_arg0)
abbrev md : FVec Ideal S2x18432 .f32 := m ((c.tc : Thread nD τ).loc main_arg1)
abbrev wg : FVec Ideal S2x2x2048x5632 .f32 := m ((c.tc : Thread nD τ).loc main_arg2)
abbrev wu : FVec Ideal S2x2x2048x5632 .f32 := m ((c.tc : Thread nD τ).loc main_arg3)
abbrev wd : FVec Ideal S2x2x5632x2048 .f32 := m ((c.tc : Thread nD τ).loc main_arg4)
abbrev lg : FVec Ideal S2x3x2048 .f32 := m ((c.tc : Thread nD τ).loc main_arg5)
abbrev lb : FVec Ideal S2x3x2048 .f32 := m ((c.tc : Thread nD τ).loc main_arg6)
abbrev w7 : FVec Ideal S1x2048x4096 .f32 := m ((c.tc : Thread nD τ).loc main_arg7)
abbrev w8 : FVec Ideal S1x2048x2048 .f32 := m ((c.tc : Thread nD τ).loc main_arg8)
abbrev w9 : FVec Ideal S1x2048x2560 .f32 := m ((c.tc : Thread nD τ).loc main_arg9)
abbrev w10 : FVec Ideal S1x2048x2048 .f32 := m ((c.tc : Thread nD τ).loc main_arg10)

/-- The sub-layer's arrays: the reference's slices of the arguments. -/
def arrays : Arrays :=
  FfnPlain.arrays (x m c) (FfnARefIdeal.Plain.shift (md m c)) (FfnARefIdeal.Plain.scale (md m c)) (FfnARefIdeal.Plain.gate (md m c)) (FfnARefIdeal.Plain.into (wg m c))
    (FfnARefIdeal.Plain.into (wu m c)) (FfnARefIdeal.Plain.back (wd m c)) (FfnARefIdeal.Plain.row (lg m c)) (FfnARefIdeal.Plain.row (lb m c))

/-- The reference's rows over the kernel's arguments. -/
def plainResult : FVec Ideal S16384x2048 .f32 := FfnARefIdeal.Plain.result (x m c) (md m c) (wg m c) (wu m c) (wd m c) (lg m c) (lb m c)

/-- The blocks at each point. -/
def blocks : Blocks cfg0.N where
  b0 := fun t => iblk m c 0 t
  b1 := fun t => iblk m c 1 t
  b2 := fun t => iblk m c 2 t
  b3 := fun t => iblk m c 3 t
  b4 := fun t => iblk m c 4 t
  b5 := fun t => iblk m c 5 t
  b6 := fun t => iblk m c 6 t
  b7 := fun t => iblk m c 7 t
  b8 := fun t => iblk m c 8 t

/-- They are cut from the sub-layer's arrays. -/
theorem cut : Cut (arrays m c) (blocks m c) where
  lt := Windows.lt_N
  c0 := fun t a b p n hr => by
    show (iblk m c 0 t : Vec Ideal S1024x2048 .f32) (ix2 a n) = x m c (ix3 b p n)
    refine (Windows.blk0 m c t a n).trans ((Host.x_apply m c _ n).trans ?_)
    refine congrArg (x m c) ?_
    congr 1
    · apply Fin.ext; dsimp only; omega
    · apply Fin.ext; dsimp only; omega
  c1 := fun t b n hb => by
    show (iblk m c 1 t : Vec Ideal S1x1x1x1x2048 .f32) (ix5 0 0 0 0 n) = FfnARefIdeal.Plain.shift (md m c) (ix3 b 0 n)
    rw [FfnARefIdeal.Plain.shift_apply, Windows.blk1 m c t ⟨b.val, by omega⟩ hb]
    exact Host.mod_apply m c b 0 n
  c2 := fun t b n hb => by
    show (iblk m c 2 t : Vec Ideal S1x1x1x1x2048 .f32) (ix5 0 0 0 0 n) = FfnARefIdeal.Plain.scale (md m c) (ix3 b 0 n)
    rw [FfnARefIdeal.Plain.scale_apply, Windows.blk2 m c t ⟨b.val, by omega⟩ hb]
    exact Host.mod_apply m c b 1 n
  c3 := fun t b n hb => by
    show (iblk m c 3 t : Vec Ideal S1x1x1x1x2048 .f32) (ix5 0 0 0 0 n) = FfnARefIdeal.Plain.gate (md m c) (ix3 b 0 n)
    rw [FfnARefIdeal.Plain.gate_apply, Windows.blk3 m c t ⟨b.val, by omega⟩ hb]
    exact Host.mod_apply m c b 2 n
  c4 := fun t k j q hq => by
    show (iblk m c 4 t : Vec Ideal S2048x512 .bf16) (ix2 k j) = FfnARefIdeal.Plain.into (wg m c) (ix2 k q)
    rw [FfnARefIdeal.Plain.into_apply, Windows.blk4 m c t k j q hq]
    exact Host.wg_apply m c k q
  c5 := fun t k j q hq => by
    show (iblk m c 5 t : Vec Ideal S2048x512 .bf16) (ix2 k j) = FfnARefIdeal.Plain.into (wu m c) (ix2 k q)
    rw [FfnARefIdeal.Plain.into_apply, Windows.blk5 m c t k j q hq]
    exact Host.wu_apply m c k q
  c6 := fun t j n q hq => by
    show (iblk m c 6 t : Vec Ideal S512x2048 .bf16) (ix2 j n) = FfnARefIdeal.Plain.back (wd m c) (ix2 q n)
    rw [FfnARefIdeal.Plain.back_apply, Windows.blk6 m c t j n q hq]
    exact Host.wd_apply m c q n
  c7 := fun t n => by
    show (iblk m c 7 t : Vec Ideal S1x1x1x2048 .f32) (ix4 0 0 0 n) = FfnARefIdeal.Plain.row (lg m c) (ix1 n)
    rw [FfnARefIdeal.Plain.row_apply, Windows.blk7]
    exact Host.g_apply m c 0 0 n
  c8 := fun t n => by
    show (iblk m c 8 t : Vec Ideal S1x1x1x2048 .f32) (ix4 0 0 0 n) = FfnARefIdeal.Plain.row (lb m c) (ix1 n)
    rw [FfnARefIdeal.Plain.row_apply, Windows.blk8]
    exact Host.b_apply m c 0 0 n

/-- What the points leave in the tile of rows and in the kept tile. -/
theorem runs : Runs (blocks m c) (fun s hs => (outsAt0 m c s hs).1) (fun s hs => (outsAt0 m c s hs).2.2.2.2.2.2.2.2) where
  open_o := fun t h => by
    rw [outsAt0_A m c t h (by omega) (by omega), pointA]
    dsimp only
    rw [Body.out_A]
    rfl
  open_k := fun t h => by
    rw [outsAt0_A m c t h (by omega) (by omega), pointA]
    dsimp only
    rw [Body.sout_A]
    rfl
  mid_o := fun s h h0 h2 => by
    rw [outsAt0_B m c ⟨s + 1, h⟩ h0 (by dsimp only; omega) h2, pointB]
    dsimp only
    rw [Body.out_B]
    rfl
  last_o := fun s h h2 => by
    rw [outsAt0_C m c ⟨s + 1, h⟩ (by dsimp only; omega) (by dsimp only; omega) h2, pointC]
    dsimp only
    rw [Body.out_C]
    rfl
  mid_k := fun s h h0 => by
    by_cases h2 : (s + 1) % 11 = 10
    · rw [outsAt0_C m c ⟨s + 1, h⟩ h0 (by dsimp only; omega) h2, pointC]
      rfl
    · rw [outsAt0_B m c ⟨s + 1, h⟩ h0 (by dsimp only; omega) h2, pointB]
      rfl

/-- What every point leaves of the copies. -/
theorem copies (t : Fin cfg0.N) :
    (outsAt0 m c t.val t.isLt).2.1 = tile16x5632 (iblk m c 9 t) ∧
    (outsAt0 m c t.val t.isLt).2.2.1 = tile16x5632 (iblk m c 10 t) ∧
    (outsAt0 m c t.val t.isLt).2.2.2.1 = tile32x2048 (iblk m c 11 t) ∧
    (outsAt0 m c t.val t.isLt).2.2.2.2.1 = tile16x4096 (iblk m c 12 t) ∧
    (outsAt0 m c t.val t.isLt).2.2.2.2.2.1 = tile16x2048 (iblk m c 13 t) ∧
    (outsAt0 m c t.val t.isLt).2.2.2.2.2.2.1 = tile16x2560 (iblk m c 14 t) ∧
    (outsAt0 m c t.val t.isLt).2.2.2.2.2.2.2.1 = tile16x2048 (iblk m c 15 t) := by
  by_cases h0 : t.val % 11 = 0
  · rw [outsAt0_A m c t h0 (by omega) (by omega), pointA]
    dsimp only
    exact ⟨(Body.copies_A ..).1, (Body.copies_A ..).2.1, (Body.copies_A ..).2.2.1, (Body.copies_A ..).2.2.2.1, (Body.copies_A ..).2.2.2.2.1, (Body.copies_A ..).2.2.2.2.2.1, (Body.copies_A ..).2.2.2.2.2.2⟩
  · by_cases h2 : t.val % 11 = 10
    · rw [outsAt0_C m c t h0 (by omega) h2, pointC]
      dsimp only
      exact ⟨(Body.copies_C ..).1, (Body.copies_C ..).2.1, (Body.copies_C ..).2.2.1, (Body.copies_C ..).2.2.2.1, (Body.copies_C ..).2.2.2.2.1, (Body.copies_C ..).2.2.2.2.2.1, (Body.copies_C ..).2.2.2.2.2.2⟩
    · rw [outsAt0_B m c t h0 (by omega) h2, pointB]
      dsimp only
      exact ⟨(Body.copies_B ..).1, (Body.copies_B ..).2.1, (Body.copies_B ..).2.2.1, (Body.copies_B ..).2.2.2.1, (Body.copies_B ..).2.2.2.2.1, (Body.copies_B ..).2.2.2.2.2.1, (Body.copies_B ..).2.2.2.2.2.2⟩

/-- On real arguments the sub-layer's arrays are real. -/
theorem arrays_real (hx : ∀ i, IsReal (x m c i)) (hm : ∀ i, IsReal (md m c i)) (hg : ∀ i, IsReal (wg m c i)) (hu : ∀ i, IsReal (wu m c i))
    (hd : ∀ i, IsReal (wd m c i)) : (arrays m c).Real where
  x := fun _ _ _ => hx _
  sh := fun b n => (congrArg IsReal (FfnARefIdeal.Plain.shift_apply (md m c) b n)).mpr (hm _)
  sc := fun b n => (congrArg IsReal (FfnARefIdeal.Plain.scale_apply (md m c) b n)).mpr (hm _)
  gt := fun b n => (congrArg IsReal (FfnARefIdeal.Plain.gate_apply (md m c) b n)).mpr (hm _)
  wg := fun k j => (congrArg IsReal (FfnARefIdeal.Plain.into_apply (wg m c) k j)).mpr (hg _)
  wu := fun k j => (congrArg IsReal (FfnARefIdeal.Plain.into_apply (wu m c) k j)).mpr (hu _)
  wd := fun j n => (congrArg IsReal (FfnARefIdeal.Plain.back_apply (wd m c) j n)).mpr (hd _)

/-- A tile's last point leaves the reference's rows. -/
theorem point (H : (arrays m c).Real) (t : Fin grid0.N) (h2 : t.val % 11 = 10) (a : Fin 1024) (n : Fin 2048) :
    (outsAt0 m c t.val t.isLt).1 (ix2 a n) = plainResult m c (ix2 ⟨t.val / 11 * 1024 + a.val, by have := Windows.lt_N t; omega⟩ n) := by
  have ht := Windows.lt_N t
  obtain ⟨b, hb⟩ : ∃ b : Fin 2, b.val = (t.val / 11 * 1024 + a.val) / 8192 := ⟨⟨(t.val / 11 * 1024 + a.val) / 8192, by omega⟩, rfl⟩
  obtain ⟨p, hp⟩ : ∃ p : Fin 8192, p.val = (t.val / 11 * 1024 + a.val) % 8192 := ⟨⟨(t.val / 11 * 1024 + a.val) % 8192, by omega⟩, rfl⟩
  refine (rows (cut m c) (runs m c) H t h2 a b p (by omega) n).trans ?_
  exact (FfnPlain.layer_apply _ _ _ _ _ _ _ _ _ ⟨t.val / 11 * 1024 + a.val, by omega⟩ n b p (by dsimp only; omega)).symm

/-- The array of rows. -/
theorem array (H : (arrays m c).Real) :
    (dats m 0 c).arrAt 16 cfg0.N = (plainResult m c : Buf (Elt Ideal) ((c.tc : Thread nD τ).loc main_v14_0)) := by
  have hcov : (cfg0.win 16).Covers := by decide +kernel
  refine (dats m 0 c).arrAt_eq_of_cover 16 _ (fun t hf => ?_) (Pipeline.Window.Covers.cover _ hcov (Memref.isWhole_whole _))
  have h2 : t.val % 11 = 10 := (flush0_16 t).mp hf
  rw [Value.flushed16]
  have e : win0_16.index t = ![t.val / 11, 0] := (Windows.idx t).2.2.2.2.2.2.2.2.2
  funext y
  have h0 : (y 0).val < 1024 := (y 0).isLt
  have h1 : (y 1).val < 2048 := (y 1).isLt
  refine Eq.trans (congrArg _ (funext fun a => Fin.ext ?_)) ((point m c H t h2 ⟨(y 0).val, h0⟩ ⟨(y 1).val, h1⟩).trans
    (congrArg (plainResult m c) (funext fun a => Fin.ext ?_)))
  · fin_cases a <;> rfl
  · fin_cases a
    · show t.val / 11 * 1024 + (y 0).val = win0_16.index t 0 * 1024 + 1 * (y 0).val; rw [e]; simp
    · show (y 1).val = win0_16.index t 1 * 2048 + 1 * (y 1).val; rw [e]; simp

/-- The copy of argument 2. -/
theorem copy1 :
    (dats m 0 c).arrAt 17 cfg0.N = (FfnARefIdeal.Plain.next2048x5632 (wg m c) : Buf (Elt Ideal) ((c.tc : Thread nD τ).loc main_v14_1)) := by
  have hcov : (cfg0.win 17).Covers := by decide +kernel
  refine (dats m 0 c).arrAt_eq_of_cover 17 _ (fun t hf => ?_) (Pipeline.Window.Covers.cover _ hcov (Memref.isWhole_whole _))
  have ht := Windows.lt_N t
  rw [Value.flushed17, (copies m c t).1]
  have e : win0_17.index t = ![min t.val 127, 0] := (Windows.idx_out t).1
  funext y
  have h0 : (y 0).val < 16 := (y 0).isLt
  have h1 : (y 1).val < 5632 := (y 1).isLt
  have hp : tile16x5632 (iblk m c 9 t) (ix2 ⟨(y 0).val, h0⟩ ⟨(y 1).val, h1⟩) =
      FfnARefIdeal.Plain.next2048x5632 (wg m c) (ix2 ⟨(min t.val 127) * 16 + (y 0).val, by omega⟩ ⟨(y 1).val, h1⟩) :=
    (tile16x5632_apply _ _ _).trans ((Windows.blk9 m c t ⟨(y 0).val, h0⟩ ⟨(y 1).val, h1⟩).trans
      ((congrFun (Host.args_eq m c).1 _).trans (FfnARefIdeal.Plain.next2048x5632_apply (wg m c) _ _).symm))
  refine Eq.trans (congrArg _ (funext fun a => Fin.ext ?_)) (hp.trans (congrArg (FfnARefIdeal.Plain.next2048x5632 (wg m c)) (funext fun a => Fin.ext ?_)))
  · fin_cases a <;> rfl
  · fin_cases a
    · show (min t.val 127) * 16 + (y 0).val = win0_17.index t 0 * 16 + 1 * (y 0).val; rw [e]; simp
    · show (y 1).val = win0_17.index t 1 * 5632 + 1 * (y 1).val; rw [e]; simp

/-- The copy of argument 3. -/
theorem copy2 :
    (dats m 0 c).arrAt 18 cfg0.N = (FfnARefIdeal.Plain.next2048x5632 (wu m c) : Buf (Elt Ideal) ((c.tc : Thread nD τ).loc main_v14_2)) := by
  have hcov : (cfg0.win 18).Covers := by decide +kernel
  refine (dats m 0 c).arrAt_eq_of_cover 18 _ (fun t hf => ?_) (Pipeline.Window.Covers.cover _ hcov (Memref.isWhole_whole _))
  have ht := Windows.lt_N t
  rw [Value.flushed18, (copies m c t).2.1]
  have e : win0_18.index t = ![min t.val 127, 0] := (Windows.idx_out t).2.1
  funext y
  have h0 : (y 0).val < 16 := (y 0).isLt
  have h1 : (y 1).val < 5632 := (y 1).isLt
  have hp : tile16x5632 (iblk m c 10 t) (ix2 ⟨(y 0).val, h0⟩ ⟨(y 1).val, h1⟩) =
      FfnARefIdeal.Plain.next2048x5632 (wu m c) (ix2 ⟨(min t.val 127) * 16 + (y 0).val, by omega⟩ ⟨(y 1).val, h1⟩) :=
    (tile16x5632_apply _ _ _).trans ((Windows.blk10 m c t ⟨(y 0).val, h0⟩ ⟨(y 1).val, h1⟩).trans
      ((congrFun (Host.args_eq m c).2.1 _).trans (FfnARefIdeal.Plain.next2048x5632_apply (wu m c) _ _).symm))
  refine Eq.trans (congrArg _ (funext fun a => Fin.ext ?_)) (hp.trans (congrArg (FfnARefIdeal.Plain.next2048x5632 (wu m c)) (funext fun a => Fin.ext ?_)))
  · fin_cases a <;> rfl
  · fin_cases a
    · show (min t.val 127) * 16 + (y 0).val = win0_18.index t 0 * 16 + 1 * (y 0).val; rw [e]; simp
    · show (y 1).val = win0_18.index t 1 * 5632 + 1 * (y 1).val; rw [e]; simp

/-- The copy of argument 4. -/
theorem copy3 :
    (dats m 0 c).arrAt 19 cfg0.N = (FfnARefIdeal.Plain.next5632x2048 (wd m c) : Buf (Elt Ideal) ((c.tc : Thread nD τ).loc main_v14_3)) := by
  have hcov : (cfg0.win 19).Covers := by decide +kernel
  refine (dats m 0 c).arrAt_eq_of_cover 19 _ (fun t hf => ?_) (Pipeline.Window.Covers.cover _ hcov (Memref.isWhole_whole _))
  have ht := Windows.lt_N t
  rw [Value.flushed19, (copies m c t).2.2.1]
  have e : win0_19.index t = ![t.val, 0] := (Windows.idx_out t).2.2.1
  funext y
  have h0 : (y 0).val < 32 := (y 0).isLt
  have h1 : (y 1).val < 2048 := (y 1).isLt
  have hp : tile32x2048 (iblk m c 11 t) (ix2 ⟨(y 0).val, h0⟩ ⟨(y 1).val, h1⟩) =
      FfnARefIdeal.Plain.next5632x2048 (wd m c) (ix2 ⟨(t.val) * 32 + (y 0).val, by omega⟩ ⟨(y 1).val, h1⟩) :=
    (tile32x2048_apply _ _ _).trans ((Windows.blk11 m c t ⟨(y 0).val, h0⟩ ⟨(y 1).val, h1⟩).trans
      ((congrFun (Host.args_eq m c).2.2.1 _).trans (FfnARefIdeal.Plain.next5632x2048_apply (wd m c) _ _).symm))
  refine Eq.trans (congrArg _ (funext fun a => Fin.ext ?_)) (hp.trans (congrArg (FfnARefIdeal.Plain.next5632x2048 (wd m c)) (funext fun a => Fin.ext ?_)))
  · fin_cases a <;> rfl
  · fin_cases a
    · show (t.val) * 32 + (y 0).val = win0_19.index t 0 * 32 + 1 * (y 0).val; rw [e]; simp
    · show (y 1).val = win0_19.index t 1 * 2048 + 1 * (y 1).val; rw [e]; simp

/-- The copy of argument 7. -/
theorem copy4 :
    (dats m 0 c).arrAt 20 cfg0.N = (FfnARefIdeal.Plain.next2048x4096 (w7 m c) : Buf (Elt Ideal) ((c.tc : Thread nD τ).loc main_v14_4)) := by
  have hcov : (cfg0.win 20).Covers := by decide +kernel
  refine (dats m 0 c).arrAt_eq_of_cover 20 _ (fun t hf => ?_) (Pipeline.Window.Covers.cover _ hcov (Memref.isWhole_whole _))
  have ht := Windows.lt_N t
  rw [Value.flushed20, (copies m c t).2.2.2.1]
  have e : win0_20.index t = ![min t.val 127, 0] := (Windows.idx_out t).2.2.2.1
  funext y
  have h0 : (y 0).val < 16 := (y 0).isLt
  have h1 : (y 1).val < 4096 := (y 1).isLt
  have hp : tile16x4096 (iblk m c 12 t) (ix2 ⟨(y 0).val, h0⟩ ⟨(y 1).val, h1⟩) =
      FfnARefIdeal.Plain.next2048x4096 (w7 m c) (ix2 ⟨(min t.val 127) * 16 + (y 0).val, by omega⟩ ⟨(y 1).val, h1⟩) :=
    (tile16x4096_apply _ _ _).trans ((Windows.blk12 m c t ⟨(y 0).val, h0⟩ ⟨(y 1).val, h1⟩).trans
      ((congrFun (Host.args_eq m c).2.2.2.1 _).trans (FfnARefIdeal.Plain.next2048x4096_apply (w7 m c) _ _).symm))
  refine Eq.trans (congrArg _ (funext fun a => Fin.ext ?_)) (hp.trans (congrArg (FfnARefIdeal.Plain.next2048x4096 (w7 m c)) (funext fun a => Fin.ext ?_)))
  · fin_cases a <;> rfl
  · fin_cases a
    · show (min t.val 127) * 16 + (y 0).val = win0_20.index t 0 * 16 + 1 * (y 0).val; rw [e]; simp
    · show (y 1).val = win0_20.index t 1 * 4096 + 1 * (y 1).val; rw [e]; simp

/-- The copy of argument 8. -/
theorem copy5 :
    (dats m 0 c).arrAt 21 cfg0.N = (FfnARefIdeal.Plain.next2048x2048 (w8 m c) : Buf (Elt Ideal) ((c.tc : Thread nD τ).loc main_v14_5)) := by
  have hcov : (cfg0.win 21).Covers := by decide +kernel
  refine (dats m 0 c).arrAt_eq_of_cover 21 _ (fun t hf => ?_) (Pipeline.Window.Covers.cover _ hcov (Memref.isWhole_whole _))
  have ht := Windows.lt_N t
  rw [Value.flushed21, (copies m c t).2.2.2.2.1]
  have e : win0_21.index t = ![min t.val 127, 0] := (Windows.idx_out t).2.2.2.2.1
  funext y
  have h0 : (y 0).val < 16 := (y 0).isLt
  have h1 : (y 1).val < 2048 := (y 1).isLt
  have hp : tile16x2048 (iblk m c 13 t) (ix2 ⟨(y 0).val, h0⟩ ⟨(y 1).val, h1⟩) =
      FfnARefIdeal.Plain.next2048x2048 (w8 m c) (ix2 ⟨(min t.val 127) * 16 + (y 0).val, by omega⟩ ⟨(y 1).val, h1⟩) :=
    (tile16x2048_apply _ _ _).trans ((Windows.blk13 m c t ⟨(y 0).val, h0⟩ ⟨(y 1).val, h1⟩).trans
      ((congrFun (Host.args_eq m c).2.2.2.2.1 _).trans (FfnARefIdeal.Plain.next2048x2048_apply (w8 m c) _ _).symm))
  refine Eq.trans (congrArg _ (funext fun a => Fin.ext ?_)) (hp.trans (congrArg (FfnARefIdeal.Plain.next2048x2048 (w8 m c)) (funext fun a => Fin.ext ?_)))
  · fin_cases a <;> rfl
  · fin_cases a
    · show (min t.val 127) * 16 + (y 0).val = win0_21.index t 0 * 16 + 1 * (y 0).val; rw [e]; simp
    · show (y 1).val = win0_21.index t 1 * 2048 + 1 * (y 1).val; rw [e]; simp

/-- The copy of argument 9. -/
theorem copy6 :
    (dats m 0 c).arrAt 22 cfg0.N = (FfnARefIdeal.Plain.next2048x2560 (w9 m c) : Buf (Elt Ideal) ((c.tc : Thread nD τ).loc main_v14_6)) := by
  have hcov : (cfg0.win 22).Covers := by decide +kernel
  refine (dats m 0 c).arrAt_eq_of_cover 22 _ (fun t hf => ?_) (Pipeline.Window.Covers.cover _ hcov (Memref.isWhole_whole _))
  have ht := Windows.lt_N t
  rw [Value.flushed22, (copies m c t).2.2.2.2.2.1]
  have e : win0_22.index t = ![min t.val 127, 0] := (Windows.idx_out t).2.2.2.2.2.1
  funext y
  have h0 : (y 0).val < 16 := (y 0).isLt
  have h1 : (y 1).val < 2560 := (y 1).isLt
  have hp : tile16x2560 (iblk m c 14 t) (ix2 ⟨(y 0).val, h0⟩ ⟨(y 1).val, h1⟩) =
      FfnARefIdeal.Plain.next2048x2560 (w9 m c) (ix2 ⟨(min t.val 127) * 16 + (y 0).val, by omega⟩ ⟨(y 1).val, h1⟩) :=
    (tile16x2560_apply _ _ _).trans ((Windows.blk14 m c t ⟨(y 0).val, h0⟩ ⟨(y 1).val, h1⟩).trans
      ((congrFun (Host.args_eq m c).2.2.2.2.2.1 _).trans (FfnARefIdeal.Plain.next2048x2560_apply (w9 m c) _ _).symm))
  refine Eq.trans (congrArg _ (funext fun a => Fin.ext ?_)) (hp.trans (congrArg (FfnARefIdeal.Plain.next2048x2560 (w9 m c)) (funext fun a => Fin.ext ?_)))
  · fin_cases a <;> rfl
  · fin_cases a
    · show (min t.val 127) * 16 + (y 0).val = win0_22.index t 0 * 16 + 1 * (y 0).val; rw [e]; simp
    · show (y 1).val = win0_22.index t 1 * 2560 + 1 * (y 1).val; rw [e]; simp

/-- The copy of argument 10. -/
theorem copy7 :
    (dats m 0 c).arrAt 23 cfg0.N = (FfnARefIdeal.Plain.next2048x2048 (w10 m c) : Buf (Elt Ideal) ((c.tc : Thread nD τ).loc main_v14_7)) := by
  have hcov : (cfg0.win 23).Covers := by decide +kernel
  refine (dats m 0 c).arrAt_eq_of_cover 23 _ (fun t hf => ?_) (Pipeline.Window.Covers.cover _ hcov (Memref.isWhole_whole _))
  have ht := Windows.lt_N t
  rw [Value.flushed23, (copies m c t).2.2.2.2.2.2]
  have e : win0_23.index t = ![min t.val 127, 0] := (Windows.idx_out t).2.2.2.2.2.2
  funext y
  have h0 : (y 0).val < 16 := (y 0).isLt
  have h1 : (y 1).val < 2048 := (y 1).isLt
  have hp : tile16x2048 (iblk m c 15 t) (ix2 ⟨(y 0).val, h0⟩ ⟨(y 1).val, h1⟩) =
      FfnARefIdeal.Plain.next2048x2048 (w10 m c) (ix2 ⟨(min t.val 127) * 16 + (y 0).val, by omega⟩ ⟨(y 1).val, h1⟩) :=
    (tile16x2048_apply _ _ _).trans ((Windows.blk15 m c t ⟨(y 0).val, h0⟩ ⟨(y 1).val, h1⟩).trans
      ((congrFun (Host.args_eq m c).2.2.2.2.2.2 _).trans (FfnARefIdeal.Plain.next2048x2048_apply (w10 m c) _ _).symm))
  refine Eq.trans (congrArg _ (funext fun a => Fin.ext ?_)) (hp.trans (congrArg (FfnARefIdeal.Plain.next2048x2048 (w10 m c)) (funext fun a => Fin.ext ?_)))
  · fin_cases a <;> rfl
  · fin_cases a
    · show (min t.val 127) * 16 + (y 0).val = win0_23.index t 0 * 16 + 1 * (y 0).val; rw [e]; simp
    · show (y 1).val = win0_23.index t 1 * 2048 + 1 * (y 1).val; rw [e]; simp

end Cert.FfnAIdeal.Result

end
-- ==== Proof.FfnAClaim.lean ====
/-
  The claim of the feed-forward call of layer 0, sub-layer 0: the precondition says the numbers are real, both programs run, and their results are equal.
-/
module

public import proofs.«01_k».proof.Proof.AttnClaim
public import proofs.«01_k».proof.Proof.FfnAResult
public import proofs.«01_k».proof.Proof.Gen.Pre_ffn_a_finite

@[expose] public section

set_option maxRecDepth 16384
set_option maxHeartbeats 4000000

noncomputable section

namespace Cert.Proof

open Idealize.ShloMosaic Idealize.ShloMosaic.TcCoe Idealize.SL.Sem

/-- What the precondition says: the sub-layer's arrays are real. -/
theorem ffn_a_real (m : (ℓ : Loc FfnAIdeal.nD FfnAIdeal.τ FfnAIdeal.sig) → Buf (Elt Ideal) ℓ) (c : Dev FfnAIdeal.nD)
    (h : Pre_FfnAIdeal_ffn_a_finite (hPre_ffn_a_finite := Pre_ffn_a_finite.Gen.facts) m) : (FfnAIdeal.Result.arrays m c).Real := by
  obtain ⟨h0, h1, h2, h3, h4⟩ := h c
  exact FfnAIdeal.Result.arrays_real m c (fun i => real_of_lt _ (congrFun h0 i)) (fun i => real_of_lt _ (congrFun h1 i))
    (fun i => real_of_lt _ (congrFun h2 i)) (fun i => real_of_lt _ (congrFun h3 i)) (fun i => real_of_lt _ (congrFun h4 i))

/-- The kernel's results are the reference's. -/
theorem ffn_a_algebraic : algebraic_FfnAIdeal_FfnARefIdeal_pre_ffn_a_finite (hFfnAIdeal := FfnAIdeal.Gen.facts)
    (hFfnARefIdeal := FfnARefIdeal.Gen.facts) (hPre_ffn_a_finite := Pre_ffn_a_finite.Gen.facts) := by
  intro m ρ m' ρ' hpre hag
  refine ⟨fun c => FfnAIdeal.Result.plainResult m c, fun c => FfnARefIdeal.Plain.next2048x5632 (FfnAIdeal.Result.wg m c), fun c => FfnARefIdeal.Plain.next2048x5632 (FfnAIdeal.Result.wu m c), fun c => FfnARefIdeal.Plain.next5632x2048 (FfnAIdeal.Result.wd m c), fun c => FfnARefIdeal.Plain.next2048x4096 (FfnAIdeal.Result.w7 m c), fun c => FfnARefIdeal.Plain.next2048x2048 (FfnAIdeal.Result.w8 m c), fun c => FfnARefIdeal.Plain.next2048x2560 (FfnAIdeal.Result.w9 m c), fun c => FfnARefIdeal.Plain.next2048x2048 (FfnAIdeal.Result.w10 m c), ?_, ?_⟩
  · refine (θ_run _ _ _).mono (fun _ h c => ⟨(h c).1.trans ?_, (h c).2.1.trans (FfnAIdeal.Result.copy1 m c), (h c).2.2.1.trans (FfnAIdeal.Result.copy2 m c), (h c).2.2.2.1.trans (FfnAIdeal.Result.copy3 m c), (h c).2.2.2.2.1.trans (FfnAIdeal.Result.copy4 m c), (h c).2.2.2.2.2.1.trans (FfnAIdeal.Result.copy5 m c), (h c).2.2.2.2.2.2.1.trans (FfnAIdeal.Result.copy6 m c), (h c).2.2.2.2.2.2.2.1.trans (FfnAIdeal.Result.copy7 m c), (h c).2.2.2.2.2.2.2.2⟩) (FfnAIdeal.Value.run_blocks m ρ)
    exact FfnAIdeal.Result.array m c (ffn_a_real m c hpre)
  · refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (FfnARefIdeal.Value.run m' ρ')
    all_goals obtain ⟨e0, e1, e2, e3, e4, e5, e6, e7, e8, e9, e10⟩ := hag c
    · rw [FfnARefIdeal.Plain.res_eq m' c _ _ _ _ _ _ _ e0 e1 e2 e3 e4 e5 e6]
      rfl
    · exact congrArg FfnARefIdeal.Plain.next2048x5632 e2
    · exact congrArg FfnARefIdeal.Plain.next2048x5632 e3
    · exact congrArg FfnARefIdeal.Plain.next5632x2048 e4
    · exact congrArg FfnARefIdeal.Plain.next2048x4096 e7
    · exact congrArg FfnARefIdeal.Plain.next2048x2048 e8
    · exact congrArg FfnARefIdeal.Plain.next2048x2560 e9
    · exact congrArg FfnARefIdeal.Plain.next2048x2048 e10

end Cert.Proof

end
-- ==== Proof.FfnAWord.lean ====
/-
  The frame of the feed-forward call of layer 0, sub-layer 0, as the word program: it has the text of the ideal one, whose frame is
  proved over any numbers.
-/
module

public import proofs.«01_k».proof.Defs
public import proofs.«01_k».proof.Proof.Gen.FfnA
public import proofs.«01_k».proof.Proof.FfnAFrame

@[expose] public section

namespace Cert.Proof

open Idealize.ShloMosaic Idealize.SL.Sem

/-- The frame of the ideal program's text, read over words. -/
def FfnAOverWords [FfnAIdeal.Facts] : Prop :=
  ∀ (m : (ℓ : Loc FfnAIdeal.nD FfnAIdeal.τ FfnAIdeal.sig) → Buf (Elt Bits) ℓ) (ρ : Dev FfnAIdeal.nD → PrngReg), True →
    θ_run (FfnAIdeal.defs (F := Bits)) (onTc (τ := FfnAIdeal.τ) (FfnAIdeal.main (F := Bits))) ⟨m, fun _ => 0, ρ⟩ (fun r => (∀ c : Dev FfnAIdeal.nD,
      r.2.mem ((c.tc : Thread FfnAIdeal.nD FfnAIdeal.τ).loc FfnAIdeal.main_arg0) = m ((c.tc : Thread FfnAIdeal.nD FfnAIdeal.τ).loc FfnAIdeal.main_arg0)
      ∧ r.2.mem ((c.tc : Thread FfnAIdeal.nD FfnAIdeal.τ).loc FfnAIdeal.main_arg1) = m ((c.tc : Thread FfnAIdeal.nD FfnAIdeal.τ).loc FfnAIdeal.main_arg1)
      ∧ r.2.mem ((c.tc : Thread FfnAIdeal.nD FfnAIdeal.τ).loc FfnAIdeal.main_arg2) = m ((c.tc : Thread FfnAIdeal.nD FfnAIdeal.τ).loc FfnAIdeal.main_arg2)
      ∧ r.2.mem ((c.tc : Thread FfnAIdeal.nD FfnAIdeal.τ).loc FfnAIdeal.main_arg3) = m ((c.tc : Thread FfnAIdeal.nD FfnAIdeal.τ).loc FfnAIdeal.main_arg3)
      ∧ r.2.mem ((c.tc : Thread FfnAIdeal.nD FfnAIdeal.τ).loc FfnAIdeal.main_arg4) = m ((c.tc : Thread FfnAIdeal.nD FfnAIdeal.τ).loc FfnAIdeal.main_arg4)
      ∧ r.2.mem ((c.tc : Thread FfnAIdeal.nD FfnAIdeal.τ).loc FfnAIdeal.main_arg5) = m ((c.tc : Thread FfnAIdeal.nD FfnAIdeal.τ).loc FfnAIdeal.main_arg5)
      ∧ r.2.mem ((c.tc : Thread FfnAIdeal.nD FfnAIdeal.τ).loc FfnAIdeal.main_arg6) = m ((c.tc : Thread FfnAIdeal.nD FfnAIdeal.τ).loc FfnAIdeal.main_arg6)
      ∧ r.2.mem ((c.tc : Thread FfnAIdeal.nD FfnAIdeal.τ).loc FfnAIdeal.main_arg7) = m ((c.tc : Thread FfnAIdeal.nD FfnAIdeal.τ).loc FfnAIdeal.main_arg7)
      ∧ r.2.mem ((c.tc : Thread FfnAIdeal.nD FfnAIdeal.τ).loc FfnAIdeal.main_arg8) = m ((c.tc : Thread FfnAIdeal.nD FfnAIdeal.τ).loc FfnAIdeal.main_arg8)
      ∧ r.2.mem ((c.tc : Thread FfnAIdeal.nD FfnAIdeal.τ).loc FfnAIdeal.main_arg9) = m ((c.tc : Thread FfnAIdeal.nD FfnAIdeal.τ).loc FfnAIdeal.main_arg9)
      ∧ r.2.mem ((c.tc : Thread FfnAIdeal.nD FfnAIdeal.τ).loc FfnAIdeal.main_arg10) = m ((c.tc : Thread FfnAIdeal.nD FfnAIdeal.τ).loc FfnAIdeal.main_arg10))
      ∧ r.2.sem = fun _ => 0)

/-- The two programs have the same text. -/
theorem ffn_a_same : Cert.quiescent_FfnA (hFfnA := Cert.FfnA.Gen.facts) = @FfnAOverWords FfnAIdeal.Gen.facts := by sl_kernel_rfl

/-- The kernel of the first layer's first sub-layer terminates, leaves its arguments as they are and every counter at zero: the word program's. -/
theorem ffn_a_frame : Cert.quiescent_FfnA (hFfnA := Cert.FfnA.Gen.facts) :=
  ffn_a_same.mpr (fun m ρ _ => Cert.FfnAIdeal.Gen.frame m ρ)

end Cert.Proof

end
-- ==== Proof.lean ====
/- The proof of the claim: the attention's claims from AttnClaim, the feed-forward's from FfnClaim
   and its three neighbours, the frames from the generated modules and FfnAFrame, and the
   references' frames from their runs. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_attn_finite
public import proofs.«01_k».proof.Proof.Gen.Pre_ffn_finite
public import proofs.«01_k».proof.Proof.Gen.Pre_ffn_a_finite
public import proofs.«01_k».proof.Proof.Gen.AttnIdeal.Value
public import proofs.«01_k».proof.Proof.Gen.AttnRefIdeal.Run
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.FfnA
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame.Runs
public import proofs.«01_k».proof.Proof.Gen.FfnARefIdeal
public import proofs.«01_k».proof.Proof.Gen.FfnARefIdeal.Run
public import proofs.«01_k».proof.Proof.Gen.FfnB
public import proofs.«01_k».proof.Proof.Gen.FfnB.Skeleton
public import proofs.«01_k».proof.Proof.Gen.FfnB.Launch
public import proofs.«01_k».proof.Proof.Gen.FfnB.Points
public import proofs.«01_k».proof.Proof.Gen.FfnB.Frame
public import proofs.«01_k».proof.Proof.Gen.FfnBIdeal
public import proofs.«01_k».proof.Proof.Gen.FfnBIdeal.Skeleton
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBRefIdeal
public import proofs.«01_k».proof.Proof.Gen.FfnBRefIdeal.Run
public import proofs.«01_k».proof.Proof.Gen.FfnBIdeal.Value
public import proofs.«01_k».proof.Proof.Gen.FfnC
public import proofs.«01_k».proof.Proof.Gen.FfnC.Skeleton
public import proofs.«01_k».proof.Proof.Gen.FfnC.Launch
public import proofs.«01_k».proof.Proof.Gen.FfnC.Points
public import proofs.«01_k».proof.Proof.Gen.FfnC.Frame
public import proofs.«01_k».proof.Proof.Gen.FfnCIdeal
public import proofs.«01_k».proof.Proof.Gen.FfnCIdeal.Skeleton
public import proofs.«01_k».proof.Proof.Gen.FfnCIdeal.Launch
public import proofs.«01_k».proof.Proof.Gen.FfnCIdeal.Points
public import proofs.«01_k».proof.Proof.Gen.FfnCIdeal.Frame
public import proofs.«01_k».proof.Proof.Gen.FfnCRefIdeal
public import proofs.«01_k».proof.Proof.Gen.FfnCRefIdeal.Run
public import proofs.«01_k».proof.Proof.Gen.FfnCIdeal.Value
public import proofs.«01_k».proof.Proof.AttnClaim
public import proofs.«01_k».proof.Proof.FfnClaim
public import proofs.«01_k».proof.Proof.FfnCClaim
public import proofs.«01_k».proof.Proof.FfnBClaim
public import proofs.«01_k».proof.Proof.FfnAClaim
public import proofs.«01_k».proof.Proof.FfnAWord
public import Idealize.ShloMosaic.Adequacy
public import Idealize.ShloMosaic.Init

@[expose] public section

noncomputable section

namespace Cert.Proof

open Idealize.ShloMosaic Idealize.SL.Sem

/-- The attention kernel terminates, leaves its arguments as they are and every counter at zero: the word program's. -/
theorem attn_frame : Cert.quiescent_Attn := fun m ρ _ => Cert.Attn.Gen.frame m ρ

/-- The same of the attention kernel over the extended reals. -/
theorem attn_ideal_frame : Cert.quiescent_AttnIdeal := fun m ρ _ => Cert.AttnIdeal.Gen.frame m ρ

/-- The same of the attention's reference: its generated run, read at the arguments; it has no semaphore. -/
theorem attn_ref_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The feed-forward kernel terminates, leaves its arguments as they are and every counter at zero: the word program's. -/
theorem ffn_frame : Cert.quiescent_Ffn := fun m ρ _ => Cert.Ffn.Gen.frame m ρ

/-- The same of the feed-forward kernel over the extended reals. -/
theorem ffn_ideal_frame : Cert.quiescent_FfnIdeal := fun m ρ _ => Cert.FfnIdeal.Gen.frame m ρ

/-- The same of the feed-forward reference: its generated run, read at the arguments; it has no semaphore. -/
theorem ffn_ref_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel of the second layer's first sub-layer terminates, leaves its arguments as they are and every counter at zero: the word program's. -/
theorem ffn_c_frame : Cert.quiescent_FfnC := fun m ρ _ => Cert.FfnC.Gen.frame m ρ

/-- The same of this kernel over the extended reals. -/
theorem ffn_c_ideal_frame : Cert.quiescent_FfnCIdeal := fun m ρ _ => Cert.FfnCIdeal.Gen.frame m ρ

/-- The same of its reference: its generated run, read at the arguments, behind the four results; it has no semaphore. -/
theorem ffn_c_ref_frame : Cert.quiescent_FfnCRefIdeal := fun m ρ _ =>
  (θ_run Cert.FfnCRefIdeal.defs _ _).mono (fun r h => ⟨fun c => (h c).2.2.2.2, sem_eq_zero_of_no_sems (by decide) r.2⟩)
    (Cert.FfnCRefIdeal.Value.run (F := Ideal) m ρ)

/-- The kernel of the first layer's second sub-layer terminates, leaves its arguments as they are and every counter at zero: the word program's. -/
theorem ffn_b_frame : Cert.quiescent_FfnB := fun m ρ _ => Cert.FfnB.Gen.frame m ρ

/-- The same of this kernel over the extended reals. -/
theorem ffn_b_ideal_frame : Cert.quiescent_FfnBIdeal := fun m ρ _ => Cert.FfnBIdeal.Gen.frame m ρ

/-- The same of its reference: its generated run, read at the arguments, behind the four results; it has no semaphore. -/
theorem ffn_b_ref_frame : Cert.quiescent_FfnBRefIdeal := fun m ρ _ =>
  (θ_run Cert.FfnBRefIdeal.defs _ _).mono (fun r h => ⟨fun c => (h c).2.2.2.2, sem_eq_zero_of_no_sems (by decide) r.2⟩)
    (Cert.FfnBRefIdeal.Value.run (F := Ideal) m ρ)

/-- The kernel of the first layer's first sub-layer over the extended reals terminates, leaves its arguments as they are and every counter at zero. -/
theorem ffn_a_ideal_frame : Cert.quiescent_FfnAIdeal := fun m ρ _ => Cert.FfnAIdeal.Gen.frame m ρ

/-- The same of its reference: its generated run, read at the arguments, behind the eight results; it has no semaphore. -/
theorem ffn_a_ref_frame : Cert.quiescent_FfnARefIdeal := fun m ρ _ =>
  (θ_run Cert.FfnARefIdeal.defs _ _).mono (fun r h => ⟨fun c => (h c).2.2.2.2.2.2.2.2, sem_eq_zero_of_no_sems (by decide) r.2⟩)
    (Cert.FfnARefIdeal.Value.run (F := Ideal) m ρ)

/-- The one named constant, the reciprocal of the logarithm of two, has the value that its name gives. -/
theorem attn_preserves : Cert.preserves_Attn_AttnIdeal :=
  IdealRules.named_const.statement Cert.AttnIdeal.κ "log2e" .f32 0x3FB8AA3B#32 (((Real.log 2)⁻¹ : ℝ) : EReal) rfl

theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts,
    Cert.FfnC.Gen.facts, Cert.FfnCIdeal.Gen.facts, Cert.FfnCRefIdeal.Gen.facts, Cert.FfnB.Gen.facts, Cert.FfnBIdeal.Gen.facts, Cert.FfnBRefIdeal.Gen.facts,
    Cert.FfnA.Gen.facts, Cert.FfnAIdeal.Gen.facts, Cert.FfnARefIdeal.Gen.facts,
    Cert.Pre_attn_finite.Gen.facts, Cert.Pre_ffn_finite.Gen.facts, Cert.Pre_ffn_a_finite.Gen.facts,
    attn_frame, attn_ideal_frame, fun m ρ _ => Cert.AttnIdeal.Gen.frame m ρ, attn_ref_frame,
    (fun m ρ _ => attn_ref_frame m ρ trivial),
    ffn_frame, ffn_ideal_frame, fun m ρ _ => Cert.FfnIdeal.Gen.frame m ρ, ffn_ref_frame,
    (fun m ρ _ => ffn_ref_frame m ρ trivial),
    ffn_c_frame, ffn_c_ideal_frame, fun m ρ _ => Cert.FfnCIdeal.Gen.frame m ρ, ffn_c_ref_frame,
    (fun m ρ _ => ffn_c_ref_frame m ρ trivial),
    ffn_b_frame, ffn_b_ideal_frame, fun m ρ _ => Cert.FfnBIdeal.Gen.frame m ρ, ffn_b_ref_frame,
    (fun m ρ _ => ffn_b_ref_frame m ρ trivial),
    ffn_a_frame, ffn_a_ideal_frame, fun m ρ _ => Cert.FfnAIdeal.Gen.frame m ρ, ffn_a_ref_frame,
    (fun m ρ _ => ffn_a_ref_frame m ρ trivial),
    attn_preserves, attn_algebraic, trivial, ffn_algebraic, trivial, ffn_c_algebraic, trivial, ffn_b_algebraic, trivial, ffn_a_algebraic⟩

end Cert.Proof

end
